-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_in_range [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_OutProjS (m : (ℓ : Loc Cert.OutProjS.nD Cert.OutProjS.τ Cert.OutProjS.sig) → Buf (Elt Bits) ℓ) : Prop :=
  True

def Pre_OutProjSIdeal (m : (ℓ : Loc Cert.OutProjSIdeal.nD Cert.OutProjSIdeal.τ Cert.OutProjSIdeal.sig) → Buf (Elt Ideal) ℓ) : Prop :=
  True

def Pre_OutProjSRefIdeal (m : (ℓ : Loc Cert.OutProjSRefIdeal.nD Cert.OutProjSRefIdeal.τ Cert.OutProjSRefIdeal.sig) → Buf (Elt Ideal) ℓ) : Prop :=
  True

def Pre_PleS (m : (ℓ : Loc Cert.PleS.nD Cert.PleS.τ Cert.PleS.sig) → Buf (Elt Bits) ℓ) : Prop :=
  True

def Pre_PleSIdeal (m : (ℓ : Loc Cert.PleSIdeal.nD Cert.PleSIdeal.τ Cert.PleSIdeal.sig) → Buf (Elt Ideal) ℓ) : Prop :=
  True

def Pre_PleSRefIdeal (m : (ℓ : Loc Cert.PleSRefIdeal.nD Cert.PleSRefIdeal.τ Cert.PleSRefIdeal.sig) → Buf (Elt Ideal) ℓ) : Prop :=
  True

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSRefIdeal (m : (ℓ : Loc Cert.PrepSRefIdeal.nD Cert.PrepSRefIdeal.τ Cert.PrepSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_experts_in_range [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_OutProjS [hOutProjS : Cert.OutProjS.Facts] : Prop :=
  ∀ (m : (ℓ : Loc Cert.OutProjS.nD Cert.OutProjS.τ Cert.OutProjS.sig) → Buf (Elt Bits) ℓ) (g : Dev Cert.OutProjS.nD → PrngReg), Pre_OutProjS m →
    θ_run (Cert.OutProjS.defs (F := Bits)) (onTc (τ := Cert.OutProjS.τ) (Cert.OutProjS.main (F := Bits))) ⟨m, fun _ => 0, g⟩ (fun r => (∀ c : Dev Cert.OutProjS.nD,
      r.2.mem ((c.tc : Thread Cert.OutProjS.nD Cert.OutProjS.τ).loc Cert.OutProjS.main_arg0) = m ((c.tc : Thread Cert.OutProjS.nD Cert.OutProjS.τ).loc Cert.OutProjS.main_arg0)
      ∧ r.2.mem ((c.tc : Thread Cert.OutProjS.nD Cert.OutProjS.τ).loc Cert.OutProjS.main_arg1) = m ((c.tc : Thread Cert.OutProjS.nD Cert.OutProjS.τ).loc Cert.OutProjS.main_arg1)
      ∧ r.2.mem ((c.tc : Thread Cert.OutProjS.nD Cert.OutProjS.τ).loc Cert.OutProjS.main_arg2) = m ((c.tc : Thread Cert.OutProjS.nD Cert.OutProjS.τ).loc Cert.OutProjS.main_arg2)
      ∧ r.2.mem ((c.tc : Thread Cert.OutProjS.nD Cert.OutProjS.τ).loc Cert.OutProjS.main_arg3) = m ((c.tc : Thread Cert.OutProjS.nD Cert.OutProjS.τ).loc Cert.OutProjS.main_arg3))
      ∧ r.2.sem = fun _ => 0)

def quiescent_OutProjSIdeal [hOutProjSIdeal : Cert.OutProjSIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg), Pre_OutProjSIdeal m →
    θ_run (Cert.OutProjSIdeal.defs (F := Ideal)) (onTc (τ := Cert.OutProjSIdeal.τ) (Cert.OutProjSIdeal.main (F := Ideal))) ⟨m, fun _ => 0, g⟩ (fun r => (∀ c : Dev Cert.OutProjSIdeal.nD,
      r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
      ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
      ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
      ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3))
      ∧ r.2.sem = fun _ => 0)

def quiescent_OutProjSRefIdeal [hOutProjSRefIdeal : Cert.OutProjSRefIdeal.Facts] : Prop :=
  ∀ (m : (ℓ : Loc Cert.OutProjSRefIdeal.nD Cert.OutProjSRefIdeal.τ Cert.OutProjSRefIdeal.sig) → Buf (Elt Ideal) ℓ) (g : Dev Cert.OutProjSRefIdeal.nD → PrngReg), Pre_OutProjSRefIdeal m →
    θ_run (Cert.OutProjSRefIdeal.defs (F := Ideal)) (onTc (τ := Cert.OutProjSRefIdeal.τ) (Cert.OutProjSRefIdeal.main (F := Ideal))) ⟨m, fun _ => 0, g⟩ (fun r => (∀ c : Dev Cert.OutProjSRefIdeal.nD,
      r.2.mem ((c.tc : Thread Cert.OutProjSRefIdeal.nD Cert.OutProjSRefIdeal.τ).loc Cert.OutProjSRefIdeal.main_arg0) = m ((c.tc : Thread Cert.OutProjSRefIdeal.nD Cert.OutProjSRefIdeal.τ).loc Cert.OutProjSRefIdeal.main_arg0)
      ∧ r.2.mem ((c.tc : Thread Cert.OutProjSRefIdeal.nD Cert.OutProjSRefIdeal.τ).loc Cert.OutProjSRefIdeal.main_arg1) = m ((c.tc : Thread Cert.OutProjSRefIdeal.nD Cert.OutProjSRefIdeal.τ).loc Cert.OutProjSRefIdeal.main_arg1)
      ∧ r.2.mem ((c.tc : Thread Cert.OutProjSRefIdeal.nD Cert.OutProjSRefIdeal.τ).loc Cert.OutProjSRefIdeal.main_arg2) = m ((c.tc : Thread Cert.OutProjSRefIdeal.nD Cert.OutProjSRefIdeal.τ).loc Cert.OutProjSRefIdeal.main_arg2)
      ∧ r.2.mem ((c.tc : Thread Cert.OutProjSRefIdeal.nD Cert.OutProjSRefIdeal.τ).loc Cert.OutProjSRefIdeal.main_arg3) = m ((c.tc : Thread Cert.OutProjSRefIdeal.nD Cert.OutProjSRefIdeal.τ).loc Cert.OutProjSRefIdeal.main_arg3))
      ∧ r.2.sem = fun _ => 0)

def quiescent_PleS [hPleS : Cert.PleS.Facts] : Prop :=
  ∀ (m : (ℓ : Loc Cert.PleS.nD Cert.PleS.τ Cert.PleS.sig) → Buf (Elt Bits) ℓ) (g : Dev Cert.PleS.nD → PrngReg), Pre_PleS m →
    θ_run (Cert.PleS.defs (F := Bits)) (onTc (τ := Cert.PleS.τ) (Cert.PleS.main (F := Bits))) ⟨m, fun _ => 0, g⟩ (fun r => (∀ c : Dev Cert.PleS.nD,
      r.2.mem ((c.tc : Thread Cert.PleS.nD Cert.PleS.τ).loc Cert.PleS.main_arg0) = m ((c.tc : Thread Cert.PleS.nD Cert.PleS.τ).loc Cert.PleS.main_arg0)
      ∧ r.2.mem ((c.tc : Thread Cert.PleS.nD Cert.PleS.τ).loc Cert.PleS.main_arg1) = m ((c.tc : Thread Cert.PleS.nD Cert.PleS.τ).loc Cert.PleS.main_arg1)
      ∧ r.2.mem ((c.tc : Thread Cert.PleS.nD Cert.PleS.τ).loc Cert.PleS.main_arg2) = m ((c.tc : Thread Cert.PleS.nD Cert.PleS.τ).loc Cert.PleS.main_arg2)
      ∧ r.2.mem ((c.tc : Thread Cert.PleS.nD Cert.PleS.τ).loc Cert.PleS.main_arg3) = m ((c.tc : Thread Cert.PleS.nD Cert.PleS.τ).loc Cert.PleS.main_arg3)
      ∧ r.2.mem ((c.tc : Thread Cert.PleS.nD Cert.PleS.τ).loc Cert.PleS.main_arg4) = m ((c.tc : Thread Cert.PleS.nD Cert.PleS.τ).loc Cert.PleS.main_arg4))
      ∧ r.2.sem = fun _ => 0)

def quiescent_PleSIdeal [hPleSIdeal : Cert.PleSIdeal.Facts] : Prop :=
  ∀ (m : (ℓ : Loc Cert.PleSIdeal.nD Cert.PleSIdeal.τ Cert.PleSIdeal.sig) → Buf (Elt Ideal) ℓ) (g : Dev Cert.PleSIdeal.nD → PrngReg), Pre_PleSIdeal m →
    θ_run (Cert.PleSIdeal.defs (F := Ideal)) (onTc (τ := Cert.PleSIdeal.τ) (Cert.PleSIdeal.main (F := Ideal))) ⟨m, fun _ => 0, g⟩ (fun r => (∀ c : Dev Cert.PleSIdeal.nD,
      r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
      ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
      ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
      ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
      ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4))
      ∧ r.2.sem = fun _ => 0)

def quiescent_PleSRefIdeal [hPleSRefIdeal : Cert.PleSRefIdeal.Facts] : Prop :=
  ∀ (m : (ℓ : Loc Cert.PleSRefIdeal.nD Cert.PleSRefIdeal.τ Cert.PleSRefIdeal.sig) → Buf (Elt Ideal) ℓ) (g : Dev Cert.PleSRefIdeal.nD → PrngReg), Pre_PleSRefIdeal m →
    θ_run (Cert.PleSRefIdeal.defs (F := Ideal)) (onTc (τ := Cert.PleSRefIdeal.τ) (Cert.PleSRefIdeal.main (F := Ideal))) ⟨m, fun _ => 0, g⟩ (fun r => (∀ c : Dev Cert.PleSRefIdeal.nD,
      r.2.mem ((c.tc : Thread Cert.PleSRefIdeal.nD Cert.PleSRefIdeal.τ).loc Cert.PleSRefIdeal.main_arg0) = m ((c.tc : Thread Cert.PleSRefIdeal.nD Cert.PleSRefIdeal.τ).loc Cert.PleSRefIdeal.main_arg0)
      ∧ r.2.mem ((c.tc : Thread Cert.PleSRefIdeal.nD Cert.PleSRefIdeal.τ).loc Cert.PleSRefIdeal.main_arg1) = m ((c.tc : Thread Cert.PleSRefIdeal.nD Cert.PleSRefIdeal.τ).loc Cert.PleSRefIdeal.main_arg1)
      ∧ r.2.mem ((c.tc : Thread Cert.PleSRefIdeal.nD Cert.PleSRefIdeal.τ).loc Cert.PleSRefIdeal.main_arg2) = m ((c.tc : Thread Cert.PleSRefIdeal.nD Cert.PleSRefIdeal.τ).loc Cert.PleSRefIdeal.main_arg2)
      ∧ r.2.mem ((c.tc : Thread Cert.PleSRefIdeal.nD Cert.PleSRefIdeal.τ).loc Cert.PleSRefIdeal.main_arg3) = m ((c.tc : Thread Cert.PleSRefIdeal.nD Cert.PleSRefIdeal.τ).loc Cert.PleSRefIdeal.main_arg3)
      ∧ r.2.mem ((c.tc : Thread Cert.PleSRefIdeal.nD Cert.PleSRefIdeal.τ).loc Cert.PleSRefIdeal.main_arg4) = m ((c.tc : Thread Cert.PleSRefIdeal.nD Cert.PleSRefIdeal.τ).loc Cert.PleSRefIdeal.main_arg4))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1)
      ∧ r.2.mem ((c.tc : Thread Cert.PrepS.nD Cert.PrepS.τ).loc Cert.PrepS.main_arg2) = m ((c.tc : Thread Cert.PrepS.nD Cert.PrepS.τ).loc Cert.PrepS.main_arg2)
      ∧ r.2.mem ((c.tc : Thread Cert.PrepS.nD Cert.PrepS.τ).loc Cert.PrepS.main_arg3) = m ((c.tc : Thread Cert.PrepS.nD Cert.PrepS.τ).loc Cert.PrepS.main_arg3)
      ∧ r.2.mem ((c.tc : Thread Cert.PrepS.nD Cert.PrepS.τ).loc Cert.PrepS.main_arg4) = m ((c.tc : Thread Cert.PrepS.nD Cert.PrepS.τ).loc Cert.PrepS.main_arg4)
      ∧ r.2.mem ((c.tc : Thread Cert.PrepS.nD Cert.PrepS.τ).loc Cert.PrepS.main_arg5) = m ((c.tc : Thread Cert.PrepS.nD Cert.PrepS.τ).loc Cert.PrepS.main_arg5)
      ∧ r.2.mem ((c.tc : Thread Cert.PrepS.nD Cert.PrepS.τ).loc Cert.PrepS.main_arg6) = m ((c.tc : Thread Cert.PrepS.nD Cert.PrepS.τ).loc Cert.PrepS.main_arg6)
      ∧ r.2.mem ((c.tc : Thread Cert.PrepS.nD Cert.PrepS.τ).loc Cert.PrepS.main_arg7) = m ((c.tc : Thread Cert.PrepS.nD Cert.PrepS.τ).loc Cert.PrepS.main_arg7)
      ∧ r.2.mem ((c.tc : Thread Cert.PrepS.nD Cert.PrepS.τ).loc Cert.PrepS.main_arg8) = m ((c.tc : Thread Cert.PrepS.nD Cert.PrepS.τ).loc Cert.PrepS.main_arg8)
      ∧ r.2.mem ((c.tc : Thread Cert.PrepS.nD Cert.PrepS.τ).loc Cert.PrepS.main_arg9) = m ((c.tc : Thread Cert.PrepS.nD Cert.PrepS.τ).loc Cert.PrepS.main_arg9)
      ∧ r.2.mem ((c.tc : Thread Cert.PrepS.nD Cert.PrepS.τ).loc Cert.PrepS.main_arg10) = m ((c.tc : Thread Cert.PrepS.nD Cert.PrepS.τ).loc Cert.PrepS.main_arg10)
      ∧ r.2.mem ((c.tc : Thread Cert.PrepS.nD Cert.PrepS.τ).loc Cert.PrepS.main_arg11) = m ((c.tc : Thread Cert.PrepS.nD Cert.PrepS.τ).loc Cert.PrepS.main_arg11))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
      ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
      ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
      ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
      ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
      ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
      ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9)
      ∧ r.2.mem ((c.tc : Thread Cert.PrepSIdeal.nD Cert.PrepSIdeal.τ).loc Cert.PrepSIdeal.main_arg10) = m ((c.tc : Thread Cert.PrepSIdeal.nD Cert.PrepSIdeal.τ).loc Cert.PrepSIdeal.main_arg10)
      ∧ r.2.mem ((c.tc : Thread Cert.PrepSIdeal.nD Cert.PrepSIdeal.τ).loc Cert.PrepSIdeal.main_arg11) = m ((c.tc : Thread Cert.PrepSIdeal.nD Cert.PrepSIdeal.τ).loc Cert.PrepSIdeal.main_arg11))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3)
      ∧ r.2.mem ((c.tc : Thread Cert.PrepSRefIdeal.nD Cert.PrepSRefIdeal.τ).loc Cert.PrepSRefIdeal.main_arg4) = m ((c.tc : Thread Cert.PrepSRefIdeal.nD Cert.PrepSRefIdeal.τ).loc Cert.PrepSRefIdeal.main_arg4)
      ∧ r.2.mem ((c.tc : Thread Cert.PrepSRefIdeal.nD Cert.PrepSRefIdeal.τ).loc Cert.PrepSRefIdeal.main_arg5) = m ((c.tc : Thread Cert.PrepSRefIdeal.nD Cert.PrepSRefIdeal.τ).loc Cert.PrepSRefIdeal.main_arg5)
      ∧ r.2.mem ((c.tc : Thread Cert.PrepSRefIdeal.nD Cert.PrepSRefIdeal.τ).loc Cert.PrepSRefIdeal.main_arg6) = m ((c.tc : Thread Cert.PrepSRefIdeal.nD Cert.PrepSRefIdeal.τ).loc Cert.PrepSRefIdeal.main_arg6)
      ∧ r.2.mem ((c.tc : Thread Cert.PrepSRefIdeal.nD Cert.PrepSRefIdeal.τ).loc Cert.PrepSRefIdeal.main_arg7) = m ((c.tc : Thread Cert.PrepSRefIdeal.nD Cert.PrepSRefIdeal.τ).loc Cert.PrepSRefIdeal.main_arg7)
      ∧ r.2.mem ((c.tc : Thread Cert.PrepSRefIdeal.nD Cert.PrepSRefIdeal.τ).loc Cert.PrepSRefIdeal.main_arg8) = m ((c.tc : Thread Cert.PrepSRefIdeal.nD Cert.PrepSRefIdeal.τ).loc Cert.PrepSRefIdeal.main_arg8)
      ∧ r.2.mem ((c.tc : Thread Cert.PrepSRefIdeal.nD Cert.PrepSRefIdeal.τ).loc Cert.PrepSRefIdeal.main_arg9) = m ((c.tc : Thread Cert.PrepSRefIdeal.nD Cert.PrepSRefIdeal.τ).loc Cert.PrepSRefIdeal.main_arg9)
      ∧ r.2.mem ((c.tc : Thread Cert.PrepSRefIdeal.nD Cert.PrepSRefIdeal.τ).loc Cert.PrepSRefIdeal.main_arg10) = m ((c.tc : Thread Cert.PrepSRefIdeal.nD Cert.PrepSRefIdeal.τ).loc Cert.PrepSRefIdeal.main_arg10)
      ∧ r.2.mem ((c.tc : Thread Cert.PrepSRefIdeal.nD Cert.PrepSRefIdeal.τ).loc Cert.PrepSRefIdeal.main_arg11) = m ((c.tc : Thread Cert.PrepSRefIdeal.nD Cert.PrepSRefIdeal.τ).loc Cert.PrepSRefIdeal.main_arg11))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v46) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)) →
    ∃ (v0 : (c : Dev Cert.PrepIdeal.nD) → Buf (Elt Ideal) ((c.tc : Thread Cert.PrepIdeal.nD Cert.PrepIdeal.τ).loc Cert.PrepIdeal.main_v18_0)) (v1 : (c : Dev Cert.PrepIdeal.nD) → Buf (Elt Ideal) ((c.tc : Thread Cert.PrepIdeal.nD Cert.PrepIdeal.τ).loc Cert.PrepIdeal.main_v18_1)) (v2 : (c : Dev Cert.PrepIdeal.nD) → Buf (Elt Ideal) ((c.tc : Thread Cert.PrepIdeal.nD Cert.PrepIdeal.τ).loc Cert.PrepIdeal.main_v18_2)) (v3 : (c : Dev Cert.PrepIdeal.nD) → Buf (Elt Ideal) ((c.tc : Thread Cert.PrepIdeal.nD Cert.PrepIdeal.τ).loc Cert.PrepIdeal.main_v18_3)) (v4 : (c : Dev Cert.PrepIdeal.nD) → Buf (Elt Ideal) ((c.tc : Thread Cert.PrepIdeal.nD Cert.PrepIdeal.τ).loc Cert.PrepIdeal.main_v18_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v18_0) = v0 c
          ∧ r.2.mem ((c.tc : Thread Cert.PrepIdeal.nD Cert.PrepIdeal.τ).loc Cert.PrepIdeal.main_v18_1) = v1 c
          ∧ r.2.mem ((c.tc : Thread Cert.PrepIdeal.nD Cert.PrepIdeal.τ).loc Cert.PrepIdeal.main_v18_2) = v2 c
          ∧ r.2.mem ((c.tc : Thread Cert.PrepIdeal.nD Cert.PrepIdeal.τ).loc Cert.PrepIdeal.main_v18_3) = v3 c
          ∧ r.2.mem ((c.tc : Thread Cert.PrepIdeal.nD Cert.PrepIdeal.τ).loc Cert.PrepIdeal.main_v18_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v33) = v0 c
          ∧ r.2.mem ((c.tc : Thread Cert.PrepRefIdeal.nD Cert.PrepRefIdeal.τ).loc Cert.PrepRefIdeal.main_v56) = v1 c
          ∧ r.2.mem ((c.tc : Thread Cert.PrepRefIdeal.nD Cert.PrepRefIdeal.τ).loc Cert.PrepRefIdeal.main_v124) = v2 c
          ∧ r.2.mem ((c.tc : Thread Cert.PrepRefIdeal.nD Cert.PrepRefIdeal.τ).loc Cert.PrepRefIdeal.main_v125) = v3 c
          ∧ r.2.mem ((c.tc : Thread Cert.PrepRefIdeal.nD Cert.PrepRefIdeal.τ).loc Cert.PrepRefIdeal.main_v127) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v0)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v0) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v20) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v0)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v0) = v0 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v13) = v0 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_OutProjS_OutProjSIdeal : Prop :=
  True

def algebraic_OutProjSIdeal_OutProjSRefIdeal [hOutProjSIdeal : Cert.OutProjSIdeal.Facts] [hOutProjSRefIdeal : Cert.OutProjSRefIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg)
    (m' : (ℓ : Loc Cert.OutProjSRefIdeal.nD Cert.OutProjSRefIdeal.τ Cert.OutProjSRefIdeal.sig) → Buf (Elt Ideal) ℓ) (g' : Dev Cert.OutProjSRefIdeal.nD → PrngReg), Pre_OutProjSIdeal m →
    (∀ c : Dev Cert.OutProjSIdeal.nD,
      m' ((c.tc : Thread Cert.OutProjSRefIdeal.nD Cert.OutProjSRefIdeal.τ).loc Cert.OutProjSRefIdeal.main_arg0) = m ((c.tc : Thread Cert.OutProjSIdeal.nD Cert.OutProjSIdeal.τ).loc Cert.OutProjSIdeal.main_arg0)
      ∧ m' ((c.tc : Thread Cert.OutProjSRefIdeal.nD Cert.OutProjSRefIdeal.τ).loc Cert.OutProjSRefIdeal.main_arg1) = m ((c.tc : Thread Cert.OutProjSIdeal.nD Cert.OutProjSIdeal.τ).loc Cert.OutProjSIdeal.main_arg1)
      ∧ m' ((c.tc : Thread Cert.OutProjSRefIdeal.nD Cert.OutProjSRefIdeal.τ).loc Cert.OutProjSRefIdeal.main_arg2) = m ((c.tc : Thread Cert.OutProjSIdeal.nD Cert.OutProjSIdeal.τ).loc Cert.OutProjSIdeal.main_arg2)
      ∧ m' ((c.tc : Thread Cert.OutProjSRefIdeal.nD Cert.OutProjSRefIdeal.τ).loc Cert.OutProjSRefIdeal.main_arg3) = m ((c.tc : Thread Cert.OutProjSIdeal.nD Cert.OutProjSIdeal.τ).loc Cert.OutProjSIdeal.main_arg3)) →
    ∃ (v0 : (c : Dev Cert.OutProjSIdeal.nD) → Buf (Elt Ideal) ((c.tc : Thread Cert.OutProjSIdeal.nD Cert.OutProjSIdeal.τ).loc Cert.OutProjSIdeal.main_v0)),
      θ_run (Cert.OutProjSIdeal.defs (F := Ideal)) (onTc (τ := Cert.OutProjSIdeal.τ) (Cert.OutProjSIdeal.main (F := Ideal))) ⟨m, fun _ => 0, g⟩ (fun r => ∀ c : Dev Cert.OutProjSIdeal.nD,
          r.2.mem ((c.tc : Thread Cert.OutProjSIdeal.nD Cert.OutProjSIdeal.τ).loc Cert.OutProjSIdeal.main_v0) = v0 c
          ∧ r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
          ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
          ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
          ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3))
      ∧ θ_run (Cert.OutProjSRefIdeal.defs (F := Ideal)) (onTc (τ := Cert.OutProjSRefIdeal.τ) (Cert.OutProjSRefIdeal.main (F := Ideal))) ⟨m', fun _ => 0, g'⟩ (fun r => ∀ c : Dev Cert.OutProjSRefIdeal.nD,
          r.2.mem ((c.tc : Thread Cert.OutProjSRefIdeal.nD Cert.OutProjSRefIdeal.τ).loc Cert.OutProjSRefIdeal.main_v5) = v0 c
          ∧ r.2.mem ((c.tc : Thread Cert.OutProjSRefIdeal.nD Cert.OutProjSRefIdeal.τ).loc Cert.OutProjSRefIdeal.main_arg0) = m' ((c.tc : Thread Cert.OutProjSRefIdeal.nD Cert.OutProjSRefIdeal.τ).loc Cert.OutProjSRefIdeal.main_arg0)
          ∧ r.2.mem ((c.tc : Thread Cert.OutProjSRefIdeal.nD Cert.OutProjSRefIdeal.τ).loc Cert.OutProjSRefIdeal.main_arg1) = m' ((c.tc : Thread Cert.OutProjSRefIdeal.nD Cert.OutProjSRefIdeal.τ).loc Cert.OutProjSRefIdeal.main_arg1)
          ∧ r.2.mem ((c.tc : Thread Cert.OutProjSRefIdeal.nD Cert.OutProjSRefIdeal.τ).loc Cert.OutProjSRefIdeal.main_arg2) = m' ((c.tc : Thread Cert.OutProjSRefIdeal.nD Cert.OutProjSRefIdeal.τ).loc Cert.OutProjSRefIdeal.main_arg2)
          ∧ r.2.mem ((c.tc : Thread Cert.OutProjSRefIdeal.nD Cert.OutProjSRefIdeal.τ).loc Cert.OutProjSRefIdeal.main_arg3) = m' ((c.tc : Thread Cert.OutProjSRefIdeal.nD Cert.OutProjSRefIdeal.τ).loc Cert.OutProjSRefIdeal.main_arg3))

def preserves_PleS_PleSIdeal : Prop :=
  True

def algebraic_PleSIdeal_PleSRefIdeal [hPleSIdeal : Cert.PleSIdeal.Facts] [hPleSRefIdeal : Cert.PleSRefIdeal.Facts] : Prop :=
  ∀ (m : (ℓ : Loc Cert.PleSIdeal.nD Cert.PleSIdeal.τ Cert.PleSIdeal.sig) → Buf (Elt Ideal) ℓ) (g : Dev Cert.PleSIdeal.nD → PrngReg)
    (m' : (ℓ : Loc Cert.PleSRefIdeal.nD Cert.PleSRefIdeal.τ Cert.PleSRefIdeal.sig) → Buf (Elt Ideal) ℓ) (g' : Dev Cert.PleSRefIdeal.nD → PrngReg), Pre_PleSIdeal m →
    (∀ c : Dev Cert.PleSIdeal.nD,
      m' ((c.tc : Thread Cert.PleSRefIdeal.nD Cert.PleSRefIdeal.τ).loc Cert.PleSRefIdeal.main_arg0) = m ((c.tc : Thread Cert.PleSIdeal.nD Cert.PleSIdeal.τ).loc Cert.PleSIdeal.main_arg0)
      ∧ m' ((c.tc : Thread Cert.PleSRefIdeal.nD Cert.PleSRefIdeal.τ).loc Cert.PleSRefIdeal.main_arg1) = m ((c.tc : Thread Cert.PleSIdeal.nD Cert.PleSIdeal.τ).loc Cert.PleSIdeal.main_arg1)
      ∧ m' ((c.tc : Thread Cert.PleSRefIdeal.nD Cert.PleSRefIdeal.τ).loc Cert.PleSRefIdeal.main_arg2) = m ((c.tc : Thread Cert.PleSIdeal.nD Cert.PleSIdeal.τ).loc Cert.PleSIdeal.main_arg2)
      ∧ m' ((c.tc : Thread Cert.PleSRefIdeal.nD Cert.PleSRefIdeal.τ).loc Cert.PleSRefIdeal.main_arg3) = m ((c.tc : Thread Cert.PleSIdeal.nD Cert.PleSIdeal.τ).loc Cert.PleSIdeal.main_arg3)
      ∧ m' ((c.tc : Thread Cert.PleSRefIdeal.nD Cert.PleSRefIdeal.τ).loc Cert.PleSRefIdeal.main_arg4) = m ((c.tc : Thread Cert.PleSIdeal.nD Cert.PleSIdeal.τ).loc Cert.PleSIdeal.main_arg4)) →
    ∃ (v0 : (c : Dev Cert.PleSIdeal.nD) → Buf (Elt Ideal) ((c.tc : Thread Cert.PleSIdeal.nD Cert.PleSIdeal.τ).loc Cert.PleSIdeal.main_v0)),
      θ_run (Cert.PleSIdeal.defs (F := Ideal)) (onTc (τ := Cert.PleSIdeal.τ) (Cert.PleSIdeal.main (F := Ideal))) ⟨m, fun _ => 0, g⟩ (fun r => ∀ c : Dev Cert.PleSIdeal.nD,
          r.2.mem ((c.tc : Thread Cert.PleSIdeal.nD Cert.PleSIdeal.τ).loc Cert.PleSIdeal.main_v0) = v0 c
          ∧ r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
          ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
          ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
          ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
          ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4))
      ∧ θ_run (Cert.PleSRefIdeal.defs (F := Ideal)) (onTc (τ := Cert.PleSRefIdeal.τ) (Cert.PleSRefIdeal.main (F := Ideal))) ⟨m', fun _ => 0, g'⟩ (fun r => ∀ c : Dev Cert.PleSRefIdeal.nD,
          r.2.mem ((c.tc : Thread Cert.PleSRefIdeal.nD Cert.PleSRefIdeal.τ).loc Cert.PleSRefIdeal.main_v23) = v0 c
          ∧ r.2.mem ((c.tc : Thread Cert.PleSRefIdeal.nD Cert.PleSRefIdeal.τ).loc Cert.PleSRefIdeal.main_arg0) = m' ((c.tc : Thread Cert.PleSRefIdeal.nD Cert.PleSRefIdeal.τ).loc Cert.PleSRefIdeal.main_arg0)
          ∧ r.2.mem ((c.tc : Thread Cert.PleSRefIdeal.nD Cert.PleSRefIdeal.τ).loc Cert.PleSRefIdeal.main_arg1) = m' ((c.tc : Thread Cert.PleSRefIdeal.nD Cert.PleSRefIdeal.τ).loc Cert.PleSRefIdeal.main_arg1)
          ∧ r.2.mem ((c.tc : Thread Cert.PleSRefIdeal.nD Cert.PleSRefIdeal.τ).loc Cert.PleSRefIdeal.main_arg2) = m' ((c.tc : Thread Cert.PleSRefIdeal.nD Cert.PleSRefIdeal.τ).loc Cert.PleSRefIdeal.main_arg2)
          ∧ r.2.mem ((c.tc : Thread Cert.PleSRefIdeal.nD Cert.PleSRefIdeal.τ).loc Cert.PleSRefIdeal.main_arg3) = m' ((c.tc : Thread Cert.PleSRefIdeal.nD Cert.PleSRefIdeal.τ).loc Cert.PleSRefIdeal.main_arg3)
          ∧ r.2.mem ((c.tc : Thread Cert.PleSRefIdeal.nD Cert.PleSRefIdeal.τ).loc Cert.PleSRefIdeal.main_arg4) = m' ((c.tc : Thread Cert.PleSRefIdeal.nD Cert.PleSRefIdeal.τ).loc Cert.PleSRefIdeal.main_arg4))

def preserves_PrepS_PrepSIdeal : Prop :=
  True

def algebraic_PrepSIdeal_PrepSRefIdeal [hPrepSIdeal : Cert.PrepSIdeal.Facts] [hPrepSRefIdeal : Cert.PrepSRefIdeal.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)
      ∧ m' ((c.tc : Thread Cert.PrepSRefIdeal.nD Cert.PrepSRefIdeal.τ).loc Cert.PrepSRefIdeal.main_arg2) = m ((c.tc : Thread Cert.PrepSIdeal.nD Cert.PrepSIdeal.τ).loc Cert.PrepSIdeal.main_arg2)
      ∧ m' ((c.tc : Thread Cert.PrepSRefIdeal.nD Cert.PrepSRefIdeal.τ).loc Cert.PrepSRefIdeal.main_arg3) = m ((c.tc : Thread Cert.PrepSIdeal.nD Cert.PrepSIdeal.τ).loc Cert.PrepSIdeal.main_arg3)
      ∧ m' ((c.tc : Thread Cert.PrepSRefIdeal.nD Cert.PrepSRefIdeal.τ).loc Cert.PrepSRefIdeal.main_arg4) = m ((c.tc : Thread Cert.PrepSIdeal.nD Cert.PrepSIdeal.τ).loc Cert.PrepSIdeal.main_arg4)
      ∧ m' ((c.tc : Thread Cert.PrepSRefIdeal.nD Cert.PrepSRefIdeal.τ).loc Cert.PrepSRefIdeal.main_arg5) = m ((c.tc : Thread Cert.PrepSIdeal.nD Cert.PrepSIdeal.τ).loc Cert.PrepSIdeal.main_arg5)
      ∧ m' ((c.tc : Thread Cert.PrepSRefIdeal.nD Cert.PrepSRefIdeal.τ).loc Cert.PrepSRefIdeal.main_arg6) = m ((c.tc : Thread Cert.PrepSIdeal.nD Cert.PrepSIdeal.τ).loc Cert.PrepSIdeal.main_arg6)
      ∧ m' ((c.tc : Thread Cert.PrepSRefIdeal.nD Cert.PrepSRefIdeal.τ).loc Cert.PrepSRefIdeal.main_arg7) = m ((c.tc : Thread Cert.PrepSIdeal.nD Cert.PrepSIdeal.τ).loc Cert.PrepSIdeal.main_arg7)
      ∧ m' ((c.tc : Thread Cert.PrepSRefIdeal.nD Cert.PrepSRefIdeal.τ).loc Cert.PrepSRefIdeal.main_arg8) = m ((c.tc : Thread Cert.PrepSIdeal.nD Cert.PrepSIdeal.τ).loc Cert.PrepSIdeal.main_arg8)
      ∧ m' ((c.tc : Thread Cert.PrepSRefIdeal.nD Cert.PrepSRefIdeal.τ).loc Cert.PrepSRefIdeal.main_arg9) = m ((c.tc : Thread Cert.PrepSIdeal.nD Cert.PrepSIdeal.τ).loc Cert.PrepSIdeal.main_arg9)
      ∧ m' ((c.tc : Thread Cert.PrepSRefIdeal.nD Cert.PrepSRefIdeal.τ).loc Cert.PrepSRefIdeal.main_arg10) = m ((c.tc : Thread Cert.PrepSIdeal.nD Cert.PrepSIdeal.τ).loc Cert.PrepSIdeal.main_arg10)
      ∧ m' ((c.tc : Thread Cert.PrepSRefIdeal.nD Cert.PrepSRefIdeal.τ).loc Cert.PrepSRefIdeal.main_arg11) = m ((c.tc : Thread Cert.PrepSIdeal.nD Cert.PrepSIdeal.τ).loc Cert.PrepSIdeal.main_arg11)) →
    ∃ (v0 : (c : Dev Cert.PrepSIdeal.nD) → Buf (Elt Ideal) ((c.tc : Thread Cert.PrepSIdeal.nD Cert.PrepSIdeal.τ).loc Cert.PrepSIdeal.main_v18_0)) (v1 : (c : Dev Cert.PrepSIdeal.nD) → Buf (Elt Ideal) ((c.tc : Thread Cert.PrepSIdeal.nD Cert.PrepSIdeal.τ).loc Cert.PrepSIdeal.main_v18_1)) (v2 : (c : Dev Cert.PrepSIdeal.nD) → Buf (Elt Ideal) ((c.tc : Thread Cert.PrepSIdeal.nD Cert.PrepSIdeal.τ).loc Cert.PrepSIdeal.main_v18_2)) (v3 : (c : Dev Cert.PrepSIdeal.nD) → Buf (Elt Ideal) ((c.tc : Thread Cert.PrepSIdeal.nD Cert.PrepSIdeal.τ).loc Cert.PrepSIdeal.main_v18_3)) (v4 : (c : Dev Cert.PrepSIdeal.nD) → Buf (Elt Ideal) ((c.tc : Thread Cert.PrepSIdeal.nD Cert.PrepSIdeal.τ).loc Cert.PrepSIdeal.main_v18_4)) (v5 : (c : Dev Cert.PrepSIdeal.nD) → Buf (Elt Ideal) ((c.tc : Thread Cert.PrepSIdeal.nD Cert.PrepSIdeal.τ).loc Cert.PrepSIdeal.main_v18_5)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v18_0) = v0 c
          ∧ r.2.mem ((c.tc : Thread Cert.PrepSIdeal.nD Cert.PrepSIdeal.τ).loc Cert.PrepSIdeal.main_v18_1) = v1 c
          ∧ r.2.mem ((c.tc : Thread Cert.PrepSIdeal.nD Cert.PrepSIdeal.τ).loc Cert.PrepSIdeal.main_v18_2) = v2 c
          ∧ r.2.mem ((c.tc : Thread Cert.PrepSIdeal.nD Cert.PrepSIdeal.τ).loc Cert.PrepSIdeal.main_v18_3) = v3 c
          ∧ r.2.mem ((c.tc : Thread Cert.PrepSIdeal.nD Cert.PrepSIdeal.τ).loc Cert.PrepSIdeal.main_v18_4) = v4 c
          ∧ r.2.mem ((c.tc : Thread Cert.PrepSIdeal.nD Cert.PrepSIdeal.τ).loc Cert.PrepSIdeal.main_v18_5) = v5 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
          ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
          ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
          ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
          ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
          ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
          ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
          ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
          ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9)
          ∧ r.2.mem ((c.tc : Thread Cert.PrepSIdeal.nD Cert.PrepSIdeal.τ).loc Cert.PrepSIdeal.main_arg10) = m ((c.tc : Thread Cert.PrepSIdeal.nD Cert.PrepSIdeal.τ).loc Cert.PrepSIdeal.main_arg10)
          ∧ r.2.mem ((c.tc : Thread Cert.PrepSIdeal.nD Cert.PrepSIdeal.τ).loc Cert.PrepSIdeal.main_arg11) = m ((c.tc : Thread Cert.PrepSIdeal.nD Cert.PrepSIdeal.τ).loc Cert.PrepSIdeal.main_arg11))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v27) = v0 c
          ∧ r.2.mem ((c.tc : Thread Cert.PrepSRefIdeal.nD Cert.PrepSRefIdeal.τ).loc Cert.PrepSRefIdeal.main_v50) = v1 c
          ∧ r.2.mem ((c.tc : Thread Cert.PrepSRefIdeal.nD Cert.PrepSRefIdeal.τ).loc Cert.PrepSRefIdeal.main_v118) = v2 c
          ∧ r.2.mem ((c.tc : Thread Cert.PrepSRefIdeal.nD Cert.PrepSRefIdeal.τ).loc Cert.PrepSRefIdeal.main_v119) = v3 c
          ∧ r.2.mem ((c.tc : Thread Cert.PrepSRefIdeal.nD Cert.PrepSRefIdeal.τ).loc Cert.PrepSRefIdeal.main_v121) = v4 c
          ∧ r.2.mem ((c.tc : Thread Cert.PrepSRefIdeal.nD Cert.PrepSRefIdeal.τ).loc Cert.PrepSRefIdeal.main_v128) = v5 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1)
          ∧ r.2.mem ((c.tc : Thread Cert.PrepSRefIdeal.nD Cert.PrepSRefIdeal.τ).loc Cert.PrepSRefIdeal.main_arg2) = m' ((c.tc : Thread Cert.PrepSRefIdeal.nD Cert.PrepSRefIdeal.τ).loc Cert.PrepSRefIdeal.main_arg2)
          ∧ r.2.mem ((c.tc : Thread Cert.PrepSRefIdeal.nD Cert.PrepSRefIdeal.τ).loc Cert.PrepSRefIdeal.main_arg3) = m' ((c.tc : Thread Cert.PrepSRefIdeal.nD Cert.PrepSRefIdeal.τ).loc Cert.PrepSRefIdeal.main_arg3)
          ∧ r.2.mem ((c.tc : Thread Cert.PrepSRefIdeal.nD Cert.PrepSRefIdeal.τ).loc Cert.PrepSRefIdeal.main_arg4) = m' ((c.tc : Thread Cert.PrepSRefIdeal.nD Cert.PrepSRefIdeal.τ).loc Cert.PrepSRefIdeal.main_arg4)
          ∧ r.2.mem ((c.tc : Thread Cert.PrepSRefIdeal.nD Cert.PrepSRefIdeal.τ).loc Cert.PrepSRefIdeal.main_arg5) = m' ((c.tc : Thread Cert.PrepSRefIdeal.nD Cert.PrepSRefIdeal.τ).loc Cert.PrepSRefIdeal.main_arg5)
          ∧ r.2.mem ((c.tc : Thread Cert.PrepSRefIdeal.nD Cert.PrepSRefIdeal.τ).loc Cert.PrepSRefIdeal.main_arg6) = m' ((c.tc : Thread Cert.PrepSRefIdeal.nD Cert.PrepSRefIdeal.τ).loc Cert.PrepSRefIdeal.main_arg6)
          ∧ r.2.mem ((c.tc : Thread Cert.PrepSRefIdeal.nD Cert.PrepSRefIdeal.τ).loc Cert.PrepSRefIdeal.main_arg7) = m' ((c.tc : Thread Cert.PrepSRefIdeal.nD Cert.PrepSRefIdeal.τ).loc Cert.PrepSRefIdeal.main_arg7)
          ∧ r.2.mem ((c.tc : Thread Cert.PrepSRefIdeal.nD Cert.PrepSRefIdeal.τ).loc Cert.PrepSRefIdeal.main_arg8) = m' ((c.tc : Thread Cert.PrepSRefIdeal.nD Cert.PrepSRefIdeal.τ).loc Cert.PrepSRefIdeal.main_arg8)
          ∧ r.2.mem ((c.tc : Thread Cert.PrepSRefIdeal.nD Cert.PrepSRefIdeal.τ).loc Cert.PrepSRefIdeal.main_arg9) = m' ((c.tc : Thread Cert.PrepSRefIdeal.nD Cert.PrepSRefIdeal.τ).loc Cert.PrepSRefIdeal.main_arg9)
          ∧ r.2.mem ((c.tc : Thread Cert.PrepSRefIdeal.nD Cert.PrepSRefIdeal.τ).loc Cert.PrepSRefIdeal.main_arg10) = m' ((c.tc : Thread Cert.PrepSRefIdeal.nD Cert.PrepSRefIdeal.τ).loc Cert.PrepSRefIdeal.main_arg10)
          ∧ r.2.mem ((c.tc : Thread Cert.PrepSRefIdeal.nD Cert.PrepSRefIdeal.τ).loc Cert.PrepSRefIdeal.main_arg11) = m' ((c.tc : Thread Cert.PrepSRefIdeal.nD Cert.PrepSRefIdeal.τ).loc Cert.PrepSRefIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPle : Cert.Ple.Facts) (hPleIdeal : Cert.PleIdeal.Facts) (hPleRefIdeal : Cert.PleRefIdeal.Facts) (hMoe : Cert.Moe.Facts) (hMoeIdeal : Cert.MoeIdeal.Facts) (hMoeRefIdeal : Cert.MoeRefIdeal.Facts) (hPrep : Cert.Prep.Facts) (hPrepIdeal : Cert.PrepIdeal.Facts) (hPrepRefIdeal : Cert.PrepRefIdeal.Facts) (hFfnS : Cert.FfnS.Facts) (hFfnSIdeal : Cert.FfnSIdeal.Facts) (hFfnSRefIdeal : Cert.FfnSRefIdeal.Facts) (hInProjS : Cert.InProjS.Facts) (hInProjSIdeal : Cert.InProjSIdeal.Facts) (hInProjSRefIdeal : Cert.InProjSRefIdeal.Facts) (hOutProjS : Cert.OutProjS.Facts) (hOutProjSIdeal : Cert.OutProjSIdeal.Facts) (hOutProjSRefIdeal : Cert.OutProjSRefIdeal.Facts) (hPleS : Cert.PleS.Facts) (hPleSIdeal : Cert.PleSIdeal.Facts) (hPleSRefIdeal : Cert.PleSRefIdeal.Facts) (hPrepS : Cert.PrepS.Facts) (hPrepSIdeal : Cert.PrepSIdeal.Facts) (hPrepSRefIdeal : Cert.PrepSRefIdeal.Facts) (hPre_finite_qk : Cert.Pre_finite_qk.Facts) (hPre_experts_in_range : Cert.Pre_experts_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ple (hPle := hPle)
    ∧ quiescent_PleIdeal (hPleIdeal := hPleIdeal)
    ∧ quiescent_PleRefIdeal (hPleRefIdeal := hPleRefIdeal)
    ∧ quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal)
    ∧ quiescent_MoeRefIdeal_pre_experts_in_range (hMoeRefIdeal := hMoeRefIdeal) (hPre_experts_in_range := hPre_experts_in_range)
    ∧ quiescent_Prep (hPrep := hPrep)
    ∧ quiescent_PrepIdeal (hPrepIdeal := hPrepIdeal)
    ∧ quiescent_PrepRefIdeal (hPrepRefIdeal := hPrepRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_OutProjS (hOutProjS := hOutProjS)
    ∧ quiescent_OutProjSIdeal (hOutProjSIdeal := hOutProjSIdeal)
    ∧ quiescent_OutProjSRefIdeal (hOutProjSRefIdeal := hOutProjSRefIdeal)
    ∧ quiescent_PleS (hPleS := hPleS)
    ∧ quiescent_PleSIdeal (hPleSIdeal := hPleSIdeal)
    ∧ quiescent_PleSRefIdeal (hPleSRefIdeal := hPleSRefIdeal)
    ∧ quiescent_PrepS (hPrepS := hPrepS)
    ∧ quiescent_PrepSIdeal (hPrepSIdeal := hPrepSIdeal)
    ∧ quiescent_PrepSRefIdeal (hPrepSRefIdeal := hPrepSRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ple_PleIdeal
    ∧ algebraic_PleIdeal_PleRefIdeal (hPleIdeal := hPleIdeal) (hPleRefIdeal := hPleRefIdeal)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_Prep_PrepIdeal
    ∧ algebraic_PrepIdeal_PrepRefIdeal (hPrepIdeal := hPrepIdeal) (hPrepRefIdeal := hPrepRefIdeal)
    ∧ preserves_FfnS_FfnSIdeal
    ∧ algebraic_FfnSIdeal_FfnSRefIdeal (hFfnSIdeal := hFfnSIdeal) (hFfnSRefIdeal := hFfnSRefIdeal)
    ∧ preserves_InProjS_InProjSIdeal
    ∧ algebraic_InProjSIdeal_InProjSRefIdeal (hInProjSIdeal := hInProjSIdeal) (hInProjSRefIdeal := hInProjSRefIdeal)
    ∧ preserves_OutProjS_OutProjSIdeal
    ∧ algebraic_OutProjSIdeal_OutProjSRefIdeal (hOutProjSIdeal := hOutProjSIdeal) (hOutProjSRefIdeal := hOutProjSRefIdeal)
    ∧ preserves_PleS_PleSIdeal
    ∧ algebraic_PleSIdeal_PleSRefIdeal (hPleSIdeal := hPleSIdeal) (hPleSRefIdeal := hPleSRefIdeal)
    ∧ preserves_PrepS_PrepSIdeal
    ∧ algebraic_PrepSIdeal_PrepSRefIdeal (hPrepSIdeal := hPrepSIdeal) (hPrepSRefIdeal := hPrepSRefIdeal)
-- ==== Pre_experts_in_range.lean ====
abbrev S73 : Shape := ⟨1, ![73]⟩
abbrev S1 : Shape := ⟨1, ![1]⟩
abbrev S37376x2048 : Shape := ⟨2, ![37376, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S73 : S_.BroadcastsInDim S73 (![] : Fin 0 → Fin S73.rank)

variable [Facts]

def fn {F : FTy → Type} [FloatOps F] (main_arg0 : IVec S73 32) (main_arg1 : IVec S1 32) (main_arg2 : FVec F S37376x2048 .f32) (main_arg3 : FVec F S1x2048 .f32) (main_arg4 : FVec F S8x2048x5632 .bf16) (main_arg5 : FVec F S8x2048x5632 .f32) (main_arg6 : FVec F S8x5632x2048 .f32) : IVec S73 1 :=
  let main_c : IVec S_ 32 := constantI S_ 32 0#32
  let main_v0 : IVec S73 32 := broadcastInDim S73 ![] bcast_S_S73 main_c
  let main_v1 : IVec S73 1 := cmpi .sge main_arg0 main_v0
  let main_c_0 : IVec S_ 32 := constantI S_ 32 8#32
  let main_v2 : IVec S73 32 := broadcastInDim S73 ![] bcast_S_S73 main_c_0
  let main_v3 : IVec S73 1 := cmpi .slt main_arg0 main_v2
  let main_v4 : IVec S73 1 := andi main_v1 main_v3
  main_v4
-- ==== Pre_finite_qk.lean ====
abbrev S16384x2048 : Shape := ⟨2, ![16384, 2048]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x2048 .bf16) (main_arg1 : FVec F S16384x2048 .bf16) (main_arg2 : FVec F S16384x1024 .bf16) : IVec S16384x2048 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_v8 : IVec S16384x2048 1 := andi main_v3 main_v7
  main_v8
-- ==== Kernel.lean ====
abbrev S16384x2048 : Shape := ⟨2, ![16384, 2048]⟩
abbrev S16384x1024 : Shape := ⟨2, ![16384, 1024]⟩
abbrev S512x1024 : Shape := ⟨2, ![512, 1024]⟩
abbrev S2048x1024 : Shape := ⟨2, ![2048, 1024]⟩
abbrev S2048x512 : Shape := ⟨2, ![2048, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_3 : BitVec 32 := 0#32
  let v11 : BitVec 1 := Scalar.cmpi .ne v10 c0_i32_3
  v11

def k0_cond4 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S16384x2048 : Shape := ⟨2, ![16384, 2048]⟩
abbrev S16384x1024 : Shape := ⟨2, ![16384, 1024]⟩
abbrev S8x2048x8x256 : Shape := ⟨4, ![8, 2048, 8, 256]⟩
abbrev S8x2048x8x128 : Shape := ⟨4, ![8, 2048, 8, 128]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S8x2048x8x256, .f32⟩
  | .hbm, ⟨5, _⟩ => ⟨S16384x2048, .f32⟩
  | .hbm, ⟨6, _⟩ => ⟨S8x2048x8x256, .f32⟩
  | .hbm, ⟨7, _⟩ => ⟨S16384x1024, .f32⟩
  | .hbm, ⟨8, _⟩ => ⟨S8x2048x8x128, .f32⟩
  | .hbm, ⟨9, _⟩ => ⟨S8x8x2048x2048, .f32⟩
  | .hbm, ⟨10, _⟩ => ⟨S_, .f32⟩
  | .hbm, ⟨11, _⟩ => ⟨S_, .f32⟩
  | .hbm, ⟨12, _⟩ => ⟨S8x8x2048x2048, .f32⟩
  | .hbm, ⟨13, _⟩ => ⟨S8x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048, .f32⟩
  | .hbm, ⟨27, _⟩ => ⟨S_, .f32⟩
  | .hbm, ⟨28, _⟩ => ⟨S8x8x2048, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x8x128x2048, .f32⟩
  | .hbm, ⟨40, _⟩ => ⟨S8x2048x8x128, .f32⟩
  | .hbm, ⟨41, _⟩ => ⟨S16384x1024, .f32⟩
  | .hbm, ⟨42, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S2048x4096 : Shape := ⟨2, ![2048, 4096]⟩
abbrev S16384x4096 : Shape := ⟨2, ![16384, 4096]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4096, .bf16⟩
  | .hbm, ⟨3, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x2048 : Shape := ⟨2, ![16384, 2048]⟩
abbrev S1x2048 : Shape := ⟨2, ![1, 2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x4096, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x4096, .f32⟩
  | .hbm, ⟨19, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S16384x1024 : Shape := ⟨2, ![16384, 1024]⟩
abbrev S2048x2048 : Shape := ⟨2, ![2048, 2048]⟩
abbrev S16384x2048 : Shape := ⟨2, ![16384, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Ple.lean ====
abbrev S16384x2048 : Shape := ⟨2, ![16384, 2048]⟩
abbrev S1x2048 : Shape := ⟨2, ![1, 2048]⟩
abbrev S16384x256 : Shape := ⟨2, ![16384, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x256, .f32⟩
  | .hbm, ⟨3, _⟩ => ⟨S2048x2048, .bf16⟩
  | .hbm, ⟨4, _⟩ => ⟨S256x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S2048x2048, .bf16⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let arg1 : BitVec 32 := BitVec.ofNat 32 (i 1).val
  let c2048_i32 : BitVec 32 := 2048#32
  let v11 : BitVec 32 := Scalar.muli arg1 c2048_i32
  v11
def k0_off1 (i : grid0.Coords) : Fin 2 → Nat :=
  let c0_9 : Index := 0#32
  let arg1 : BitVec 32 := BitVec.ofNat 32 (i 1).val
  let c2048_i32 : BitVec 32 := 2048#32
  let v11 : BitVec 32 := Scalar.muli arg1 c2048_i32
  let v12 : BitVec 32 := v11
  let v13 : Index := Scalar.indexCast v12
  ![0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S16384x2048 : Shape := ⟨2, ![16384, 2048]⟩
abbrev S1x2048 : Shape := ⟨2, ![1, 2048]⟩
abbrev S16384x256 : Shape := ⟨2, ![16384, 256]⟩
abbrev S2048x2048 : Shape := ⟨2, ![2048, 2048]⟩
abbrev S256x2048 : Shape := ⟨2, ![256, 2048]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x256, .f32⟩
  | .hbm, ⟨3, _⟩ => ⟨S2048x2048, .bf16⟩
  | .hbm, ⟨4, _⟩ => ⟨S256x2048, .bf16⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S256x2048, .f32⟩
  | .hbm, ⟨31, _⟩ => ⟨S16384x2048, .f32⟩
  | .hbm, ⟨32, _⟩ => ⟨S16384x2048, .f32⟩
  | .hbm, ⟨33, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Moe.lean ====
abbrev S73 : Shape := ⟨1, ![73]⟩
abbrev S1 : Shape := ⟨1, ![1]⟩
abbrev S37376x2048 : Shape := ⟨2, ![37376, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 12
  | .smem => 2
  | _ => 0

abbrev bufTy : (tb : Table) → Fin (tcTables nBuf tb) → BufTy
  | .hbm, ⟨0, _⟩ => ⟨S37376x2048, .f32⟩
  | .hbm, ⟨1, _⟩ => ⟨S1x2048, .f32⟩
  | .hbm, ⟨2, _⟩ => ⟨S8x2048x5632, .bf16⟩
  | .hbm, ⟨3, _⟩ => ⟨S8x2048x5632, .f32⟩
  | .hbm, ⟨4, _⟩ => ⟨S8x5632x2048, .f32⟩
  | .hbm, ⟨5, _⟩ => ⟨S37376x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .smem, ⟨0, _⟩ => ⟨S73, .i32⟩
  | .local _ .smem, ⟨1, _⟩ => ⟨S1, .i32⟩
  | _, _ => ⟨S37376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![73, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S73) ![v2.toNat] S1.size (k0_off1_inb i)) numel1_S1
  let c10_i32 : BitVec 32 := 10#32
  let v4 : BitVec 32 := Scalar.select v1 arg1 c10_i32
  let c0_i32 : BitVec 32 := 0#32
  let c0_i32_0 : BitVec 32 := 0#32
  ![v3.toNat, c0_i32.toNat, v4.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S73) ![v2.toNat] S1.size (k0_off1_inb i)) numel1_S1
  let c10_i32 : BitVec 32 := 10#32
  let v4 : BitVec 32 := Scalar.select v1 arg1 c10_i32
  let c0_i32 : BitVec 32 := 0#32
  let c0_i32_0 : BitVec 32 := 0#32
  ![v3.toNat, c0_i32.toNat, v4.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S73.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S73) ![v2.toNat] S1.size (k0_off1_inb i)) numel1_S1
  let c10_i32 : BitVec 32 := 10#32
  let v4 : BitVec 32 := Scalar.select v1 arg1 c10_i32
  let c0_i32 : BitVec 32 := 0#32
  let c0_i32_0 : BitVec 32 := 0#32
  ![v3.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S73 : Shape := ⟨1, ![73]⟩
abbrev S1 : Shape := ⟨1, ![1]⟩
abbrev S37376x2048 : Shape := ⟨2, ![37376, 2048]⟩
abbrev S1x2048 : Shape := ⟨2, ![1, 2048]⟩
abbrev S8x2048x5632 : Shape := ⟨3, ![8, 2048, 5632]⟩
abbrev S8x5632x2048 : Shape := ⟨3, ![8, 5632, 2048]⟩
abbrev S_ : Shape := ⟨0, ![]⟩
abbrev S37376 : Shape := ⟨1, ![37376]⟩
abbrev S37376x1 : Shape := ⟨2, ![37376, 1]⟩
abbrev S73x512x2048 : Shape := ⟨3, ![73, 512, 2048]⟩
abbrev S73x1 : Shape := ⟨2, ![73, 1]⟩
abbrev S73x2048x5632 : Shape := ⟨3, ![73, 2048, 5632]⟩
abbrev S73x512x5632 : Shape := ⟨3, ![73, 512, 5632]⟩
abbrev S73x5632x2048 : Shape := ⟨3, ![73, 5632, 2048]⟩
abbrev S73x1x1 : Shape := ⟨3, ![73, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S73, .i32⟩
  | .hbm, ⟨1, _⟩ => ⟨S1, .i32⟩
  | .hbm, ⟨2, _⟩ => ⟨S37376x2048, .f32⟩
  | .hbm, ⟨3, _⟩ => ⟨S1x2048, .f32⟩
  | .hbm, ⟨4, _⟩ => ⟨S8x2048x5632, .bf16⟩
  | .hbm, ⟨5, _⟩ => ⟨S8x2048x5632, .f32⟩
  | .hbm, ⟨6, _⟩ => ⟨S8x5632x2048, .f32⟩
  | .hbm, ⟨7, _⟩ => ⟨S37376x2048, .f32⟩
  | .hbm, ⟨8, _⟩ => ⟨S_, .f32⟩
  | .hbm, ⟨9, _⟩ => ⟨S37376, .f32⟩
  | .hbm, ⟨10, _⟩ => ⟨S37376x1, .f32⟩
  | .hbm, ⟨11, _⟩ => ⟨S_, .f32⟩
  | .hbm, ⟨12, _⟩ => ⟨S37376x1, .f32⟩
  | .hbm, ⟨13, _⟩ => ⟨S37376x1, .f32⟩
  | .hbm, ⟨14, _⟩ => ⟨S_, .f32⟩
  | .hbm, ⟨15, _⟩ => ⟨S37376x1, .f32⟩
  | .hbm, ⟨16, _⟩ => ⟨S37376x1, .f32⟩
  | .hbm, ⟨17, _⟩ => ⟨S37376x1, .f32⟩
  | .hbm, ⟨18, _⟩ => ⟨S37376x2048, .f32⟩
  | .hbm, ⟨19, _⟩ => ⟨S37376x2048, .f32⟩
  | .hbm, ⟨20, _⟩ => ⟨S37376x2048, .f32⟩
  | .hbm, ⟨21, _⟩ => ⟨S37376x2048, .f32⟩
  | .hbm, ⟨22, _⟩ => ⟨S73x512x2048, .f32⟩
  | .hbm, ⟨23, _⟩ => ⟨S8x2048x5632, .f32⟩
  | .hbm, ⟨24, _⟩ => ⟨S_, .i32⟩
  | .hbm, ⟨25, _⟩ => ⟨S73, .i32⟩
  | .hbm, ⟨26, _⟩ => ⟨S73, .i1⟩
  | .hbm, ⟨27, _⟩ => ⟨S_, .i32⟩
  | .hbm, ⟨28, _⟩ => ⟨S73, .i32⟩
  | .hbm, ⟨29, _⟩ => ⟨S73, .i32⟩
  | .hbm, ⟨30, _⟩ => ⟨S73, .i32⟩
  | .hbm, ⟨31, _⟩ => ⟨S73x1, .i32⟩
  | .hbm, ⟨32, _⟩ => ⟨S73x2048x5632, .f32⟩
  | .hbm, ⟨33, _⟩ => ⟨S73x512x5632, .f32⟩
  | .hbm, ⟨34, _⟩ => ⟨S73x512x5632, .f32⟩
  | .hbm, ⟨35, _⟩ => ⟨S73x512x5632, .f32⟩
  | .hbm, ⟨36, _⟩ => ⟨S_, .f32⟩
  | .hbm, ⟨37, _⟩ => ⟨S73x512x5632, .f32⟩
  | .hbm, ⟨38, _⟩ => ⟨S73x512x5632, .f32⟩
  | .hbm, ⟨39, _⟩ => ⟨S_, .f32⟩
  | .hbm, ⟨40, _⟩ => ⟨S73x512x5632, .f32⟩
  | .hbm, ⟨41, _⟩ => ⟨S73x512x5632, .f32⟩
  | .hbm, ⟨42, _⟩ => ⟨S73x512x5632, .f32⟩
  | .hbm, ⟨43, _⟩ => ⟨S_, .i32⟩
  | .hbm, ⟨44, _⟩ => ⟨S73, .i32⟩
  | .hbm, ⟨45, _⟩ => ⟨S73, .i1⟩
  | .hbm, ⟨46, _⟩ => ⟨S_, .i32⟩
  | .hbm, ⟨47, _⟩ => ⟨S73, .i32⟩
  | .hbm, ⟨48, _⟩ => ⟨S73, .i32⟩
  | .hbm, ⟨49, _⟩ => ⟨S73, .i32⟩
  | .hbm, ⟨50, _⟩ => ⟨S73x1, .i32⟩
  | .hbm, ⟨51, _⟩ => ⟨S73x2048x5632, .f32⟩
  | .hbm, ⟨52, _⟩ => ⟨S73x512x5632, .f32⟩
  | .hbm, ⟨53, _⟩ => ⟨S73x512x5632, .f32⟩
  | .hbm, ⟨54, _⟩ => ⟨S_, .i32⟩
  | .hbm, ⟨55, _⟩ => ⟨S73, .i32⟩
  | .hbm, ⟨56, _⟩ => ⟨S73, .i1⟩
  | .hbm, ⟨57, _⟩ => ⟨S_, .i32⟩
  | .hbm, ⟨58, _⟩ => ⟨S73, .i32⟩
  | .hbm, ⟨59, _⟩ => ⟨S73, .i32⟩
  | .hbm, ⟨60, _⟩ => ⟨S73, .i32⟩
  | .hbm, ⟨61, _⟩ => ⟨S73x1, .i32⟩
  | .hbm, ⟨62, _⟩ => ⟨S73x5632x2048, .f32⟩
  | .hbm, ⟨63, _⟩ => ⟨S73x512x2048, .f32⟩
  | .hbm, ⟨64, _⟩ => ⟨S73, .i32⟩
  | .hbm, ⟨65, _⟩ => ⟨S_, .i32⟩
  | .hbm, ⟨66, _⟩ => ⟨S73, .i32⟩
  | .hbm, ⟨67, _⟩ => ⟨S73, .i1⟩
  | .hbm, ⟨68, _⟩ => ⟨S73x1x1, .i1⟩
  | .hbm, ⟨69, _⟩ => ⟨S_, .f32⟩
  | .hbm, ⟨70, _⟩ => ⟨S_, .f32⟩
  | .hbm, ⟨71, _⟩ => ⟨S73x512x2048, .i1⟩
  | .hbm, ⟨72, _⟩ => ⟨S73x512x2048, .f32⟩
  | .hbm, ⟨73, _⟩ => ⟨S73x512x2048, .f32⟩
  | .hbm, ⟨74, _⟩ => ⟨S37376x2048, .f32⟩
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Prep.lean ====
abbrev S16384x4096 : Shape := ⟨2, ![16384, 4096]⟩
abbrev S2048x32 : Shape := ⟨2, ![2048, 32]⟩
abbrev S512x1536 : Shape := ⟨2, ![512, 1536]⟩
abbrev S256x1024 : Shape := ⟨2, ![256, 1024]⟩
abbrev S512 : Shape := ⟨1, ![512]⟩
abbrev S256 : Shape := ⟨1, ![256]⟩
abbrev S64 : Shape := ⟨1, ![64]⟩
abbrev S128 : Shape := ⟨1, ![128]⟩
abbrev S_ : Shape := ⟨0, ![]⟩
abbrev S2048x64 : Shape := ⟨2, ![2048, 64]⟩
abbrev S2048x128 : Shape := ⟨2, ![2048, 128]⟩
abbrev S512x8x192 : Shape := ⟨3, ![512, 8, 192]⟩
abbrev S512x8x256 : Shape := ⟨3, ![512, 8, 256]⟩
abbrev S512x2048 : Shape := ⟨2, ![512, 2048]⟩
abbrev S1x512 : Shape := ⟨2, ![1, 512]⟩
abbrev S1x256 : Shape := ⟨2, ![1, 256]⟩
abbrev S1x128 : Shape := ⟨2, ![1, 128]⟩
abbrev S16384x256 : Shape := ⟨2, ![16384, 256]⟩
abbrev S16384x64 : Shape := ⟨2, ![16384, 64]⟩
abbrev S16384x2048 : Shape := ⟨2, ![16384, 2048]⟩
abbrev S16384x1024 : Shape := ⟨2, ![16384, 1024]⟩
abbrev S512x512 : Shape := ⟨2, ![512, 512]⟩
abbrev S512x256 : Shape := ⟨2, ![512, 256]⟩
abbrev S512x128 : Shape := ⟨2, ![512, 128]⟩
abbrev S512x64 : Shape := ⟨2, ![512, 64]⟩
abbrev S512x1024 : Shape := ⟨2, ![512, 1024]⟩
abbrev S512x1 : Shape := ⟨2, ![512, 1]⟩

abbrev nBuf : Space → Nat
  | .hbm => 42
  | .vmem => 29
  | .smem => 0
  | _ => 0

abbrev bufTy : (tb : Table) → Fin (tcTables nBuf tb) → BufTy
  | .hbm, ⟨0, _⟩ => ⟨S16384x4096, .f32⟩
  | .hbm, ⟨1, _⟩ => ⟨S2048x32, .f32⟩
  | .hbm, ⟨2, _⟩ => ⟨S2048x32, .f32⟩
  | .hbm, ⟨3, _⟩ => ⟨S512x1536, .f32⟩
  | .hbm, ⟨4, _⟩ => ⟨S256x1024, .f32⟩
  | .hbm, ⟨5, _⟩ => ⟨S256x1024, .f32⟩
  | .hbm, ⟨6, _⟩ => ⟨S512, .f32⟩
  | .hbm, ⟨7, _⟩ => ⟨S256, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S128, .f32⟩
  | .hbm, ⟨12, _⟩ => ⟨S_, .f32⟩
  | .hbm, ⟨13, _⟩ => ⟨S2048x64, .f32⟩
  | .hbm, ⟨14, _⟩ => ⟨S2048x128, .f32⟩
  | .hbm, ⟨15, _⟩ => ⟨S2048x32, .f32⟩
  | .hbm, ⟨16, _⟩ => ⟨S2048x128, .f32⟩
  | .hbm, ⟨17, _⟩ => ⟨S512x8x192, .f32⟩
  | .hbm, ⟨18, _⟩ => ⟨S_, .i32⟩
  | .hbm, ⟨19, _⟩ => ⟨S_, .f32⟩
  | .hbm, ⟨20, _⟩ => ⟨S512x8x256, .f32⟩
  | .hbm, ⟨21, _⟩ => ⟨S512x2048, .f32⟩
  | .hbm, ⟨22, _⟩ => ⟨S1x512, .f32⟩
  | .hbm, ⟨23, _⟩ => ⟨S512x2048, .bf16⟩
  | .hbm, ⟨24, _⟩ => ⟨S1x256, .f32⟩
  | .hbm, ⟨25, _⟩ => ⟨S256x1024, .bf16⟩
  | .hbm, ⟨26, _⟩ => ⟨S256x1024, .bf16⟩
  | .hbm, ⟨27, _⟩ => ⟨S1x128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S16384x256, .f32⟩
  | .hbm, ⟨38, _⟩ => ⟨S16384x64, .f32⟩
  | .hbm, ⟨39, _⟩ => ⟨S16384x2048, .bf16⟩
  | .hbm, ⟨40, _⟩ => ⟨S16384x2048, .bf16⟩
  | .hbm, ⟨41, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S256x1024, .bf16⟩
  | .local _ .vmem, ⟨12, _⟩ => ⟨S256x1024, .bf16⟩
  | .local _ .vmem, ⟨13, _⟩ => ⟨S1x512, .f32⟩
  | .local _ .vmem, ⟨14, _⟩ => ⟨S1x256, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S512x256, .f32⟩
  | .local _ .vmem, ⟨20, _⟩ => ⟨S512x256, .f32⟩
  | .local _ .vmem, ⟨21, _⟩ => ⟨S512x64, .f32⟩
  | .local _ .vmem, ⟨22, _⟩ => ⟨S512x64, .f32⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x1024, .bf16⟩
  | .local _ .vmem, ⟨28, _⟩ => ⟨S512x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_call2_v0 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PrepRefIdeal.lean ====
abbrev S16384x4096 : Shape := ⟨2, ![16384, 4096]⟩
abbrev S2048x32 : Shape := ⟨2, ![2048, 32]⟩
abbrev S512x1536 : Shape := ⟨2, ![512, 1536]⟩
abbrev S256x1024 : Shape := ⟨2, ![256, 1024]⟩
abbrev S512 : Shape := ⟨1, ![512]⟩
abbrev S256 : Shape := ⟨1, ![256]⟩
abbrev S64 : Shape := ⟨1, ![64]⟩
abbrev S128 : Shape := ⟨1, ![128]⟩
abbrev S1x2048x1x32 : Shape := ⟨4, ![1, 2048, 1, 32]⟩
abbrev S8x2048x1x32 : Shape := ⟨4, ![8, 2048, 1, 32]⟩
abbrev S16384x32 : Shape := ⟨2, ![16384, 32]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x256 : Shape := ⟨2, ![16384, 256]⟩
abbrev S1x256 : Shape := ⟨2, ![1, 256]⟩
abbrev S16384x64 : Shape := ⟨2, ![16384, 64]⟩
abbrev S1x64 : Shape := ⟨2, ![1, 64]⟩
abbrev S16384x1536 : Shape := ⟨2, ![16384, 1536]⟩
abbrev S16384x8x192 : Shape := ⟨3, ![16384, 8, 192]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x8x64 : Shape := ⟨3, ![16384, 8, 64]⟩
abbrev S1x1x64 : Shape := ⟨3, ![1, 1, 64]⟩
abbrev S16384x1x32 : Shape := ⟨3, ![16384, 1, 32]⟩
abbrev S16384x8x32 : Shape := ⟨3, ![16384, 8, 32]⟩
abbrev S16384x1024 : Shape := ⟨2, ![16384, 1024]⟩
abbrev S16384x1x64 : Shape := ⟨3, ![16384, 1, 64]⟩
abbrev S16384x8x256 : Shape := ⟨3, ![16384, 8, 256]⟩
abbrev S16384x2048 : Shape := ⟨2, ![16384, 2048]⟩

abbrev nBuf : Space → Nat
  | .hbm => 159
  | .vmem => 0
  | .smem => 0
  | _ => 0

abbrev hbmTy0_0 (i : Nat) : BufTy := match i % 128 with
  | 0 => ⟨S16384x4096, .f32⟩
  | 1 => ⟨S2048x32, .f32⟩
  | 2 => ⟨S2048x32, .f32⟩
  | 3 => ⟨S512x1536, .f32⟩
  | 4 => ⟨S256x1024, .f32⟩
  | 5 => ⟨S256x1024, .f32⟩
  | 6 => ⟨S512, .f32⟩
  | 7 => ⟨S256, .f32⟩
  | 8 => ⟨S64, .f32⟩
  | 9 => ⟨S128, .f32⟩
  | 10 => ⟨S64, .f32⟩
  | 11 => ⟨S128, .f32⟩
  | 12 => ⟨S1x2048x1x32, .f32⟩
  | 13 => ⟨S8x2048x1x32, .f32⟩
  | 14 => ⟨S16384x32, .f32⟩
  | 15 => ⟨S1x2048x1x32, .f32⟩
  | 16 => ⟨S8x2048x1x32, .f32⟩
  | 17 => ⟨S16384x32, .f32⟩
  | 18 => ⟨S16384x512, .f32⟩
  | 19 => ⟨S16384x512, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x1, .f32⟩
  | 30 => ⟨S16384x512, .f32⟩
  | 31 => ⟨S16384x512, .f32⟩
  | 32 => ⟨S1x512, .f32⟩
  | 33 => ⟨S16384x512, .f32⟩
  | 34 => ⟨S16384x512, .f32⟩
  | 35 => ⟨S16384x256, .f32⟩
  | 36 => ⟨S16384x256, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x256, .f32⟩
  | 48 => ⟨S16384x256, .f32⟩
  | 49 => ⟨S1x256, .f32⟩
  | 50 => ⟨S16384x256, .f32⟩
  | 51 => ⟨S16384x256, .f32⟩
  | 52 => ⟨S16384x64, .f32⟩
  | 53 => ⟨S16384x64, .f32⟩
  | 54 => ⟨S_, .f32⟩
  | 55 => ⟨S16384, .f32⟩
  | 56 => ⟨S16384x1, .f32⟩
  | 57 => ⟨S_, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x1, .f32⟩
  | 64 => ⟨S16384x64, .f32⟩
  | 65 => ⟨S16384x64, .f32⟩
  | 66 => ⟨S1x64, .f32⟩
  | 67 => ⟨S16384x64, .f32⟩
  | 68 => ⟨S16384x64, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S16384x32, .f32⟩
  | 75 => ⟨S16384x32, .f32⟩
  | 76 => ⟨S16384x32, .f32⟩
  | 77 => ⟨S16384x64, .f32⟩
  | 78 => ⟨S16384x1536, .f32⟩
  | 79 => ⟨S16384x8x192, .f32⟩
  | 80 => ⟨S16384x8x128, .f32⟩
  | 81 => ⟨S16384x8x128, .f32⟩
  | 82 => ⟨S_, .f32⟩
  | 83 => ⟨S16384x8, .f32⟩
  | 84 => ⟨S16384x8x1, .f32⟩
  | 85 => ⟨S_, .f32⟩
  | 86 => ⟨S16384x8x1, .f32⟩
  | 87 => ⟨S16384x8x1, .f32⟩
  | 88 => ⟨S_, .f32⟩
  | 89 => ⟨S16384x8x1, .f32⟩
  | 90 => ⟨S16384x8x1, .f32⟩
  | 91 => ⟨S16384x8x1, .f32⟩
  | 92 => ⟨S16384x8x128, .f32⟩
  | 93 => ⟨S16384x8x128, .f32⟩
  | 94 => ⟨S1x1x128, .f32⟩
  | 95 => ⟨S16384x8x128, .f32⟩
  | 96 => ⟨S16384x8x128, .f32⟩
  | 97 => ⟨S16384x8x64, .f32⟩
  | 98 => ⟨S16384x8x64, .f32⟩
  | 99 => ⟨S_, .f32⟩
  | 100 => ⟨S16384x8, .f32⟩
  | 101 => ⟨S16384x8x1, .f32⟩
  | 102 => ⟨S_, .f32⟩
  | 103 => ⟨S16384x8x1, .f32⟩
  | 104 => ⟨S16384x8x1, .f32⟩
  | 105 => ⟨S_, .f32⟩
  | 106 => ⟨S16384x8x1, .f32⟩
  | 107 => ⟨S16384x8x1, .f32⟩
  | 108 => ⟨S16384x8x1, .f32⟩
  | 109 => ⟨S16384x8x64, .f32⟩
  | 110 => ⟨S16384x8x64, .f32⟩
  | 111 => ⟨S1x1x64, .f32⟩
  | 112 => ⟨S16384x8x64, .f32⟩
  | 113 => ⟨S16384x8x64, .f32⟩
  | 114 => ⟨S16384x1x32, .f32⟩
  | 115 => ⟨S16384x1x32, .f32⟩
  | 116 => ⟨S16384x8x32, .f32⟩
  | 117 => ⟨S16384x8x32, .f32⟩
  | 118 => ⟨S16384x8x32, .f32⟩
  | 119 => ⟨S16384x8x32, .f32⟩
  | 120 => ⟨S16384x8x32, .f32⟩
  | 121 => ⟨S16384x8x32, .f32⟩
  | 122 => ⟨S16384x8x32, .f32⟩
  | 123 => ⟨S16384x8x32, .f32⟩
  | 124 => ⟨S16384x8x32, .f32⟩
  | 125 => ⟨S16384x8x32, .f32⟩
  | 126 => ⟨S16384x8x32, .f32⟩
  | 127 => ⟨S16384x8x32, .f32⟩
  | _ => ⟨S16384x4096, .f32⟩

abbrev hbmTy0_1 (i : Nat) : BufTy := match i % 128 with
  | 0 => ⟨S16384x8x64, .f32⟩
  | 1 => ⟨S16384x1024, .f32⟩
  | 2 => ⟨S16384x8x128, .f32⟩
  | 3 => ⟨S16384x8x128, .f32⟩
  | 4 => ⟨S_, .f32⟩
  | 5 => ⟨S16384x8, .f32⟩
  | 6 => ⟨S16384x8x1, .f32⟩
  | 7 => ⟨S_, .f32⟩
  | 8 => ⟨S16384x8x1, .f32⟩
  | 9 => ⟨S16384x8x1, .f32⟩
  | 10 => ⟨S_, .f32⟩
  | 11 => ⟨S16384x8x1, .f32⟩
  | 12 => ⟨S16384x8x1, .f32⟩
  | 13 => ⟨S16384x8x1, .f32⟩
  | 14 => ⟨S16384x8x128, .f32⟩
  | 15 => ⟨S16384x8x128, .f32⟩
  | 16 => ⟨S1x1x128, .f32⟩
  | 17 => ⟨S16384x8x128, .f32⟩
  | 18 => ⟨S16384x8x128, .f32⟩
  | 19 => ⟨S_, .f32⟩
  | 20 => ⟨S16384x8x64, .f32⟩
  | 21 => ⟨S16384x1x64, .f32⟩
  | 22 => ⟨S16384x8x64, .f32⟩
  | 23 => ⟨S16384x8x256, .f32⟩
  | 24 => ⟨S16384x2048, .f32⟩
  | 25 => ⟨S16384x8x256, .f32⟩
  | 26 => ⟨S16384x2048, .f32⟩
  | 27 => ⟨S16384x2048, .bf16⟩
  | 28 => ⟨S16384x2048, .bf16⟩
  | 29 => ⟨S16384x1024, .f32⟩
  | 30 => ⟨S16384x1024, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_14 : Ref sig .tc := ⟨.hbm, 132, rfl⟩
abbrev main_v105 : Ref sig .tc := ⟨.hbm, 133, rfl⟩
abbrev main_v106 : Ref sig .tc := ⟨.hbm, 134, rfl⟩
abbrev main_cst_15 : Ref sig .tc := ⟨.hbm, 135, rfl⟩
abbrev main_v107 : Ref sig .tc := ⟨.hbm, 136, rfl⟩
abbrev main_v108 : Ref sig .tc := ⟨.hbm, 137, rfl⟩
abbrev main_cst_16 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩

abbrev nD : Nat := 1
abbrev τ : Topo := Topo.v7x

variable {F : FTy → Type} [FloatOps F]
-- ==== FfnS.lean ====
abbrev S128x2048 : Shape := ⟨2, ![128, 2048]⟩
abbrev S1x2048 : Shape := ⟨2, ![1, 2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S128x512 : Shape := ⟨2, ![128, 512]⟩

abbrev nBuf : Space → Nat
  | .hbm => 6
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S128x2048, .f32⟩
  | .local _ .vmem, ⟨9, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnSRefIdeal.lean ====
abbrev S128x2048 : Shape := ⟨2, ![128, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S128 : Shape := ⟨1, ![128]⟩
abbrev S128x1 : Shape := ⟨2, ![128, 1]⟩
abbrev S128x5632 : Shape := ⟨2, ![128, 5632]⟩

abbrev nBuf : Space → Nat
  | .hbm => 37
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S128x2048, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S128x2048, .f32⟩
  | .hbm, ⟨23, _⟩ => ⟨S128x5632, .f32⟩
  | .hbm, ⟨24, _⟩ => ⟨S128x5632, .f32⟩
  | .hbm, ⟨25, _⟩ => ⟨S128x5632, .f32⟩
  | .hbm, ⟨26, _⟩ => ⟨S_, .f32⟩
  | .hbm, ⟨27, _⟩ => ⟨S128x5632, .f32⟩
  | .hbm, ⟨28, _⟩ => ⟨S128x5632, .f32⟩
  | .hbm, ⟨29, _⟩ => ⟨S_, .f32⟩
  | .hbm, ⟨30, _⟩ => ⟨S128x5632, .f32⟩
  | .hbm, ⟨31, _⟩ => ⟨S128x5632, .f32⟩
  | .hbm, ⟨32, _⟩ => ⟨S128x5632, .f32⟩
  | .hbm, ⟨33, _⟩ => ⟨S128x5632, .f32⟩
  | .hbm, ⟨34, _⟩ => ⟨S128x5632, .f32⟩
  | .hbm, ⟨35, _⟩ => ⟨S128x2048, .f32⟩
  | .hbm, ⟨36, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== InProjS.lean ====
abbrev S128x2048 : Shape := ⟨2, ![128, 2048]⟩
abbrev S1x2048 : Shape := ⟨2, ![1, 2048]⟩
abbrev S2048x4096 : Shape := ⟨2, ![2048, 4096]⟩
abbrev S128x4096 : Shape := ⟨2, ![128, 4096]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S2048x4096, .bf16⟩
  | .hbm, ⟨3, _⟩ => ⟨S128x4096, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjSRefIdeal.lean ====
abbrev S128x2048 : Shape := ⟨2, ![128, 2048]⟩
abbrev S1x2048 : Shape := ⟨2, ![1, 2048]⟩
abbrev S2048x4096 : Shape := ⟨2, ![2048, 4096]⟩
abbrev S_ : Shape := ⟨0, ![]⟩
abbrev S128 : Shape := ⟨1, ![128]⟩
abbrev S128x1 : Shape := ⟨2, ![128, 1]⟩
abbrev S128x4096 : Shape := ⟨2, ![128, 4096]⟩

abbrev nBuf : Space → Nat
  | .hbm => 20
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S2048x4096, .bf16⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S2048x4096, .f32⟩
  | .hbm, ⟨19, _⟩ => ⟨S128x4096, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProjS.lean ====
abbrev S128x1024 : Shape := ⟨2, ![128, 1024]⟩
abbrev S2048x2048 : Shape := ⟨2, ![2048, 2048]⟩
abbrev S128x2048 : Shape := ⟨2, ![128, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S2048x2048, .bf16⟩
  | .hbm, ⟨3, _⟩ => ⟨S128x2048, .f32⟩
  | .hbm, ⟨4, _⟩ => ⟨S128x2048, .f32⟩
  | .local _ .vmem, ⟨0, _⟩ => ⟨S128x1024, .bf16⟩
  | .local _ .vmem, ⟨1, _⟩ => ⟨S128x1024, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjSRefIdeal.lean ====
abbrev S128x1024 : Shape := ⟨2, ![128, 1024]⟩
abbrev S2048x2048 : Shape := ⟨2, ![2048, 2048]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S2048x2048, .bf16⟩
  | .hbm, ⟨3, _⟩ => ⟨S128x2048, .f32⟩
  | .hbm, ⟨4, _⟩ => ⟨S128x1024, .f32⟩
  | .hbm, ⟨5, _⟩ => ⟨S128x1024, .f32⟩
  | .hbm, ⟨6, _⟩ => ⟨S128x2048, .f32⟩
  | .hbm, ⟨7, _⟩ => ⟨S2048x2048, .f32⟩
  | .hbm, ⟨8, _⟩ => ⟨S128x2048, .f32⟩
  | .hbm, ⟨9, _⟩ => ⟨S128x2048, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== PleS.lean ====
abbrev S128x2048 : Shape := ⟨2, ![128, 2048]⟩
abbrev S1x2048 : Shape := ⟨2, ![1, 2048]⟩
abbrev S128x256 : Shape := ⟨2, ![128, 256]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S128x256, .f32⟩
  | .hbm, ⟨3, _⟩ => ⟨S2048x2048, .bf16⟩
  | .hbm, ⟨4, _⟩ => ⟨S256x2048, .bf16⟩
  | .hbm, ⟨5, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x256, .f32⟩
  | .local _ .vmem, ⟨3, _⟩ => ⟨S2048x1024, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S128x1024, .f32⟩
  | .local _ .vmem, ⟨8, _⟩ => ⟨S128x1024, .f32⟩
  | .local _ .vmem, ⟨9, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 2], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 2 → Nat :=
  let c0_9 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  ![0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleSRefIdeal.lean ====
abbrev S128x2048 : Shape := ⟨2, ![128, 2048]⟩
abbrev S1x2048 : Shape := ⟨2, ![1, 2048]⟩
abbrev S128x256 : Shape := ⟨2, ![128, 256]⟩
abbrev S2048x2048 : Shape := ⟨2, ![2048, 2048]⟩
abbrev S256x2048 : Shape := ⟨2, ![256, 2048]⟩
abbrev S_ : Shape := ⟨0, ![]⟩
abbrev S128 : Shape := ⟨1, ![128]⟩
abbrev S128x1 : Shape := ⟨2, ![128, 1]⟩

abbrev nBuf : Space → Nat
  | .hbm => 34
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S128x256, .f32⟩
  | .hbm, ⟨3, _⟩ => ⟨S2048x2048, .bf16⟩
  | .hbm, ⟨4, _⟩ => ⟨S256x2048, .bf16⟩
  | .hbm, ⟨5, _⟩ => ⟨S128x2048, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x2048, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S2048x2048, .f32⟩
  | .hbm, ⟨21, _⟩ => ⟨S128x2048, .f32⟩
  | .hbm, ⟨22, _⟩ => ⟨S128x2048, .f32⟩
  | .hbm, ⟨23, _⟩ => ⟨S128x2048, .f32⟩
  | .hbm, ⟨24, _⟩ => ⟨S_, .f32⟩
  | .hbm, ⟨25, _⟩ => ⟨S128x2048, .f32⟩
  | .hbm, ⟨26, _⟩ => ⟨S128x2048, .f32⟩
  | .hbm, ⟨27, _⟩ => ⟨S_, .f32⟩
  | .hbm, ⟨28, _⟩ => ⟨S128x2048, .f32⟩
  | .hbm, ⟨29, _⟩ => ⟨S128x2048, .f32⟩
  | .hbm, ⟨30, _⟩ => ⟨S256x2048, .f32⟩
  | .hbm, ⟨31, _⟩ => ⟨S128x2048, .f32⟩
  | .hbm, ⟨32, _⟩ => ⟨S128x2048, .f32⟩
  | .hbm, ⟨33, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== PrepS.lean ====
abbrev S128x4096 : Shape := ⟨2, ![128, 4096]⟩
abbrev S128x32 : Shape := ⟨2, ![128, 32]⟩
abbrev S512x1536 : Shape := ⟨2, ![512, 1536]⟩
abbrev S256x1024 : Shape := ⟨2, ![256, 1024]⟩
abbrev S512 : Shape := ⟨1, ![512]⟩
abbrev S256 : Shape := ⟨1, ![256]⟩
abbrev S64 : Shape := ⟨1, ![64]⟩
abbrev S128 : Shape := ⟨1, ![128]⟩
abbrev S_ : Shape := ⟨0, ![]⟩
abbrev S128x64 : Shape := ⟨2, ![128, 64]⟩
abbrev S128x128 : Shape := ⟨2, ![128, 128]⟩
abbrev S512x8x192 : Shape := ⟨3, ![512, 8, 192]⟩
abbrev S512x8x256 : Shape := ⟨3, ![512, 8, 256]⟩
abbrev S512x2048 : Shape := ⟨2, ![512, 2048]⟩
abbrev S1x512 : Shape := ⟨2, ![1, 512]⟩
abbrev S1x256 : Shape := ⟨2, ![1, 256]⟩
abbrev S1x128 : Shape := ⟨2, ![1, 128]⟩
abbrev S128x256 : Shape := ⟨2, ![128, 256]⟩
abbrev S128x2048 : Shape := ⟨2, ![128, 2048]⟩
abbrev S128x1024 : Shape := ⟨2, ![128, 1024]⟩
abbrev S128x512 : Shape := ⟨2, ![128, 512]⟩
abbrev S128x1 : Shape := ⟨2, ![128, 1]⟩
abbrev S256x128 : Shape := ⟨2, ![256, 128]⟩

abbrev nBuf : Space → Nat
  | .hbm => 43
  | .vmem => 20
  | .smem => 0
  | _ => 0

abbrev bufTy : (tb : Table) → Fin (tcTables nBuf tb) → BufTy
  | .hbm, ⟨0, _⟩ => ⟨S128x4096, .f32⟩
  | .hbm, ⟨1, _⟩ => ⟨S128x32, .f32⟩
  | .hbm, ⟨2, _⟩ => ⟨S128x32, .f32⟩
  | .hbm, ⟨3, _⟩ => ⟨S512x1536, .f32⟩
  | .hbm, ⟨4, _⟩ => ⟨S256x1024, .f32⟩
  | .hbm, ⟨5, _⟩ => ⟨S256x1024, .f32⟩
  | .hbm, ⟨6, _⟩ => ⟨S512, .f32⟩
  | .hbm, ⟨7, _⟩ => ⟨S256, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S128, .f32⟩
  | .hbm, ⟨12, _⟩ => ⟨S_, .f32⟩
  | .hbm, ⟨13, _⟩ => ⟨S128x64, .f32⟩
  | .hbm, ⟨14, _⟩ => ⟨S128x128, .f32⟩
  | .hbm, ⟨15, _⟩ => ⟨S128x32, .f32⟩
  | .hbm, ⟨16, _⟩ => ⟨S128x128, .f32⟩
  | .hbm, ⟨17, _⟩ => ⟨S512x8x192, .f32⟩
  | .hbm, ⟨18, _⟩ => ⟨S_, .i32⟩
  | .hbm, ⟨19, _⟩ => ⟨S_, .f32⟩
  | .hbm, ⟨20, _⟩ => ⟨S512x8x256, .f32⟩
  | .hbm, ⟨21, _⟩ => ⟨S512x2048, .f32⟩
  | .hbm, ⟨22, _⟩ => ⟨S1x512, .f32⟩
  | .hbm, ⟨23, _⟩ => ⟨S512x2048, .bf16⟩
  | .hbm, ⟨24, _⟩ => ⟨S1x256, .f32⟩
  | .hbm, ⟨25, _⟩ => ⟨S256x1024, .bf16⟩
  | .hbm, ⟨26, _⟩ => ⟨S256x1024, .bf16⟩
  | .hbm, ⟨27, _⟩ => ⟨S1x128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S128x256, .f32⟩
  | .hbm, ⟨38, _⟩ => ⟨S128x64, .f32⟩
  | .hbm, ⟨39, _⟩ => ⟨S128x2048, .bf16⟩
  | .hbm, ⟨40, _⟩ => ⟨S128x2048, .bf16⟩
  | .hbm, ⟨41, _⟩ => ⟨S128x1024, .bf16⟩
  | .hbm, ⟨42, _⟩ => ⟨S128x2048, .f32⟩
  | .local _ .vmem, ⟨0, _⟩ => ⟨S128x512, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S512x2048, .bf16⟩
  | .local _ .vmem, ⟨6, _⟩ => ⟨S256x1024, .bf16⟩
  | .local _ .vmem, ⟨7, _⟩ => ⟨S256x1024, .bf16⟩
  | .local _ .vmem, ⟨8, _⟩ => ⟨S1x512, .f32⟩
  | .local _ .vmem, ⟨9, _⟩ => ⟨S1x256, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x256, .f32⟩
  | .local _ .vmem, ⟨15, _⟩ => ⟨S128x64, .f32⟩
  | .local _ .vmem, ⟨16, _⟩ => ⟨S128x2048, .bf16⟩
  | .local _ .vmem, ⟨17, _⟩ => ⟨S128x2048, .bf16⟩
  | .local _ .vmem, ⟨18, _⟩ => ⟨S128x1024, .bf16⟩
  | .local _ .vmem, ⟨19, _⟩ => ⟨S128x2048, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_call2_v0 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== PrepSRefIdeal.lean ====
abbrev S128x4096 : Shape := ⟨2, ![128, 4096]⟩
abbrev S128x32 : Shape := ⟨2, ![128, 32]⟩
abbrev S512x1536 : Shape := ⟨2, ![512, 1536]⟩
abbrev S256x1024 : Shape := ⟨2, ![256, 1024]⟩
abbrev S512 : Shape := ⟨1, ![512]⟩
abbrev S256 : Shape := ⟨1, ![256]⟩
abbrev S64 : Shape := ⟨1, ![64]⟩
abbrev S128 : Shape := ⟨1, ![128]⟩
abbrev S128x512 : Shape := ⟨2, ![128, 512]⟩
abbrev S_ : Shape := ⟨0, ![]⟩
abbrev S128x1 : Shape := ⟨2, ![128, 1]⟩
abbrev S1x512 : Shape := ⟨2, ![1, 512]⟩
abbrev S128x256 : Shape := ⟨2, ![128, 256]⟩
abbrev S1x256 : Shape := ⟨2, ![1, 256]⟩
abbrev S128x64 : Shape := ⟨2, ![128, 64]⟩
abbrev S1x64 : Shape := ⟨2, ![1, 64]⟩
abbrev S128x1536 : Shape := ⟨2, ![128, 1536]⟩
abbrev S128x8x192 : Shape := ⟨3, ![128, 8, 192]⟩
abbrev S128x8x128 : Shape := ⟨3, ![128, 8, 128]⟩
abbrev S128x8 : Shape := ⟨2, ![128, 8]⟩
abbrev S128x8x1 : Shape := ⟨3, ![128, 8, 1]⟩
abbrev S1x1x128 : Shape := ⟨3, ![1, 1, 128]⟩
abbrev S128x8x64 : Shape := ⟨3, ![128, 8, 64]⟩
abbrev S1x1x64 : Shape := ⟨3, ![1, 1, 64]⟩
abbrev S128x1x32 : Shape := ⟨3, ![128, 1, 32]⟩
abbrev S128x8x32 : Shape := ⟨3, ![128, 8, 32]⟩
abbrev S128x1024 : Shape := ⟨2, ![128, 1024]⟩
abbrev S128x1x64 : Shape := ⟨3, ![128, 1, 64]⟩
abbrev S128x8x256 : Shape := ⟨3, ![128, 8, 256]⟩
abbrev S128x2048 : Shape := ⟨2, ![128, 2048]⟩
abbrev S256x8x128 : Shape := ⟨3, ![256, 8, 128]⟩
abbrev S8x256x128 : Shape := ⟨3, ![8, 256, 128]⟩

abbrev nBuf : Space → Nat
  | .hbm => 160
  | .vmem => 0
  | .smem => 0
  | _ => 0

abbrev hbmTy0_0 (i : Nat) : BufTy := match i % 128 with
  | 0 => ⟨S128x4096, .f32⟩
  | 1 => ⟨S128x32, .f32⟩
  | 2 => ⟨S128x32, .f32⟩
  | 3 => ⟨S512x1536, .f32⟩
  | 4 => ⟨S256x1024, .f32⟩
  | 5 => ⟨S256x1024, .f32⟩
  | 6 => ⟨S512, .f32⟩
  | 7 => ⟨S256, .f32⟩
  | 8 => ⟨S64, .f32⟩
  | 9 => ⟨S128, .f32⟩
  | 10 => ⟨S64, .f32⟩
  | 11 => ⟨S128, .f32⟩
  | 12 => ⟨S128x512, .f32⟩
  | 13 => ⟨S128x512, .f32⟩
  | 14 => ⟨S_, .f32⟩
  | 15 => ⟨S128, .f32⟩
  | 16 => ⟨S128x1, .f32⟩
  | 17 => ⟨S_, .f32⟩
  | 18 => ⟨S128x1, .f32⟩
  | 19 => ⟨S128x1, .f32⟩
  | 20 => ⟨S_, .f32⟩
  | 21 => ⟨S128x1, .f32⟩
  | 22 => ⟨S128x1, .f32⟩
  | 23 => ⟨S128x1, .f32⟩
  | 24 => ⟨S128x512, .f32⟩
  | 25 => ⟨S128x512, .f32⟩
  | 26 => ⟨S1x512, .f32⟩
  | 27 => ⟨S128x512, .f32⟩
  | 28 => ⟨S128x512, .f32⟩
  | 29 => ⟨S128x256, .f32⟩
  | 30 => ⟨S128x256, .f32⟩
  | 31 => ⟨S_, .f32⟩
  | 32 => ⟨S128, .f32⟩
  | 33 => ⟨S128x1, .f32⟩
  | 34 => ⟨S_, .f32⟩
  | 35 => ⟨S128x1, .f32⟩
  | 36 => ⟨S128x1, .f32⟩
  | 37 => ⟨S_, .f32⟩
  | 38 => ⟨S128x1, .f32⟩
  | 39 => ⟨S128x1, .f32⟩
  | 40 => ⟨S128x1, .f32⟩
  | 41 => ⟨S128x256, .f32⟩
  | 42 => ⟨S128x256, .f32⟩
  | 43 => ⟨S1x256, .f32⟩
  | 44 => ⟨S128x256, .f32⟩
  | 45 => ⟨S128x256, .f32⟩
  | 46 => ⟨S128x64, .f32⟩
  | 47 => ⟨S128x64, .f32⟩
  | 48 => ⟨S_, .f32⟩
  | 49 => ⟨S128, .f32⟩
  | 50 => ⟨S128x1, .f32⟩
  | 51 => ⟨S_, .f32⟩
  | 52 => ⟨S128x1, .f32⟩
  | 53 => ⟨S128x1, .f32⟩
  | 54 => ⟨S_, .f32⟩
  | 55 => ⟨S128x1, .f32⟩
  | 56 => ⟨S128x1, .f32⟩
  | 57 => ⟨S128x1, .f32⟩
  | 58 => ⟨S128x64, .f32⟩
  | 59 => ⟨S128x64, .f32⟩
  | 60 => ⟨S1x64, .f32⟩
  | 61 => ⟨S128x64, .f32⟩
  | 62 => ⟨S128x64, .f32⟩
  | 63 => ⟨S128x32, .f32⟩
  | 64 => ⟨S128x32, .f32⟩
  | 65 => ⟨S128x32, .f32⟩
  | 66 => ⟨S128x32, .f32⟩
  | 67 => ⟨S128x32, .f32⟩
  | 68 => ⟨S128x32, .f32⟩
  | 69 => ⟨S128x32, .f32⟩
  | 70 => ⟨S128x32, .f32⟩
  | 71 => ⟨S128x64, .f32⟩
  | 72 => ⟨S128x1536, .f32⟩
  | 73 => ⟨S128x8x192, .f32⟩
  | 74 => ⟨S128x8x128, .f32⟩
  | 75 => ⟨S128x8x128, .f32⟩
  | 76 => ⟨S_, .f32⟩
  | 77 => ⟨S128x8, .f32⟩
  | 78 => ⟨S128x8x1, .f32⟩
  | 79 => ⟨S_, .f32⟩
  | 80 => ⟨S128x8x1, .f32⟩
  | 81 => ⟨S128x8x1, .f32⟩
  | 82 => ⟨S_, .f32⟩
  | 83 => ⟨S128x8x1, .f32⟩
  | 84 => ⟨S128x8x1, .f32⟩
  | 85 => ⟨S128x8x1, .f32⟩
  | 86 => ⟨S128x8x128, .f32⟩
  | 87 => ⟨S128x8x128, .f32⟩
  | 88 => ⟨S1x1x128, .f32⟩
  | 89 => ⟨S128x8x128, .f32⟩
  | 90 => ⟨S128x8x128, .f32⟩
  | 91 => ⟨S128x8x64, .f32⟩
  | 92 => ⟨S128x8x64, .f32⟩
  | 93 => ⟨S_, .f32⟩
  | 94 => ⟨S128x8, .f32⟩
  | 95 => ⟨S128x8x1, .f32⟩
  | 96 => ⟨S_, .f32⟩
  | 97 => ⟨S128x8x1, .f32⟩
  | 98 => ⟨S128x8x1, .f32⟩
  | 99 => ⟨S_, .f32⟩
  | 100 => ⟨S128x8x1, .f32⟩
  | 101 => ⟨S128x8x1, .f32⟩
  | 102 => ⟨S128x8x1, .f32⟩
  | 103 => ⟨S128x8x64, .f32⟩
  | 104 => ⟨S128x8x64, .f32⟩
  | 105 => ⟨S1x1x64, .f32⟩
  | 106 => ⟨S128x8x64, .f32⟩
  | 107 => ⟨S128x8x64, .f32⟩
  | 108 => ⟨S128x1x32, .f32⟩
  | 109 => ⟨S128x1x32, .f32⟩
  | 110 => ⟨S128x8x32, .f32⟩
  | 111 => ⟨S128x8x32, .f32⟩
  | 112 => ⟨S128x8x32, .f32⟩
  | 113 => ⟨S128x8x32, .f32⟩
  | 114 => ⟨S128x8x32, .f32⟩
  | 115 => ⟨S128x8x32, .f32⟩
  | 116 => ⟨S128x8x32, .f32⟩
  | 117 => ⟨S128x8x32, .f32⟩
  | 118 => ⟨S128x8x32, .f32⟩
  | 119 => ⟨S128x8x32, .f32⟩
  | 120 => ⟨S128x8x32, .f32⟩
  | 121 => ⟨S128x8x32, .f32⟩
  | 122 => ⟨S128x8x64, .f32⟩
  | 123 => ⟨S128x1024, .f32⟩
  | 124 => ⟨S128x8x128, .f32⟩
  | 125 => ⟨S128x8x128, .f32⟩
  | 126 => ⟨S_, .f32⟩
  | 127 => ⟨S128x8, .f32⟩
  | _ => ⟨S128x4096, .f32⟩

abbrev hbmTy0_1 (i : Nat) : BufTy := match i % 128 with
  | 0 => ⟨S128x8x1, .f32⟩
  | 1 => ⟨S_, .f32⟩
  | 2 => ⟨S128x8x1, .f32⟩
  | 3 => ⟨S128x8x1, .f32⟩
  | 4 => ⟨S_, .f32⟩
  | 5 => ⟨S128x8x1, .f32⟩
  | 6 => ⟨S128x8x1, .f32⟩
  | 7 => ⟨S128x8x1, .f32⟩
  | 8 => ⟨S128x8x128, .f32⟩
  | 9 => ⟨S128x8x128, .f32⟩
  | 10 => ⟨S1x1x128, .f32⟩
  | 11 => ⟨S128x8x128, .f32⟩
  | 12 => ⟨S128x8x128, .f32⟩
  | 13 => ⟨S_, .f32⟩
  | 14 => ⟨S128x8x64, .f32⟩
  | 15 => ⟨S128x1x64, .f32⟩
  | 16 => ⟨S128x8x64, .f32⟩
  | 17 => ⟨S128x8x256, .f32⟩
  | 18 => ⟨S128x2048, .f32⟩
  | 19 => ⟨S128x8x256, .f32⟩
  | 20 => ⟨S128x2048, .f32⟩
  | 21 => ⟨S128x2048, .bf16⟩
  | 22 => ⟨S128x2048, .bf16⟩
  | 23 => ⟨S128x1024, .f32⟩
  | 24 => ⟨S128x1024, .bf16⟩
  | 25 => ⟨S256x8x128, .f32⟩
  | 26 => ⟨S1x1x128, .f32⟩
  | 27 => ⟨S128x8x128, .f32⟩
  | 28 => ⟨S128x8x128, .f32⟩
  | 29 => ⟨S8x256x128, .f32⟩
  | 30 => ⟨S128x8x256, .f32⟩
  | 31 => ⟨S128x2048, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_14 : Ref sig .tc := ⟨.hbm, 126, rfl⟩
abbrev main_v99 : Ref sig .tc := ⟨.hbm, 127, rfl⟩
abbrev main_v100 : Ref sig .tc := ⟨.hbm, 128, rfl⟩
abbrev main_cst_15 : Ref sig .tc := ⟨.hbm, 129, rfl⟩
abbrev main_v101 : Ref sig .tc := ⟨.hbm, 130, rfl⟩
abbrev main_v102 : Ref sig .tc := ⟨.hbm, 131, rfl⟩
abbrev main_cst_16 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_17 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩

abbrev nD : Nat := 1
abbrev τ : Topo := Topo.v7x

variable {F : FTy → Type} [FloatOps F]
-- ==== Proof.Attn.Row.lean ====
/- Softmax of one row of attention scores on the extended reals: the form that subtracts the row maximum, raises two to
   the scores scaled by 1/(√192 · log 2), sums, and divides once at the end, is the softmax with natural
   exponentials that divides every weight; and a row's sums and maxima may be taken in two parts. -/
module

public import Idealize.ShloMosaic.PureOps.Ideal
public import Mathlib.Analysis.SpecialFunctions.Pow.Real

@[expose] public section

noncomputable section

namespace Cert.Attn

open Idealize.ShloMosaic

/-- The maximum of a row by folding `max` from the least element: it is an upper bound that is reached. -/
theorem fold_max_eq {N : ℕ} (f : Fin N → EReal) (M : EReal) (hle : ∀ t, f t ≤ M) (t0 : Fin N) (h0 : f t0 = M) :
    Finset.univ.fold max ⊥ f = M := by
  refine le_antisymm ?_ ?_
  · exact (Finset.fold_max_le M).2 ⟨bot_le, fun t _ => hle t⟩
  · rw [← h0]
    exact (Finset.le_fold_max (f t0)).2 (.inr ⟨t0, Finset.mem_univ _, le_rfl⟩)

/-- A sum of products by one real factor on the right: the factor may be taken out of the sum. -/
theorem sum_mul_coe {N : ℕ} (f : Fin N → EReal) {r : ℝ} (hr : 0 ≤ r) :
    (∑ t, f t) * (r : EReal) = ∑ t, f t * (r : EReal) := by
  induction (Finset.univ : Finset (Fin N)) using Finset.cons_induction with
  | empty => simp
  | cons a s h ih =>
    rw [Finset.sum_cons, Finset.sum_cons,
      EReal.right_distrib_of_nonneg_of_ne_top (EReal.coe_nonneg.2 hr) (EReal.coe_ne_top r), ih]

/-- The coercion of a finite sum of reals. -/
theorem coe_sum {N : ℕ} (f : Fin N → ℝ) : ((∑ t, f t : ℝ) : EReal) = ∑ t, (f t : EReal) := by
  induction (Finset.univ : Finset (Fin N)) using Finset.cons_induction with
  | empty => simp
  | cons a s h ih => rw [Finset.sum_cons, Finset.sum_cons, EReal.coe_add, ih]

/-- The softmax of the scores `X` of a row, applied to the values `V`. -/
def softrow {N : ℕ} (X V : Fin N → EReal) : EReal :=
  ∑ t, V t * Ideal.div (Ideal.exp (X t - Finset.univ.fold max ⊥ X)) (∑ u, Ideal.exp (X u - Finset.univ.fold max ⊥ X))

/-- The row with powers of two and one division at the end. -/
def exp2row {N : ℕ} (Y V : Fin N → EReal) : EReal :=
  Ideal.div (∑ t, Ideal.exp2 (Y t - Finset.univ.fold max ⊥ Y) * V t) (∑ t, Ideal.exp2 (Y t - Finset.univ.fold max ⊥ Y))

/-- Over real scores `s` with at least one key kept, the two forms of the row are equal. -/
theorem exp2row_eq_softrow {N : ℕ} (s : Fin N → ℝ) (keep : Fin N → Prop) [DecidablePred keep] (hk : ∃ t, keep t)
    (V : Fin N → EReal) :
    exp2row (fun t => if keep t then (s t : EReal) * (((Real.sqrt 192)⁻¹ * (Real.log 2)⁻¹ : ℝ) : EReal) else ⊥) V =
      softrow (fun t => if keep t then Ideal.div (s t : EReal) ((Real.sqrt 192 : ℝ) : EReal) else ⊥) V := by
  have hs : 0 < Real.sqrt 192 := Real.sqrt_pos.2 (by norm_num)
  have hl : 0 < Real.log 2 := Real.log_pos (by norm_num)
  obtain ⟨t0, ht0, hmax⟩ := Finset.exists_max_image (Finset.univ.filter keep) s
    (by obtain ⟨t, ht⟩ := hk; exact ⟨t, Finset.mem_filter.2 ⟨Finset.mem_univ _, ht⟩⟩)
  have hk0 : keep t0 := (Finset.mem_filter.1 ht0).2
  have hle : ∀ t, keep t → s t ≤ s t0 := fun t ht => hmax t (Finset.mem_filter.2 ⟨Finset.mem_univ _, ht⟩)
  set Y : Fin N → EReal := fun t => if keep t then (s t : EReal) * (((Real.sqrt 192)⁻¹ * (Real.log 2)⁻¹ : ℝ) : EReal) else ⊥ with hY
  set X : Fin N → EReal := fun t => if keep t then Ideal.div (s t : EReal) ((Real.sqrt 192 : ℝ) : EReal) else ⊥ with hX
  have hYt : ∀ t, keep t → Y t = ((s t * ((Real.sqrt 192)⁻¹ * (Real.log 2)⁻¹) : ℝ) : EReal) := fun t ht => by
    simp only [hY, if_pos ht, EReal.coe_mul]
  have hXt : ∀ t, keep t → X t = ((s t * (Real.sqrt 192)⁻¹ : ℝ) : EReal) := fun t ht => by
    simp only [hX, if_pos ht]; rw [Ideal.div_coe hs.ne', one_div, EReal.coe_mul]
  have hYn : ∀ t, ¬keep t → Y t = ⊥ := fun t ht => by simp only [hY, if_neg ht]
  have hXn : ∀ t, ¬keep t → X t = ⊥ := fun t ht => by simp only [hX, if_neg ht]
  have hMY : Finset.univ.fold max ⊥ Y = ((s t0 * ((Real.sqrt 192)⁻¹ * (Real.log 2)⁻¹) : ℝ) : EReal) := by
    refine fold_max_eq Y _ (fun t => ?_) t0 (hYt t0 hk0)
    by_cases ht : keep t
    · rw [hYt t ht]; exact EReal.coe_le_coe_iff.2 (mul_le_mul_of_nonneg_right (hle t ht) (by positivity))
    · rw [hYn t ht]; exact bot_le
  have hMX : Finset.univ.fold max ⊥ X = ((s t0 * (Real.sqrt 192)⁻¹ : ℝ) : EReal) := by
    refine fold_max_eq X _ (fun t => ?_) t0 (hXt t0 hk0)
    by_cases ht : keep t
    · rw [hXt t ht]; exact EReal.coe_le_coe_iff.2 (mul_le_mul_of_nonneg_right (hle t ht) (by positivity))
    · rw [hXn t ht]; exact bot_le
  let e : Fin N → ℝ := fun t => if keep t then Real.exp (s t * (Real.sqrt 192)⁻¹ - s t0 * (Real.sqrt 192)⁻¹) else 0
  have heX : ∀ t, Ideal.exp (X t - Finset.univ.fold max ⊥ X) = (e t : EReal) := fun t => by
    by_cases ht : keep t
    · rw [hXt t ht, hMX, ← EReal.coe_sub, Ideal.exp_coe]; simp only [e, if_pos ht]
    · rw [hXn t ht, EReal.bot_sub, Ideal.exp_bot]; simp only [e, if_neg ht, EReal.coe_zero]
  have heY : ∀ t, Ideal.exp2 (Y t - Finset.univ.fold max ⊥ Y) = (e t : EReal) := fun t => by
    by_cases ht : keep t
    · rw [hYt t ht, hMY, ← EReal.coe_sub, Ideal.exp2_coe]
      simp only [e, if_pos ht]
      congr 1
      rw [Real.rpow_eq_pow]
      rw [Real.rpow_def_of_pos (by norm_num)]
      congr 1
      field_simp
    · rw [hYn t ht, EReal.bot_sub, Ideal.exp2_bot]; simp only [e, if_neg ht, EReal.coe_zero]
  have he : ∀ t, 0 ≤ e t := fun t => by
    simp only [e]; split_ifs
    · exact (Real.exp_pos _).le
    · exact le_rfl
  have hL : 0 < ∑ t, e t := by
    refine lt_of_lt_of_le ?_ (Finset.single_le_sum (fun t _ => he t) (Finset.mem_univ t0))
    simp only [e, if_pos hk0]; exact Real.exp_pos _
  unfold exp2row softrow
  simp only [heX, heY, ← coe_sum, Ideal.div_coe hL.ne']
  rw [sum_mul_coe _ (by positivity)]
  refine Finset.sum_congr rfl fun t _ => ?_
  rw [mul_comm (e t : EReal), mul_assoc]

/-- A sum over a row whose terms vanish past `lo + w`, as the sum of its part from `lo` on and its part before `lo`. -/
theorem sum_split {lo w N : ℕ} (hN : lo + w ≤ N) (g : Fin N → EReal) (hz : ∀ t : Fin N, lo + w ≤ t.val → g t = 0) :
    ∑ t, g t = (∑ j : Fin w, g ⟨lo + j.val, by omega⟩) + ∑ t : Fin lo, g ⟨t.val, by omega⟩ := by
  obtain ⟨r, rfl⟩ := Nat.exists_eq_add_of_le hN
  rw [Fin.sum_univ_add, Fin.sum_univ_add]
  rw [show (∑ i : Fin r, g (Fin.natAdd (lo + w) i)) = 0 from
    Finset.sum_eq_zero fun i _ => hz _ (by simp), add_zero, add_comm]
  rfl

/-- The maximum of a row whose entries are least past `lo + w`, in the same two parts. -/
theorem max_split {lo w N : ℕ} (hN : lo + w ≤ N) (Y : Fin N → EReal) (hz : ∀ t : Fin N, lo + w ≤ t.val → Y t = ⊥) :
    max (Finset.univ.fold max ⊥ fun j : Fin w => Y ⟨lo + j.val, by omega⟩)
        (Finset.univ.fold max ⊥ fun t : Fin lo => Y ⟨t.val, by omega⟩) = Finset.univ.fold max ⊥ Y := by
  refine le_antisymm (max_le ?_ ?_) ?_
  · exact (Finset.fold_max_le _).2 ⟨bot_le, fun j _ => (Finset.le_fold_max _).2 (.inr ⟨_, Finset.mem_univ _, le_rfl⟩)⟩
  · exact (Finset.fold_max_le _).2 ⟨bot_le, fun j _ => (Finset.le_fold_max _).2 (.inr ⟨_, Finset.mem_univ _, le_rfl⟩)⟩
  · refine (Finset.fold_max_le _).2 ⟨bot_le, fun t _ => ?_⟩
    by_cases h1 : t.val < lo
    · exact le_max_of_le_right ((Finset.le_fold_max _).2 (.inr ⟨⟨t.val, h1⟩, Finset.mem_univ _, le_rfl⟩))
    · by_cases h2 : t.val < lo + w
      · refine le_max_of_le_left ((Finset.le_fold_max _).2 (.inr ⟨⟨t.val - lo, by omega⟩, Finset.mem_univ _, le_of_eq ?_⟩))
        congr 1; exact Fin.ext (by simp only; omega)
      · rw [hz t (by omega)]; exact bot_le

/-- The row computed in two parts, the keys from `lo` on and the keys before `lo`, is the row over all keys. -/
theorem two_parts {lo w N : ℕ} (hN : lo + w ≤ N) (Y V : Fin N → EReal) (hz : ∀ t : Fin N, lo + w ≤ t.val → Y t = ⊥)
    (D Vd : Fin w → EReal) (O Vo : Fin lo → EReal)
    (hD : ∀ j, D j = Y ⟨lo + j.val, by omega⟩) (hVd : ∀ j, Vd j = V ⟨lo + j.val, by omega⟩)
    (hO : ∀ t, O t = Y ⟨t.val, by omega⟩) (hVo : ∀ t, Vo t = V ⟨t.val, by omega⟩) :
    Ideal.div
      ((∑ j, Ideal.exp2 (D j - max (Finset.univ.fold max ⊥ D) (Finset.univ.fold max ⊥ O)) * Vd j) +
        ∑ t, Ideal.exp2 (O t - max (Finset.univ.fold max ⊥ D) (Finset.univ.fold max ⊥ O)) * Vo t)
      ((∑ j, Ideal.exp2 (D j - max (Finset.univ.fold max ⊥ D) (Finset.univ.fold max ⊥ O))) +
        ∑ t, Ideal.exp2 (O t - max (Finset.univ.fold max ⊥ D) (Finset.univ.fold max ⊥ O))) = exp2row Y V := by
  obtain rfl : D = fun j => Y ⟨lo + j.val, by omega⟩ := funext hD
  obtain rfl : O = fun t => Y ⟨t.val, by omega⟩ := funext hO
  obtain rfl : Vd = fun j => V ⟨lo + j.val, by omega⟩ := funext hVd
  obtain rfl : Vo = fun t => V ⟨t.val, by omega⟩ := funext hVo
  rw [max_split hN Y hz]
  unfold exp2row
  rw [sum_split hN (fun t => Ideal.exp2 (Y t - Finset.univ.fold max ⊥ Y) * V t), sum_split hN (fun t => Ideal.exp2 (Y t - Finset.univ.fold max ⊥ Y))]
  · intro t ht; rw [hz t ht, EReal.bot_sub, Ideal.exp2_bot]
  · intro t ht; show Ideal.exp2 _ * _ = 0; rw [hz t ht, EReal.bot_sub, Ideal.exp2_bot, zero_mul]

/-- The row computed over its first `w` keys, when the later ones are all masked, is the row over all keys. -/
theorem one_part {w N : ℕ} (hN : w ≤ N) (Y V : Fin N → EReal) (hz : ∀ t : Fin N, w ≤ t.val → Y t = ⊥)
    (D Vd : Fin w → EReal) (hD : ∀ j, D j = Y ⟨j.val, by omega⟩) (hVd : ∀ j, Vd j = V ⟨j.val, by omega⟩) :
    Ideal.div (∑ j, Ideal.exp2 (D j - Finset.univ.fold max ⊥ D) * Vd j)
      (∑ j, Ideal.exp2 (D j - Finset.univ.fold max ⊥ D)) = exp2row Y V := by
  have h := two_parts (lo := 0) (w := w) (N := N) (by omega) Y V (fun t ht => hz t (by omega)) D Vd
    (fun t => t.elim0) (fun t => t.elim0)
    (fun j => (hD j).trans (congrArg Y (Fin.ext (by simp))))
    (fun j => (hVd j).trans (congrArg V (Fin.ext (by simp)))) (fun t => t.elim0) (fun t => t.elim0)
  simpa using h

end Cert.Attn

end
-- ==== Proof.Attn.Consts.lean ====
/- The float constants of the attention programs as the extended reals they denote, and the masks as conditions on
   positions. -/
module

public import Idealize.ShloMosaic.PureOps.Ideal
public import Idealize.ShloMosaic.Lib.WordCmp

@[expose] public section

noncomputable section

namespace Cert.Attn

open Idealize.ShloMosaic

/-- The mask's constant denotes the least extended real. -/
theorem ofBits_neg_inf : Ideal.ofBits .f32 0xFF800000#32 = ⊥ := by
  simp [Ideal.ofBits, Ideal.ieee]

/-- The bound of the precondition denotes the greatest extended real. -/
theorem ofBits_inf : Ideal.ofBits .f32 0x7F800000#32 = ⊤ := by
  simp [Ideal.ofBits, Ideal.ieee]

/-- The head width under the root denotes the real 192. -/
theorem ofBits_192 : Ideal.ofBits .f32 0x43400000#32 = ((192 : ℝ) : EReal) := by
  simp [Ideal.ofBits, Ideal.ieee, -EReal.coe_mul]; norm_num

/-- The reference's divisor is the real root of 192. -/
theorem sqrt_192 : Ideal.sqrt (Ideal.ofBits .f32 0x43400000#32) = ((Real.sqrt 192 : ℝ) : EReal) := by
  rw [ofBits_192, Ideal.sqrt_coe, if_neg (by norm_num)]

/-- A selection by the comparison of two positions, both below 2 ^ 31, is a case distinction on the positions. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb, WordCmp.select_ofBool]
  simp only [decide_eq_true_eq]

end Cert.Attn

end
-- ==== Proof.Attn.Ref.lean ====
/- The reference of the attention, read at an index: the causal softmax of the scaled scores of one query row of one head,
   applied to a column of the values. -/
module

public import proofs.«01_k».proof.Proof.Gen.ReferenceIdeal.Read
public import proofs.«01_k».proof.Proof.Attn.Row
public import proofs.«01_k».proof.Proof.Attn.Consts
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

variable (q k : FVec Ideal S16384x2048 .bf16) (v : FVec Ideal S16384x1024 .bf16)

/-- The product of query row `s` and key row `t` of batch `b` and head `h`. -/
def score (b h : Fin 8) (s t : Fin 2048) : EReal :=
  ∑ n : Fin 256, q (ix2 ⟨b.val * 2048 + s.val, by omega⟩ ⟨h.val * 256 + n.val, by omega⟩) *
    k (ix2 ⟨b.val * 2048 + t.val, by omega⟩ ⟨h.val * 256 + n.val, by omega⟩)

/-- The masked, scaled scores of query row `s`. -/
def scores (b h : Fin 8) (s : Fin 2048) : Fin 2048 → EReal := fun t =>
  if t.val ≤ s.val then Ideal.div (score q k b h s t) ((Real.sqrt 192 : ℝ) : EReal) else ⊥

/-- The column `d` of head `h` of the values of batch `b`. -/
def column (b h : Fin 8) (d : Fin 128) : Fin 2048 → EReal := fun t =>
  v (ix2 ⟨b.val * 2048 + t.val, by omega⟩ ⟨h.val * 128 + d.val, by omega⟩)

/-- The masked scores of the reference. -/
theorem v16_at (b h : Fin 8) (s t : Fin 2048) :
    val_main_v16 (F := Ideal) q k (ix4 b h s t) = scores q k b h s t := by
  pointwise [val_main_v16, val_main_v15, val_main_v14, val_main_v13, val_main_v12, val_main_v11, val_main_v10,
    val_main_v9, val_main_v8, val_main_v7, val_main_v6, val_main_v3, val_main_v2, val_main_v1, val_main_v0,
    val_main_call0_v2, val_main_call0_v1, val_main_call0_v0, val_main_cst, val_main_cst_0]
  rw [select_sle (by omega) (by omega), sqrt_192]
  unfold scores score
  refine if_congr Iff.rfl rfl ?_
  exact ofBits_neg_inf

/-- The row maximum of the reference, of any scores. -/
theorem rowmax_at (y : FVec Ideal S8x8x2048x2048 .f32) (b h : Fin 8) (s : Fin 2048) :
    Host.reduce FloatOps.maximumf y (constant S_ .f32 0xFF800000#32) reducesTo_S8x8x2048x2048_S8x8x2048_d3 h_S_
      (ix3 b h s) = Finset.univ.fold max ⊥ fun t : Fin 2048 => y (ix4 b h s t) := by
  pointwise
  rw [ofBits_neg_inf]

/-- The row maximum of the reference. -/
theorem v19_at (b h : Fin 8) (s : Fin 2048) :
    val_main_v19 (F := Ideal) q k (ix3 b h s) = Finset.univ.fold max ⊥ (scores q k b h s) := by
  rw [val_main_v19_apply, val_main_v18_apply, val_main_cst_2_apply]
  unfold val_main_v17 val_main_cst_1
  have e : (fun t : Fin 2048 => val_main_v16 (F := Ideal) q k (ix4 b h s t)) = scores q k b h s :=
    funext fun t => v16_at q k b h s t
  generalize val_main_v16 (F := Ideal) q k = y at e ⊢
  rw [rowmax_at, e]
  show max (Ideal.ofBits .f32 0xFF800000#32) _ = _
  rw [ofBits_neg_inf]
  exact max_eq_right bot_le

/-- The exponentials of the reference. -/
theorem v23_at (b h : Fin 8) (s t : Fin 2048) :
    val_main_v23 (F := Ideal) q k (ix4 b h s t) =
      Ideal.exp (scores q k b h s t - Finset.univ.fold max ⊥ (scores q k b h s)) := by
  pointwise [val_main_v23, val_main_v22, val_main_v21, val_main_v20]
  exact congrArg Ideal.exp (congrArg₂ (· - ·) (v16_at q k b h s t) (v19_at q k b h s))

/-- The weights of the reference. -/
theorem v27_at (b h : Fin 8) (s t : Fin 2048) :
    val_main_v27 (F := Ideal) q k (ix4 b h s t) =
      Ideal.div (Ideal.exp (scores q k b h s t - Finset.univ.fold max ⊥ (scores q k b h s)))
        (∑ u, Ideal.exp (scores q k b h s u - Finset.univ.fold max ⊥ (scores q k b h s))) := by
  pointwise [val_main_v27, val_main_v26, val_main_v25, val_main_v24, val_main_cst_3]
  exact congrArg₂ Ideal.div (v23_at q k b h s t) (Finset.sum_congr rfl fun u _ => v23_at q k b h s u)

/-- The reference's result at row `s` of batch `b` and column `d` of head `h`. -/
theorem v31_at (b h : Fin 8) (s : Fin 2048) (d : Fin 128) (i : S16384x1024.Idx)
    (hi0 : (i 0 : ℕ) = b.val * 2048 + s.val) (hi1 : (i 1 : ℕ) = h.val * 128 + d.val) :
    val_main_v31 (F := Ideal) q k v i = softrow (scores q k b h s) (column v b h d) := by
  rw [val_main_v31_apply, val_main_v30_apply, val_main_v29_apply]
  have e : idx_main_v29 (idx_main_v30 i) = ix4 b h d s := by
    refine funext fun a => Fin.ext ?_
    match a with
    | ⟨0, _⟩ => show ((i 0).val * 1024 + (i 1).val) / 2097152 = b.val; omega
    | ⟨1, _⟩ => show ((i 0).val * 1024 + (i 1).val) / 128 % 8 = h.val; omega
    | ⟨2, _⟩ => show ((i 0).val * 1024 + (i 1).val) % 128 = d.val; omega
    | ⟨3, _⟩ => show ((i 0).val * 1024 + (i 1).val) / 1024 % 2048 = s.val; omega
  rw [e]
  pointwise [val_main_v28, val_main_v5, val_main_v4]
  exact Finset.sum_congr rfl fun t _ => congrArg (v _ * ·) (v27_at q k b h s t)

end Cert.ReferenceIdeal.Attn

end
-- ==== Proof.Attn.Kernel.lean ====
/- The attention kernel's blocks: what each grid point writes is the reference's softmax of the same rows. -/
module

public import proofs.«01_k».proof.Proof.Gen.KernelIdeal.Value
public import proofs.«01_k».proof.Proof.Attn.Ref

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Cert.ReferenceIdeal.Attn (score scores column)

/-- The kernel's scaled and masked scores of query row `s`, over all the keys. -/
def rowY (q k : FVec Ideal S16384x2048 .bf16) (b h : Fin 8) (s : Fin 2048) : Fin 2048 → EReal := fun t =>
  if t.val ≤ s.val then score q k b h s t * Named.named (F := Ideal) (φ := .f32) κ "scale_log2e" 0x3DD53B95#32 else ⊥

/-- A finite sum of products of finite numbers is a real. -/
theorem sum_mul_real {n : ℕ} (f g : Fin n → EReal) (hf : ∀ i, ∃ r : ℝ, f i = r) (hg : ∀ i, ∃ r : ℝ, g i = r) :
    ∃ r : ℝ, ∑ i, f i * g i = r := by
  choose a ha using hf
  choose b hb using hg
  exact ⟨∑ i, a i * b i, by rw [coe_sum]; exact Finset.sum_congr rfl fun i _ => by rw [ha, hb, EReal.coe_mul]⟩

/-- Over finite queries and keys the kernel's row is the reference's. -/
theorem rowY_softrow (q k : FVec Ideal S16384x2048 .bf16) (hq : ∀ i, ∃ r : ℝ, q i = (r : EReal))
    (hk : ∀ i, ∃ r : ℝ, k i = (r : EReal)) (b h : Fin 8) (s : Fin 2048) (V : Fin 2048 → EReal) :
    exp2row (rowY q k b h s) V = softrow (scores q k b h s) V := by
  have hs : ∀ t, ∃ r : ℝ, score q k b h s t = (r : EReal) := fun t => sum_mul_real _ _ (fun n => hq _) (fun n => hk _)
  choose σ hσ using hs
  have e := exp2row_eq_softrow σ (fun t : Fin 2048 => t.val ≤ s.val) ⟨s, le_rfl⟩ V
  have eY : rowY q k b h s = fun t : Fin 2048 => if t.val ≤ s.val then
      (σ t : EReal) * (((Real.sqrt 192)⁻¹ * (Real.log 2)⁻¹ : ℝ) : EReal) else ⊥ := by
    funext t; unfold rowY; rw [hσ]; rfl
  have eX : scores q k b h s = fun t : Fin 2048 => if t.val ≤ s.val then
      Ideal.div (σ t : EReal) ((Real.sqrt 192 : ℝ) : EReal) else ⊥ := by
    funext t; unfold scores; rw [hσ]
  rw [eY, eX, e]

variable (m : (ℓ : Loc nD τ sig) → Buf (Elt Ideal) ℓ)

/-- The windows' block indices at every grid point. -/
theorem idx : ∀ t : Fin cfg0.N, win0_0.index t = ![t.val / 8 * 4 + t.val % 4, t.val / 4 % 2] ∧
    win0_1.index t = ![t.val / 8, t.val / 4 % 2] ∧ win0_2.index t = ![t.val / 8, t.val / 4 % 2] ∧
    win0_3.index t = ![t.val / 8 * 4 + t.val % 4, t.val / 4 % 2] ∧ t.val < 64 :=
  (by decide +kernel : ∀ t : Fin grid0.N, _)

/-- A query block's element in the array. -/
theorem q_read (c : Dev nD) (t : Fin cfg0.N) (i : S512x1024.Idx) (I : S16384x2048.Idx)
    (h0 : (I 0).val = (t.val / 8 * 4 + t.val % 4) * 512 + (i 0).val)
    (h1 : (I 1).val = t.val / 4 % 2 * 1024 + (i 1).val) :
    (show FVec Ideal S512x1024 .bf16 from iblk m c 0 t) i = m ((c : Thread nD τ).loc main_arg0) I := by
  blk_ext [iblk, V, idx t]

/-- A key block's element in the array. -/
theorem k_read (c : Dev nD) (t : Fin cfg0.N) (i : S2048x1024.Idx) (I : S16384x2048.Idx)
    (h0 : (I 0).val = t.val / 8 * 2048 + (i 0).val)
    (h1 : (I 1).val = t.val / 4 % 2 * 1024 + (i 1).val) :
    (show FVec Ideal S2048x1024 .bf16 from iblk m c 1 t) i = m ((c : Thread nD τ).loc main_arg1) I := by
  blk_ext [iblk, V, idx t]

/-- A value block's element in the array. -/
theorem v_read (c : Dev nD) (t : Fin cfg0.N) (i : S2048x512.Idx) (I : S16384x1024.Idx)
    (h0 : (I 0).val = t.val / 8 * 2048 + (i 0).val)
    (h1 : (I 1).val = t.val / 4 % 2 * 512 + (i 1).val) :
    (show FVec Ideal S2048x512 .bf16 from iblk m c 2 t) i = m ((c : Thread nD τ).loc main_arg2) I := by
  blk_ext [iblk, V, idx t]

/-- What a point's blocks are: `x0`, `x1`, `x2` hold query block `n` of batch `b`, and its keys and values, in the
    columns of the head group `g`. -/
structure Blocks (q k : FVec Ideal S16384x2048 .bf16) (v : FVec Ideal S16384x1024 .bf16) (x0 : FVec Ideal S512x1024 .bf16)
    (x1 : FVec Ideal S2048x1024 .bf16) (x2 : FVec Ideal S2048x512 .bf16) (b g n : ℕ) : Prop where
  hq : ∀ (i : S512x1024.Idx) (I : S16384x2048.Idx), (I 0).val = (b * 4 + n) * 512 + (i 0).val →
    (I 1).val = g * 1024 + (i 1).val → x0 i = q I
  hk : ∀ (i : S2048x1024.Idx) (I : S16384x2048.Idx), (I 0).val = b * 2048 + (i 0).val →
    (I 1).val = g * 1024 + (i 1).val → x1 i = k I
  hv : ∀ (i : S2048x512.Idx) (I : S16384x1024.Idx), (I 0).val = b * 2048 + (i 0).val →
    (I 1).val = g * 512 + (i 1).val → x2 i = v I

section

variable {q k : FVec Ideal S16384x2048 .bf16} {v : FVec Ideal S16384x1024 .bf16} {x0 : FVec Ideal S512x1024 .bf16}
  {x1 : FVec Ideal S2048x1024 .bf16} {x2 : FVec Ideal S2048x512 .bf16} {g n : ℕ} {b h : Fin 8} {s : Fin 2048}

/-- The product of a query row and a key row of the blocks, for the head whose columns start at `o`. -/
theorem score_read (X : Blocks q k v x0 x1 x2 b.val g n) (r : Fin 512) (o : ℕ) (u U : Fin 2048)
    (a : Fin 256 → Fin 1024) (ha : ∀ n, (a n).val = o + n.val) (hU : U.val = u.val)
    (hs : s.val = n * 512 + r.val) (ho : h.val * 256 = g * 1024 + o) :
    ∑ n, x0 (ix2 r (a n)) * x1 (ix2 u (a n)) = score q k b h s U := by
  refine Finset.sum_congr rfl fun j _ => ?_
  have := ha j
  refine congrArg₂ (· * ·) (X.hq _ _ ?_ ?_) (X.hk _ _ ?_ ?_)
  · show b.val * 2048 + s.val = (b.val * 4 + n) * 512 + r.val; omega
  · show h.val * 256 + j.val = g * 1024 + (a j).val; omega
  · show b.val * 2048 + U.val = b.val * 2048 + u.val; omega
  · show h.val * 256 + j.val = g * 1024 + (a j).val; omega

/-- A value block's column in the array. -/
theorem column_read (X : Blocks q k v x0 x1 x2 b.val g n) (d : Fin 128) (u U : Fin 2048) (e : Fin 512)
    (hU : U.val = u.val) (he : h.val * 128 + d.val = g * 512 + e.val) :
    x2 (ix2 u e) = column v b h d U := by
  refine X.hv _ _ ?_ he
  show b.val * 2048 + U.val = b.val * 2048 + u.val; omega

/-- A masked score of the diagonal block. -/
theorem diag_read (X : Blocks q k v x0 x1 x2 b.val g n) (r : Fin 512) (o lo : ℕ) (u U : Fin 2048)
    (j : Fin 512) (a : Fin 256 → Fin 1024) (ha : ∀ n, (a n).val = o + n.val) (hU : U.val = u.val)
    (hu : u.val = lo + j.val) (hlo : lo = n * 512)
    (hs : s.val = n * 512 + r.val) (ho : h.val * 256 = g * 1024 + o) :
    Scalar.select (IntOp.cmpi .sle (BitVec.ofNat 32 j.val) (BitVec.ofNat 32 r.val))
      (@HMul.hMul (Ideal .f32) (Ideal .f32) (Ideal .f32) (@instHMul (Ideal .f32) EReal.instMul)
        (∑ n, @HMul.hMul EReal EReal EReal _ (x0 (ix2 r (a n))) (x1 (ix2 u (a n))))
        (Named.named (F := Ideal) (φ := .f32) κ "scale_log2e" 0x3DD53B95#32))
      (@Bot.bot (Ideal .f32) instBotEReal) = rowY q k b h s U := by
  refine (select_sle (by omega) (by omega) _ _).trans ?_
  refine (if_congr (by omega) (congrArg (fun z : EReal => z * Named.named (F := Ideal) (φ := .f32) κ "scale_log2e" 0x3DD53B95#32)
    (score_read X r o u U a ha hU hs ho)) rfl)

/-- A score before the diagonal block, where the mask keeps every key. -/
theorem before_read (X : Blocks q k v x0 x1 x2 b.val g n) (r : Fin 512) (o : ℕ) (u U : Fin 2048)
    (a : Fin 256 → Fin 1024) (ha : ∀ n, (a n).val = o + n.val) (hU : U.val = u.val) (hu : u.val < n * 512)
    (hs : s.val = n * 512 + r.val) (ho : h.val * 256 = g * 1024 + o) :
    @HMul.hMul (Ideal .f32) (Ideal .f32) (Ideal .f32) (@instHMul (Ideal .f32) EReal.instMul)
        (∑ n, @HMul.hMul EReal EReal EReal _ (x0 (ix2 r (a n))) (x1 (ix2 u (a n))))
        (Named.named (F := Ideal) (φ := .f32) κ "scale_log2e" 0x3DD53B95#32) = rowY q k b h s U :=
  (congrArg (fun z : EReal => z * Named.named (F := Ideal) (φ := .f32) κ "scale_log2e" 0x3DD53B95#32)
    (score_read X r o u U a ha hU hs ho)).trans (if_pos (by omega)).symm

end

end Cert.KernelIdeal.Attn

end
-- ==== Proof.Attn.PointA.lean ====
/- What the attention kernel writes at a grid point of query block 0. -/
module

public import proofs.«01_k».proof.Proof.Gen.KernelIdeal.Value
public import proofs.«01_k».proof.Proof.Attn.Kernel

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Cert.ReferenceIdeal.Attn (score scores column)

set_option maxHeartbeats 1000000 in
/-- At a point of query block 0, which has no keys before it. -/
theorem pointA (c : Dev nD) (t : Fin cfg0.N) (y : S512x512.Idx) (g0 : t.val % 4 = 0) (g1 : ¬t.val % 4 = 1)
    (g2 : ¬t.val % 4 = 2) (g3 : ¬t.val % 4 = 3) (q k : FVec Ideal S16384x2048 .bf16)
    (v : FVec Ideal S16384x1024 .bf16) (x0 : FVec Ideal S512x1024 .bf16) (x1 : FVec Ideal S2048x1024 .bf16)
    (x2 : FVec Ideal S2048x512 .bf16) (g : ℕ) (b h : Fin 8) (s : Fin 2048) (d : Fin 128)
    (X : Blocks q k v x0 x1 x2 b.val g 0) (hh : h.val = g * 4 + (y 1).val / 128)
    (hs : s.val = 0 * 512 + (y 0).val) (hd : d.val = (y 1).val % 128) :
    out0_A_3 (F := Ideal) c (grid0.coords t) (ms0_0 t) (hs0_0 t) (ms0_1 t) (hs0_1 t) (ms0_2 t) (hs0_2 t) (ms0_3 t) (hs0_3 t)
      ((hcond0_0 t).mpr g0) (fun h => g1 ((hcond0_1 t).mp h))
      (fun h => g2 ((hcond0_2 t).mp h)) (fun h => g3 ((hcond0_3 t).mp h))
      x0 x1 x2 y = exp2row (rowY q k b h s) (column v b h d) := by
  frame_out
  canon_tiles x e <;>
  · pointwise [k0_pay1, k0_pay2, k0_pay3, k0_pay4, k0_pay5, k0_pay6, k0_pay7, k0_pay8, k0_pay9]
    simp only [ofBits_neg_inf]
    refine one_part (w := 512) (N := 2048) (by norm_num) (rowY q k b h s) (column v b h d)
      (fun u hu => if_neg (by omega)) _ _ (fun j => ?_) (fun j => ?_)
    · refine diag_read X _ ((y 1).val / 128 * 256) 0 ⟨j.val, by omega⟩ _ _ _ (fun n => ?_) rfl ?_ rfl ?_ ?_ <;>
        (try simp only) <;> omega
    · refine column_read X d _ _ _ rfl ?_; (try simp only) <;> omega

end Cert.KernelIdeal.Attn

end
-- ==== Proof.Attn.PointB.lean ====
/- What the attention kernel writes at a grid point of query block 1. -/
module

public import proofs.«01_k».proof.Proof.Gen.KernelIdeal.Value
public import proofs.«01_k».proof.Proof.Attn.Kernel

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Cert.ReferenceIdeal.Attn (score scores column)

set_option maxHeartbeats 1000000 in
/-- At a point of query block 1. -/
theorem pointB (c : Dev nD) (t : Fin cfg0.N) (y : S512x512.Idx) (g0 : ¬t.val % 4 = 0) (g1 : t.val % 4 = 1)
    (g2 : ¬t.val % 4 = 2) (g3 : ¬t.val % 4 = 3) (q k : FVec Ideal S16384x2048 .bf16)
    (v : FVec Ideal S16384x1024 .bf16) (x0 : FVec Ideal S512x1024 .bf16) (x1 : FVec Ideal S2048x1024 .bf16)
    (x2 : FVec Ideal S2048x512 .bf16) (g : ℕ) (b h : Fin 8) (s : Fin 2048) (d : Fin 128)
    (X : Blocks q k v x0 x1 x2 b.val g 1) (hh : h.val = g * 4 + (y 1).val / 128)
    (hs : s.val = 1 * 512 + (y 0).val) (hd : d.val = (y 1).val % 128) :
    out0_B_3 (F := Ideal) c (grid0.coords t) (ms0_0 t) (hs0_0 t) (ms0_1 t) (hs0_1 t) (ms0_2 t) (hs0_2 t) (ms0_3 t) (hs0_3 t)
      (fun h => g0 ((hcond0_0 t).mp h)) ((hcond0_1 t).mpr g1)
      (fun h => g2 ((hcond0_2 t).mp h)) (fun h => g3 ((hcond0_3 t).mp h))
      x0 x1 x2 y = exp2row (rowY q k b h s) (column v b h d) := by
  frame_out
  canon_tiles x e <;>
  · pointwise [k0_pay10, k0_pay11, k0_pay12, k0_pay13]
    simp only [ofBits_neg_inf]
    refine two_parts (lo := 512) (w := 512) (N := 2048) (by norm_num) (rowY q k b h s) (column v b h d)
      (fun u hu => if_neg (by omega)) _ _ _ _ (fun j => ?_) (fun j => ?_) (fun j => ?_) (fun j => ?_)
    · refine diag_read X _ ((y 1).val / 128 * 256) 512 ⟨512 + j.val, by omega⟩ _ _ _ (fun n => ?_) rfl ?_ rfl ?_ ?_ <;>
        (try simp only) <;> omega
    · refine column_read X d _ _ _ rfl ?_; (try simp only) <;> omega
    · refine before_read X _ ((y 1).val / 128 * 256) ⟨j.val, by omega⟩ _ _ (fun n => ?_) rfl ?_ ?_ ?_ <;>
        (try simp only) <;> omega
    · refine column_read X d _ _ _ rfl ?_; (try simp only) <;> omega

end Cert.KernelIdeal.Attn

end
-- ==== Proof.Attn.PointC.lean ====
/- What the attention kernel writes at a grid point of query block 2. -/
module

public import proofs.«01_k».proof.Proof.Gen.KernelIdeal.Value
public import proofs.«01_k».proof.Proof.Attn.Kernel

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Cert.ReferenceIdeal.Attn (score scores column)

set_option maxHeartbeats 1000000 in
/-- At a point of query block 2. -/
theorem pointC (c : Dev nD) (t : Fin cfg0.N) (y : S512x512.Idx) (g0 : ¬t.val % 4 = 0) (g1 : ¬t.val % 4 = 1)
    (g2 : t.val % 4 = 2) (g3 : ¬t.val % 4 = 3) (q k : FVec Ideal S16384x2048 .bf16)
    (v : FVec Ideal S16384x1024 .bf16) (x0 : FVec Ideal S512x1024 .bf16) (x1 : FVec Ideal S2048x1024 .bf16)
    (x2 : FVec Ideal S2048x512 .bf16) (g : ℕ) (b h : Fin 8) (s : Fin 2048) (d : Fin 128)
    (X : Blocks q k v x0 x1 x2 b.val g 2) (hh : h.val = g * 4 + (y 1).val / 128)
    (hs : s.val = 2 * 512 + (y 0).val) (hd : d.val = (y 1).val % 128) :
    out0_C_3 (F := Ideal) c (grid0.coords t) (ms0_0 t) (hs0_0 t) (ms0_1 t) (hs0_1 t) (ms0_2 t) (hs0_2 t) (ms0_3 t) (hs0_3 t)
      (fun h => g0 ((hcond0_0 t).mp h)) (fun h => g1 ((hcond0_1 t).mp h))
      ((hcond0_2 t).mpr g2) (fun h => g3 ((hcond0_3 t).mp h))
      x0 x1 x2 y = exp2row (rowY q k b h s) (column v b h d) := by
  frame_out
  canon_tiles x e <;>
  · pointwise [k0_pay14, k0_pay15, k0_pay16, k0_pay17]
    simp only [ofBits_neg_inf]
    refine two_parts (lo := 1024) (w := 512) (N := 2048) (by norm_num) (rowY q k b h s) (column v b h d)
      (fun u hu => if_neg (by omega)) _ _ _ _ (fun j => ?_) (fun j => ?_) (fun j => ?_) (fun j => ?_)
    · refine diag_read X _ ((y 1).val / 128 * 256) 1024 ⟨1024 + j.val, by omega⟩ _ _ _ (fun n => ?_) rfl ?_ rfl ?_ ?_ <;>
        (try simp only) <;> omega
    · refine column_read X d _ _ _ rfl ?_; (try simp only) <;> omega
    · refine before_read X _ ((y 1).val / 128 * 256) ⟨j.val, by omega⟩ _ _ (fun n => ?_) rfl ?_ ?_ ?_ <;>
        (try simp only) <;> omega
    · refine column_read X d _ _ _ rfl ?_; (try simp only) <;> omega

end Cert.KernelIdeal.Attn

end
-- ==== Proof.Attn.PointD.lean ====
/- What the attention kernel writes at a grid point of query block 3. -/
module

public import proofs.«01_k».proof.Proof.Gen.KernelIdeal.Value
public import proofs.«01_k».proof.Proof.Attn.Kernel

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Cert.ReferenceIdeal.Attn (score scores column)

set_option maxHeartbeats 1000000 in
/-- At a point of query block 3. -/
theorem pointD (c : Dev nD) (t : Fin cfg0.N) (y : S512x512.Idx) (g0 : ¬t.val % 4 = 0) (g1 : ¬t.val % 4 = 1)
    (g2 : ¬t.val % 4 = 2) (g3 : t.val % 4 = 3) (q k : FVec Ideal S16384x2048 .bf16)
    (v : FVec Ideal S16384x1024 .bf16) (x0 : FVec Ideal S512x1024 .bf16) (x1 : FVec Ideal S2048x1024 .bf16)
    (x2 : FVec Ideal S2048x512 .bf16) (g : ℕ) (b h : Fin 8) (s : Fin 2048) (d : Fin 128)
    (X : Blocks q k v x0 x1 x2 b.val g 3) (hh : h.val = g * 4 + (y 1).val / 128)
    (hs : s.val = 3 * 512 + (y 0).val) (hd : d.val = (y 1).val % 128) :
    out0_D_3 (F := Ideal) c (grid0.coords t) (ms0_0 t) (hs0_0 t) (ms0_1 t) (hs0_1 t) (ms0_2 t) (hs0_2 t) (ms0_3 t) (hs0_3 t)
      (fun h => g0 ((hcond0_0 t).mp h)) (fun h => g1 ((hcond0_1 t).mp h))
      (fun h => g2 ((hcond0_2 t).mp h)) ((hcond0_3 t).mpr g3)
      x0 x1 x2 y = exp2row (rowY q k b h s) (column v b h d) := by
  frame_out
  canon_tiles x e <;>
  · pointwise [k0_pay18, k0_pay19, k0_pay20, k0_pay21]
    simp only [ofBits_neg_inf]
    refine two_parts (lo := 1536) (w := 512) (N := 2048) (by norm_num) (rowY q k b h s) (column v b h d)
      (fun u hu => if_neg (by omega)) _ _ _ _ (fun j => ?_) (fun j => ?_) (fun j => ?_) (fun j => ?_)
    · refine diag_read X _ ((y 1).val / 128 * 256) 1536 ⟨1536 + j.val, by omega⟩ _ _ _ (fun n => ?_) rfl ?_ rfl ?_ ?_ <;>
        (try simp only) <;> omega
    · refine column_read X d _ _ _ rfl ?_; (try simp only) <;> omega
    · refine before_read X _ ((y 1).val / 128 * 256) ⟨j.val, by omega⟩ _ _ (fun n => ?_) rfl ?_ ?_ ?_ <;>
        (try simp only) <;> omega
    · refine column_read X d _ _ _ rfl ?_; (try simp only) <;> omega

end Cert.KernelIdeal.Attn

end
-- ==== Proof.Attn.Final.lean ====
/- The attention kernel's result array is the reference's. -/
module

public import proofs.«01_k».proof.Defs
public import proofs.«01_k».proof.Proof.Attn.PointA
public import proofs.«01_k».proof.Proof.Attn.PointB
public import proofs.«01_k».proof.Proof.Attn.PointC
public import proofs.«01_k».proof.Proof.Attn.PointD

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn
open Cert.ReferenceIdeal.Attn (score scores column)

/-- An extended real whose absolute value is below `⊤` is a real. -/
theorem real_of_abs_lt {x : EReal} (h : max x (-x) < ⊤) : ∃ r : ℝ, x = (r : EReal) := by
  induction x with
  | bot => simp at h
  | top => simp at h
  | coe r => exact ⟨r, rfl⟩

/-- The precondition says that every query and key is finite. -/
theorem finite_of_pre [Cert.Pre_finite_qk.Facts] (q k : FVec Ideal S16384x2048 .bf16) (v : FVec Ideal S16384x1024 .bf16)
    (h : Cert.Pre_finite_qk.fn (F := Ideal) q k v = fun _ => 1#1) :
    (∀ i, ∃ r : ℝ, q i = (r : EReal)) ∧ ∀ i, ∃ r : ℝ, k i = (r : EReal) := by
  have key : ∀ i, max (q i) (-(q i)) < ⊤ ∧ max (k i) (-(k i)) < ⊤ := by
    intro i
    have e := congrFun h i
    dsimp only [Cert.Pre_finite_qk.fn] at e
    simp only [andi, cmpf, Host.absf, broadcastInDim, constant, extf, Ideal.ofBits_def, ofBits_inf] at e
    obtain ⟨e0, e1⟩ := IntOp.andi_eq_one.mp e
    exact ⟨of_decide_eq_true ((WordCmp.ofBool_eq_one_iff _).mp e0), of_decide_eq_true ((WordCmp.ofBool_eq_one_iff _).mp e1)⟩
  exact ⟨fun i => real_of_abs_lt (key i).1, fun i => real_of_abs_lt (key i).2⟩

variable (m : (ℓ : Loc nD τ sig) → Buf (Elt Ideal) ℓ)

/-- The blocks of a grid point, read in the arrays. -/
theorem blocks (c : Dev nD) (t : Fin cfg0.N) :
    Blocks (m ((c : Thread nD τ).loc main_arg0)) (m ((c : Thread nD τ).loc main_arg1))
      (m ((c : Thread nD τ).loc main_arg2)) (iblk m c 0 t) (iblk m c 1 t) (iblk m c 2 t) (t.val / 8) (t.val / 4 % 2)
      (t.val % 4) where
  hq i I h0 h1 := q_read m c t i I h0 h1
  hk i I h0 h1 := k_read m c t i I h0 h1
  hv i I h0 h1 := v_read m c t i I h0 h1

/-- The kernel's result array, of finite queries and keys, is the reference's attention of the argument arrays. -/
theorem final (c : Dev nD) (hq : ∀ i, ∃ r : ℝ, (show FVec Ideal S16384x2048 .bf16 from m ((c : Thread nD τ).loc main_arg0)) i = (r : EReal))
    (hk : ∀ i, ∃ r : ℝ, (show FVec Ideal S16384x2048 .bf16 from m ((c : Thread nD τ).loc main_arg1)) i = (r : EReal)) :
    (dats m 0 c).arrAt 3 cfg0.N = Cert.ReferenceIdeal.Read.val_main_v31 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  have X := blocks m c t
  obtain ⟨-, -, -, e3, ht⟩ := idx t
  have y0 : (y 0).val < 512 := (y 0).isLt
  have y1 : (y 1).val < 512 := (y 1).isLt
  have hb : t.val / 8 < 8 := by omega
  have hh : t.val / 4 % 2 * 4 + (y 1).val / 128 < 8 := by omega
  have hs : t.val % 4 * 512 + (y 0).val < 2048 := by omega
  have hd : (y 1).val % 128 < 128 := by omega
  have i0 : (((cfg0.win 3).blk t).view.emb y 0).val = t.val / 8 * 2048 + (t.val % 4 * 512 + (y 0).val) := by
    blk_simp [e3]; omega
  have i1 : (((cfg0.win 3).blk t).view.emb y 1).val =
      (t.val / 4 % 2 * 4 + (y 1).val / 128) * 128 + (y 1).val % 128 := by
    blk_simp [e3]; omega
  refine Eq.trans ?_ ((rowY_softrow _ _ hq hk ⟨_, hb⟩ ⟨_, hh⟩ ⟨_, hs⟩ _).trans
    (Cert.ReferenceIdeal.Attn.v31_at _ _ _ ⟨_, hb⟩ ⟨_, hh⟩ ⟨_, hs⟩ ⟨_, hd⟩ _ i0 i1).symm)
  have cases : t.val % 4 = 0 ∨ t.val % 4 = 1 ∨ t.val % 4 = 2 ∨ t.val % 4 = 3 := by omega
  rcases cases with g | g | g | g
  · rw [outsAt0_A m c t (by omega) (by omega) (by omega) (by omega)]
    rw [g] at X
    exact pointA c t y (by omega) (by omega) (by omega) (by omega) _ _ _ _ _ _ _ _ _ _ _ X rfl
      (congrArg (fun n => n * 512 + (y 0).val) g) rfl
  · rw [outsAt0_B m c t (by omega) (by omega) (by omega) (by omega)]
    rw [g] at X
    exact pointB c t y (by omega) (by omega) (by omega) (by omega) _ _ _ _ _ _ _ _ _ _ _ X rfl
      (congrArg (fun n => n * 512 + (y 0).val) g) rfl
  · rw [outsAt0_C m c t (by omega) (by omega) (by omega) (by omega)]
    rw [g] at X
    exact pointC c t y (by omega) (by omega) (by omega) (by omega) _ _ _ _ _ _ _ _ _ _ _ X rfl
      (congrArg (fun n => n * 512 + (y 0).val) g) rfl
  · rw [outsAt0_D m c t (by omega) (by omega) (by omega) (by omega)]
    rw [g] at X
    exact pointD c t y (by omega) (by omega) (by omega) (by omega) _ _ _ _ _ _ _ _ _ _ _ X rfl
      (congrArg (fun n => n * 512 + (y 0).val) g) rfl

end Cert.KernelIdeal.Attn

end
-- ==== Proof.Attn.Claims.lean ====
/- The claims about the prompt attention. -/
module

public import proofs.«01_k».proof.Defs
public import proofs.«01_k».proof.Proof.Gen.Kernel.Frame
public import proofs.«01_k».proof.Proof.Attn.Final
public import Idealize.ShloMosaic.Lib.Quiescent

@[expose] public section

noncomputable section

open Idealize.ShloMosaic Idealize.ShloMosaic.TcCoe Idealize.SL.Sem

namespace Cert.Proof.Attn

/-- The side conditions of the precondition's operations. -/
theorem pre_facts : Cert.Pre_finite_qk.Facts where
  bitsLt_bf16_f32 := by decide
  bcast_S_S16384x2048 := by decide

/-- The kernel runs and leaves its arguments. -/
theorem frame_p : Cert.quiescent_Kernel := fun m ρ _ => Cert.Kernel.Gen.frame m ρ

/-- The idealized kernel runs and leaves its arguments. -/
theorem frame_pi : Cert.quiescent_KernelIdeal := fun m ρ _ => Cert.KernelIdeal.Gen.frame m ρ

/-- The same, of arguments under the precondition. -/
theorem frame_pi_pre : Cert.quiescent_KernelIdeal_pre_finite_qk (hPre_finite_qk := pre_facts) :=
  fun m ρ _ => Cert.KernelIdeal.Gen.frame m ρ

/-- The reference runs and leaves its arguments. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same, of arguments under the precondition. -/
theorem frame_ri_pre : Cert.quiescent_ReferenceIdeal_pre_finite_qk (hPre_finite_qk := pre_facts) :=
  fun m ρ _ => frame_ri m ρ trivial

/-- The named constant is the printed one. -/
theorem preserves : Cert.preserves_Kernel_KernelIdeal :=
  IdealRules.named_const.statement Cert.KernelIdeal.κ "scale_log2e" .f32 0x3DD53B95#32
    (((Real.sqrt 192)⁻¹ * (Real.log 2)⁻¹ : ℝ) : EReal) rfl

/-- Of finite queries and keys the kernel's attention is the reference's, element by element. -/
theorem algebraic : Cert.algebraic_KernelIdeal_ReferenceIdeal_pre_finite_qk (hPre_finite_qk := pre_facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  have hf := @Cert.KernelIdeal.Attn.finite_of_pre pre_facts _ _ _ (hpre c)
  refine (Cert.ReferenceIdeal.Read.val_main_v31_eq m' c).trans ?_
  rw [(hagree c).1, (hagree c).2.1, (hagree c).2.2]
  exact (Cert.KernelIdeal.Attn.final m c hf.1 hf.2).symm

end Cert.Proof.Attn

end
-- ==== Proof.Layers.Math.lean ====
/- What the layer's dense calls compute, over the extended reals: the root-mean-square norm of a row, and the float
   constants they use. -/
module

public import Idealize.ShloMosaic.PureOps.Ideal

@[expose] public section

noncomputable section

namespace Cert.Layers

open Idealize.ShloMosaic

/-- The all-zero word denotes 0. -/
theorem ofBits_zero : Ideal.ofBits .f32 0x00000000#32 = 0 := by
  simp [Ideal.ofBits, Ideal.ieee]

/-- The word of one denotes 1. -/
theorem ofBits_one : Ideal.ofBits .f32 0x3F800000#32 = 1 := by
  rw [← EReal.coe_one]
  simp [Ideal.ofBits, Ideal.ieee, -EReal.coe_mul, -EReal.coe_one]; norm_num

/-- The row's length denotes the real 2048. -/
theorem ofBits_2048 : Ideal.ofBits .f32 0x45000000#32 = ((2048 : ℝ) : EReal) := by
  simp [Ideal.ofBits, Ideal.ieee, -EReal.coe_mul]; norm_num

/-- The kernels' factor denotes the real 1 / 2048, without rounding. -/
theorem ofBits_inv_2048 : Ideal.ofBits .f32 0x3A000000#32 = ((1 / 2048 : ℝ) : EReal) := by
  simp [Ideal.ofBits, Ideal.ieee, -EReal.coe_mul]; norm_num

/-- Dividing by the row's length is multiplying by the kernels' factor, whatever the dividend. -/
theorem div_2048 (x : EReal) :
    Ideal.div x (Ideal.ofBits .f32 0x45000000#32) = x * Ideal.ofBits .f32 0x3A000000#32 := by
  rw [ofBits_2048, ofBits_inv_2048, Ideal.div_coe (by norm_num)]

/-- Element `k` of the root-mean-square norm of a row `x` with gains `g`. -/
def normed (x g : Fin 2048 → EReal) (k : Fin 2048) : EReal :=
  x k * Ideal.rsqrt ((∑ j, x j * x j) * Ideal.ofBits .f32 0x3A000000#32 + Ideal.ofBits .f32 0x358637BD#32) * g k

/-- A normed element, from the elements of the row and the gain that a program reads. -/
theorem normed_of {x' x g : Fin 2048 → EReal} {a b : EReal} {k : Fin 2048} (ha : a = x k) (hx : ∀ j, x' j = x j)
    (hb : b = g k) :
    a * Ideal.rsqrt ((∑ j, x' j * x' j) * Ideal.ofBits .f32 0x3A000000#32 + Ideal.ofBits .f32 0x358637BD#32) * b =
      normed x g k := by
  obtain rfl : x' = x := funext hx
  rw [ha, hb, normed]

/-- The logistic function as the references write it. -/
theorem logistic_of (z : EReal) :
    Ideal.div (Ideal.ofBits .f32 0x3F800000#32) (Ideal.ofBits .f32 0x3F800000#32 + Ideal.exp (-z)) = Ideal.logistic z := by
  rw [ofBits_one, Ideal.logistic]

/-- The gated unit `z · logistic z`. -/
def silu (z : EReal) : EReal := z * Ideal.logistic z

end Cert.Layers

end
-- ==== Proof.Layers.Ffn.lean ====
/- The dense feed-forward network: the kernel's result array is the reference's, element by element. -/
module

public import proofs.«01_k».proof.Proof.Gen.FfnIdeal.Value
public import proofs.«01_k».proof.Proof.Gen.FfnRefIdeal.Read
public import Idealize.ShloMosaic.Lib.Pipeline.ValueKit
public import proofs.«01_k».proof.Proof.Layers.Math

@[expose] public section

set_option maxRecDepth 16384

noncomputable section

open Idealize.ShloMosaic Idealize.ShloMosaic.TcCoe Idealize.SL.Sem
open Idealize.ShloMosaic.Pipeline (Dat)

namespace Cert.FfnRefIdeal.Layers

open Cert.FfnRefIdeal Cert.FfnRefIdeal.Gen Cert.Layers

/-- The reference's normed rows. -/
theorem normed_at (x0 : FVec Ideal S16384x2048 .f32) (x1 : FVec Ideal S1x2048 .f32) (i : S16384x2048.Idx) :
    (show FVec Ideal S16384x2048 .f32 from Read.val_main_v14 (F := Ideal) x0 x1) i =
      normed (fun k => x0 (ix2 (i 0) k)) (fun k => x1 (ix2 0 k)) (i 1) := by
  show Read.val_main_v14 (F := Ideal) x0 x1 i = _
  rw [Read.val_main_v14_apply, Read.val_main_v12_apply, Read.val_main_v11_apply, Read.val_main_v10_apply,
    Read.val_main_v9_apply, Read.val_main_v7_apply, Read.val_main_v5_apply, Read.val_main_v4_apply,
    Read.val_main_v6_apply, Read.val_main_v8_apply, Read.val_main_v13_apply]
  simp only [Read.val_main_v3_apply, Read.val_main_cst_apply, Read.val_main_cst_0_apply, Read.val_main_cst_1_apply]
  simp only [Ideal.ofBits_def, Ideal.mulf_def, Ideal.addf_def, Ideal.hostDivf_def, Ideal.hostUnary_rsqrt_def, ofBits_zero, zero_add, div_2048]
  refine normed_of (congrArg x0 ?_) (fun j => congrArg x0 ?_) (congrArg x1 ?_) <;>
  · funext a; match a with
      | ⟨0, _⟩ => rfl
      | ⟨1, _⟩ => rfl

/-- A hidden element: the gated unit of the gate's product times the up product. -/
def hidden (x0 : FVec Ideal S16384x2048 .f32) (x1 : FVec Ideal S1x2048 .f32) (x2 x3 : FVec Ideal S2048x5632 .bf16)
    (r : Fin 16384) (f : Fin 5632) : EReal :=
  silu (∑ k, normed (fun k => x0 (ix2 r k)) (fun k => x1 (ix2 0 k)) k * x2 (ix2 k f)) *
    ∑ k, normed (fun k => x0 (ix2 r k)) (fun k => x1 (ix2 0 k)) k * x3 (ix2 k f)

/-- The reference's gate product. -/
theorem gate_at (x0 : FVec Ideal S16384x2048 .f32) (x1 : FVec Ideal S1x2048 .f32) (x2 : FVec Ideal S2048x5632 .bf16)
    (i : S16384x5632.Idx) :
    (show FVec Ideal S16384x5632 .f32 from Read.val_main_v15 (F := Ideal) x0 x1 x2) i =
      ∑ k, normed (fun k => x0 (ix2 (i 0) k)) (fun k => x1 (ix2 0 k)) k * x2 (ix2 k (i 1)) := by
  refine (Read.val_main_v15_apply x0 x1 x2 i).trans (Finset.sum_congr rfl fun k _ => ?_)
  refine congrArg₂ (fun a b : EReal => a * b) (normed_at x0 x1 _) (congrArg x2 ?_)
  funext a; match a with
    | ⟨0, _⟩ => rfl
    | ⟨1, _⟩ => rfl

/-- The reference's up product. -/
theorem up_at (x0 : FVec Ideal S16384x2048 .f32) (x1 : FVec Ideal S1x2048 .f32) (x3 : FVec Ideal S2048x5632 .bf16)
    (i : S16384x5632.Idx) :
    (show FVec Ideal S16384x5632 .f32 from Read.val_main_v17 (F := Ideal) x0 x1 x3) i =
      ∑ k, normed (fun k => x0 (ix2 (i 0) k)) (fun k => x1 (ix2 0 k)) k * x3 (ix2 k (i 1)) := by
  refine (Read.val_main_v17_apply x0 x1 x3 i).trans (Finset.sum_congr rfl fun k _ => ?_)
  refine congrArg₂ (fun a b : EReal => a * b) (normed_at x0 x1 _) (congrArg x3 ?_)
  funext a; match a with
    | ⟨0, _⟩ => rfl
    | ⟨1, _⟩ => rfl

/-- The reference's hidden elements. -/
theorem hidden_at (x0 : FVec Ideal S16384x2048 .f32) (x1 : FVec Ideal S1x2048 .f32) (x2 x3 : FVec Ideal S2048x5632 .bf16)
    (i : S16384x5632.Idx) :
    (show FVec Ideal S16384x5632 .f32 from Read.val_main_v18 (F := Ideal) x0 x1 x2 x3) i =
      hidden x0 x1 x2 x3 (i 0) (i 1) := by
  show Read.val_main_v18 (F := Ideal) x0 x1 x2 x3 i = _
  rw [Read.val_main_v18_apply, Read.val_main_v16_apply, Read.val_main_call0_v5_apply, Read.val_main_call0_v4_apply,
    Read.val_main_call0_v3_apply, Read.val_main_call0_v2_apply, Read.val_main_call0_v1_apply,
    Read.val_main_call0_v0_apply, Read.val_main_call0_cst_apply, Read.val_main_call0_cst_0_apply]
  simp only [Ideal.ofBits_def, Ideal.mulf_def, Ideal.addf_def, Ideal.hostDivf_def, Ideal.hostUnary_exp_def,
    Ideal.hostNegf_def, Ideal.negf_def, logistic_of]
  exact congrArg₂ (fun a b : EReal => silu a * b) (gate_at x0 x1 x2 i) (up_at x0 x1 x3 i)

/-- The reference at an index: the stream plus the hidden row times the down column. -/
theorem ffn_at (x0 : FVec Ideal S16384x2048 .f32) (x1 : FVec Ideal S1x2048 .f32) (x2 x3 : FVec Ideal S2048x5632 .bf16)
    (x4 : FVec Ideal S5632x2048 .bf16) (i : S16384x2048.Idx) :
    (show FVec Ideal S16384x2048 .f32 from Read.val_main_v20 (F := Ideal) x0 x1 x2 x3 x4) i =
      x0 i + ∑ f : Fin 5632, hidden x0 x1 x2 x3 (i 0) f * x4 (ix2 f (i 1)) := by
  refine (Read.val_main_v20_apply (F := Ideal) x0 x1 x2 x3 x4 i).trans ?_
  refine congrArg (fun z : EReal => x0 i + z)
    ((Read.val_main_v19_apply x0 x1 x2 x3 x4 i).trans (Finset.sum_congr rfl fun k _ => ?_))
  refine congrArg₂ (fun a b : EReal => a * b) (hidden_at x0 x1 x2 x3 _) (congrArg x4 ?_)
  funext a; match a with
    | ⟨0, _⟩ => rfl
    | ⟨1, _⟩ => rfl

end Cert.FfnRefIdeal.Layers

namespace Cert.FfnIdeal.Layers

open Cert.FfnIdeal Cert.FfnIdeal.Gen Cert.Layers
open Cert.FfnRefIdeal.Layers (hidden)

variable (m : (ℓ : Loc nD τ sig) → Buf (Elt Ideal) ℓ)

/-- The kernel's normed block. -/
theorem pay1_at (x : FVec Ideal S512x2048 .f32) (g : FVec Ideal S1x2048 .f32) (y : S512x2048.Idx) :
    (show FVec Ideal S512x2048 .bf16 from k0_pay1 (F := Ideal) x g) y =
      normed (fun k => x (ix2 (y 0) k)) (fun k => g (ix2 0 k)) (y 1) := by
  pointwise [k0_pay1]
  refine normed_of (congrArg x ?_) (fun j => rfl) rfl
  funext a; match a with
    | ⟨0, _⟩ => rfl
    | ⟨1, _⟩ => rfl

/-- The kernel's accumulated block: what it held plus a block of hidden columns times the down rows. -/
theorem pay2_at (xn : FVec Ideal S512x2048 .bf16) (wg wu : FVec Ideal S2048x512 .bf16) (acc : FVec Ideal S512x2048 .f32)
    (wd : FVec Ideal S512x2048 .bf16) (y : S512x2048.Idx) :
    (show FVec Ideal S512x2048 .f32 from k0_pay2 (F := Ideal) xn wg wu acc wd) y =
      acc y + ∑ f, silu (∑ k, xn (ix2 (y 0) k) * wg (ix2 k f)) * (∑ k, xn (ix2 (y 0) k) * wu (ix2 k f)) *
        wd (ix2 f (y 1)) := by
  pointwise [k0_pay2]
  rfl

/-- The windows' block indices at every grid point. -/
theorem idx : ∀ t : Fin cfg0.N, win0_0.index t = ![t.val / 11, 0] ∧ win0_1.index t = ![0, 0] ∧
    win0_2.index t = ![0, t.val % 11] ∧ win0_3.index t = ![0, t.val % 11] ∧ win0_4.index t = ![t.val % 11, 0] ∧
    win0_5.index t = ![t.val / 11, 0] ∧ t.val < 352 :=
  (by decide +kernel : ∀ t : Fin grid0.N, _)

/-- A first hidden block norms the rows and starts from the stream. -/
theorem stepA (c : Dev nD) (t : Fin cfg0.N) (h0 : t.val % 11 = 0) :
    outsAt0 m c t.val t.isLt = (k0_pay2 (F := Ideal) (k0_pay1 (iblk m c 0 t) (iblk m c 1 t)) (iblk m c 2 t)
        (iblk m c 3 t) (iblk m c 0 t) (iblk m c 4 t), k0_pay1 (iblk m c 0 t) (iblk m c 1 t)) := by
  rw [outsAt0_A m c t h0]
  frame_out

/-- A later hidden block adds to what the point before left, and keeps the normed rows. -/
theorem stepB (c : Dev nD) (t : Fin cfg0.N) (h0 : ¬t.val % 11 = 0) :
    outsAt0 m c t.val t.isLt =
      (k0_pay2 (F := Ideal) (outsAt0 m c (t.val - 1) (Nat.lt_of_le_of_lt (Nat.sub_le _ _) t.isLt)).2 (iblk m c 2 t)
          (iblk m c 3 t) (outsAt0 m c (t.val - 1) (Nat.lt_of_le_of_lt (Nat.sub_le _ _) t.isLt)).1 (iblk m c 4 t),
        (outsAt0 m c (t.val - 1) (Nat.lt_of_le_of_lt (Nat.sub_le _ _) t.isLt)).2) := by
  rw [outsAt0_B m c t h0]
  refine Prod.ext ?_ rfl
  dsimp only
  frame_out
  exact congrArg (fun z => k0_pay2 (F := Ideal) z (iblk m c 2 t) (iblk m c 3 t) _ (iblk m c 4 t))
    (Memref.IsWhole.read_unread _ _)

/-- The kernel's normed block of a point's rows. -/
theorem normed_block (c : Dev nD) (t : Fin cfg0.N) (y : S512x2048.Idx) (r : Fin 16384)
    (hr : r.val = t.val / 11 * 512 + (y 0).val) :
    (show FVec Ideal S512x2048 .bf16 from k0_pay1 (F := Ideal) (iblk m c 0 t) (iblk m c 1 t)) y =
      normed (fun k => (show FVec Ideal S16384x2048 .f32 from m ((c : Thread nD τ).loc main_arg0)) (ix2 r k))
        (fun k => (show FVec Ideal S1x2048 .f32 from m ((c : Thread nD τ).loc main_arg1)) (ix2 0 k)) (y 1) := by
  obtain ⟨e0, e1, -⟩ := idx t
  refine (pay1_at _ _ y).trans ?_
  refine congrArg₂ (fun a b => normed a b (y 1)) (funext fun k => ?_) (funext fun k => ?_)
  · blk_ext [iblk, V, e0, hr]
  · blk_ext [iblk, V, e1]

/-- What the carried buffer holds at every point: the normed rows of the point's row block. -/
theorem scratch (c : Dev nD) (n : ℕ) : ∀ (hn : n < cfg0.N) (y : S512x2048.Idx) (r : Fin 16384),
    r.val = n / 11 * 512 + (y 0).val →
    (show FVec Ideal S512x2048 .bf16 from (outsAt0 m c n hn).2) y =
      normed (fun k => (show FVec Ideal S16384x2048 .f32 from m ((c : Thread nD τ).loc main_arg0)) (ix2 r k))
        (fun k => (show FVec Ideal S1x2048 .f32 from m ((c : Thread nD τ).loc main_arg1)) (ix2 0 k)) (y 1) := by
  induction n with
  | zero =>
    intro hn y r hr
    rw [stepA m c ⟨0, hn⟩ rfl]
    exact normed_block m c ⟨0, hn⟩ y r hr
  | succ n ih =>
    intro hn y r hr
    by_cases h : (n + 1) % 11 = 0
    · rw [stepA m c ⟨n + 1, hn⟩ h]
      exact normed_block m c ⟨n + 1, hn⟩ y r hr
    · rw [stepB m c ⟨n + 1, hn⟩ h]
      exact ih _ y r (by omega)

/-- Hidden block `s`'s part of a result element. -/
def part (x0 : FVec Ideal S16384x2048 .f32) (x1 : FVec Ideal S1x2048 .f32) (x2 x3 : FVec Ideal S2048x5632 .bf16)
    (x4 : FVec Ideal S5632x2048 .bf16) (r : Fin 16384) (d : Fin 2048) (s : ℕ) : EReal :=
  if h : s < 11 then ∑ f : Fin 512, hidden x0 x1 x2 x3 r ⟨s * 512 + f.val, by omega⟩ *
    x4 (ix2 ⟨s * 512 + f.val, by omega⟩ d) else 0

/-- A point adds its hidden block's part to what it accumulates on, whatever normed rows it holds. -/
theorem add_part (c : Dev nD) (t : Fin cfg0.N) (xn : FVec Ideal S512x2048 .bf16) (acc : FVec Ideal S512x2048 .f32)
    (y : S512x2048.Idx) (r : Fin 16384)
    (hx : ∀ k : Fin 2048, xn (ix2 (y 0) k) =
      normed (fun k => (show FVec Ideal S16384x2048 .f32 from m ((c : Thread nD τ).loc main_arg0)) (ix2 r k))
        (fun k => (show FVec Ideal S1x2048 .f32 from m ((c : Thread nD τ).loc main_arg1)) (ix2 0 k)) k) :
    (show FVec Ideal S512x2048 .f32 from
        k0_pay2 (F := Ideal) xn (iblk m c 2 t) (iblk m c 3 t) acc (iblk m c 4 t)) y =
      acc y + part (m ((c : Thread nD τ).loc main_arg0)) (m ((c : Thread nD τ).loc main_arg1))
        (m ((c : Thread nD τ).loc main_arg2)) (m ((c : Thread nD τ).loc main_arg3)) (m ((c : Thread nD τ).loc main_arg4))
        r (y 1) (t.val % 11) := by
  obtain ⟨e0, e1, e2, e3, e4, e5, ht⟩ := idx t
  refine (pay2_at _ _ _ _ _ y).trans (congrArg (fun z : EReal => acc y + z) ?_)
  refine Eq.trans ?_ (dif_pos (Nat.mod_lt _ (by norm_num))).symm
  refine Finset.sum_congr rfl fun f _ => congrArg₂ (fun a b : EReal => a * b)
    (congrArg₂ (fun a b : EReal => silu a * b)
      (Finset.sum_congr rfl fun k _ => congrArg₂ (fun a b : EReal => a * b) (hx k) ?_)
      (Finset.sum_congr rfl fun k _ => congrArg₂ (fun a b : EReal => a * b) (hx k) ?_)) ?_
  all_goals blk_ext [iblk, V, e2, e3, e4]

/-- What the output block holds at every point: the stream's block plus the parts of the hidden blocks so far. -/
theorem acc_eq (c : Dev nD) (n : ℕ) : ∀ (hn : n < cfg0.N) (y : S512x2048.Idx) (r : Fin 16384),
    r.val = n / 11 * 512 + (y 0).val →
    (show FVec Ideal S512x2048 .f32 from (outsAt0 m c n hn).1) y =
      (show FVec Ideal S16384x2048 .f32 from m ((c : Thread nD τ).loc main_arg0)) (ix2 r (y 1)) +
      ∑ s ∈ Finset.range (n % 11 + 1), part (m ((c : Thread nD τ).loc main_arg0)) (m ((c : Thread nD τ).loc main_arg1))
        (m ((c : Thread nD τ).loc main_arg2)) (m ((c : Thread nD τ).loc main_arg3)) (m ((c : Thread nD τ).loc main_arg4))
        r (y 1) s := by
  have first : ∀ (t : Fin cfg0.N) (h : t.val % 11 = 0) (y : S512x2048.Idx) (r : Fin 16384),
      r.val = t.val / 11 * 512 + (y 0).val →
      (show FVec Ideal S512x2048 .f32 from (outsAt0 m c t.val t.isLt).1) y =
        (show FVec Ideal S16384x2048 .f32 from m ((c : Thread nD τ).loc main_arg0)) (ix2 r (y 1)) +
        ∑ s ∈ Finset.range (t.val % 11 + 1), part (m ((c : Thread nD τ).loc main_arg0)) (m ((c : Thread nD τ).loc main_arg1))
          (m ((c : Thread nD τ).loc main_arg2)) (m ((c : Thread nD τ).loc main_arg3)) (m ((c : Thread nD τ).loc main_arg4))
          r (y 1) s := by
    intro t h y r hr
    rw [stepA m c t h]
    obtain ⟨e0, -⟩ := idx t
    refine (add_part m c t _ _ y r fun k => normed_block m c t (ix2 (y 0) k) r hr).trans ?_
    rw [h, Finset.sum_range_one]
    refine congrArg₂ (fun a b : EReal => a + b) ?_ rfl
    blk_ext [iblk, V, e0, hr]
  induction n with
  | zero => exact fun hn => first ⟨0, hn⟩ rfl
  | succ n ih =>
    intro hn y r hr
    by_cases h : (n + 1) % 11 = 0
    · exact first ⟨n + 1, hn⟩ h y r hr
    · rw [stepB m c ⟨n + 1, hn⟩ h]
      have hr' : r.val = n / 11 * 512 + (y 0).val := by omega
      refine (add_part m c ⟨n + 1, hn⟩ _ _ y r fun k => scratch m c n _ (ix2 (y 0) k) r hr').trans ?_
      refine (congrArg (fun z : EReal => z + _) (ih _ y r hr')).trans ?_
      have e : (n + 1) % 11 = n % 11 + 1 := by omega
      rw [e, Finset.sum_range_succ _ (n % 11 + 1), add_assoc]

/-- The kernel's result array is the reference's, of any argument arrays. -/
theorem final (c : Dev nD) :
    (dats m 0 c).arrAt 5 cfg0.N = Cert.FfnRefIdeal.Read.val_main_v20 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5]
  obtain ⟨e0, e1, e2, e3, e4, e5, ht⟩ := idx t
  have hl : t.val % 11 = 10 := (flush0_5 t).mp hf
  have i0 : (((cfg0.win 5).blk t).view.emb y 0).val = t.val / 11 * 512 + (y 0).val := by blk_simp [e5]
  have i1 : ((cfg0.win 5).blk t).view.emb y 1 = y 1 := Fin.ext (by blk_simp [e5])
  refine (acc_eq m c t.val t.isLt y _ i0).trans (Eq.trans ?_ (Cert.FfnRefIdeal.Layers.ffn_at _ _ _ _ _ _).symm)
  refine congrArg₂ (fun a b : EReal => a + b) (congrArg _ ?_) ?_
  · funext a; match a with
      | ⟨0, _⟩ => rfl
      | ⟨1, _⟩ => exact i1.symm
  · rw [hl, Finset.sum_range, i1]
    refine (Finset.sum_congr rfl fun s _ => dif_pos s.isLt).trans ?_
    exact Fin.sum_mul_add_congr fun s k hl => rfl

end Cert.FfnIdeal.Layers

end
-- ==== Proof.Layers.InProj.lean ====
/- The input projection: the kernel's result array is the reference's, element by element. -/
module

public import proofs.«01_k».proof.Proof.Gen.InProjIdeal.Value
public import proofs.«01_k».proof.Proof.Gen.InProjRefIdeal.Read
public import Idealize.ShloMosaic.Lib.Pipeline.ValueKit
public import proofs.«01_k».proof.Proof.Layers.Math

@[expose] public section

set_option maxRecDepth 16384

noncomputable section

open Idealize.ShloMosaic Idealize.ShloMosaic.TcCoe Idealize.SL.Sem
open Idealize.ShloMosaic.Pipeline (Dat)

namespace Cert.InProjRefIdeal.Layers

open Cert.InProjRefIdeal Cert.InProjRefIdeal.Gen Cert.Layers

/-- The reference's normed rows. -/
theorem normed_at (x0 : FVec Ideal S16384x2048 .f32) (x1 : FVec Ideal S1x2048 .f32) (i : S16384x2048.Idx) :
    (show FVec Ideal S16384x2048 .f32 from Read.val_main_v11 (F := Ideal) x0 x1) i =
      normed (fun k => x0 (ix2 (i 0) k)) (fun k => x1 (ix2 0 k)) (i 1) := by
  show Read.val_main_v11 (F := Ideal) x0 x1 i = _
  rw [Read.val_main_v11_apply, Read.val_main_v9_apply, Read.val_main_v8_apply, Read.val_main_v7_apply,
    Read.val_main_v6_apply, Read.val_main_v4_apply, Read.val_main_v2_apply, Read.val_main_v1_apply,
    Read.val_main_v3_apply, Read.val_main_v5_apply, Read.val_main_v10_apply]
  simp only [Read.val_main_v0_apply, Read.val_main_cst_apply, Read.val_main_cst_0_apply, Read.val_main_cst_1_apply]
  simp only [Ideal.ofBits_def, Ideal.mulf_def, Ideal.addf_def, Ideal.hostDivf_def, Ideal.hostUnary_rsqrt_def, ofBits_zero, zero_add, div_2048]
  refine normed_of (congrArg x0 ?_) (fun j => congrArg x0 ?_) (congrArg x1 ?_) <;>
  · funext a; match a with
      | ⟨0, _⟩ => rfl
      | ⟨1, _⟩ => rfl

/-- The reference at an index: the normed row times the weight's column. -/
theorem product_at (x0 : FVec Ideal S16384x2048 .f32) (x1 : FVec Ideal S1x2048 .f32) (x2 : FVec Ideal S2048x4096 .bf16)
    (i : S16384x4096.Idx) :
    (show FVec Ideal S16384x4096 .f32 from Read.val_main_v13 (F := Ideal) x0 x1 x2) i =
      ∑ k, normed (fun k => x0 (ix2 (i 0) k)) (fun k => x1 (ix2 0 k)) k * x2 (ix2 k (i 1)) := by
  refine (Read.val_main_v13_apply x0 x1 x2 i).trans (Finset.sum_congr rfl fun k _ => ?_)
  refine congrArg₂ (fun a b : EReal => a * b) (normed_at x0 x1 _) (congrArg x2 ?_)
  funext a; match a with
    | ⟨0, _⟩ => rfl
    | ⟨1, _⟩ => rfl

end Cert.InProjRefIdeal.Layers

namespace Cert.InProjIdeal.Layers

open Cert.InProjIdeal Cert.InProjIdeal.Gen Cert.Layers

variable (m : (ℓ : Loc nD τ sig) → Buf (Elt Ideal) ℓ)

/-- The kernel's normed block. -/
theorem pay1_at (x : FVec Ideal S512x2048 .f32) (g : FVec Ideal S1x2048 .f32) (y : S512x2048.Idx) :
    (show FVec Ideal S512x2048 .bf16 from k0_pay1 (F := Ideal) x g) y =
      normed (fun k => x (ix2 (y 0) k)) (fun k => g (ix2 0 k)) (y 1) := by
  pointwise [k0_pay1]
  refine normed_of (congrArg x ?_) (fun j => rfl) rfl
  funext a; match a with
    | ⟨0, _⟩ => rfl
    | ⟨1, _⟩ => rfl

/-- The kernel's product block. -/
theorem pay2_at (x : FVec Ideal S512x2048 .bf16) (w : FVec Ideal S2048x2048 .bf16) (y : S512x2048.Idx) :
    (show FVec Ideal S512x2048 .f32 from k0_pay2 (F := Ideal) x w) y =
      ∑ k, x (ix2 (y 0) k) * w (ix2 k (y 1)) := by
  pointwise [k0_pay2]

/-- A first column block norms the rows and multiplies them. -/
theorem stepA (c : Dev nD) (t : Fin cfg0.N) (h0 : t.val % 2 = 0) :
    outsAt0 m c t.val t.isLt = (k0_pay2 (F := Ideal) (k0_pay1 (iblk m c 0 t) (iblk m c 1 t)) (iblk m c 2 t),
      k0_pay1 (iblk m c 0 t) (iblk m c 1 t)) := by
  rw [outsAt0_A m c t h0]
  frame_out

/-- A later column block multiplies the rows normed before it, and keeps them. -/
theorem stepB (c : Dev nD) (t : Fin cfg0.N) (h0 : ¬t.val % 2 = 0) :
    outsAt0 m c t.val t.isLt =
      (k0_pay2 (F := Ideal) (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  refine Prod.ext ?_ rfl
  dsimp only
  frame_out
  exact congrArg (fun z => k0_pay2 (F := Ideal) z (iblk m c 2 t)) (Memref.IsWhole.read_unread _ _)

/-- The windows' block indices at every grid point. -/
theorem idx : ∀ t : Fin cfg0.N, win0_0.index t = ![t.val / 2, 0] ∧ win0_1.index t = ![0, 0] ∧
    win0_2.index t = ![0, t.val % 2] ∧ win0_3.index t = ![t.val / 2, t.val % 2] ∧ t.val < 64 :=
  (by decide +kernel : ∀ t : Fin grid0.N, _)

/-- The kernel's normed block of a point's rows. -/
theorem normed_block (c : Dev nD) (t : Fin cfg0.N) (y : S512x2048.Idx) (r : Fin 16384)
    (hr : r.val = t.val / 2 * 512 + (y 0).val) :
    (show FVec Ideal S512x2048 .bf16 from k0_pay1 (F := Ideal) (iblk m c 0 t) (iblk m c 1 t)) y =
      normed (fun k => (show FVec Ideal S16384x2048 .f32 from m ((c : Thread nD τ).loc main_arg0)) (ix2 r k))
        (fun k => (show FVec Ideal S1x2048 .f32 from m ((c : Thread nD τ).loc main_arg1)) (ix2 0 k)) (y 1) := by
  obtain ⟨e0, e1, -⟩ := idx t
  refine (pay1_at _ _ y).trans ?_
  refine congrArg₂ (fun a b => normed a b (y 1)) (funext fun k => ?_) (funext fun k => ?_)
  · blk_ext [iblk, V, e0, hr]
  · blk_ext [iblk, V, e1]

/-- What the carried buffer holds at every point: the normed rows of the point's row block. -/
theorem scratch (c : Dev nD) (n : ℕ) : ∀ (hn : n < cfg0.N) (y : S512x2048.Idx) (r : Fin 16384),
    r.val = n / 2 * 512 + (y 0).val →
    (show FVec Ideal S512x2048 .bf16 from (outsAt0 m c n hn).2) y =
      normed (fun k => (show FVec Ideal S16384x2048 .f32 from m ((c : Thread nD τ).loc main_arg0)) (ix2 r k))
        (fun k => (show FVec Ideal S1x2048 .f32 from m ((c : Thread nD τ).loc main_arg1)) (ix2 0 k)) (y 1) := by
  induction n with
  | zero =>
    intro hn y r hr
    rw [stepA m c ⟨0, hn⟩ rfl]
    exact normed_block m c ⟨0, hn⟩ y r hr
  | succ n ih =>
    intro hn y r hr
    by_cases h : (n + 1) % 2 = 0
    · rw [stepA m c ⟨n + 1, hn⟩ h]
      exact normed_block m c ⟨n + 1, hn⟩ y r hr
    · rw [stepB m c ⟨n + 1, hn⟩ h]
      exact ih _ y r (by omega)

/-- At every point the output block is the product of the carried rows with the point's columns. -/
theorem out_eq (c : Dev nD) (t : Fin cfg0.N) :
    (outsAt0 m c t.val t.isLt).1 = k0_pay2 (F := Ideal) (outsAt0 m c t.val t.isLt).2 (iblk m c 2 t) := by
  by_cases h : t.val % 2 = 0
  · rw [stepA m c t h]
  · rw [stepB m c t h]

/-- The kernel's result array is the reference's, of any argument arrays. -/
theorem final (c : Dev nD) :
    (dats m 0 c).arrAt 3 cfg0.N = Cert.InProjRefIdeal.Read.val_main_v13 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3, out_eq]
  obtain ⟨e0, e1, e2, e3, ht⟩ := idx t
  have i0 : (((cfg0.win 3).blk t).view.emb y 0).val = t.val / 2 * 512 + (y 0).val := by blk_simp [e3]
  have i1 : (((cfg0.win 3).blk t).view.emb y 1).val = t.val % 2 * 2048 + (y 1).val := by blk_simp [e3]
  refine (pay2_at _ _ y).trans (Eq.trans ?_ (Cert.InProjRefIdeal.Layers.product_at _ _ _ _).symm)
  refine Finset.sum_congr rfl fun k _ => congrArg₂ (fun a b : EReal => a * b) ?_ ?_
  · exact scratch m c t.val t.isLt _ _ i0
  · blk_ext [iblk, V, e2, i1]

end Cert.InProjIdeal.Layers

end
-- ==== Proof.Layers.OutProj.lean ====
/- The output projection: the kernel's result array is the reference's, element by element. -/
module

public import proofs.«01_k».proof.Proof.Gen.OutProjIdeal.Value
public import proofs.«01_k».proof.Proof.Gen.OutProjRefIdeal.Read
public import Idealize.ShloMosaic.Lib.Pipeline.ValueKit
public import proofs.«01_k».proof.Proof.Layers.Math

@[expose] public section

set_option maxRecDepth 16384

noncomputable section

open Idealize.ShloMosaic Idealize.ShloMosaic.TcCoe Idealize.SL.Sem
open Idealize.ShloMosaic.Pipeline (Dat)

namespace Cert.OutProjRefIdeal.Layers

open Cert.OutProjRefIdeal Cert.OutProjRefIdeal.Gen

/-- A joined column below 1024 is the first half's. -/
theorem joined_left (x0 x1 : FVec Ideal S16384x1024 .bf16) (i : S16384x2048.Idx) (k : Fin 1024) (h : (i 1).val = k.val) :
    Read.val_main_v2 (F := Ideal) x0 x1 i = x0 (ix2 (i 0) k) := by
  unfold Read.val_main_v2
  exact concatenate_pair_apply_left (s₁ := S16384x1024) 1 (Read.val_main_v0 (F := Ideal) x0) (Read.val_main_v1 (F := Ideal) x1) _ i rfl
    (show S16384x1024.Idx from ix2 (i 0) k) fun b => match b with
      | ⟨0, _⟩ => rfl
      | ⟨1, _⟩ => h.symm

/-- A joined column from 1024 on is the second half's. -/
theorem joined_right (x0 x1 : FVec Ideal S16384x1024 .bf16) (i : S16384x2048.Idx) (k : Fin 1024)
    (h : (i 1).val = 1024 + k.val) : Read.val_main_v2 (F := Ideal) x0 x1 i = x1 (ix2 (i 0) k) := by
  unfold Read.val_main_v2
  exact concatenate_pair_apply_right (s₂ := S16384x1024) 1 (Read.val_main_v0 (F := Ideal) x0) (Read.val_main_v1 (F := Ideal) x1) _ i rfl rfl
    (show S16384x1024.Idx from ix2 (i 0) k) (fun b hb => match b, hb with
      | ⟨0, _⟩, _ => rfl
      | ⟨1, _⟩, hb => absurd rfl hb) ((Nat.add_comm _ _).trans h.symm)

/-- The reference at an index: the residual plus the product of the two joined halves with the weight, the sum over the
    joined columns split where the halves meet. -/
theorem out_at (x0 x1 : FVec Ideal S16384x1024 .bf16) (x2 : FVec Ideal S2048x2048 .bf16) (x3 : FVec Ideal S16384x2048 .f32)
    (i : S16384x2048.Idx) :
    (show FVec Ideal S16384x2048 .f32 from Read.val_main_v5 (F := Ideal) x0 x1 x2 x3) i =
      x3 i + (∑ k : Fin 1024, x0 (ix2 (i 0) k) * x2 (ix2 ⟨k.val, by omega⟩ (i 1)) +
        ∑ k : Fin 1024, x1 (ix2 (i 0) k) * x2 (ix2 ⟨1024 + k.val, by omega⟩ (i 1))) := by
  refine (Read.val_main_v5_apply (F := Ideal) x0 x1 x2 x3 i).trans ?_
  refine congrArg (fun z : EReal => x3 i + z) ((Read.val_main_v4_apply x0 x1 x2 i).trans ?_)
  refine (Fin.sum_univ_add (a := 1024) (b := 1024) (M := EReal) _).trans ?_
  refine congrArg₂ (fun a b : EReal => a + b) (Finset.sum_congr rfl fun k _ => ?_) (Finset.sum_congr rfl fun k _ => ?_)
  · refine congrArg₂ (fun a b : EReal => a * b) (joined_left x0 x1 _ k rfl) (congrArg x2 ?_)
    funext a; match a with
      | ⟨0, _⟩ => rfl
      | ⟨1, _⟩ => rfl
  · refine congrArg₂ (fun a b : EReal => a * b) (joined_right x0 x1 _ k rfl) (congrArg x2 ?_)
    funext a; match a with
      | ⟨0, _⟩ => rfl
      | ⟨1, _⟩ => rfl

end Cert.OutProjRefIdeal.Layers

namespace Cert.OutProjIdeal.Layers

open Cert.OutProjIdeal Cert.OutProjIdeal.Gen

variable (m : (ℓ : Loc nD τ sig) → Buf (Elt Ideal) ℓ)

/-- The windows' block indices at every grid point. -/
theorem idx : ∀ t : Fin cfg0.N, win0_0.index t = ![t.val, 0] ∧ win0_1.index t = ![t.val, 0] ∧
    win0_2.index t = ![0, 0] ∧ win0_3.index t = ![t.val, 0] ∧ win0_4.index t = ![t.val, 0] ∧ t.val < 32 :=
  (by decide +kernel : ∀ t : Fin grid0.N, _)

/-- What a grid point writes: its block of the residual plus the two halves' products with the weight's halves. -/
theorem point (x0 x1 : FVec Ideal S512x1024 .bf16) (x2 : FVec Ideal S2048x2048 .bf16) (x3 : FVec Ideal S512x2048 .f32)
    (y : S512x2048.Idx) :
    (show FVec Ideal S512x2048 .f32 from out0_4 (F := Ideal) x0 x1 x2 x3) y =
      x3 y + (∑ k : Fin 1024, x0 (ix2 (y 0) k) * x2 (ix2 ⟨k.val, by omega⟩ (y 1)) +
        ∑ k : Fin 1024, x1 (ix2 (y 0) k) * x2 (ix2 ⟨1024 + k.val, by omega⟩ (y 1))) := by
  frame_out
  pointwise [k0_pay1]

/-- The kernel's result array is the reference's, of any argument arrays. -/
theorem final (c : Dev nD) :
    (dats m 0 c).arrAt 4 cfg0.N = Cert.OutProjRefIdeal.Read.val_main_v5 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨e0, e1, e2, e3, e4, ht⟩ := idx t
  have i0 : (((cfg0.win 4).blk t).view.emb y 0).val = t.val * 512 + (y 0).val := by blk_simp [e4]
  have i1 : (((cfg0.win 4).blk t).view.emb y 1).val = (y 1).val := by blk_simp [e4]
  refine (point _ _ _ _ y).trans (Eq.trans ?_ (Cert.OutProjRefIdeal.Layers.out_at _ _ _ _ _).symm)
  refine congrArg₂ (fun a b : EReal => a + b) ?_ (congrArg₂ (fun a b : EReal => a + b)
    (Finset.sum_congr rfl fun k _ => congrArg₂ (fun a b : EReal => a * b) ?_ ?_)
    (Finset.sum_congr rfl fun k _ => congrArg₂ (fun a b : EReal => a * b) ?_ ?_))
  all_goals blk_ext [iblk, V, e0, e1, e2, e3, i0, i1]

end Cert.OutProjIdeal.Layers

end
-- ==== Proof.Layers.Ple.lean ====
/- The per-layer input: the kernel's result array is the reference's, element by element. -/
module

public import proofs.«01_k».proof.Proof.Gen.PleIdeal.Value
public import proofs.«01_k».proof.Proof.Gen.PleRefIdeal.Read
public import Idealize.ShloMosaic.Lib.Pipeline.ValueKit
public import proofs.«01_k».proof.Proof.Layers.Math

@[expose] public section

set_option maxRecDepth 16384

noncomputable section

open Idealize.ShloMosaic Idealize.ShloMosaic.TcCoe Idealize.SL.Sem
open Idealize.ShloMosaic.Pipeline (Dat)

namespace Cert.PleRefIdeal.Layers

open Cert.PleRefIdeal Cert.PleRefIdeal.Gen Cert.Layers

/-- The reference's normed rows. -/
theorem normed_at (x0 : FVec Ideal S16384x2048 .f32) (x1 : FVec Ideal S1x2048 .f32) (i : S16384x2048.Idx) :
    (show FVec Ideal S16384x2048 .f32 from Read.val_main_v11 (F := Ideal) x0 x1) i =
      normed (fun k => x0 (ix2 (i 0) k)) (fun k => x1 (ix2 0 k)) (i 1) := by
  show Read.val_main_v11 (F := Ideal) x0 x1 i = _
  rw [Read.val_main_v11_apply, Read.val_main_v9_apply, Read.val_main_v8_apply, Read.val_main_v7_apply,
    Read.val_main_v6_apply, Read.val_main_v4_apply, Read.val_main_v2_apply, Read.val_main_v1_apply,
    Read.val_main_v3_apply, Read.val_main_v5_apply, Read.val_main_v10_apply]
  simp only [Read.val_main_v0_apply, Read.val_main_cst_apply, Read.val_main_cst_0_apply, Read.val_main_cst_1_apply]
  simp only [Ideal.ofBits_def, Ideal.mulf_def, Ideal.addf_def, Ideal.hostDivf_def, Ideal.hostUnary_rsqrt_def, ofBits_zero, zero_add, div_2048]
  refine normed_of (congrArg x0 ?_) (fun j => congrArg x0 ?_) (congrArg x1 ?_) <;>
  · funext a; match a with
      | ⟨0, _⟩ => rfl
      | ⟨1, _⟩ => rfl

/-- The reference's gate: the logistic of the normed row times the gate's column. -/
theorem gate_at (x0 : FVec Ideal S16384x2048 .f32) (x1 : FVec Ideal S1x2048 .f32) (x3 : FVec Ideal S2048x2048 .bf16)
    (i : S16384x2048.Idx) :
    (show FVec Ideal S16384x2048 .f32 from Read.val_main_v19 (F := Ideal) x0 x1 x3) i =
      Ideal.logistic (∑ k, normed (fun k => x0 (ix2 (i 0) k)) (fun k => x1 (ix2 0 k)) k * x3 (ix2 k (i 1))) := by
  show Read.val_main_v19 (F := Ideal) x0 x1 x3 i = _
  rw [Read.val_main_v19_apply, Read.val_main_v18_apply, Read.val_main_v17_apply, Read.val_main_v16_apply,
    Read.val_main_v15_apply, Read.val_main_v14_apply, Read.val_main_cst_2_apply, Read.val_main_cst_3_apply]
  simp only [Ideal.ofBits_def, Ideal.addf_def, Ideal.hostDivf_def, Ideal.hostUnary_exp_def, Ideal.hostNegf_def, Ideal.negf_def, logistic_of]
  refine congrArg Ideal.logistic ((Read.val_main_v13_apply x0 x1 x3 i).trans (Finset.sum_congr rfl fun k _ => ?_))
  refine congrArg₂ (fun a b : EReal => a * b) (normed_at x0 x1 _) (congrArg x3 ?_)
  funext a; match a with
    | ⟨0, _⟩ => rfl
    | ⟨1, _⟩ => rfl

/-- The reference at an index: the stream plus the gate times the projected input. -/
theorem ple_at (x0 : FVec Ideal S16384x2048 .f32) (x1 : FVec Ideal S1x2048 .f32) (x2 : FVec Ideal S16384x256 .f32)
    (x3 : FVec Ideal S2048x2048 .bf16) (x4 : FVec Ideal S256x2048 .bf16) (i : S16384x2048.Idx) :
    (show FVec Ideal S16384x2048 .f32 from Read.val_main_v23 (F := Ideal) x0 x1 x2 x3 x4) i =
      x0 i + Ideal.logistic (∑ k, normed (fun k => x0 (ix2 (i 0) k)) (fun k => x1 (ix2 0 k)) k * x3 (ix2 k (i 1))) *
        ∑ k : Fin 256, x2 (ix2 (i 0) k) * x4 (ix2 k (i 1)) := by
  refine (Read.val_main_v23_apply (F := Ideal) x0 x1 x2 x3 x4 i).trans ?_
  refine congrArg (fun z : EReal => x0 i + z) ((Read.val_main_v22_apply (F := Ideal) x0 x1 x2 x3 x4 i).trans ?_)
  refine congrArg₂ (fun a b : EReal => a * b) (gate_at x0 x1 x3 i)
    ((Read.val_main_v21_apply x2 x4 i).trans (Finset.sum_congr rfl fun k _ => ?_))
  refine congrArg₂ (fun a b : EReal => a * b) (congrArg x2 ?_) (congrArg x4 ?_) <;>
  · funext a; match a with
      | ⟨0, _⟩ => rfl
      | ⟨1, _⟩ => rfl

end Cert.PleRefIdeal.Layers

namespace Cert.PleIdeal.Layers

open Cert.PleIdeal Cert.PleIdeal.Gen Cert.Layers

variable (m : (ℓ : Loc nD τ sig) → Buf (Elt Ideal) ℓ)

/-- The kernel's normed block. -/
theorem pay1_at (x : FVec Ideal S512x2048 .f32) (g : FVec Ideal S1x2048 .f32) (y : S512x2048.Idx) :
    (show FVec Ideal S512x2048 .bf16 from k0_pay1 (F := Ideal) x g) y =
      normed (fun k => x (ix2 (y 0) k)) (fun k => g (ix2 0 k)) (y 1) := by
  pointwise [k0_pay1]
  refine normed_of (congrArg x ?_) (fun j => rfl) rfl
  funext a; match a with
    | ⟨0, _⟩ => rfl
    | ⟨1, _⟩ => rfl

/-- The kernel's result block. -/
theorem pay2_at (xn : FVec Ideal S512x2048 .bf16) (wg : FVec Ideal S2048x2048 .bf16) (p : FVec Ideal S512x256 .f32)
    (wp : FVec Ideal S256x2048 .bf16) (x : FVec Ideal S512x2048 .f32) (y : S512x2048.Idx) :
    (show FVec Ideal S512x2048 .f32 from k0_pay2 (F := Ideal) xn wg p wp x) y =
      x y + Ideal.logistic (∑ k, xn (ix2 (y 0) k) * wg (ix2 k (y 1))) * ∑ k, p (ix2 (y 0) k) * wp (ix2 k (y 1)) := by
  pointwise [k0_pay2]

/-- The windows' block indices at every grid point, and the column offset the residual is read at. -/
theorem idx : ∀ t : Fin cfg0.N, win0_0.index t = ![t.val, 0] ∧ win0_1.index t = ![0, 0] ∧
    win0_2.index t = ![t.val, 0] ∧ win0_3.index t = ![0, 0] ∧ win0_4.index t = ![0, 0] ∧
    win0_5.index t = ![t.val, 0] ∧ k0_off1 (grid0.coords t) = ![0, 0] ∧ t.val < 32 :=
  (by decide +kernel : ∀ t : Fin grid0.N, _)

/-- What a grid point writes. -/
theorem step (c : Dev nD) (t : Fin cfg0.N) :
    outsAt0 m c t = k0_pay2 (F := Ideal) (k0_pay1 (iblk m c 0 t) (iblk m c 1 t)) (iblk m c 3 t) (iblk m c 2 t)
      (iblk m c 4 t) (iblk m c 0 t) := by
  unfold outsAt0
  frame_out
  obtain ⟨-, -, -, -, -, -, e, -⟩ := idx t
  refine congrArg (k0_pay2 (F := Ideal) _ _ _ _) (View.ld_unit_zero (S := S512x2048) (funext fun a => ?_) _ _)
  rw [e]
  match a with
    | ⟨0, _⟩ => rfl
    | ⟨1, _⟩ => rfl

/-- The kernel's result array is the reference's, of any argument arrays. -/
theorem final (c : Dev nD) :
    (dats m 0 c).arrAt 5 cfg0.N = Cert.PleRefIdeal.Read.val_main_v23 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5, step]
  obtain ⟨e0, e1, e2, e3, e4, e5, -, ht⟩ := idx t
  have i0 : (((cfg0.win 5).blk t).view.emb y 0).val = t.val * 512 + (y 0).val := by blk_simp [e5]
  have i1 : (((cfg0.win 5).blk t).view.emb y 1).val = (y 1).val := by blk_simp [e5]
  refine (pay2_at _ _ _ _ _ y).trans (Eq.trans ?_ (Cert.PleRefIdeal.Layers.ple_at _ _ _ _ _ _).symm)
  refine congrArg₂ (fun a b : EReal => a + b) ?_ (congrArg₂ (fun a b : EReal => a * b)
    (congrArg Ideal.logistic (Finset.sum_congr rfl fun k _ => congrArg₂ (fun a b : EReal => a * b)
      ((pay1_at _ _ _).trans (congrArg₂ (fun a b => normed a b k) (funext fun j => ?_) (funext fun j => ?_))) ?_))
    (Finset.sum_congr rfl fun k _ => congrArg₂ (fun a b : EReal => a * b) ?_ ?_))
  all_goals blk_ext [iblk, V, e0, e1, e2, e3, e4, i0, i1]

end Cert.PleIdeal.Layers

end
-- ==== Proof.Layers.Claims.lean ====
/- The claims about the layer's dense calls. -/
module

public import proofs.«01_k».proof.Defs
public import proofs.«01_k».proof.Proof.Gen.Ffn.Frame
public import proofs.«01_k».proof.Proof.Gen.FfnRefIdeal.Run
public import proofs.«01_k».proof.Proof.Layers.Ffn
public import proofs.«01_k».proof.Proof.Gen.InProj.Frame
public import proofs.«01_k».proof.Proof.Gen.InProjRefIdeal.Run
public import proofs.«01_k».proof.Proof.Layers.InProj
public import proofs.«01_k».proof.Proof.Gen.OutProj.Frame
public import proofs.«01_k».proof.Proof.Gen.OutProjRefIdeal.Run
public import proofs.«01_k».proof.Proof.Layers.OutProj
public import proofs.«01_k».proof.Proof.Gen.Ple.Frame
public import proofs.«01_k».proof.Proof.Gen.PleRefIdeal.Run
public import proofs.«01_k».proof.Proof.Layers.Ple
public import Idealize.ShloMosaic.Lib.Quiescent

@[expose] public section

noncomputable section

open Idealize.ShloMosaic Idealize.ShloMosaic.TcCoe Idealize.SL.Sem

namespace Cert.Proof.Layers

/-- The dense feed-forward network's kernel runs and leaves its arguments. -/
theorem ffn_frame_p : Cert.quiescent_Ffn := fun m ρ _ => Cert.Ffn.Gen.frame m ρ

/-- The idealized kernel of the dense feed-forward network runs and leaves its arguments. -/
theorem ffn_frame_pi : Cert.quiescent_FfnIdeal := fun m ρ _ => Cert.FfnIdeal.Gen.frame m ρ

/-- The dense feed-forward network's reference runs and leaves its arguments. -/
theorem ffn_frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The dense feed-forward network's kernel is the reference, element by element, of any arguments. -/
theorem ffn_algebraic : Cert.algebraic_FfnIdeal_FfnRefIdeal := by
  intro m ρ m' ρ' hpre hagree
  refine ⟨_, Cert.FfnIdeal.Value.run (F := Ideal) m ρ, ?_⟩
  refine (θ_run Cert.FfnRefIdeal.defs _ _).mono (fun _ h c => ⟨(h c).1.trans ?_, (h c).2⟩)
    (Cert.FfnRefIdeal.Value.run (F := Ideal) m' ρ')
  refine (Cert.FfnRefIdeal.Read.val_main_v20_eq (F := Ideal) _ _ _ _ _).trans ?_
  rw [(hagree c).1, (hagree c).2.1, (hagree c).2.2.1, (hagree c).2.2.2.1, (hagree c).2.2.2.2]
  exact ((Cert.FfnIdeal.Value.final5 m c).symm.trans (Cert.FfnIdeal.Layers.final m c)).symm

/-- The input projection's kernel runs and leaves its arguments. -/
theorem inProj_frame_p : Cert.quiescent_InProj := fun m ρ _ => Cert.InProj.Gen.frame m ρ

/-- The idealized kernel of the input projection runs and leaves its arguments. -/
theorem inProj_frame_pi : Cert.quiescent_InProjIdeal := fun m ρ _ => Cert.InProjIdeal.Gen.frame m ρ

/-- The input projection's reference runs and leaves its arguments. -/
theorem inProj_frame_ri : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- The input projection's kernel is the reference, element by element, of any arguments. -/
theorem inProj_algebraic : Cert.algebraic_InProjIdeal_InProjRefIdeal := by
  intro m ρ m' ρ' hpre hagree
  refine ⟨_, Cert.InProjIdeal.Value.run (F := Ideal) m ρ, ?_⟩
  refine (θ_run Cert.InProjRefIdeal.defs _ _).mono (fun _ h c => ⟨(h c).1.trans ?_, (h c).2⟩)
    (Cert.InProjRefIdeal.Value.run (F := Ideal) m' ρ')
  refine (Cert.InProjRefIdeal.Read.val_main_v13_eq (F := Ideal) _ _ _).trans ?_
  rw [(hagree c).1, (hagree c).2.1, (hagree c).2.2]
  exact ((Cert.InProjIdeal.Value.final3 m c).symm.trans (Cert.InProjIdeal.Layers.final m c)).symm

/-- The output projection's kernel runs and leaves its arguments. -/
theorem outProj_frame_p : Cert.quiescent_OutProj := fun m ρ _ => Cert.OutProj.Gen.frame m ρ

/-- The idealized kernel of the output projection runs and leaves its arguments. -/
theorem outProj_frame_pi : Cert.quiescent_OutProjIdeal := fun m ρ _ => Cert.OutProjIdeal.Gen.frame m ρ

/-- The output projection's reference runs and leaves its arguments. -/
theorem outProj_frame_ri : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- The output projection's kernel is the reference, element by element, of any arguments. -/
theorem outProj_algebraic : Cert.algebraic_OutProjIdeal_OutProjRefIdeal := by
  intro m ρ m' ρ' hpre hagree
  refine ⟨_, Cert.OutProjIdeal.Value.run_blocks (F := Ideal) m ρ, ?_⟩
  refine (θ_run Cert.OutProjRefIdeal.defs _ _).mono (fun _ h c => ⟨(h c).1.trans ?_, (h c).2⟩)
    (Cert.OutProjRefIdeal.Value.run (F := Ideal) m' ρ')
  refine (Cert.OutProjRefIdeal.Read.val_main_v5_eq (F := Ideal) _ _ _ _).trans ?_
  rw [(hagree c).1, (hagree c).2.1, (hagree c).2.2.1, (hagree c).2.2.2]
  exact (Cert.OutProjIdeal.Layers.final m c).symm

/-- The per-layer input's kernel runs and leaves its arguments. -/
theorem ple_frame_p : Cert.quiescent_Ple := fun m ρ _ => Cert.Ple.Gen.frame m ρ

/-- The idealized kernel of the per-layer input runs and leaves its arguments. -/
theorem ple_frame_pi : Cert.quiescent_PleIdeal := fun m ρ _ => Cert.PleIdeal.Gen.frame m ρ

/-- The per-layer input's reference runs and leaves its arguments. -/
theorem ple_frame_ri : Cert.quiescent_PleRefIdeal := fun m ρ _ =>
  (θ_run Cert.PleRefIdeal.defs _ _).mono (fun r h => ⟨fun c => (h c).2,
      Idealize.ShloMosaic.sem_eq_zero_of_no_sems (by decide) r.2⟩)
    (Cert.PleRefIdeal.Value.run (F := Ideal) m ρ)

/-- The per-layer input's kernel is the reference, element by element, of any arguments. -/
theorem ple_algebraic : Cert.algebraic_PleIdeal_PleRefIdeal := by
  intro m ρ m' ρ' hpre hagree
  refine ⟨_, Cert.PleIdeal.Value.run_blocks (F := Ideal) m ρ, ?_⟩
  refine (θ_run Cert.PleRefIdeal.defs _ _).mono (fun _ h c => ⟨(h c).1.trans ?_, (h c).2⟩)
    (Cert.PleRefIdeal.Value.run (F := Ideal) m' ρ')
  refine (Cert.PleRefIdeal.Read.val_main_v23_eq (F := Ideal) _ _ _ _ _).trans ?_
  rw [(hagree c).1, (hagree c).2.1, (hagree c).2.2.1, (hagree c).2.2.2.1, (hagree c).2.2.2.2]
  exact (Cert.PleIdeal.Layers.final m c).symm

end Cert.Proof.Layers

end
-- ==== Proof.Moe.Run.lean ====
/- The expert feed-forward body at one grid point: from any staged blocks, any accumulator and any carried rows, on
   each of its four control paths. -/
module

public import proofs.«01_k».proof.Defs
public import proofs.«01_k».proof.Proof.Gen.MoeIdeal
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.MoeIdeal.Layers

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the carried scratch, whole. -/
abbrev tab0 : Memref sig .tc .smem S73 .i32 := Memref.whole main_arg0
abbrev tab1 : Memref sig .tc .smem S1 .i32 := Memref.whole main_arg1
abbrev rows : Memref sig .tc .vmem S512x2048 .bf16 := Memref.whole cc0_scratch0

/-- The word of the second table the body compares the row block with. -/
abbrev used (T1 : S1.Idx → Elt F .i32) : BitVec 32 :=
  View.readAt (Elt F) tab1.view (Rect.unit (s := S1) ![0] S1.size inb_S1_S1_0).toLoadRect T1
    (Shape.Idx.first (numel1_S1.symm ▸ Nat.one_pos))

/-- The accumulator and the normed rows a point starts from: at a first hidden block zeros and the block's normed
    rows, at a later one what the point before left. -/
def start (i : grid0.Coords) (x0 : Vec F S512x2048 .f32) (x1 : Vec F S1x2048 .f32)
    (s : Vec F S512x2048 .f32 × Vec F S512x2048 .bf16) : Vec F S512x2048 .f32 × Vec F S512x2048 .bf16 :=
  if k0_cond1 i = 1#1 then (k0_pay2, k0_pay1 x0 x1) else s

/-- What a point leaves: in a used row block the accumulator with the hidden block's product added, else what it
    started from. -/
def step (i : grid0.Coords) (T1 : S1.Idx → Elt F .i32) (x0 : Vec F S512x2048 .f32) (x1 : Vec F S1x2048 .f32)
    (x2 : Vec F S1x2048x512 .bf16) (x3 : Vec F S1x2048x512 .f32) (x4 : Vec F S1x512x2048 .f32)
    (s : Vec F S512x2048 .f32 × Vec F S512x2048 .bf16) : Vec F S512x2048 .f32 × Vec F S512x2048 .bf16 :=
  if k0_cond2 i (used T1) = 1#1 then
    (k0_pay3 (start i x0 x1 s).2 x2 x3 (start i x0 x1 s).1 x4, (start i x0 x1 s).2)
  else start i x0 x1 s

/-! A whole load of a view holding `x` reads `x`; a whole load or a read after a whole store reads what was stored. -/

theorem loaded2 {sp : Space} {e : EltTy} (v : View sig .tc sp S512x2048 e) (x : S512x2048.Idx → Elt F e)
    (inb : ∀ a, (![0, 0] : Fin 2 → ℕ) a + (![512, 2048] : Fin 2 → ℕ) a ≤ S512x2048.size a) :
    View.readAt (Elt F) v (Rect.unit (s := S512x2048) ![0, 0] ![512, 2048] inb).toLoadRect (v.rep x) = x :=
  View.readAt_rep_full v x inb

theorem loaded1 {sp : Space} {e : EltTy} (v : View sig .tc sp S1x2048 e) (x : S1x2048.Idx → Elt F e)
    (inb : ∀ a, (![0, 0] : Fin 2 → ℕ) a + (![1, 2048] : Fin 2 → ℕ) a ≤ S1x2048.size a) :
    View.readAt (Elt F) v (Rect.unit (s := S1x2048) ![0, 0] ![1, 2048] inb).toLoadRect (v.rep x) = x :=
  View.readAt_rep_full v x inb

theorem loaded3 {sp : Space} {e : EltTy} (v : View sig .tc sp S1x2048x512 e) (x : S1x2048x512.Idx → Elt F e)
    (inb : ∀ a, (![0, 0, 0] : Fin 3 → ℕ) a + (![1, 2048, 512] : Fin 3 → ℕ) a ≤ S1x2048x512.size a) :
    View.readAt (Elt F) v (Rect.unit (s := S1x2048x512) ![0, 0, 0] ![1, 2048, 512] inb).toLoadRect (v.rep x) = x :=
  View.readAt_rep_full v x inb

theorem loaded3' {sp : Space} {e : EltTy} (v : View sig .tc sp S1x512x2048 e) (x : S1x512x2048.Idx → Elt F e)
    (inb : ∀ a, (![0, 0, 0] : Fin 3 → ℕ) a + (![1, 512, 2048] : Fin 3 → ℕ) a ≤ S1x512x2048.size a) :
    View.readAt (Elt F) v (Rect.unit (s := S1x512x2048) ![0, 0, 0] ![1, 512, 2048] inb).toLoadRect (v.rep x) = x :=
  View.readAt_rep_full v x inb

theorem written {sp : Space} {e : EltTy} (v : View sig .tc sp S512x2048 e) (f : v.ty.Contents (Elt F))
    (inb : ∀ a, (![0, 0] : Fin 2 → ℕ) a + (![512, 2048] : Fin 2 → ℕ) a ≤ S512x2048.size a)
    (w : S512x2048.Idx → Elt F e) (L : List (View.Piece (Elt F) S512x2048 e)) :
    View.read (Elt F) v (v.writes (Elt F) f (⟨Rect.unit (s := S512x2048) ![0, 0] ![512, 2048] inb, w⟩ :: L)) = w :=
  View.read_writes_full v f inb w L

theorem covered {sp : Space} {e : EltTy} (v : View sig .tc sp S512x2048 e)
    (inb inb' : ∀ a, (![0, 0] : Fin 2 → ℕ) a + (![512, 2048] : Fin 2 → ℕ) a ≤ S512x2048.size a)
    (w : S512x2048.Idx → Elt F e) (L : List (View.Piece (Elt F) S512x2048 e)) :
    v.readCov (⟨Rect.unit (s := S512x2048) ![0, 0] ![512, 2048] inb', w⟩ :: L)
      (Rect.unit (s := S512x2048) ![0, 0] ![512, 2048] inb).toLoadRect = w :=
  View.readCov_full v inb inb' w L

set_option maxHeartbeats 800000 in
/-- The body at a point: from the staged blocks, the tables, any accumulator and any carried rows it leaves the
    blocks and the tables, and the accumulator and the rows `step` says. -/
theorem run (c : Dev nD) (i : grid0.Coords) (arg4 : Memref sig .tc .vmem S512x2048 .f32) (harg4 : arg4.IsWhole)
    (arg5 : Memref sig .tc .vmem S1x2048 .f32) (harg5 : arg5.IsWhole)
    (arg6 : Memref sig .tc .vmem S1x2048x512 .bf16) (harg6 : arg6.IsWhole)
    (arg7 : Memref sig .tc .vmem S1x2048x512 .f32) (harg7 : arg7.IsWhole)
    (arg8 : Memref sig .tc .vmem S1x512x2048 .f32) (harg8 : arg8.IsWhole)
    (arg9 : Memref sig .tc .vmem S512x2048 .f32) (harg9 : arg9.IsWhole)
    (T0 : S73.Idx → Elt F .i32) (T1 : S1.Idx → Elt F .i32) (x0 : Vec F S512x2048 .f32) (x1 : Vec F S1x2048 .f32)
    (x2 : Vec F S1x2048x512 .bf16) (x3 : Vec F S1x2048x512 .f32) (x4 : Vec F S1x512x2048 .f32)
    (s : Vec F S512x2048 .f32 × Vec F S512x2048 .bf16) (K : PUnit → sProp 𝕄) :
    iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (tab0.view.loc (c : Thread nD τ) ↦{fullShare.right} T0)
        ∗ (tab1.view.loc (c : Thread nD τ) ↦{fullShare.right} T1)
        ∗ (arg9.view.loc (c : Thread nD τ) ↦[arg9.view.set]{fullShare} arg9.view.rep s.1)
        ∗ (rows.view.loc (c : Thread nD τ) ↦[rows.view.set]{fullShare} rows.view.rep s.2)
        ∗ (iprop((arg4.view.loc (c : Thread nD τ) ↦[arg4.view.set]{fullShare} arg4.view.rep x0)
            ∗ (arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3)
            ∗ (arg8.view.loc (c : Thread nD τ) ↦[arg8.view.set]{fullShare} arg8.view.rep x4)
            ∗ (tab0.view.loc (c : Thread nD τ) ↦{fullShare.right} T0)
            ∗ (tab1.view.loc (c : Thread nD τ) ↦{fullShare.right} T1)
            ∗ owns (c : Thread nD τ) arg9 fullShare (step i T1 x0 x1 x2 x3 x4 s).1
            ∗ owns (c : Thread nD τ) rows fullShare (step i T1 x0 x1 x2 x3 x4 s).2) -∗ K ⟨⟩))
      ⊢ wp frame (wpE (defs₀ (F := F)) Variants.none c none) Set.univ (cc0_expert_ffn i tab0 (Memref.isWhole_whole _)
          tab1 (Memref.isWhole_whole _) arg4 harg4 arg5 harg5 arg6 harg6 arg7 harg7 arg8 harg8 arg9 harg9 rows
          (Memref.isWhole_whole _)) K := by
  rw [cc0_expert_ffn_eq_skeleton]; unfold cc0_expert_ffn_skel
  have hS0 : rows.IsWhole := Memref.isWhole_whole _
  have hT0 : tab0.IsWhole := Memref.isWhole_whole _
  have hT1 : tab1.IsWhole := Memref.isWhole_whole _
  by_cases h1 : k0_cond1 i = 1#1 <;> by_cases h2 : k0_cond2 i (used T1) = 1#1
  all_goals
    iintro ⟨H0, H1, H2, H3, H4, HT0, HT1, HO5, HS0, Hk⟩
    sl_exec! (disch := first
      | (guard_target = k0_cond1 _ = _; exact h1) | (guard_target = k0_cond2 _ _ = _; exact h2)
      | (guard_target = ¬k0_cond1 _ = _; exact h1) | (guard_target = ¬k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    unfold step start owns
    simp only [h1, h2, ↓reduceIte]
    isplitl [HO5]
    · iexists _; isplitr; swap
      · iexact HO5
      · ipureintro
        frame_open
        simp only [View.read_rep, written, loaded2, loaded1, loaded3, loaded3', covered]
    · iexists _; isplitr; swap
      · iexact HS0
      · ipureintro
        frame_open
        simp only [View.read_rep, written, loaded2, loaded1, loaded3, loaded3', covered]

end Cert.MoeIdeal.Layers

end
-- ==== Proof.Moe.Cfg.lean ====
/- The expert feed-forward call's pipeline at any tables whose expert indices are in range: its blocks, what its control
   decides at a point, and when the output is written back. -/
module

public import proofs.«01_k».proof.Proof.Moe.Run

@[expose] public section

set_option maxRecDepth 16384
set_option Elab.async false

noncomputable section

namespace Cert.MoeIdeal.Layers

open Cert.MoeIdeal Cert.MoeIdeal.Gen
open Idealize.ShloMosaic
open Idealize.ShloMosaic.TcCoe Idealize.ShloMosaic.Tactic
open Idealize.ShloMosaic.Pipeline (Dat Cfg Window)

variable {F : FTy → Type} [FloatOps F]

/-- The two tables' contents, every expert index below 8. -/
structure Tables (F : FTy → Type) where
  t0 : S73.Idx → Elt F .i32
  t1 : S1.Idx → Elt F .i32
  lt : ∀ x, (show BitVec 32 from t0 x).toNat < 8

set_option backward.proofsInPublic true in
/-- The tables as the pipeline reads them. -/
def Tables.pf (T : Tables F) : pre0.Contents (Elt F) :=
  fun | ⟨0, _⟩ => T.t0 | ⟨1, _⟩ => T.t1 | ⟨_ + 2, h⟩ => absurd h (by simp)

variable (T : Tables F)

/-- A hidden-block index: the point's own in a used row block, the last otherwise. -/
theorem sel_lt (b : BitVec 1) (x : Fin 11) : (Scalar.select b (BitVec.ofNat 32 x.val) 10#32).toNat < 11 := by
  unfold Scalar.select; revert b x; decide +kernel

theorem inb2 (i : grid0.Coords) (a : Fin 3) :
    (cc0_transform_2 inb_S1_S1_0 numel1_S1 k0_off1_inb T.pf i a + 1) * S1x2048x512.size a ≤ S8x2048x5632.size a := by
  have h := T.lt ((Rect.unit (s := S73) (k0_off1 i) S1.size (k0_off1_inb i)).emb (Shape.Idx.first (numel1_S1.symm ▸ Nat.one_pos)))
  have h' := sel_lt (Scalar.cmpi .slt (BitVec.ofNat 32 (i 0).val)
    (T.pf.at 1 (Rect.unit (s := S1) ![0] S1.size inb_S1_S1_0) numel1_S1)) (i 1)
  fin_cases a
  · show (_ + 1) * 1 ≤ 8; exact (Nat.mul_one _).trans_le h
  · show (0 + 1) * 2048 ≤ 2048; omega
  · show (_ + 1) * 512 ≤ 5632
    exact (Nat.mul_le_mul_right 512 h').trans (by decide)

theorem inb3 (i : grid0.Coords) (a : Fin 3) :
    (cc0_transform_3 inb_S1_S1_0 numel1_S1 k0_off1_inb T.pf i a + 1) * S1x2048x512.size a ≤ S8x2048x5632.size a :=
  inb2 T i a

theorem inb4 (i : grid0.Coords) (a : Fin 3) :
    (cc0_transform_4 inb_S1_S1_0 numel1_S1 k0_off1_inb T.pf i a + 1) * S1x512x2048.size a ≤ S8x5632x2048.size a := by
  have h := T.lt ((Rect.unit (s := S73) (k0_off1 i) S1.size (k0_off1_inb i)).emb (Shape.Idx.first (numel1_S1.symm ▸ Nat.one_pos)))
  have h' := sel_lt (Scalar.cmpi .slt (BitVec.ofNat 32 (i 0).val)
    (T.pf.at 1 (Rect.unit (s := S1) ![0] S1.size inb_S1_S1_0) numel1_S1)) (i 1)
  fin_cases a
  · show (_ + 1) * 1 ≤ 8; exact (Nat.mul_one _).trans_le h
  · show (_ + 1) * 512 ≤ 5632
    exact (Nat.mul_le_mul_right 512 h').trans (by decide)
  · show (0 + 1) * 2048 ≤ 2048; omega

/-- Every block is inside its array and a whole number of words. -/
theorem ok : ok0 (F := F) T.pf :=
  ⟨fun i => ⟨inb2 T i, .inr (Affine.block_words_dvd (s := S8x2048x5632) (p := EltTy.packing .bf16) (by decide) (by decide))⟩,
    fun i => ⟨inb3 T i, .inl rfl⟩, fun i => ⟨inb4 T i, .inl rfl⟩⟩

/-- The pipeline at the tables. -/
def adm : (pcfg0 (F := F)).Adm := ⟨T.pf, ok T⟩
abbrev cfgA : Pipeline.Cfg sig Λ₀ := cfg0 (F := F) (adm T)
abbrev pcs : Fin 1 → Pipeline.Cfg sig Λ₀ := Pipeline.pin (pcfgs (F := F)) fun _ => adm T

/-- Point `t`'s coordinates. -/
abbrev crd (t : Fin (cfgA T).N) : grid0.Coords := (cfgA T).grid.coords t

/-! ## What a point's coordinates and control are -/

theorem coord : ∀ t : Fin grid0.N, (grid0.coords t 0).val = t.val / 11 ∧ (grid0.coords t 1).val = t.val % 11 := by
  decide +kernel

theorem first_iff : ∀ t : Fin grid0.N, k0_cond1 (grid0.coords t) = 1#1 ↔ t.val % 11 = 0 := by decide +kernel

theorem moves5 : ∀ t : Fin grid0.N, ∀ h : t.val + 1 < grid0.N,
    (∃ a : Fin 2, cc0_transform_5 (grid0.coords ⟨t.val + 1, h⟩) a ≠ cc0_transform_5 (grid0.coords t) a) ↔ t.val % 11 = 10 := by
  decide +kernel

/-- The output block is written back after a row block's last point. -/
theorem flush5 (t : Fin (cfgA T).N) : ((cfgA T).win (5 : Fin 6)).flush t = decide (t.val % 11 = 10) := by
  rw [Window.flush_eq_flushF]; unfold Window.flushF
  have hN : grid0.N = 803 := N_0
  have ht : t.val < 803 := hN ▸ t.isLt
  rw [show ((cfgA T).win (5 : Fin 6)).isOut = true from rfl, Bool.true_and]
  rw [Bool.eq_iff_iff]
  simp only [Bool.or_eq_true, decide_eq_true_eq]
  constructor
  · rintro (h | ⟨h, h'⟩)
    · have h : t.val + 1 = 803 := h.trans hN
      omega
    · exact (moves5 t h).1 h'
  · intro h
    by_cases h' : t.val + 1 = 803
    · exact .inl (h'.trans hN.symm)
    · have h'' : t.val + 1 < grid0.N := by rw [hN]; omega
      exact .inr ⟨h'', (moves5 t h'').2 h⟩

/-- The body leaves the output alone exactly at a later hidden block of an unused row block. -/
theorem idle5 (t : Fin (cfgA T).N) : (cfgA T).idle (5 : Fin 6) ((cfgA T).grid.coords t)
    = (!(k0_cond1 (crd T t) == 1#1) && !(k0_cond2 (crd T t) (used T.t1) == 1#1)) := rfl

/-- Before a row block's first point, and only there, the output's buffer holds nothing stored. -/
theorem fresh5 (t : Fin (cfgA T).N) : (cfgA T).fresh (5 : Fin 6) t.val = decide (t.val % 11 = 0) := by
  refine Pipeline.Cfg.fresh_tab (cfgA T) (5 : Fin 6) (fun n => decide (n % 11 = 0)) rfl (fun t => ?_) t.val
    (Nat.le_of_lt t.isLt)
  rw [flush5, idle5]
  have h := first_iff t
  by_cases h0 : t.val % 11 = 0
  · have e : (k0_cond1 (crd T t) == 1#1) = true := by simpa using h.2 h0
    rw [e]; simp only [Bool.not_true, Bool.false_and, Bool.or_false]
    exact decide_eq_decide.2 (by omega)
  · rw [show decide (t.val % 11 = 0) = false from decide_eq_false h0, Bool.and_false, Bool.or_false]
    exact decide_eq_decide.2 (by omega)

end Cert.MoeIdeal.Layers

end
-- ==== Proof.Moe.Frame.lean ====
/- The expert feed-forward call's frame, and what each array holds at the end, from any launch memory whose tables name
   experts below 8. -/
module

public import proofs.«01_k».proof.Proof.Moe.Cfg

@[expose] public section

set_option maxRecDepth 16384
set_option Elab.async false

noncomputable section

namespace Cert.MoeIdeal.Layers

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, embedded whole. -/
abbrev EP : Emb (UR sig nD τ) 𝕄 := emb₁

variable (T : Tables F) (m : (ℓ : Loc nD τ sig) → Buf (Elt F) ℓ) (ρ : Dev nD → PrngReg)

/-- The staging buffer of each window at point `t`, and that it is a whole buffer. -/
abbrev ms0 (t : Fin (cfgA T).N) : Memref sig .tc .vmem S512x2048 .f32 := spec0_0.stage ((cfgA T).slots t (0 : Fin 6))
abbrev hs0 (t : Fin (cfgA T).N) : (ms0 T t).IsWhole := hstage0_0 (((cfgA T).slots t (0 : Fin 6)).cast nbuf0_0)
abbrev ms1 (t : Fin (cfgA T).N) : Memref sig .tc .vmem S1x2048 .f32 := spec0_1.stage ((cfgA T).slots t (1 : Fin 6))
abbrev hs1 (t : Fin (cfgA T).N) : (ms1 T t).IsWhole := hstage0_1 (((cfgA T).slots t (1 : Fin 6)).cast nbuf0_1)
abbrev ms2 (t : Fin (cfgA T).N) : Memref sig .tc .vmem S1x2048x512 .bf16 := spec0_2.stage ((cfgA T).slots t (2 : Fin 6))
abbrev hs2 (t : Fin (cfgA T).N) : (ms2 T t).IsWhole := hstage0_2 (((cfgA T).slots t (2 : Fin 6)).cast nbuf0_2)
abbrev ms3 (t : Fin (cfgA T).N) : Memref sig .tc .vmem S1x2048x512 .f32 := spec0_3.stage ((cfgA T).slots t (3 : Fin 6))
abbrev hs3 (t : Fin (cfgA T).N) : (ms3 T t).IsWhole := hstage0_3 (((cfgA T).slots t (3 : Fin 6)).cast nbuf0_3)
abbrev ms4 (t : Fin (cfgA T).N) : Memref sig .tc .vmem S1x512x2048 .f32 := spec0_4.stage ((cfgA T).slots t (4 : Fin 6))
abbrev hs4 (t : Fin (cfgA T).N) : (ms4 T t).IsWhole := hstage0_4 (((cfgA T).slots t (4 : Fin 6)).cast nbuf0_4)
abbrev ms5 (t : Fin (cfgA T).N) : Memref sig .tc .vmem S512x2048 .f32 := spec0_5.stage ((cfgA T).slots t (5 : Fin 6))
abbrev hs5 (t : Fin (cfgA T).N) : (ms5 T t).IsWhole := hstage0_5 (((cfgA T).slots t (5 : Fin 6)).cast nbuf0_5)

/-- Window `w`'s block at point `t`, read off its array at launch. -/
def iblk (c : Dev nD) (w : Fin (cfgA T).W) (t : Fin (cfgA T).N) :
    (((cfgA T).win w).xblock (crd T t)).Idx → Elt F ((cfgA T).win w).elt :=
  (((cfgA T).win w).blk t).view.read (Elt F) ((s₀ m ρ).mem (((cfgA T).win w).arr.view.loc (c : Thread nD τ)))

/-- The accumulator and the normed rows after point `t` from those before it. -/
def next (c : Dev nD) (t : Fin (cfgA T).N) (s : Vec F S512x2048 .f32 × Vec F S512x2048 .bf16) :
    Vec F S512x2048 .f32 × Vec F S512x2048 .bf16 :=
  step (crd T t) T.t1 (iblk T m ρ c (0 : Fin 6) t) (iblk T m ρ c (1 : Fin 6) t) (iblk T m ρ c (2 : Fin 6) t)
    (iblk T m ρ c (3 : Fin 6) t) (iblk T m ρ c (4 : Fin 6) t) s

/-- The accumulator and the normed rows before point `n`; before the first anything. -/
def held (c : Dev nD) : ℕ → Vec F S512x2048 .f32 × Vec F S512x2048 .bf16
  | 0 => (k0_pay2, View.read (Elt F) rows.view (View.junk rows.view))
  | n + 1 => if h : n < (cfgA T).N then next T m ρ c ⟨n, h⟩ (held c n) else held c n

theorem held_succ (c : Dev nD) (t : Fin (cfgA T).N) :
    held T m ρ c (t.val + 1) = next T m ρ c t (held T m ρ c t.val) := by
  rw [held, dif_pos t.isLt]

/-- A row block's first point does not depend on what came before it. -/
theorem next_first (c : Dev nD) (t : Fin (cfgA T).N) (h : k0_cond1 (crd T t) = 1#1)
    (s s' : Vec F S512x2048 .f32 × Vec F S512x2048 .bf16) : next T m ρ c t s = next T m ρ c t s' := by
  unfold next step start; simp only [h, ↓reduceIte]

/-- A point that leaves the output alone leaves everything alone. -/
theorem next_idle (c : Dev nD) (t : Fin (cfgA T).N) (h1 : ¬k0_cond1 (crd T t) = 1#1)
    (h2 : ¬k0_cond2 (crd T t) (used T.t1) = 1#1) (s : Vec F S512x2048 .f32 × Vec F S512x2048 .bf16) :
    next T m ρ c t s = s := by
  unfold next step start; simp only [h1, h2, ↓reduceIte]

/-- The invariant before point `n`: the carried rows as `held` says from the second point on, and the tables. -/
def Phi (c : Dev nD) (n : ℕ) : sProp 𝕄 :=
  iprop((∃ a, ⌜n ≠ 0 → a = (held T m ρ c n).2⌝ ∗ owns (c : Thread nD τ) rows fullShare a)
    ∗ (tab0.view.loc (c : Thread nD τ) ↦{fullShare.right} T.t0) ∗ (tab1.view.loc (c : Thread nD τ) ↦{fullShare.right} T.t1))

/-- The proof data of the one pipeline. -/
def dats (_ : Fin 1) (c : Dev nD) : Dat τ (Elt F) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => (held T m ρ c (t.val + 1)).1
  Φ t := Phi T m ρ c t.val
  q _ := fullShare
  owed _ := 0

theorem after0 (c : Dev nD) (t : Fin (cfgA T).N) : (dats T m ρ 0 c).after (0 : Fin 6) t = iblk T m ρ c (0 : Fin 6) t := rfl
theorem after1 (c : Dev nD) (t : Fin (cfgA T).N) : (dats T m ρ 0 c).after (1 : Fin 6) t = iblk T m ρ c (1 : Fin 6) t := rfl
theorem after2 (c : Dev nD) (t : Fin (cfgA T).N) : (dats T m ρ 0 c).after (2 : Fin 6) t = iblk T m ρ c (2 : Fin 6) t := rfl
theorem after3 (c : Dev nD) (t : Fin (cfgA T).N) : (dats T m ρ 0 c).after (3 : Fin 6) t = iblk T m ρ c (3 : Fin 6) t := rfl
theorem after4 (c : Dev nD) (t : Fin (cfgA T).N) : (dats T m ρ 0 c).after (4 : Fin 6) t = iblk T m ρ c (4 : Fin 6) t := rfl
theorem after5 (c : Dev nD) (t : Fin (cfgA T).N) : (dats T m ρ 0 c).after (5 : Fin 6) t = (held T m ρ c (t.val + 1)).1 := rfl

/-! An input window's buffer holds its block when the body runs. -/

theorem before0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl)
    (fun t => by rw [after0]; unfold Dat.blockOf iblk; rfl) t d).trans (by unfold Dat.fetched Dat.blockOf iblk; rfl)

theorem before1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl)
    (fun t => by rw [after1]; unfold Dat.blockOf iblk; rfl) t d).trans (by unfold Dat.fetched Dat.blockOf iblk; rfl)

theorem before2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl)
    (fun t => by rw [after2]; unfold Dat.blockOf iblk; rfl) t d).trans (by unfold Dat.fetched Dat.blockOf iblk; rfl)

theorem before3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl)
    (fun t => by rw [after3]; unfold Dat.blockOf iblk; rfl) t d).trans (by unfold Dat.fetched Dat.blockOf iblk; rfl)

theorem before4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl)
    (fun t => by rw [after4]; unfold Dat.blockOf iblk; rfl) t d).trans (by unfold Dat.fetched Dat.blockOf iblk; rfl)

/-- At a point idle for the output neither condition holds. -/
theorem idle_conds (t : Fin (cfgA T).N) (hi : (cfgA T).idle (5 : Fin 6) ((cfgA T).grid.coords t) = true) :
    ¬k0_cond1 (crd T t) = 1#1 ∧ ¬k0_cond2 (crd T t) (used T.t1) = 1#1 := by
  rw [idle5] at hi; simpa using hi

/-- What the output's buffer holds before a point that is not a row block's first is what the point before left. -/
theorem before5 (c : Dev nD) (t : Fin (cfgA T).N) (d) :
    (dats T m ρ 0 c).before (5 : Fin 6) t d = if (cfgA T).fresh (5 : Fin 6) t.val then d else (held T m ρ c t.val).1 := by
  rw [(dats T m ρ 0 c).before_out_traj (5 : Fin 6) rfl (fun _ _ => rfl) ?_ t.val t rfl d]
  · by_cases hf : (cfgA T).fresh (5 : Fin 6) t.val = true
    · simp only [hf, ↓reduceIte]
    · have h0 : t.val ≠ 0 := fun h0 => hf (by rw [h0]; exact Pipeline.Cfg.fresh_zero _ _)
      rw [Bool.not_eq_true] at hf
      simp only [hf, Bool.false_eq_true, ↓reduceIte, after5]
      rw [Nat.sub_add_cancel (Nat.pos_of_ne_zero h0)]
  · intro t ht hi hf
    obtain ⟨h1, h2⟩ := idle_conds T t hi
    rw [after5, after5, held_succ, next_idle T m ρ c t h1 h2]
    show _ = (held T m ρ c (t.val - 1 + 1)).1
    rw [Nat.sub_add_cancel (Nat.pos_of_ne_zero ht)]

/-- The body at point `t` on its staging buffers. -/
abbrev bodyAt (t : Fin (cfgA T).N) : Prog (TpuEff nD τ sig (Elt F) Λ₀ .tc) PUnit :=
  cc0_expert_ffn (crd T t) (Memref.whole main_arg0) (Memref.isWhole_whole _) (Memref.whole main_arg1)
    (Memref.isWhole_whole _) (ms0 T t) (hs0 T t) (ms1 T t) (hs1 T t) (ms2 T t) (hs2 T t) (ms3 T t) (hs3 T t) (ms4 T t)
    (hs4 T t) (ms5 T t) (hs5 T t) (Memref.whole cc0_scratch0) (Memref.isWhole_whole _)

/-- What the body leaves from whatever the output's buffer and the rows held: what `held` says, a row block's first point
    ignoring what came before. -/
theorem left (c : Dev nD) (t : Fin (cfgA T).N) (d : Vec F S512x2048 .f32) (a : Vec F S512x2048 .bf16)
    (ha : t.val ≠ 0 → a = (held T m ρ c t.val).2) :
    next T m ρ c t ((dats T m ρ 0 c).before (5 : Fin 6) t d, a) = held T m ρ c (t.val + 1) := by
  rw [held_succ]
  by_cases h : t.val % 11 = 0
  · exact next_first T m ρ c t ((first_iff t).2 h) _ _
  · have h0 : t.val ≠ 0 := fun e => h (by rw [e])
    rw [before5, fresh5, decide_eq_false h, ha h0]; rfl

set_option maxHeartbeats 2000000 in
/-- The body at every point: from the invariant and the staging buffers as they stand it leaves the next invariant and
    the buffers as `dats` says. -/
theorem sound_body (c : Dev nD) (t : Fin (cfgA T).N) :
    iprop((dats T m ρ 0 c).Φ t.castSucc ∗ (dats T m ρ 0 c).owesAt () t.castSucc
        ∗ (∃ d, owns (c : Thread nD τ) (ms0 T t) fullShare ((dats T m ρ 0 c).before (0 : Fin 6) t d))
        ∗ (∃ d, owns (c : Thread nD τ) (ms1 T t) fullShare ((dats T m ρ 0 c).before (1 : Fin 6) t d))
        ∗ (∃ d, owns (c : Thread nD τ) (ms2 T t) fullShare ((dats T m ρ 0 c).before (2 : Fin 6) t d))
        ∗ (∃ d, owns (c : Thread nD τ) (ms3 T t) fullShare ((dats T m ρ 0 c).before (3 : Fin 6) t d))
        ∗ (∃ d, owns (c : Thread nD τ) (ms4 T t) fullShare ((dats T m ρ 0 c).before (4 : Fin 6) t d))
        ∗ (∃ d, owns (c : Thread nD τ) (ms5 T t) fullShare ((dats T m ρ 0 c).before (5 : Fin 6) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  -- the output's buffer at `after` is what each of its three cases asks for
  have out : owns (c : Thread nD τ) (ms5 T t) fullShare ((dats T m ρ 0 c).after (5 : Fin 6) t) ⊢
      (match (cfgA T).idle (5 : Fin 6) ((cfgA T).grid.coords t) with
        | true =>
          match ((cfgA T).win (5 : Fin 6)).flush t with
          | false => iprop(∃ d, owns (c : Thread nD τ) (((cfgA T).win (5 : Fin 6)).stage ((cfgA T).slots t (5 : Fin 6))) fullShare ((dats T m ρ 0 c).before (5 : Fin 6) t d))
          | true => owns (c : Thread nD τ) (((cfgA T).win (5 : Fin 6)).stage ((cfgA T).slots t (5 : Fin 6))) fullShare ((dats T m ρ 0 c).after (5 : Fin 6) t)
        | false => owns (c : Thread nD τ) (((cfgA T).win (5 : Fin 6)).stage ((cfgA T).slots t (5 : Fin 6))) fullShare ((dats T m ρ 0 c).after (5 : Fin 6) t) : sProp 𝕄) := by
    cases hi : (cfgA T).idle (5 : Fin 6) ((cfgA T).grid.coords t)
    · exact .rfl
    · cases ((cfgA T).win (5 : Fin 6)).flush t
      · obtain ⟨h1, h2⟩ := idle_conds T t hi
        have h0 : ¬t.val % 11 = 0 := fun h => h1 ((first_iff t).2 h)
        iintro H; iexists k0_pay2
        rw [before5, fresh5, decide_eq_false h0, after5, held_succ, next_idle T m ρ c t h1 h2]
        iexact H
      · exact .rfl
  simp only [before0, before1, before2, before3, before4, after0, after1, after2, after3, after4]
  rewrite [show (dats T m ρ 0 c).Φ t.succ = Phi T m ρ c (t.val + 1) from rfl,
    show (dats T m ρ 0 c).Φ t.castSucc = Phi T m ρ c t.val from rfl,
    show (dats T m ρ 0 c).owesAt () t.succ = (dats T m ρ 0 c).owesAt () t.castSucc from rfl]
  unfold Phi
  iintro ⟨⟨⟨%a, %ha, HS⟩, HT0, HT1⟩, Ho, ⟨%d0, H0⟩, ⟨%d1, H1⟩, ⟨%d2, H2⟩, ⟨%d3, H3⟩, ⟨%d4, H4⟩, ⟨%d5, H5⟩⟩
  iapply run c (crd T t) (ms0 T t) (hs0 T t) (ms1 T t) (hs1 T t) (ms2 T t) (hs2 T t) (ms3 T t) (hs3 T t) (ms4 T t)
    (hs4 T t) (ms5 T t) (hs5 T t) T.t0 T.t1 (iblk T m ρ c (0 : Fin 6) t) (iblk T m ρ c (1 : Fin 6) t)
    (iblk T m ρ c (2 : Fin 6) t) (iblk T m ρ c (3 : Fin 6) t) (iblk T m ρ c (4 : Fin 6) t)
    ((dats T m ρ 0 c).before (5 : Fin 6) t d5, a) _
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iapply rep_of_owns; iexact H5
  isplitl [HS]; · iapply rep_of_owns; iexact HS
  have hl := left T m ρ c t d5 a ha
  unfold next at hl
  rewrite [hl]
  iintro ⟨H0, H1, H2, H3, H4, HT0, HT1, H5, HS⟩
  isplitl [HS HT0 HT1]
  · isplitl [HS]
    · iexists _; isplitr; swap
      · iexact HS
      · ipureintro; exact fun _ => rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iapply out
  rewrite [after5]
  iexact H5

/-- The library's body obligation, at every point. -/
theorem body_obligation (c : Dev nD) : BodyObligation (dats T m ρ 0 c) (defs₀ (F := F)) Variants.none () Set.univ := fun t => by
  rw [bigSep_W0]
  exact sound_body T m ρ c t

/-! ## The launch -/

/-- The rounds library's launch element. -/
def u₀ : UR sig nD τ :=
  initOf (Pipeline.cells (pcs T) ((launch0 (F := F)).cellOf_inj fun _ => adm T))
    (Pipeline.launchToks (pcs T) ((launch0 (F := F)).cellOf_inj fun _ => adm T))

theorem share_eq (c : Dev nD) (w : Fin (cfgA T).W) : (dats T m ρ 0 c).share w = fullShare := by
  unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point from the tables and the scratch; -/
theorem phi_intro (c : Dev nD) :
    iprop(BI.emp ∗ Pipeline.prefHeld pre0 c (fun _ => fullShare.right) (adm T).1 ∗ Pipeline.scopedRest spec0 c)
      ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · rw [owns_whole]; iexact HS0
    · ipureintro; intro h; exact absurd rfl h
  isplitl [HT0]
  · iexact HT0
  iexact HT1

/-- after the last point it gives the scratch back. -/
theorem phi_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (cfgA T).N from rfl]
  unfold Phi
  simp only [owns_whole]
  iintro ⟨⟨%a0, -, HS0⟩, -, -⟩
  isplitr; · iempintro
  iexists a0; iexact HS0

/-- The final memory: every array at what the pipeline computes, every table as it was. -/
def QC : PUnit × MemSt nD τ sig (Elt F) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds the tables `T`. -/
def Holds : Prop := ∀ c : Dev nD, m ((c : Thread nD τ).loc main_arg0) = T.t0 ∧ m ((c : Thread nD τ).loc main_arg1) = T.t1

theorem holds_pre (hp : Holds T m) (c : Dev nD) (j : Fin 2) : m ((c : Thread nD τ).loc (pre0.ref j)) = (adm T).1 j := by
  fin_cases j
  · exact (hp c).1
  · exact (hp c).2

set_option backward.isDefEq.respectTransparency.types false in
set_option maxHeartbeats 2000000 in
/-- From any launch memory holding the tables every weakly fair execution terminates with every array at what the
    pipeline computes and every semaphore counter at zero. -/
theorem run_main (hp : Holds T m) :
    θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := holds_pre T m hp)
    (X := fun _ => iprop(emp)) (Y := fun _ => iprop(emp)) (Z := fun _ => iprop(emp))
    (hX := fun c => by rw [unscopedRestP0_eq]; iintro -; isplitr <;> iempintro)
    (hin := phi_intro T m ρ)
    (hout := phi_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The final memory of `run_main` leaves every argument array as it was. -/
theorem args_of_QC (hp : Holds T m) (r : PUnit × MemSt nD τ sig (Elt F)) (h : QC T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (hp c).1.symm, ((h c).2 1).trans (hp c).2.symm,
    ((h c).1 (0 : Fin 6)).trans ((dats T m ρ 0 c).arrAt_in (0 : Fin 6) rfl _),
    ((h c).1 (1 : Fin 6)).trans ((dats T m ρ 0 c).arrAt_in (1 : Fin 6) rfl _),
    ((h c).1 (2 : Fin 6)).trans ((dats T m ρ 0 c).arrAt_in (2 : Fin 6) rfl _),
    ((h c).1 (3 : Fin 6)).trans ((dats T m ρ 0 c).arrAt_in (3 : Fin 6) rfl _),
    ((h c).1 (4 : Fin 6)).trans ((dats T m ρ 0 c).arrAt_in (4 : Fin 6) rfl _)⟩

/-- The output array at the end, and the argument arrays as they were. -/
theorem value (hp : Holds T m) :
    θ_run (defs (F := F)) (onTc (τ := τ) (main (F := F))) ⟨m, fun _ => 0, ρ⟩ (fun r => ∀ c : Dev nD,
      r.2.mem ((c.tc : Thread nD τ).loc main_v0) = (dats T m ρ 0 c).arrAt (5 : Fin 6) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 (5 : Fin 6), args_of_QC T m ρ hp r h.1 c⟩) (run_main T m ρ hp)

/-- The frame: every execution terminates without a fault, the argument arrays end unchanged, every semaphore counter
    reads zero. -/
theorem framed (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of_QC T m ρ hp r h.1 c, h.2⟩) (run_main T m ρ hp)

end Cert.MoeIdeal.Layers

end
-- ==== Proof.Moe.Ref.lean ====
/- The expert feed-forward reference at an index: in a used row block the gated hidden row times the chosen expert's down
   column, elsewhere 0. -/
module

public import proofs.«01_k».proof.Proof.Gen.MoeRefIdeal.Read
public import Idealize.ShloMosaic.Lib.Pipeline.ValueKit
public import proofs.«01_k».proof.Proof.Layers.Math

@[expose] public section

set_option maxRecDepth 16384

noncomputable section

open Idealize.ShloMosaic Idealize.ShloMosaic.TcCoe Idealize.SL.Sem

namespace Cert.MoeRefIdeal.Layers

open Cert.MoeRefIdeal Cert.MoeRefIdeal.Gen Cert.Layers

/-! ## Reading whole matrices by number -/

/-- The dimension numbers of reading, for each of 73 numbers, one of eight `K × M` matrices. -/
abbrev pick (K M : ℕ) (wf : GatherDims.WF ⟨3, ![8, K, M]⟩ ⟨2, ![73, 1]⟩ ⟨3, ![73, K, M]⟩ [1, 2] [0] [] [0] [] 1 ![1, K, M]) :
    GatherDims ⟨3, ![8, K, M]⟩ ⟨2, ![73, 1]⟩ ⟨3, ![73, K, M]⟩ where
  offsetDims := [1, 2]
  collapsedSliceDims := [0]
  operandBatchingDims := []
  startIndicesBatchingDims := []
  startIndexMap := [0]
  indexVectorDim := 1
  sliceSizes := ![1, K, M]
  wf := wf

/-- An element of the matrices read is that element of the matrix whose number the index array holds. -/
theorem pick_at {α : Type} {K M : ℕ} (wf) (x : (⟨3, ![8, K, M]⟩ : Shape).Idx → α) (idx : IVec ⟨2, ![73, 1]⟩ 32)
    (y : (⟨3, ![73, K, M]⟩ : Shape).Idx) (e : Fin 8) (he : (idx (ix2 (y 0) 0)).toNat = e.val) :
    Host.gather (pick K M wf) x idx y = x (ix3 e (y 1) (y 2)) := by
  unfold Host.gather
  refine congrArg x (funext fun a => Fin.ext ?_)
  show (pick K M wf).start y idx a + (pick K M wf).batchCoord y a + (pick K M wf).offCoord y a = _
  have ha : a = 0 ∨ a = 1 ∨ a = 2 := by
    match a with
    | ⟨0, _⟩ => exact .inl rfl
    | ⟨1, _⟩ => exact .inr (.inl rfl)
    | ⟨2, _⟩ => exact .inr (.inr rfl)
  rw [GatherDims.batchCoord_eq_zero _ _ _ (List.not_mem_nil)]
  rcases ha with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (pick K M wf).startIndexMap from List.mem_singleton.mpr rfl)]
    have hsi : (pick K M wf).siIdx y ⟨List.idxOf (0 : Fin 3) (pick K M wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    have key : ∀ w : BitVec 32, w.toNat = e.val → min w.toInt.toNat (8 - 1) = e.val := fun w hw => by
      have := e.isLt
      rw [BitVec.toInt_eq_toNat_of_lt (by omega)]; omega
    exact key _ ((congrArg (fun z => (idx z).toNat) hsi).trans he)
  · unfold GatherDims.start GatherDims.offCoord
    rw [dif_neg (by simp), dif_pos ((GatherDims.mem_sKept _ _).mpr ⟨by simp, by simp⟩)]
    simp only [Nat.add_zero, Nat.zero_add]
    rfl
  · unfold GatherDims.start GatherDims.offCoord
    rw [dif_neg (by simp), dif_pos ((GatherDims.mem_sKept _ _).mpr ⟨by simp, by simp⟩)]
    simp only [Nat.add_zero, Nat.zero_add]
    rfl

/-- An expert number below 8 is not negative, so it is read as it stands. -/
theorem keep (w : BitVec 32) (h : w.toNat < 8) :
    Scalar.select (IntOp.cmpi .slt w 0#32) (IntOp.addi w 8#32) w = w := by
  have e : w.slt 0#32 = false := by
    rw [BitVec.slt, BitVec.toInt_eq_toNat_of_lt (by omega)]; simp
  simp [Scalar.select, IntOp.cmpi, e]

/-! ## The reference -/

variable (x0 : IVec S73 32) (lt : ∀ x, (x0 x).toNat < 8)

include lt

/-- Row block `b`'s expert. -/
def expert (b : Fin 73) : Fin 8 := ⟨(x0 (ix1 b)).toNat, lt _⟩

theorem word_gate (i : S73x1.Idx) : (show IVec S73x1 32 from Read.val_main_v19 (F := Ideal) x0) i = x0 (ix1 (i 0)) := by
  show Read.val_main_v19 (F := Ideal) x0 i = _
  rw [Read.val_main_v19_apply, Read.val_main_v18_apply, Read.val_main_v15_apply, Read.val_main_v17_apply,
    Read.val_main_v14_apply, Read.val_main_v16_apply, Read.val_main_c_apply, Read.val_main_c_2_apply]
  refine (keep _ (lt _)).trans (congrArg x0 ?_)
  funext a; match a with
    | ⟨0, _⟩ => rfl

theorem word_up (i : S73x1.Idx) : (show IVec S73x1 32 from Read.val_main_v28 (F := Ideal) x0) i = x0 (ix1 (i 0)) := by
  show Read.val_main_v28 (F := Ideal) x0 i = _
  rw [Read.val_main_v28_apply, Read.val_main_v27_apply, Read.val_main_v24_apply, Read.val_main_v26_apply,
    Read.val_main_v23_apply, Read.val_main_v25_apply, Read.val_main_c_3_apply, Read.val_main_c_4_apply]
  refine (keep _ (lt _)).trans (congrArg x0 ?_)
  funext a; match a with
    | ⟨0, _⟩ => rfl

theorem word_down (i : S73x1.Idx) : (show IVec S73x1 32 from Read.val_main_v37 (F := Ideal) x0) i = x0 (ix1 (i 0)) := by
  show Read.val_main_v37 (F := Ideal) x0 i = _
  rw [Read.val_main_v37_apply, Read.val_main_v36_apply, Read.val_main_v33_apply, Read.val_main_v35_apply,
    Read.val_main_v32_apply, Read.val_main_v34_apply, Read.val_main_c_5_apply, Read.val_main_c_6_apply]
  refine (keep _ (lt _)).trans (congrArg x0 ?_)
  funext a; match a with
    | ⟨0, _⟩ => rfl

/-- The gate weights of each row block are its expert's. -/
theorem gate_weights (x4 : FVec Ideal S8x2048x5632 .bf16) (y : S73x2048x5632.Idx) :
    (show FVec Ideal S73x2048x5632 .f32 from Read.val_main_v20 (F := Ideal) x0 x4) y =
      x4 (ix3 (expert x0 lt (y 0)) (y 1) (y 2)) :=
  (pick_at _ _ _ y (expert x0 lt (y 0)) (by have h := congrArg BitVec.toNat (word_gate x0 lt (ix2 (y 0) 0)); exact h)).trans rfl

/-- The up weights of each row block are its expert's. -/
theorem up_weights (x5 : FVec Ideal S8x2048x5632 .f32) (y : S73x2048x5632.Idx) :
    (show FVec Ideal S73x2048x5632 .f32 from Read.val_main_v29 (F := Ideal) x0 x5) y =
      x5 (ix3 (expert x0 lt (y 0)) (y 1) (y 2)) :=
  pick_at _ _ _ y (expert x0 lt (y 0)) (by have h := congrArg BitVec.toNat (word_up x0 lt (ix2 (y 0) 0)); exact h)

/-- The down weights of each row block are its expert's. -/
theorem down_weights (x6 : FVec Ideal S8x5632x2048 .f32) (y : S73x5632x2048.Idx) :
    (show FVec Ideal S73x5632x2048 .f32 from Read.val_main_v38 (F := Ideal) x0 x6) y =
      x6 (ix3 (expert x0 lt (y 0)) (y 1) (y 2)) :=
  pick_at _ _ _ y (expert x0 lt (y 0)) (by have h := congrArg BitVec.toNat (word_down x0 lt (ix2 (y 0) 0)); exact h)

omit lt in
/-- The reference's normed rows. -/
theorem normed_at (x2 : FVec Ideal S37376x2048 .f32) (x3 : FVec Ideal S1x2048 .f32) (i : S37376x2048.Idx) :
    (show FVec Ideal S37376x2048 .f32 from Read.val_main_v11 (F := Ideal) x2 x3) i =
      normed (fun k => x2 (ix2 (i 0) k)) (fun k => x3 (ix2 0 k)) (i 1) := by
  show Read.val_main_v11 (F := Ideal) x2 x3 i = _
  rw [Read.val_main_v11_apply, Read.val_main_v9_apply, Read.val_main_v8_apply, Read.val_main_v7_apply,
    Read.val_main_v6_apply, Read.val_main_v4_apply, Read.val_main_v2_apply, Read.val_main_v1_apply,
    Read.val_main_v3_apply, Read.val_main_v5_apply, Read.val_main_v10_apply]
  simp only [Read.val_main_v0_apply, Read.val_main_cst_apply, Read.val_main_cst_0_apply, Read.val_main_cst_1_apply]
  simp only [Ideal.ofBits_def, Ideal.mulf_def, Ideal.addf_def, Ideal.hostDivf_def, Ideal.hostUnary_rsqrt_def, ofBits_zero,
    zero_add, div_2048]
  refine normed_of (congrArg x2 ?_) (fun j => congrArg x2 ?_) (congrArg x3 ?_) <;>
  · funext a; match a with
      | ⟨0, _⟩ => rfl
      | ⟨1, _⟩ => rfl

/-- Row `p` of row block `b`. -/
abbrev row (b : Fin 73) (p : Fin 512) : Fin 37376 := ⟨b.val * 512 + p.val, by omega⟩

omit lt in
/-- The normed rows, by row block. -/
theorem blocks_at (x2 : FVec Ideal S37376x2048 .f32) (x3 : FVec Ideal S1x2048 .f32) (i : S73x512x2048.Idx) :
    (show FVec Ideal S73x512x2048 .f32 from Read.val_main_v12 (F := Ideal) x2 x3) i =
      normed (fun k => x2 (ix2 (row (i 0) (i 1)) k)) (fun k => x3 (ix2 0 k)) (i 2) := by
  refine (Read.val_main_v12_apply (F := Ideal) x2 x3 i).trans (Eq.trans (normed_at x2 x3 (Read.idx_main_v12 i)) ?_)
  have h2 : (i 2).val < 2048 := (i 2).isLt
  have er : Read.idx_main_v12 i 0 = row (i 0) (i 1) := Fin.ext (by
    show (((i 0).val * 512 + (i 1).val) * 2048 + (i 2).val) / 2048 = (i 0).val * 512 + (i 1).val; omega)
  have ek : Read.idx_main_v12 i 1 = i 2 := Fin.ext (by
    show (((i 0).val * 512 + (i 1).val) * 2048 + (i 2).val) % 2048 = (i 2).val; omega)
  rw [er, ek]

/-- A hidden element under expert `e`: the gated unit of the gate's product times the up product. -/
def hidden (x2 : FVec Ideal S37376x2048 .f32) (x3 : FVec Ideal S1x2048 .f32) (x4 : FVec Ideal S8x2048x5632 .bf16)
    (x5 : FVec Ideal S8x2048x5632 .f32) (e : Fin 8) (r : Fin 37376) (f : Fin 5632) : EReal :=
  silu (∑ k, normed (fun k => x2 (ix2 r k)) (fun k => x3 (ix2 0 k)) k * x4 (ix3 e k f)) *
    ∑ k, normed (fun k => x2 (ix2 r k)) (fun k => x3 (ix2 0 k)) k * x5 (ix3 e k f)

/-- The reference's gate product. -/
theorem gate_at (x2 : FVec Ideal S37376x2048 .f32) (x3 : FVec Ideal S1x2048 .f32) (x4 : FVec Ideal S8x2048x5632 .bf16)
    (i : S73x512x5632.Idx) :
    (show FVec Ideal S73x512x5632 .f32 from Read.val_main_v21 (F := Ideal) x0 x2 x3 x4) i =
      ∑ k, normed (fun k => x2 (ix2 (row (i 0) (i 1)) k)) (fun k => x3 (ix2 0 k)) k *
        x4 (ix3 (expert x0 lt (i 0)) k (i 2)) := by
  refine (Read.val_main_v21_apply x0 x2 x3 x4 i).trans (Finset.sum_congr rfl fun k _ => ?_)
  exact congrArg₂ (fun a b : EReal => a * b) (blocks_at x2 x3 _) (gate_weights x0 lt x4 _)

/-- The reference's up product. -/
theorem up_at (x2 : FVec Ideal S37376x2048 .f32) (x3 : FVec Ideal S1x2048 .f32) (x5 : FVec Ideal S8x2048x5632 .f32)
    (i : S73x512x5632.Idx) :
    (show FVec Ideal S73x512x5632 .f32 from Read.val_main_v30 (F := Ideal) x0 x2 x3 x5) i =
      ∑ k, normed (fun k => x2 (ix2 (row (i 0) (i 1)) k)) (fun k => x3 (ix2 0 k)) k *
        x5 (ix3 (expert x0 lt (i 0)) k (i 2)) := by
  refine (Read.val_main_v30_apply x0 x2 x3 x5 i).trans (Finset.sum_congr rfl fun k _ => ?_)
  exact congrArg₂ (fun a b : EReal => a * b) (blocks_at x2 x3 _) (up_weights x0 lt x5 _)

/-- The reference's hidden elements. -/
theorem hidden_at (x2 : FVec Ideal S37376x2048 .f32) (x3 : FVec Ideal S1x2048 .f32) (x4 : FVec Ideal S8x2048x5632 .bf16)
    (x5 : FVec Ideal S8x2048x5632 .f32) (i : S73x512x5632.Idx) :
    (show FVec Ideal S73x512x5632 .f32 from Read.val_main_v31 (F := Ideal) x0 x2 x3 x4 x5) i =
      hidden x2 x3 x4 x5 (expert x0 lt (i 0)) (row (i 0) (i 1)) (i 2) := by
  show Read.val_main_v31 (F := Ideal) x0 x2 x3 x4 x5 i = _
  rw [Read.val_main_v31_apply, Read.val_main_v22_apply, Read.val_main_call0_v5_apply, Read.val_main_call0_v4_apply,
    Read.val_main_call0_v3_apply, Read.val_main_call0_v2_apply, Read.val_main_call0_v1_apply,
    Read.val_main_call0_v0_apply, Read.val_main_call0_cst_apply, Read.val_main_call0_cst_0_apply]
  simp only [Ideal.ofBits_def, Ideal.mulf_def, Ideal.addf_def, Ideal.hostDivf_def, Ideal.hostUnary_exp_def,
    Ideal.hostNegf_def, Ideal.negf_def, logistic_of]
  exact congrArg₂ (fun a b : EReal => silu a * b) (gate_at x0 lt x2 x3 x4 i) (up_at x0 lt x2 x3 x5 i)

/-- The reference's products before the unused row blocks are cleared. -/
theorem product_at (x2 : FVec Ideal S37376x2048 .f32) (x3 : FVec Ideal S1x2048 .f32) (x4 : FVec Ideal S8x2048x5632 .bf16)
    (x5 : FVec Ideal S8x2048x5632 .f32) (x6 : FVec Ideal S8x5632x2048 .f32) (i : S73x512x2048.Idx) :
    (show FVec Ideal S73x512x2048 .f32 from Read.val_main_v39 (F := Ideal) x0 x2 x3 x4 x5 x6) i =
      ∑ f : Fin 5632, hidden x2 x3 x4 x5 (expert x0 lt (i 0)) (row (i 0) (i 1)) f *
        x6 (ix3 (expert x0 lt (i 0)) f (i 2)) := by
  refine (Read.val_main_v39_apply x0 x2 x3 x4 x5 x6 i).trans (Finset.sum_congr rfl fun k _ => ?_)
  exact congrArg₂ (fun a b : EReal => a * b) (hidden_at x0 lt x2 x3 x4 x5 _) (down_weights x0 lt x6 _)

/-- Whether row block `b` is used, as the programs test it. -/
def isUsed (x1 : IVec S1 32) (b : ℕ) : BitVec 1 := IntOp.cmpi .slt (BitVec.ofNat 32 b) (x1 (ix1 0))

omit lt in
/-- The reference's test of a row block. -/
theorem used_at (x1 : IVec S1 32) (i : S73x512x2048.Idx) :
    (show IVec S73x512x2048 1 from Read.val_main_call1_v1 (F := Ideal) x1) i = isUsed x1 (i 0).val := by
  show Read.val_main_call1_v1 (F := Ideal) x1 i = _
  rw [Read.val_main_call1_v1_apply, Read.val_main_v44_apply, Read.val_main_v43_apply, Read.val_main_v40_apply,
    Read.val_main_v42_apply]
  refine congrArg (IntOp.cmpi .slt (BitVec.ofNat 32 (i 0).val)) ?_
  show x1 _ = x1 _
  refine congrArg x1 (funext fun a => ?_)
  match a with
    | ⟨0, _⟩ => exact Subsingleton.elim (α := Fin 1) _ _

/-- The reference at an index. -/
theorem moe_at (x1 : IVec S1 32) (x2 : FVec Ideal S37376x2048 .f32) (x3 : FVec Ideal S1x2048 .f32)
    (x4 : FVec Ideal S8x2048x5632 .bf16) (x5 : FVec Ideal S8x2048x5632 .f32) (x6 : FVec Ideal S8x5632x2048 .f32)
    (b : Fin 73) (p : Fin 512) (d : Fin 2048) :
    (show FVec Ideal S37376x2048 .f32 from Read.val_main_v46 (F := Ideal) x0 x1 x2 x3 x4 x5 x6) (ix2 (row b p) d) =
      if isUsed x1 b.val = 1#1 then
        ∑ f : Fin 5632, hidden x2 x3 x4 x5 (expert x0 lt b) (row b p) f * x6 (ix3 (expert x0 lt b) f d)
      else 0 := by
  have ei : Read.idx_main_v46 (ix2 (row b p) d) = ix3 b p d := by
    have := b.isLt; have := p.isLt; have := d.isLt
    funext a; match a with
      | ⟨0, _⟩ => exact Fin.ext (by show ((b.val * 512 + p.val) * 2048 + d.val) / 1048576 = b.val; omega)
      | ⟨1, _⟩ => exact Fin.ext (by show ((b.val * 512 + p.val) * 2048 + d.val) / 2048 % 512 = p.val; omega)
      | ⟨2, _⟩ => exact Fin.ext (by show ((b.val * 512 + p.val) * 2048 + d.val) % 2048 = d.val; omega)
  refine (Read.val_main_v46_apply (F := Ideal) x0 x1 x2 x3 x4 x5 x6 _).trans ?_
  rw [ei]
  refine (Read.val_main_v45_apply (F := Ideal) x0 x1 x2 x3 x4 x5 x6 _).trans ?_
  rw [show Read.val_main_call1_v1 (F := Ideal) x1 (ix3 b p d) = isUsed x1 b.val from used_at x1 (ix3 b p d),
    show Read.val_main_v39 (F := Ideal) x0 x2 x3 x4 x5 x6 (ix3 b p d) = _ from product_at x0 lt x2 x3 x4 x5 x6 (ix3 b p d),
    show Read.val_main_call1_v2 (F := Ideal) (ix3 b p d) = (0 : EReal) from
      (Read.val_main_call1_v2_apply (F := Ideal) _).trans ofBits_zero]
  rfl

end Cert.MoeRefIdeal.Layers

end
-- ==== Proof.Moe.Value.lean ====
/- The expert feed-forward call: the kernel's result array is the reference's, element by element, under tables whose
   expert indices are below 8. -/
module

public import proofs.«01_k».proof.Proof.Moe.Frame
public import proofs.«01_k».proof.Proof.Moe.Ref

@[expose] public section

set_option maxRecDepth 16384

noncomputable section

open Idealize.ShloMosaic Idealize.ShloMosaic.TcCoe Idealize.SL.Sem
open Idealize.ShloMosaic.Pipeline (Dat Window)

namespace Cert.MoeIdeal.Layers

open Cert.MoeIdeal Cert.MoeIdeal.Gen Cert.Layers
open Cert.MoeRefIdeal.Layers (hidden expert isUsed row moe_at)

variable (T : Tables Ideal) (m : (ℓ : Loc nD τ sig) → Buf (Elt Ideal) ℓ) (ρ : Dev nD → PrngReg)

/-! ## The body's values at an index -/

/-- The kernel's normed block. -/
theorem pay1_at (x : FVec Ideal S512x2048 .f32) (g : FVec Ideal S1x2048 .f32) (y : S512x2048.Idx) :
    (show FVec Ideal S512x2048 .bf16 from k0_pay1 (F := Ideal) x g) y =
      normed (fun k => x (ix2 (y 0) k)) (fun k => g (ix2 0 k)) (y 1) := by
  pointwise [k0_pay1]
  refine normed_of (congrArg x ?_) (fun j => rfl) rfl
  funext a; match a with
    | ⟨0, _⟩ => rfl
    | ⟨1, _⟩ => rfl

/-- The kernel's cleared block. -/
theorem pay2_at (y : S512x2048.Idx) : (show FVec Ideal S512x2048 .f32 from k0_pay2 (F := Ideal)) y = 0 := by
  pointwise [k0_pay2]

/-- The kernel's accumulated block: what it held plus a block of hidden columns times the down rows. -/
theorem pay3_at (xn : FVec Ideal S512x2048 .bf16) (wg : FVec Ideal S1x2048x512 .bf16) (wu : FVec Ideal S1x2048x512 .f32)
    (acc : FVec Ideal S512x2048 .f32) (wd : FVec Ideal S1x512x2048 .f32) (y : S512x2048.Idx) :
    (show FVec Ideal S512x2048 .f32 from k0_pay3 (F := Ideal) xn wg wu acc wd) y =
      acc y + ∑ f, silu (∑ k, xn (ix2 (y 0) k) * wg (ix3 0 k f)) * (∑ k, xn (ix2 (y 0) k) * wu (ix3 0 k f)) *
        wd (ix3 0 f (y 1)) := by
  pointwise [k0_pay3]
  rfl

/-! ## The blocks a point reads -/

/-- The row block's number. -/
abbrev blockOf (t : Fin (cfgA T).N) : Fin 73 := crd T t 0

theorem blockOf_val (t : Fin (cfgA T).N) : (blockOf T t).val = t.val / 11 := (coord t).1

theorem crd1_val (t : Fin (cfgA T).N) : (crd T t 1).val = t.val % 11 := (coord t).2

/-- The word both the body and the blocks' positions compare the row block with. -/
theorem used_eq : used T.t1 = T.t1 (ix1 0) :=
  congrArg T.t1 (funext fun a => match a with | ⟨0, _⟩ => Subsingleton.elim (α := Fin 1) _ _)

/-- The body's second condition is the reference's test. -/
theorem cond2_iff (i : grid0.Coords) : k0_cond2 i (used T.t1) = 1#1 ↔ isUsed T.t1 (i 0).val = 1#1 := by
  have key : ∀ b : BitVec 1, Scalar.cmpi .ne ((Scalar.extui b : BitVec 32)) 0#32 = 1#1 ↔ b = 1#1 := by decide
  rw [used_eq]
  exact key _

/-- A row block's expert number, as the blocks' positions read it. -/
theorem word0 (i : grid0.Coords) :
    T.pf.at 0 (Rect.unit (s := S73) (k0_off1 i) S1.size (k0_off1_inb i)) numel1_S1 = T.t0 (ix1 (i 0)) := by
  refine congrArg T.t0 (funext fun a => Fin.ext ?_)
  match a with
    | ⟨0, _⟩ =>
      refine (ValueKit.rect_emb_unit_val _ _ _ _ _).trans ?_
      have h : (i 0).val < 73 := (i 0).isLt
      show (BitVec.ofNat 32 (i 0).val).toNat + 0 = (i 0).val
      simp; omega

/-- The hidden block's number in a used row block is the point's own. -/
theorem word4 (i : grid0.Coords) (h : isUsed T.t1 (i 0).val = 1#1) :
    (Scalar.select (Scalar.cmpi .slt (BitVec.ofNat 32 (i 0).val)
      (T.pf.at 1 (Rect.unit (s := S1) ![0] S1.size inb_S1_S1_0) numel1_S1)) (BitVec.ofNat 32 (i 1).val) 10#32).toNat
      = (i 1).val := by
  have e : T.pf.at 1 (Rect.unit (s := S1) ![0] S1.size inb_S1_S1_0) numel1_S1 = T.t1 (ix1 0) :=
    congrArg T.t1 (funext fun a => match a with | ⟨0, _⟩ => Subsingleton.elim (α := Fin 1) _ _)
  have h' : Scalar.cmpi .slt (BitVec.ofNat 32 (i 0).val)
      (T.pf.at 1 (Rect.unit (s := S1) ![0] S1.size inb_S1_S1_0) numel1_S1) = 1#1 := by rw [e]; exact h
  rw [h']
  have h1 : (i 1).val < 11 := (i 1).isLt
  show (BitVec.ofNat 32 (i 1).val).toNat = (i 1).val
  rw [BitVec.toNat_ofNat]; omega

/-- The gate's and the up block's position in a used row block. -/
theorem pos2 (i : grid0.Coords) (h : isUsed T.t1 (i 0).val = 1#1) :
    cc0_transform_2 inb_S1_S1_0 numel1_S1 k0_off1_inb T.pf i = ![(expert T.t0 T.lt (i 0)).val, 0, (i 1).val] := by
  funext a
  match a with
    | ⟨0, _⟩ => have h0 := congrArg BitVec.toNat (word0 T i); exact h0
    | ⟨1, _⟩ => rfl
    | ⟨2, _⟩ => exact word4 T i h

/-- The down block's position in a used row block. -/
theorem pos4 (i : grid0.Coords) (h : isUsed T.t1 (i 0).val = 1#1) :
    cc0_transform_4 inb_S1_S1_0 numel1_S1 k0_off1_inb T.pf i = ![(expert T.t0 T.lt (i 0)).val, (i 1).val, 0] := by
  funext a
  match a with
    | ⟨0, _⟩ => have h0 := congrArg BitVec.toNat (word0 T i); exact h0
    | ⟨1, _⟩ => exact word4 T i h
    | ⟨2, _⟩ => rfl

/-- The stream's and the output's blocks are the row block's. -/
theorem pos0 (t : Fin (cfgA T).N) : cc0_transform_0 (crd T t) = ![t.val / 11, 0] := by
  have h : t.val < 803 := N_0 ▸ t.isLt
  funext a
  match a with
    | ⟨0, _⟩ =>
      show (BitVec.ofNat 32 (crd T t 0).val).toNat = t.val / 11
      rw [(coord t).1, BitVec.toNat_ofNat]; omega
    | ⟨1, _⟩ => rfl

/-- The arrays the kernel reads. -/
abbrev X2 (c : Dev nD) : FVec Ideal S37376x2048 .f32 := m ((c : Thread nD τ).loc main_arg2)
abbrev X3 (c : Dev nD) : FVec Ideal S1x2048 .f32 := m ((c : Thread nD τ).loc main_arg3)
abbrev X4 (c : Dev nD) : FVec Ideal S8x2048x5632 .bf16 := m ((c : Thread nD τ).loc main_arg4)
abbrev X5 (c : Dev nD) : FVec Ideal S8x2048x5632 .f32 := m ((c : Thread nD τ).loc main_arg5)
abbrev X6 (c : Dev nD) : FVec Ideal S8x5632x2048 .f32 := m ((c : Thread nD τ).loc main_arg6)

/-- The stream's block. -/
theorem block0 (c : Dev nD) (t : Fin (cfgA T).N) (y : S512x2048.Idx) (r : Fin 37376)
    (hr : r.val = t.val / 11 * 512 + (y 0).val) :
    (show FVec Ideal S512x2048 .f32 from iblk T m ρ c (0 : Fin 6) t) y = X2 m c (ix2 r (y 1)) := by
  unfold iblk
  blk_simp
  refine congrArg (X2 m c) (funext fun a => Fin.ext ?_)
  match a with
    | ⟨0, _⟩ =>
      refine (ValueKit.rect_emb_unit_val (s := S37376x2048) _ _ _ y (0 : Fin 2)).trans ?_
      show cc0_transform_0 (crd T t) 0 * 512 + (y 0).val = r.val
      rw [pos0, hr]; rfl
    | ⟨1, _⟩ =>
      refine (ValueKit.rect_emb_unit_val (s := S37376x2048) _ _ _ y (1 : Fin 2)).trans ?_
      show 0 * 2048 + (y 1).val = (y 1).val
      omega

/-- The gains' block. -/
theorem block1 (c : Dev nD) (t : Fin (cfgA T).N) (y : S1x2048.Idx) :
    (show FVec Ideal S1x2048 .f32 from iblk T m ρ c (1 : Fin 6) t) y = X3 m c y := by
  unfold iblk
  blk_simp
  refine congrArg (X3 m c) (funext fun a => Fin.ext ?_)
  match a with
    | ⟨0, _⟩ =>
      refine (ValueKit.rect_emb_unit_val (s := S1x2048) _ _ _ y (0 : Fin 2)).trans ?_
      show 0 * 1 + (y 0).val = (y 0).val
      omega
    | ⟨1, _⟩ =>
      refine (ValueKit.rect_emb_unit_val (s := S1x2048) _ _ _ y (1 : Fin 2)).trans ?_
      show 0 * 2048 + (y 1).val = (y 1).val
      omega

/-- The gate weights' block in a used row block: a hidden block's columns of the expert's. -/
theorem block2 (c : Dev nD) (t : Fin (cfgA T).N) (h : isUsed T.t1 (blockOf T t).val = 1#1) (k : Fin 2048) (f : Fin 512)
    (f' : Fin 5632) (hf : f'.val = t.val % 11 * 512 + f.val) :
    (show FVec Ideal S1x2048x512 .bf16 from iblk T m ρ c (2 : Fin 6) t) (ix3 0 k f) =
      X4 m c (ix3 (expert T.t0 T.lt (blockOf T t)) k f') := by
  unfold iblk
  blk_simp
  refine congrArg (X4 m c) (funext fun a => Fin.ext ?_)
  match a with
    | ⟨0, _⟩ =>
      refine (ValueKit.rect_emb_unit_val (s := S8x2048x5632) _ _ _ (ix3 0 k f) (0 : Fin 3)).trans ?_
      show cc0_transform_2 inb_S1_S1_0 numel1_S1 k0_off1_inb T.pf (crd T t) 0 * 1 + 0 = _
      rw [pos2 T _ h]; exact Nat.mul_one _
    | ⟨1, _⟩ =>
      refine (ValueKit.rect_emb_unit_val (s := S8x2048x5632) _ _ _ (ix3 0 k f) (1 : Fin 3)).trans ?_
      show 0 * 2048 + k.val = k.val
      omega
    | ⟨2, _⟩ =>
      refine (ValueKit.rect_emb_unit_val (s := S8x2048x5632) _ _ _ (ix3 0 k f) (2 : Fin 3)).trans ?_
      show cc0_transform_2 inb_S1_S1_0 numel1_S1 k0_off1_inb T.pf (crd T t) 2 * 512 + f.val = f'.val
      rw [pos2 T _ h, hf, ← crd1_val]; rfl

/-- The up weights' block in a used row block. -/
theorem block3 (c : Dev nD) (t : Fin (cfgA T).N) (h : isUsed T.t1 (blockOf T t).val = 1#1) (k : Fin 2048) (f : Fin 512)
    (f' : Fin 5632) (hf : f'.val = t.val % 11 * 512 + f.val) :
    (show FVec Ideal S1x2048x512 .f32 from iblk T m ρ c (3 : Fin 6) t) (ix3 0 k f) =
      X5 m c (ix3 (expert T.t0 T.lt (blockOf T t)) k f') := by
  unfold iblk
  blk_simp
  refine congrArg (X5 m c) (funext fun a => Fin.ext ?_)
  match a with
    | ⟨0, _⟩ =>
      refine (ValueKit.rect_emb_unit_val (s := S8x2048x5632) _ _ _ (ix3 0 k f) (0 : Fin 3)).trans ?_
      show cc0_transform_2 inb_S1_S1_0 numel1_S1 k0_off1_inb T.pf (crd T t) 0 * 1 + 0 = _
      rw [pos2 T _ h]; exact Nat.mul_one _
    | ⟨1, _⟩ =>
      refine (ValueKit.rect_emb_unit_val (s := S8x2048x5632) _ _ _ (ix3 0 k f) (1 : Fin 3)).trans ?_
      show 0 * 2048 + k.val = k.val
      omega
    | ⟨2, _⟩ =>
      refine (ValueKit.rect_emb_unit_val (s := S8x2048x5632) _ _ _ (ix3 0 k f) (2 : Fin 3)).trans ?_
      show cc0_transform_2 inb_S1_S1_0 numel1_S1 k0_off1_inb T.pf (crd T t) 2 * 512 + f.val = f'.val
      rw [pos2 T _ h, hf, ← crd1_val]; rfl

/-- The down weights' block in a used row block: a hidden block's rows of the expert's. -/
theorem block4 (c : Dev nD) (t : Fin (cfgA T).N) (h : isUsed T.t1 (blockOf T t).val = 1#1) (f : Fin 512) (d : Fin 2048)
    (f' : Fin 5632) (hf : f'.val = t.val % 11 * 512 + f.val) :
    (show FVec Ideal S1x512x2048 .f32 from iblk T m ρ c (4 : Fin 6) t) (ix3 0 f d) =
      X6 m c (ix3 (expert T.t0 T.lt (blockOf T t)) f' d) := by
  unfold iblk
  blk_simp
  refine congrArg (X6 m c) (funext fun a => Fin.ext ?_)
  match a with
    | ⟨0, _⟩ =>
      refine (ValueKit.rect_emb_unit_val (s := S8x5632x2048) _ _ _ (ix3 0 f d) (0 : Fin 3)).trans ?_
      show cc0_transform_4 inb_S1_S1_0 numel1_S1 k0_off1_inb T.pf (crd T t) 0 * 1 + 0 = _
      rw [pos4 T _ h]; exact Nat.mul_one _
    | ⟨1, _⟩ =>
      refine (ValueKit.rect_emb_unit_val (s := S8x5632x2048) _ _ _ (ix3 0 f d) (1 : Fin 3)).trans ?_
      show cc0_transform_4 inb_S1_S1_0 numel1_S1 k0_off1_inb T.pf (crd T t) 1 * 512 + f.val = f'.val
      rw [pos4 T _ h, hf, ← crd1_val]; rfl
    | ⟨2, _⟩ =>
      refine (ValueKit.rect_emb_unit_val (s := S8x5632x2048) _ _ _ (ix3 0 f d) (2 : Fin 3)).trans ?_
      show 0 * 2048 + d.val = d.val
      omega

/-! ## One point -/

/-- A row block's first point norms the rows. -/
theorem next_snd_first (c : Dev nD) (t : Fin (cfgA T).N) (h : t.val % 11 = 0) (s) :
    (next T m ρ c t s).2 = k0_pay1 (iblk T m ρ c (0 : Fin 6) t) (iblk T m ρ c (1 : Fin 6) t) := by
  have h1 : k0_cond1 (crd T t) = 1#1 := (first_iff t).2 h
  unfold next step start
  by_cases h2 : k0_cond2 (crd T t) (used T.t1) = 1#1 <;> simp only [h1, h2, ↓reduceIte]

/-- A later point keeps the normed rows. -/
theorem next_snd_later (c : Dev nD) (t : Fin (cfgA T).N) (h : ¬t.val % 11 = 0) (s) : (next T m ρ c t s).2 = s.2 := by
  have h1 : ¬k0_cond1 (crd T t) = 1#1 := fun e => h ((first_iff t).1 e)
  unfold next step start
  by_cases h2 : k0_cond2 (crd T t) (used T.t1) = 1#1 <;> simp only [h1, h2, ↓reduceIte]

/-- In a used row block the first point adds its product to zeros. -/
theorem next_fst_first (c : Dev nD) (t : Fin (cfgA T).N) (h : t.val % 11 = 0)
    (h2 : k0_cond2 (crd T t) (used T.t1) = 1#1) (s) :
    (next T m ρ c t s).1 = k0_pay3 (k0_pay1 (iblk T m ρ c (0 : Fin 6) t) (iblk T m ρ c (1 : Fin 6) t))
      (iblk T m ρ c (2 : Fin 6) t) (iblk T m ρ c (3 : Fin 6) t) (k0_pay2 (F := Ideal)) (iblk T m ρ c (4 : Fin 6) t) := by
  have h1 : k0_cond1 (crd T t) = 1#1 := (first_iff t).2 h
  unfold next step start
  simp only [h1, h2, ↓reduceIte]

/-- In a used row block a later point adds its product to what was there. -/
theorem next_fst_later (c : Dev nD) (t : Fin (cfgA T).N) (h : ¬t.val % 11 = 0)
    (h2 : k0_cond2 (crd T t) (used T.t1) = 1#1) (s) :
    (next T m ρ c t s).1 = k0_pay3 s.2 (iblk T m ρ c (2 : Fin 6) t) (iblk T m ρ c (3 : Fin 6) t) s.1
      (iblk T m ρ c (4 : Fin 6) t) := by
  have h1 : ¬k0_cond1 (crd T t) = 1#1 := fun e => h ((first_iff t).1 e)
  unfold next step start
  simp only [h1, h2, ↓reduceIte]

/-- In an unused row block the first point clears the output. -/
theorem next_fst_clear (c : Dev nD) (t : Fin (cfgA T).N) (h : t.val % 11 = 0)
    (h2 : ¬k0_cond2 (crd T t) (used T.t1) = 1#1) (s) : (next T m ρ c t s).1 = k0_pay2 (F := Ideal) := by
  have h1 : k0_cond1 (crd T t) = 1#1 := (first_iff t).2 h
  unfold next step start
  simp only [h1, h2, ↓reduceIte]

/-! ## The points of a row block -/

/-- Element `k` of row `r`'s norm. -/
abbrev nrm (c : Dev nD) (r : Fin 37376) (k : Fin 2048) : EReal :=
  normed (fun k => X2 m c (ix2 r k)) (fun k => X3 m c (ix2 0 k)) k

/-- The kernel's normed block of a point's rows. -/
theorem normed_block (c : Dev nD) (t : Fin (cfgA T).N) (y : S512x2048.Idx) (r : Fin 37376)
    (hr : r.val = t.val / 11 * 512 + (y 0).val) :
    (show FVec Ideal S512x2048 .bf16 from
        k0_pay1 (F := Ideal) (iblk T m ρ c (0 : Fin 6) t) (iblk T m ρ c (1 : Fin 6) t)) y = nrm m c r (y 1) := by
  refine (pay1_at _ _ y).trans ?_
  refine congrArg₂ (fun a b => normed a b (y 1)) (funext fun k => ?_) (funext fun k => ?_)
  · exact block0 T m ρ c t (ix2 (y 0) k) r hr
  · exact block1 T m ρ c t (ix2 0 k)

/-- What the carried buffer holds after every point: the normed rows of the point's row block. -/
theorem scratch (c : Dev nD) (n : ℕ) : ∀ (hn : n < (cfgA T).N) (y : S512x2048.Idx) (r : Fin 37376),
    r.val = n / 11 * 512 + (y 0).val →
    (show FVec Ideal S512x2048 .bf16 from (held T m ρ c (n + 1)).2) y = nrm m c r (y 1) := by
  induction n with
  | zero =>
    intro hn y r hr
    rw [held_succ T m ρ c ⟨0, hn⟩, next_snd_first T m ρ c ⟨0, hn⟩ rfl]
    exact normed_block T m ρ c ⟨0, hn⟩ y r hr
  | succ n ih =>
    intro hn y r hr
    rw [held_succ T m ρ c ⟨n + 1, hn⟩]
    by_cases h : (n + 1) % 11 = 0
    · rw [next_snd_first T m ρ c ⟨n + 1, hn⟩ h]
      exact normed_block T m ρ c ⟨n + 1, hn⟩ y r hr
    · rw [next_snd_later T m ρ c ⟨n + 1, hn⟩ h]
      exact ih (Nat.lt_of_succ_lt hn) y r (by omega)

/-- Hidden block `s`'s part of a result element under expert `e`. -/
def part (c : Dev nD) (e : Fin 8) (r : Fin 37376) (d : Fin 2048) (s : ℕ) : EReal :=
  if h : s < 11 then ∑ f : Fin 512, hidden (X2 m c) (X3 m c) (X4 m c) (X5 m c) e r ⟨s * 512 + f.val, by omega⟩ *
    X6 m c (ix3 e ⟨s * 512 + f.val, by omega⟩ d) else 0

/-- In a used row block a point adds its hidden block's part to what it accumulates on. -/
theorem add_part (c : Dev nD) (t : Fin (cfgA T).N) (h : isUsed T.t1 (blockOf T t).val = 1#1)
    (xn : FVec Ideal S512x2048 .bf16) (acc : FVec Ideal S512x2048 .f32) (y : S512x2048.Idx) (r : Fin 37376)
    (hx : ∀ k : Fin 2048, xn (ix2 (y 0) k) = nrm m c r k) :
    (show FVec Ideal S512x2048 .f32 from k0_pay3 (F := Ideal) xn (iblk T m ρ c (2 : Fin 6) t)
        (iblk T m ρ c (3 : Fin 6) t) acc (iblk T m ρ c (4 : Fin 6) t)) y =
      acc y + part m c (expert T.t0 T.lt (blockOf T t)) r (y 1) (t.val % 11) := by
  refine (pay3_at _ _ _ _ _ y).trans (congrArg (fun z : EReal => acc y + z) ?_)
  refine Eq.trans ?_ (dif_pos (Nat.mod_lt _ (by norm_num))).symm
  refine Finset.sum_congr rfl fun f _ => congrArg₂ (fun a b : EReal => a * b)
    (congrArg₂ (fun a b : EReal => silu a * b)
      (Finset.sum_congr rfl fun k _ => congrArg₂ (fun a b : EReal => a * b) (hx k) ?_)
      (Finset.sum_congr rfl fun k _ => congrArg₂ (fun a b : EReal => a * b) (hx k) ?_)) ?_
  · exact block2 T m ρ c t h k f _ rfl
  · exact block3 T m ρ c t h k f _ rfl
  · exact block4 T m ρ c t h f (y 1) _ rfl

/-- What the output block holds after every point of a used row block: the parts of the hidden blocks so far. -/
theorem acc_eq (c : Dev nD) (n : ℕ) : ∀ (hn : n < (cfgA T).N) (b : Fin 73) (hb : b.val = n / 11)
    (hu : isUsed T.t1 b.val = 1#1) (y : S512x2048.Idx) (r : Fin 37376), r.val = n / 11 * 512 + (y 0).val →
    (show FVec Ideal S512x2048 .f32 from (held T m ρ c (n + 1)).1) y =
      ∑ s ∈ Finset.range (n % 11 + 1), part m c (expert T.t0 T.lt b) r (y 1) s := by
  have blk : ∀ (t : Fin (cfgA T).N) (b : Fin 73), b.val = t.val / 11 → b = blockOf T t :=
    fun t b hb => Fin.ext (hb.trans (blockOf_val T t).symm)
  have first : ∀ (t : Fin (cfgA T).N) (h : t.val % 11 = 0) (b : Fin 73) (hb : b.val = t.val / 11)
      (hu : isUsed T.t1 b.val = 1#1) (y : S512x2048.Idx) (r : Fin 37376), r.val = t.val / 11 * 512 + (y 0).val →
      (show FVec Ideal S512x2048 .f32 from (held T m ρ c (t.val + 1)).1) y =
        ∑ s ∈ Finset.range (t.val % 11 + 1), part m c (expert T.t0 T.lt b) r (y 1) s := by
    intro t h b hb hu y r hr
    obtain rfl := blk t b hb
    rw [held_succ T m ρ c t, next_fst_first T m ρ c t h ((cond2_iff T _).2 hu)]
    refine (add_part T m ρ c t hu _ _ y r fun k => normed_block T m ρ c t (ix2 (y 0) k) r hr).trans ?_
    rw [h, Finset.sum_range_one]
    exact (congrArg (fun z : EReal => z + _) (pay2_at y)).trans (zero_add _)
  induction n with
  | zero => exact fun hn => first ⟨0, hn⟩ rfl
  | succ n ih =>
    intro hn b hb hu y r hr
    by_cases h : (n + 1) % 11 = 0
    · exact first ⟨n + 1, hn⟩ h b hb hu y r hr
    · have hr' : r.val = n / 11 * 512 + (y 0).val := by omega
      have hb' : b.val = n / 11 := by omega
      have hn' := Nat.lt_of_succ_lt hn
      have ih' := ih hn' b hb' hu y r hr'
      obtain rfl := blk ⟨n + 1, hn⟩ b hb
      rw [held_succ T m ρ c ⟨n + 1, hn⟩, next_fst_later T m ρ c ⟨n + 1, hn⟩ h ((cond2_iff T _).2 hu)]
      refine (add_part T m ρ c ⟨n + 1, hn⟩ hu _ _ y r fun k => scratch T m ρ c n hn' (ix2 (y 0) k) r hr').trans ?_
      refine (congrArg (fun z : EReal => z + _) ih').trans ?_
      have e : (n + 1) % 11 = n % 11 + 1 := by omega
      rw [show ((⟨n + 1, hn⟩ : Fin (cfgA T).N).val) = n + 1 from rfl, e, Finset.sum_range_succ _ (n % 11 + 1)]

/-- What the output block holds after every point of an unused row block: zeros. -/
theorem clear_eq (c : Dev nD) (n : ℕ) : ∀ (hn : n < (cfgA T).N), ¬isUsed T.t1 (n / 11) = 1#1 →
    (held T m ρ c (n + 1)).1 = k0_pay2 (F := Ideal) := by
  have not2 : ∀ t : Fin (cfgA T).N, ¬isUsed T.t1 (t.val / 11) = 1#1 → ¬k0_cond2 (crd T t) (used T.t1) = 1#1 :=
    fun t hu h => hu ((blockOf_val T t) ▸ (cond2_iff T _).1 h)
  induction n with
  | zero =>
    intro hn hu
    rw [held_succ T m ρ c ⟨0, hn⟩, next_fst_clear T m ρ c ⟨0, hn⟩ rfl (not2 _ hu)]
  | succ n ih =>
    intro hn hu
    rw [held_succ T m ρ c ⟨n + 1, hn⟩]
    by_cases h : (n + 1) % 11 = 0
    · rw [next_fst_clear T m ρ c ⟨n + 1, hn⟩ h (not2 _ hu)]
    · rw [next_idle T m ρ c ⟨n + 1, hn⟩ (fun e => h ((first_iff ⟨n + 1, hn⟩).1 e)) (not2 _ hu)]
      exact ih (Nat.lt_of_succ_lt hn) (by rwa [show n / 11 = (n + 1) / 11 by omega])

/-! ## The result array -/

/-- The written-back blocks cover the result. -/
theorem covers : ((cfgA T).win (5 : Fin 6)).Covers := by
  refine ⟨fun a => match a with | ⟨0, _⟩ => (by decide : 0 < 512) | ⟨1, _⟩ => (by decide : 0 < 2048), fun β => ?_⟩
  have hβ : (β (0 : Fin 2)).val < 73 := (β (0 : Fin 2)).isLt.trans_eq (show (37376 + 512 - 1) / 512 = 73 by norm_num)
  have hβ' : (β (1 : Fin 2)).val < 1 := (β (1 : Fin 2)).isLt.trans_eq (show (2048 + 2048 - 1) / 2048 = 1 by norm_num)
  have hN : grid0.N = 803 := N_0
  refine ⟨⟨(β (0 : Fin 2)).val * 11 + 10, by rw [hN]; omega⟩, ?_, fun a => ⟨?_, .inl rfl⟩⟩
  · exact (flush5 T _).trans (decide_eq_true (by show ((β (0 : Fin 2)).val * 11 + 10) % 11 = 10; omega))
  · refine (congrFun (pos0 T _) a).trans ?_
    match a with
      | ⟨0, _⟩ => show ((β (0 : Fin 2)).val * 11 + 10) / 11 = (β (0 : Fin 2)).val; omega
      | ⟨1, _⟩ => show 0 = (β (1 : Fin 2)).val; omega

/-- The kernel's result array is the reference's, of any argument arrays whose tables are `T`. -/
theorem final (c : Dev nD) :
    (dats T m ρ 0 c).arrAt (5 : Fin 6) (cfgA T).N =
      Cert.MoeRefIdeal.Read.val_main_v46 (F := Ideal) T.t0 T.t1 (X2 m c) (X3 m c) (X4 m c) (X5 m c) (X6 m c) := by
  refine (dats T m ρ 0 c).arrAt_eq_of_covers (5 : Fin 6) _ (covers T) fun t hf y => ?_
  have hl : t.val % 11 = 10 := of_decide_eq_true ((flush5 T t).symm.trans hf)
  have ey : (((cfgA T).win (5 : Fin 6)).blk t).view.emb y = ix2 (row (blockOf T t) (y (0 : Fin 2))) (y (1 : Fin 2)) := by
    funext a
    match a with
      | ⟨0, _⟩ =>
        refine Fin.ext ((ValueKit.rect_emb_unit_val (s := S37376x2048) _ _ _ y (0 : Fin 2)).trans ?_)
        show cc0_transform_0 (crd T t) 0 * 512 + (y (0 : Fin 2)).val = (blockOf T t).val * 512 + (y (0 : Fin 2)).val
        rw [pos0, blockOf_val]; rfl
      | ⟨1, _⟩ =>
        refine Fin.ext ((ValueKit.rect_emb_unit_val (s := S37376x2048) _ _ _ y (1 : Fin 2)).trans ?_)
        show 0 * 2048 + (y (1 : Fin 2)).val = (y (1 : Fin 2)).val
        omega
  show (show FVec Ideal S512x2048 .f32 from (held T m ρ c (t.val + 1)).1) y = _
  rw [ey]
  refine Eq.trans ?_ (moe_at T.t0 T.lt T.t1 (X2 m c) (X3 m c) (X4 m c) (X5 m c) (X6 m c) (blockOf T t) (y (0 : Fin 2))
    (y (1 : Fin 2))).symm
  by_cases hu : isUsed T.t1 (blockOf T t).val = 1#1
  · rw [if_pos hu]
    refine (acc_eq T m ρ c t.val t.isLt (blockOf T t) (blockOf_val T t) hu y (row (blockOf T t) (y (0 : Fin 2)))
      (by show (blockOf T t).val * 512 + _ = _; rw [blockOf_val])).trans ?_
    rw [hl, Finset.sum_range]
    refine (Finset.sum_congr rfl fun s _ => dif_pos s.isLt).trans ?_
    exact Fin.sum_mul_add_congr fun s k hl => rfl
  · rw [if_neg hu, clear_eq T m ρ c t.val t.isLt (by rwa [← blockOf_val])]
    exact pay2_at y

end Cert.MoeIdeal.Layers

end
-- ==== Proof.Moe.Claims.lean ====
/- The claims about the mixture of experts' feed-forward call. -/
module

public import proofs.«01_k».proof.Defs
public import proofs.«01_k».proof.Proof.Gen.Moe
public import proofs.«01_k».proof.Proof.Gen.Pre_experts_in_range
public import proofs.«01_k».proof.Proof.Gen.MoeRefIdeal.Run
public import proofs.«01_k».proof.Proof.Moe.Frame
public import proofs.«01_k».proof.Proof.Moe.Value
public import Idealize.ShloMosaic.Lib.Quiescent

@[expose] public section

noncomputable section

open Idealize.ShloMosaic Idealize.ShloMosaic.TcCoe Idealize.SL.Sem

namespace Cert.Proof.Moe

/-- A word that is at least zero and below eight as a signed number is below eight as an unsigned one. -/
theorem lt_eight (w : BitVec 32) (h : IntOp.andi (IntOp.cmpi .sge w 0#32) (IntOp.cmpi .slt w 8#32) = 1#1) :
    w.toNat < 8 := by
  have hb : (0#32).sle w = true ∧ w.slt 8#32 = true := by
    change BitVec.ofBool ((0#32).sle w) &&& BitVec.ofBool (w.slt 8#32) = 1#1 at h
    revert h
    cases (0#32).sle w <;> cases w.slt 8#32 <;> simp
  have h0 := BitVec.sle_iff_toInt_le.mp hb.1
  have h8 := BitVec.slt_iff_toInt_lt.mp hb.2
  have e0 : (0#32).toInt = 0 := by decide
  have e8 : (8#32).toInt = 8 := by decide
  rw [e0] at h0
  rw [e8] at h8
  rw [BitVec.toInt_eq_toNat_cond] at h0 h8
  have := w.isLt
  split at h0 <;> omega

/-- The index tables of a memory whose expert indices are in range. -/
def tables {F : FTy → Type} [FloatOps F] (m : (ℓ : Loc Cert.MoeIdeal.nD Cert.MoeIdeal.τ Cert.MoeIdeal.sig) → Buf (Elt F) ℓ)
    (c : Dev Cert.MoeIdeal.nD)
    (lt : ∀ x, (show BitVec 32 from m ((c.tc : Thread Cert.MoeIdeal.nD Cert.MoeIdeal.τ).loc Cert.MoeIdeal.main_arg0) x).toNat < 8) :
    Cert.MoeIdeal.Layers.Tables F where
  t0 := m ((c.tc : Thread Cert.MoeIdeal.nD Cert.MoeIdeal.τ).loc Cert.MoeIdeal.main_arg0)
  t1 := m ((c.tc : Thread Cert.MoeIdeal.nD Cert.MoeIdeal.τ).loc Cert.MoeIdeal.main_arg1)
  lt := lt

/-- There is one device. -/
theorem one_dev (c d : Dev Cert.MoeIdeal.nD) : c = d := by
  haveI : Subsingleton (Dev Cert.MoeIdeal.nD) := by
    show Subsingleton (Fin 1)
    infer_instance
  exact Subsingleton.elim c d

/-- A memory holds its own tables. -/
theorem holds {F : FTy → Type} [FloatOps F] (m : (ℓ : Loc Cert.MoeIdeal.nD Cert.MoeIdeal.τ Cert.MoeIdeal.sig) → Buf (Elt F) ℓ)
    (c : Dev Cert.MoeIdeal.nD)
    (lt : ∀ x, (show BitVec 32 from m ((c.tc : Thread Cert.MoeIdeal.nD Cert.MoeIdeal.τ).loc Cert.MoeIdeal.main_arg0) x).toNat < 8) :
    Cert.MoeIdeal.Layers.Holds (tables m c lt) m := by
  intro d
  cases one_dev c d
  exact ⟨rfl, rfl⟩

/-- The only device. -/
abbrev dev : Dev Cert.MoeIdeal.nD := (0 : Fin 1)

/-- The precondition of the kernel puts every expert index below eight. -/
theorem below_p (m : (ℓ : Loc Cert.Moe.nD Cert.Moe.τ Cert.Moe.sig) → Buf (Elt Bits) ℓ) (h : Cert.Pre_Moe m)
    (c : Dev Cert.Moe.nD) (x) :
    (show BitVec 32 from m ((c.tc : Thread Cert.Moe.nD Cert.Moe.τ).loc Cert.Moe.main_arg0) x).toNat < 8 :=
  lt_eight _ (congrFun (h c) x)

/-- The precondition of the idealized kernel puts every expert index below eight. -/
theorem below_pi (m : (ℓ : Loc Cert.MoeIdeal.nD Cert.MoeIdeal.τ Cert.MoeIdeal.sig) → Buf (Elt Ideal) ℓ)
    (h : Cert.Pre_MoeIdeal m) (c : Dev Cert.MoeIdeal.nD) (x) :
    (show BitVec 32 from m ((c.tc : Thread Cert.MoeIdeal.nD Cert.MoeIdeal.τ).loc Cert.MoeIdeal.main_arg0) x).toNat < 8 :=
  lt_eight _ (congrFun (h c) x)

/-- The kernel's body table and the idealized kernel's are one term, at the kernels' own labels. -/
theorem bodies_eq {F : FTy → Type} [FloatOps F] : Cert.Moe.defs₀ (F := F) = Cert.MoeIdeal.defs₀ (F := F) := by
  unfold Cert.Moe.defs₀ Cert.MoeIdeal.defs₀
  refine congrArg Defs.onTc ?_
  funext l x
  match l, x with
  | 0, (t, s) => exact rfl

/-- The kernel's body table and the idealized kernel's are one term. -/
theorem defs_eq {F : FTy → Type} [FloatOps F] : Cert.Moe.defs (F := F) = Cert.MoeIdeal.defs (F := F) :=
  congrArg (Pipeline.defs (Cert.MoeIdeal.pcfgs (F := F))) bodies_eq

/-- The experts' kernel runs and leaves its arguments. -/
theorem frame_p : Cert.quiescent_Moe := by
  intro m ρ hpre
  rw [defs_eq]
  exact Cert.MoeIdeal.Layers.framed (F := Bits) (tables (F := Bits) m dev (below_p m hpre dev)) m ρ (holds (F := Bits) m dev _)

/-- The idealized kernel of the experts runs and leaves its arguments. -/
theorem frame_pi : Cert.quiescent_MoeIdeal := fun m ρ hpre =>
  Cert.MoeIdeal.Layers.framed (tables m dev (below_pi m hpre dev)) m ρ (holds m dev _)

/-- The experts' reference runs and leaves its arguments. -/
theorem frame_ri : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

/-- The experts' reference runs and leaves its arguments when the expert indices are in range. -/
theorem frame_ri_pre : Cert.quiescent_MoeRefIdeal_pre_experts_in_range := fun m ρ _ => frame_ri m ρ trivial

/-- The experts' kernel is the reference, element by element, of any arguments whose expert indices are in range. -/
theorem algebraic : Cert.algebraic_MoeIdeal_MoeRefIdeal := by
  intro m ρ m' ρ' hpre hagree
  refine ⟨_, Cert.MoeIdeal.Layers.value (tables m dev (below_pi m hpre dev)) m ρ (holds m dev _), ?_⟩
  refine (θ_run Cert.MoeRefIdeal.defs _ _).mono (fun _ h c => ⟨(h c).1.trans ?_, (h c).2⟩)
    (Cert.MoeRefIdeal.Value.run (F := Ideal) m' ρ')
  refine (Cert.MoeRefIdeal.Read.val_main_v46_eq (F := Ideal) _ _).trans ?_
  rw [(hagree c).1, (hagree c).2.1, (hagree c).2.2.1, (hagree c).2.2.2.1, (hagree c).2.2.2.2.1, (hagree c).2.2.2.2.2.1,
    (hagree c).2.2.2.2.2.2]
  cases one_dev dev c
  exact (Cert.MoeIdeal.Layers.final (tables m dev (below_pi m hpre dev)) m ρ dev).symm

end Cert.Proof.Moe

end
-- ==== Proof.Prep.Math.lean ====
/- What the attention's preparation computes, over the extended reals: the root-mean-square norm of a row of any length,
   the rotary embedding of 64 elements, and what padding a row to 128 lanes with zeros does to either. -/
module

public import proofs.«01_k».proof.Proof.Layers.Math

@[expose] public section

noncomputable section

namespace Cert.Prep

open Idealize.ShloMosaic

/-- Dividing by 512 is multiplying by the kernel's factor, whatever the dividend. -/
theorem div_512 (x : EReal) : Ideal.div x (Ideal.ofBits .f32 0x44000000#32) = x * Ideal.ofBits .f32 0x3B000000#32 := by
  rw [show Ideal.ofBits .f32 0x44000000#32 = ((512 : ℝ) : EReal) by
      simp [Ideal.ofBits, Ideal.ieee, -EReal.coe_mul]; norm_num,
    show Ideal.ofBits .f32 0x3B000000#32 = ((1 / 512 : ℝ) : EReal) by
      simp [Ideal.ofBits, Ideal.ieee, -EReal.coe_mul]; norm_num, Ideal.div_coe (by norm_num)]

/-- Dividing by 256 is multiplying by the kernel's factor, whatever the dividend. -/
theorem div_256 (x : EReal) : Ideal.div x (Ideal.ofBits .f32 0x43800000#32) = x * Ideal.ofBits .f32 0x3B800000#32 := by
  rw [show Ideal.ofBits .f32 0x43800000#32 = ((256 : ℝ) : EReal) by
      simp [Ideal.ofBits, Ideal.ieee, -EReal.coe_mul]; norm_num,
    show Ideal.ofBits .f32 0x3B800000#32 = ((1 / 256 : ℝ) : EReal) by
      simp [Ideal.ofBits, Ideal.ieee, -EReal.coe_mul]; norm_num, Ideal.div_coe (by norm_num)]

/-- Dividing by 128 is multiplying by the kernel's factor, whatever the dividend. -/
theorem div_128 (x : EReal) : Ideal.div x (Ideal.ofBits .f32 0x43000000#32) = x * Ideal.ofBits .f32 0x3C000000#32 := by
  rw [show Ideal.ofBits .f32 0x43000000#32 = ((128 : ℝ) : EReal) by
      simp [Ideal.ofBits, Ideal.ieee, -EReal.coe_mul]; norm_num,
    show Ideal.ofBits .f32 0x3C000000#32 = ((1 / 128 : ℝ) : EReal) by
      simp [Ideal.ofBits, Ideal.ieee, -EReal.coe_mul]; norm_num, Ideal.div_coe (by norm_num)]

/-- Dividing by 64 is multiplying by the kernel's factor, whatever the dividend. -/
theorem div_64 (x : EReal) : Ideal.div x (Ideal.ofBits .f32 0x42800000#32) = x * Ideal.ofBits .f32 0x3C800000#32 := by
  rw [show Ideal.ofBits .f32 0x42800000#32 = ((64 : ℝ) : EReal) by
      simp [Ideal.ofBits, Ideal.ieee, -EReal.coe_mul]; norm_num,
    show Ideal.ofBits .f32 0x3C800000#32 = ((1 / 64 : ℝ) : EReal) by
      simp [Ideal.ofBits, Ideal.ieee, -EReal.coe_mul]; norm_num, Ideal.div_coe (by norm_num)]

/-- Element `k` of the root-mean-square norm of a row `x` with gains `g`; `κ` is the factor the sum of squares is
    multiplied by. -/
def rms {n : ℕ} (κ : BitVec 32) (x g : Fin n → EReal) (k : Fin n) : EReal :=
  x k * Ideal.rsqrt ((∑ j, x j * x j) * Ideal.ofBits .f32 κ + Ideal.ofBits .f32 0x358637BD#32) * g k

/-- A normed element, from the elements of the row and the gain that a program reads. -/
theorem rms_of {n : ℕ} {κ : BitVec 32} {x' x g : Fin n → EReal} {a b : EReal} {k : Fin n} (ha : a = x k)
    (hx : ∀ j, x' j = x j) (hb : b = g k) :
    a * Ideal.rsqrt ((∑ j, x' j * x' j) * Ideal.ofBits .f32 κ + Ideal.ofBits .f32 0x358637BD#32) * b = rms κ x g k := by
  obtain rfl : x' = x := funext hx
  rw [ha, hb, rms]

/-- A row of 64 elements followed by 64 zeros. -/
def pad64 (f : Fin 64 → EReal) (j : Fin 128) : EReal := if h : j.val < 64 then f ⟨j.val, h⟩ else 0

/-- A sum over a padded row is the sum over the row, for a summand that is 0 at 0. -/
theorem sum_pad64 (f : Fin 64 → EReal) : ∑ j, pad64 f j * pad64 f j = ∑ j, f j * f j := by
  rw [Fin.sum_univ_add (a := 64) (b := 64) (f := fun j : Fin (64 + 64) => pad64 f j * pad64 f j)]
  have h0 : ∀ i : Fin 64, pad64 f (Fin.natAdd 64 i) = 0 := fun i => dif_neg (by simp)
  have h1 : ∀ i : Fin 64, pad64 f (Fin.castAdd 64 i) = f i := fun i => dif_pos i.isLt
  simp only [h0, h1, mul_zero, Finset.sum_const_zero, add_zero]

/-- The norm of a padded row with padded gains is the row's norm, padded. -/
theorem rms_pad64 (κ : BitVec 32) (x g : Fin 64 → EReal) : rms κ (pad64 x) (pad64 g) = pad64 (rms κ x g) := by
  funext j
  unfold rms
  rw [sum_pad64]
  unfold pad64
  split
  · rfl
  · rw [mul_zero]

/-- The rotary embedding of a row of 64: each pair `(x j, x (j + 32))` turned by the angle of cosine `c j` and sine
    `s j`. -/
def rope (c s : Fin 32 → EReal) (x : Fin 64 → EReal) (j : Fin 64) : EReal :=
  if h : j.val < 32 then x j * c ⟨j.val, h⟩ - x ⟨j.val + 32, by omega⟩ * s ⟨j.val, h⟩
  else x j * c ⟨j.val - 32, by omega⟩ + x ⟨j.val - 32, by omega⟩ * s ⟨j.val - 32, by omega⟩

/-- The kernel's table of cosines: twice the 32, then zeros. -/
def cosT (c : Fin 32 → EReal) (j : Fin 128) : EReal :=
  if h : j.val < 32 then c ⟨j.val, h⟩ else if h : j.val < 64 then c ⟨j.val - 32, by omega⟩ else 0

/-- The kernel's table of sines: the 32 with their sign turned, the 32, then zeros. -/
def sinT (s : Fin 32 → EReal) (j : Fin 128) : EReal :=
  if h : j.val < 32 then -s ⟨j.val, h⟩ else if h : j.val < 64 then s ⟨j.val - 32, by omega⟩ else 0

/-- The kernel's rotation of a row of 128 lanes, by tables of 128 lanes. -/
def turn (c s x : Fin 128 → EReal) (j : Fin 128) : EReal :=
  x j * c j + (x ⟨(j.val + 96) % 128, by omega⟩ + x ⟨(j.val + 32) % 128, by omega⟩) * s j

/-- On a padded row and the padded tables the kernel's rotation is the rotary embedding, padded. -/
theorem turn_pad64 (c s : Fin 32 → EReal) (x : Fin 64 → EReal) :
    turn (cosT c) (sinT s) (pad64 x) = pad64 (rope c s x) := by
  funext j
  unfold turn
  by_cases h0 : j.val < 32
  · have e1 : pad64 x ⟨(j.val + 96) % 128, by omega⟩ = 0 := dif_neg (by dsimp only; omega)
    have e2 : pad64 x ⟨(j.val + 32) % 128, by omega⟩ = x ⟨j.val + 32, by omega⟩ :=
      (dif_pos (by dsimp only; omega)).trans (congrArg x (Fin.ext (by dsimp only; omega)))
    rw [e1, e2, zero_add]
    simp only [pad64, rope, cosT, sinT, dif_pos h0, dif_pos (show j.val < 64 by omega)]
    rw [mul_neg, sub_eq_add_neg]
  · by_cases h1 : j.val < 64
    · have e1 : pad64 x ⟨(j.val + 96) % 128, by omega⟩ = x ⟨j.val - 32, by omega⟩ :=
        (dif_pos (by dsimp only; omega)).trans (congrArg x (Fin.ext (by dsimp only; omega)))
      have e2 : pad64 x ⟨(j.val + 32) % 128, by omega⟩ = 0 := dif_neg (by dsimp only; omega)
      rw [e1, e2, add_zero]
      simp only [pad64, rope, cosT, sinT, dif_neg h0, dif_pos h1]
    · simp only [pad64, cosT, sinT, dif_neg h0, dif_neg h1, mul_zero, add_zero]

/-- A row of 2048 made of eight heads' pairs of 128 lanes. -/
def heads (A B : Fin 8 → Fin 128 → EReal) (n : Fin 2048) : EReal :=
  if h : n.val % 256 < 128 then A ⟨n.val / 256, by omega⟩ ⟨n.val % 256, h⟩
  else B ⟨n.val / 256, by omega⟩ ⟨n.val % 256 - 128, by omega⟩

/-- The first half of a head's lanes. -/
theorem heads_left (A B : Fin 8 → Fin 128 → EReal) (n : Fin 2048) (h : Fin 8) (j : Fin 128)
    (e : n.val = 256 * h.val + j.val) : heads A B n = A h j := by
  refine (dif_pos (by omega)).trans (congrArg₂ A (Fin.ext ?_) (Fin.ext ?_)) <;> dsimp only <;> omega

/-- The second half of a head's lanes. -/
theorem heads_right (A B : Fin 8 → Fin 128 → EReal) (n : Fin 2048) (h : Fin 8) (j : Fin 128)
    (e : n.val = 256 * h.val + 128 + j.val) : heads A B n = B h j := by
  refine (dif_neg (by omega)).trans (congrArg₂ B (Fin.ext ?_) (Fin.ext ?_)) <;> dsimp only <;> omega

/-- A head row whose second halves are padded, from what it holds on each head's 128 lanes, 64 lanes and zeros. -/
theorem heads_of {A : Fin 8 → Fin 128 → EReal} {B : Fin 8 → Fin 64 → EReal} {n : Fin 2048} {u : EReal}
    (hl : ∀ h : n.val % 256 < 128, u = A ⟨n.val / 256, by omega⟩ ⟨n.val % 256, h⟩)
    (hm : ¬n.val % 256 < 128 → ∀ h : n.val % 256 - 128 < 64, u = B ⟨n.val / 256, by omega⟩ ⟨n.val % 256 - 128, h⟩)
    (hr : ¬n.val % 256 < 128 → ¬n.val % 256 - 128 < 64 → u = 0) : u = heads A (fun h => pad64 (B h)) n := by
  unfold heads
  split
  · exact hl ‹_›
  · unfold pad64
    beta_reduce
    split
    · exact hm ‹_› ‹_›
    · exact hr ‹_› ‹_›

/-- A function of three arguments at equal arguments. -/
theorem congr3 {α β γ δ : Type} (f : α → β → γ → δ) {a a' : α} {b b' : β} {c c' : γ} (ha : a = a') (hb : b = b')
    (hc : c = c') : f a b c = f a' b' c' := by
  rw [ha, hb, hc]

end Cert.Prep

end
-- ==== Proof.Prep.Host.lean ====
/- The attention's preparation: what the host hands the kernel — the padded tables, weights and gains. -/
module

public import proofs.«01_k».proof.Proof.Gen.PrepIdeal.Value
public import Idealize.ShloMosaic.Lib.Pipeline.ValueKit
public import Idealize.ShloMosaic.Lib.StableHlo.RunRead
public import Idealize.ShloMosaic.Lib.KernelVsHost
public import proofs.«01_k».proof.Proof.Prep.Math

@[expose] public section

set_option maxRecDepth 16384

noncomputable section

open Idealize.ShloMosaic Idealize.ShloMosaic.TcCoe Idealize.SL.Sem

namespace Cert.PrepIdeal.Prep

open Cert.PrepIdeal Cert.PrepIdeal.Gen Cert.Layers Cert.Prep

variable (m : (ℓ : Loc nD τ sig) → Buf (Elt Ideal) ℓ)

/-- What the host leaves in the two tables is what its first stretch leaves there. -/
theorem V_first (c : Dev nD) {r : Ref sig .tc} (hr : r ∉ [main_call0_v0, main_v5, main_v6, main_v7, main_v8, main_v9,
    main_v10, main_v11, main_v12, main_c_0, main_call1_v0, main_v13, main_v14, main_v15, main_c_1, main_call2_v0,
    main_v16, main_v17]) :
    V m c r = StableHlo.after hostOps0 (fun b => m (c, b)) r := by
  show StableHlo.after (hostOps0 ++ (hostOps0_1 ++ (hostOps0_2 ++ (hostOps0_3 ++ (hostOps0_4 ++
    (hostOps0_5 ++ hostOps0_6)))))) _ _ = _
  rw [StableHlo.after_append]
  exact StableHlo.after_of_writes_sub _ _ (StableHlo.forall_writes_sub_of_map rfl) hr

/-- A row of a table laid from two halves and zeros, at a position. -/
theorem table_at (a b : FVec Ideal S2048x32 .f32) (z : FVec Ideal S2048x64 .f32) (i : S2048x128.Idx)
    (hz : ∀ j, z j = (0 : EReal)) {w : Fin 128 → EReal}
    (h0 : ∀ h : (i 1).val < 32, w (i 1) = a (ix2 (i 0) ⟨(i 1).val, h⟩))
    (h1 : ∀ h : ¬ (i 1).val < 32, ∀ h' : (i 1).val < 64, w (i 1) = b (ix2 (i 0) ⟨(i 1).val - 32, by omega⟩))
    (h2 : ¬ (i 1).val < 64 → w (i 1) = 0) :
    (show FVec Ideal S2048x128 .f32 from concatenate S2048x128 1 [⟨S2048x32, a⟩, ⟨S2048x32, b⟩, ⟨S2048x64, z⟩]
      concatenates_S2048x32_S2048x32_S2048x64_S2048x128_d1) i = w (i 1) := by
  show concatenate S2048x128 1 [⟨S2048x32, a⟩, ⟨S2048x32, b⟩, ⟨S2048x64, z⟩]
      concatenates_S2048x32_S2048x32_S2048x64_S2048x128_d1 i = w (i 1)
  pointwise
  by_cases e0 : (i 1).val < 32
  · exact Eq.trans (dif_pos e0) (h0 e0).symm
  · refine Eq.trans (dif_neg e0) ?_
    by_cases e1 : (i 1).val < 64
    · exact Eq.trans (dif_pos (by omega)) (h1 e0 e1).symm
    · exact Eq.trans (dif_neg (by omega)) ((hz _).trans (h2 e1).symm)

/-- What the first stretch has left in the zeros, the cosines and the sines before it lays the first table. -/
theorem upto_two (c : Dev nD) :
    StableHlo.upto hostOps0 (fun b => m (c, b)) 2 (Proc.devRef .tc main_v0) =
      (broadcastInDim S2048x64 ![] bcast_S_S2048x64 (constant (F := Ideal) S_ .f32 0x00000000#32)) ∧
    StableHlo.upto hostOps0 (fun b => m (c, b)) 2 (Proc.devRef .tc main_arg1) = m ((c : Thread nD τ).loc main_arg1) := by
  constructor
  · refine (StableHlo.upto_last_write (i := 1) [] rfl rfl (by decide) _).trans ?_
    refine (StableHlo.unary_result' _ _ _ _).trans (congrArg _ ?_)
    refine (StableHlo.upto_last_write (i := 0) [] rfl rfl (by decide) _).trans ?_
    exact StableHlo.nullary_result' _ _ _
  · exact StableHlo.upto_unwritten [main_cst, main_v0] rfl (by decide) _

/-- What the first stretch has left in the zeros, the sines and their negatives before it lays the second table. -/
theorem upto_four (c : Dev nD) :
    StableHlo.upto hostOps0 (fun b => m (c, b)) 4 (Proc.devRef .tc main_v0) =
      (broadcastInDim S2048x64 ![] bcast_S_S2048x64 (constant (F := Ideal) S_ .f32 0x00000000#32)) ∧
    StableHlo.upto hostOps0 (fun b => m (c, b)) 4 (Proc.devRef .tc main_arg2) = m ((c : Thread nD τ).loc main_arg2) ∧
    StableHlo.upto hostOps0 (fun b => m (c, b)) 4 (Proc.devRef .tc main_v2) =
      (Host.negf (m ((c : Thread nD τ).loc main_arg2) : FVec Ideal S2048x32 .f32) : FVec Ideal S2048x32 .f32) := by
  refine ⟨?_, ?_, ?_⟩
  · refine (StableHlo.upto_last_write (i := 1) [main_v1, main_v2] rfl rfl (by decide) _).trans ?_
    refine (StableHlo.unary_result' _ _ _ _).trans (congrArg _ ?_)
    refine (StableHlo.upto_last_write (i := 0) [] rfl rfl (by decide) _).trans ?_
    exact StableHlo.nullary_result' _ _ _
  · exact StableHlo.upto_unwritten [main_cst, main_v0, main_v1, main_v2] rfl (by decide) _
  · refine (StableHlo.upto_last_write (i := 3) [] rfl rfl (by decide) _).trans ?_
    refine (StableHlo.unary_result' _ _ _ _).trans (congrArg _ ?_)
    exact StableHlo.upto_unwritten [main_cst, main_v0, main_v1] rfl (by decide) _

/-- The cosines the host hands over: the table twice and zeros. -/
theorem V_cos (c : Dev nD) :
    V m c main_v1 = concatenate S2048x128 1 [⟨S2048x32, m ((c : Thread nD τ).loc main_arg1)⟩,
      ⟨S2048x32, m ((c : Thread nD τ).loc main_arg1)⟩,
      ⟨S2048x64, broadcastInDim S2048x64 ![] bcast_S_S2048x64 (constant (F := Ideal) S_ .f32 0x00000000#32)⟩]
      concatenates_S2048x32_S2048x32_S2048x64_S2048x128_d1 := by
  rw [V_first m c (by decide)]
  refine (StableHlo.after_last_write (i := 2) [main_v2, main_v3, main_v4, main_c] rfl rfl (by decide) _).trans ?_
  refine (StableHlo.nary_result' _ _ _ _ _).trans ?_
  show concatenate S2048x128 1 [⟨S2048x32, StableHlo.upto hostOps0 (fun b => m (c, b)) 2 (Proc.devRef .tc main_arg1)⟩,
    ⟨S2048x32, StableHlo.upto hostOps0 (fun b => m (c, b)) 2 (Proc.devRef .tc main_arg1)⟩,
    ⟨S2048x64, StableHlo.upto hostOps0 (fun b => m (c, b)) 2 (Proc.devRef .tc main_v0)⟩] _ = _
  rw [(upto_two m c).1, (upto_two m c).2]

/-- The sines the host hands over: their negatives, the table and zeros. -/
theorem V_sin (c : Dev nD) :
    V m c main_v3 = concatenate S2048x128 1 [⟨S2048x32, (Host.negf (m ((c : Thread nD τ).loc main_arg2) :
        FVec Ideal S2048x32 .f32) : FVec Ideal S2048x32 .f32)⟩,
      ⟨S2048x32, m ((c : Thread nD τ).loc main_arg2)⟩,
      ⟨S2048x64, broadcastInDim S2048x64 ![] bcast_S_S2048x64 (constant (F := Ideal) S_ .f32 0x00000000#32)⟩]
      concatenates_S2048x32_S2048x32_S2048x64_S2048x128_d1 := by
  rw [V_first m c (by decide)]
  refine (StableHlo.after_last_write (i := 4) [main_v4, main_c] rfl rfl (by decide) _).trans ?_
  refine (StableHlo.nary_result' _ _ _ _ _).trans ?_
  show concatenate S2048x128 1 [⟨S2048x32, StableHlo.upto hostOps0 (fun b => m (c, b)) 4 (Proc.devRef .tc main_v2)⟩,
    ⟨S2048x32, StableHlo.upto hostOps0 (fun b => m (c, b)) 4 (Proc.devRef .tc main_arg2)⟩,
    ⟨S2048x64, StableHlo.upto hostOps0 (fun b => m (c, b)) 4 (Proc.devRef .tc main_v0)⟩] _ = _
  rw [(upto_four m c).1, (upto_four m c).2.1, (upto_four m c).2.2]

/-- The zeros the tables are filled up with. -/
theorem zeros_at (j : S2048x64.Idx) : (broadcastInDim S2048x64 ![] bcast_S_S2048x64
    (constant (F := Ideal) S_ .f32 0x00000000#32) : FVec Ideal S2048x64 .f32) j = (0 : EReal) := by
  pointwise

/-- The cosines the host hands over, at a position. -/
theorem host_cos (c : Dev nD) (i : S2048x128.Idx) :
    (show FVec Ideal S2048x128 .f32 from V m c main_v1) i =
      cosT (fun j => (show FVec Ideal S2048x32 .f32 from m ((c : Thread nD τ).loc main_arg1)) (ix2 (i 0) j)) (i 1) := by
  show V m c main_v1 i = _
  rw [V_cos]
  refine table_at _ _ _ i zeros_at (w := cosT fun j => (show FVec Ideal S2048x32 .f32 from
    m ((c : Thread nD τ).loc main_arg1)) (ix2 (i 0) j)) (fun h => ?_) (fun h h' => ?_) (fun h => ?_) <;> unfold cosT
  · exact dif_pos h
  · exact (dif_neg h).trans (dif_pos h')
  · exact (dif_neg fun h' => h (by omega)).trans (dif_neg h)

/-- The sines the host hands over, at a position. -/
theorem host_sin (c : Dev nD) (i : S2048x128.Idx) :
    (show FVec Ideal S2048x128 .f32 from V m c main_v3) i =
      sinT (fun j => (show FVec Ideal S2048x32 .f32 from m ((c : Thread nD τ).loc main_arg2)) (ix2 (i 0) j)) (i 1) := by
  show V m c main_v3 i = _
  rw [V_sin]
  refine table_at _ _ _ i zeros_at (w := sinT fun j => (show FVec Ideal S2048x32 .f32 from
    m ((c : Thread nD τ).loc main_arg2)) (ix2 (i 0) j)) (fun h => ?_) (fun h h' => ?_) (fun h => ?_) <;> unfold sinT
  · exact dif_pos h
  · exact (dif_neg h).trans (dif_pos h')
  · exact (dif_neg fun h' => h (by omega)).trans (dif_neg h)

/-- The integer zero, converted. -/
theorem zero_at : (FloatOps.sitofp (F := Ideal) FTy.f32 (0#32 : BitVec 32)) = (0 : EReal) := sitofp_zero

/-- The padded query weight, at a position, of any weight. -/
theorem wuq_at (A : FVec Ideal S512x1536 .f32) (i : S512x2048.Idx) :
    (show FVec Ideal S512x2048 .bf16 from truncf (F := Ideal) .bf16 (shapeCast S512x2048 (pad S512x8x256 ![0, 0, 0] ![0, 0, 64] ![0, 0, 0]
        (shapeCast S512x8x192 A shapeCasts_S512x1536_S512x8x192) (sitofp (F := Ideal) .f32 (constantI S_ 32 0#32))
        pads_S512x8x192_S512x8x256_000_000_0640 h_S_) shapeCasts_S512x8x256_S512x2048) bitsLt_bf16_f32) i =
      if h : (i 1).val % 256 < 192 then A (ix2 (i 0) ⟨192 * ((i 1).val / 256) + (i 1).val % 256, by
          have : (i 1).val < 2048 := (i 1).isLt
          omega⟩) else 0 := by
  pointwise
  have e : (i 1).val / 256 * 192 + (i 1).val % 256 = 192 * ((i 1).val / 256) + (i 1).val % 256 := by omega
  have hl : (i 1).val < 2048 := (i 1).isLt
  by_cases h : (i 1).val % 256 < 192
  · rw [dif_pos h]
    exact Eq.trans (dif_pos ⟨by omega, h⟩) (congrArg (fun a => A (ix2 (i 0) a)) (Fin.ext e))
  · rw [dif_neg h]
    exact Eq.trans (dif_neg fun h' => h h'.2) zero_at

/-- A padded gain, at a position, of any gain. -/
theorem gain_at (A : FVec Ideal S64 .f32) (i : S1x128.Idx) :
    (show FVec Ideal S1x128 .f32 from shapeCast S1x128 (pad S128 ![0] ![64] ![0] A
      (sitofp (F := Ideal) .f32 (constantI S_ 32 0#32)) pads_S64_S128_0640 h_S_) shapeCasts_S128_S1x128) i =
      pad64 (fun j => A (ix1 j)) (i 1) := by
  pointwise
  unfold pad64
  by_cases h : (i 1).val < 64
  · rw [dif_pos h]
    exact Eq.symm (dif_pos h)
  · rw [dif_neg h]
    exact zero_at.trans (Eq.symm (dif_neg h))

/-- The query weight the host hands over, each head's columns padded, at a position. -/
theorem host_wuq (c : Dev nD) (i : S512x2048.Idx) :
    V m c main_v8 i =
      if h : (i 1).val % 256 < 192 then (show FVec Ideal S512x1536 .f32 from m ((c : Thread nD τ).loc main_arg3))
        (ix2 (i 0) ⟨192 * ((i 1).val / 256) + (i 1).val % 256, by
          have : (i 1).val < 2048 := (i 1).isLt
          omega⟩) else (0 : EReal) := by
  simp only [V, hostOps0, hostOps0_1, hostOps0_2, hostOps0_3, hostOps0_4, hostOps0_5, hostOps0_6, List.flatten_cons,
    List.flatten_nil, List.append_nil, List.cons_append, List.nil_append]
  entry_read
  exact wuq_at _ i

/-- The padded gains of the rotated queries the host hands over, at a position. -/
theorem host_gqr (c : Dev nD) (i : S1x128.Idx) :
    V m c main_v14 i = pad64 (fun j => (show FVec Ideal S64 .f32 from m ((c : Thread nD τ).loc main_arg10)) (ix1 j)) (i 1) := by
  simp only [V, hostOps0, hostOps0_1, hostOps0_2, hostOps0_3, hostOps0_4, hostOps0_5, hostOps0_6, List.flatten_cons,
    List.flatten_nil, List.append_nil, List.cons_append, List.nil_append]
  entry_read
  exact gain_at _ i

/-- The padded gains of the rotated keys the host hands over, at a position. -/
theorem host_gkr (c : Dev nD) (i : S1x128.Idx) :
    V m c main_v17 i = pad64 (fun j => (show FVec Ideal S64 .f32 from m ((c : Thread nD τ).loc main_arg8)) (ix1 j)) (i 1) := by
  simp only [V, hostOps0, hostOps0_1, hostOps0_2, hostOps0_3, hostOps0_4, hostOps0_5, hostOps0_6, List.flatten_cons,
    List.flatten_nil, List.append_nil, List.cons_append, List.nil_append]
  entry_read
  exact gain_at _ i

/-- The gains of the compressed queries the host hands over, at a position. -/
theorem host_gcq (c : Dev nD) (i : S1x512.Idx) :
    V m c main_v7 i = (show FVec Ideal S512 .f32 from m ((c : Thread nD τ).loc main_arg6)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The gains of the compressed keys the host hands over, at a position. -/
theorem host_gckv (c : Dev nD) (i : S1x256.Idx) :
    V m c main_v9 i = (show FVec Ideal S256 .f32 from m ((c : Thread nD τ).loc main_arg7)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The gains of the plain queries the host hands over, at a position. -/
theorem host_gqn (c : Dev nD) (i : S1x128.Idx) :
    V m c main_v12 i = (show FVec Ideal S128 .f32 from m ((c : Thread nD τ).loc main_arg9)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The gains of the plain keys the host hands over, at a position. -/
theorem host_gkn (c : Dev nD) (i : S1x128.Idx) :
    V m c main_v15 i = (show FVec Ideal S128 .f32 from m ((c : Thread nD τ).loc main_arg11)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The key weight the host hands over. -/
theorem host_wuk (c : Dev nD) (i : S256x1024.Idx) :
    V m c main_v10 i = (show FVec Ideal S256x1024 .f32 from m ((c : Thread nD τ).loc main_arg4)) i := by
  simp only [V, hostOps0, hostOps0_1, hostOps0_2, hostOps0_3, hostOps0_4, hostOps0_5, hostOps0_6, List.flatten_cons,
    List.flatten_nil, List.append_nil, List.cons_append, List.nil_append]
  entry_read
  pointwise

/-- The value weight the host hands over. -/
theorem host_wuv (c : Dev nD) (i : S256x1024.Idx) :
    V m c main_v11 i = (show FVec Ideal S256x1024 .f32 from m ((c : Thread nD τ).loc main_arg5)) i := by
  simp only [V, hostOps0, hostOps0_1, hostOps0_2, hostOps0_3, hostOps0_4, hostOps0_5, hostOps0_6, List.flatten_cons,
    List.flatten_nil, List.append_nil, List.cons_append, List.nil_append]
  entry_read
  pointwise

end Cert.PrepIdeal.Prep

end
-- ==== Proof.Prep.Pay.lean ====
/- The attention's preparation: what the kernel's five result blocks hold, from the blocks it reads. -/
module

public import proofs.«01_k».proof.Proof.Gen.PrepIdeal.Value
public import Idealize.ShloMosaic.Lib.Pipeline.ValueKit
public import proofs.«01_k».proof.Proof.Prep.Math

@[expose] public section

set_option maxRecDepth 16384

noncomputable section

open Idealize.ShloMosaic Idealize.ShloMosaic.TcCoe Idealize.SL.Sem

namespace Cert.PrepIdeal.Prep

open Cert.PrepIdeal Cert.PrepIdeal.Gen Cert.Layers Cert.Prep

/-- The kernel's normed head, of any 128 columns. -/
theorem norm_at (x : FVec Ideal S512x128 .f32) (g : FVec Ideal S1x128 .f32) (y : S512x128.Idx) :
    (show FVec Ideal S512x128 .bf16 from k0_pay23 (F := Ideal) x g) y =
      rms 0x3C000000#32 (fun j => x (ix2 (y 0) j)) (fun j => g (ix2 0 j)) (y 1) := by
  pointwise [k0_pay23]
  refine rms_of (congrArg x ?_) (fun j => rfl) rfl
  blk_ext

/-- The kernel's rotated head, of any 128 columns. -/
theorem turn_at (c s x : FVec Ideal S512x128 .f32) (g : FVec Ideal S1x128 .f32) (y : S512x128.Idx) :
    (show FVec Ideal S512x128 .bf16 from k0_pay20 (F := Ideal) c s x g) y =
      turn (fun j => c (ix2 (y 0) j)) (fun j => s (ix2 (y 0) j))
        (rms 0x3C800000#32 (fun j => x (ix2 (y 0) j)) (fun j => g (ix2 0 j))) (y 1) := by
  pointwise [k0_pay20]
  have h1 : (y 1).val < 128 := (y 1).isLt
  have hy : y = ix2 (y 0) (y 1) := by blk_ext
  have e1 : ((y 1).val + 128 - 32) % 128 = ((y 1).val + 96) % 128 := by omega
  have e2 : ((y 1).val + 128 - 96) % 128 = ((y 1).val + 32) % 128 := by omega
  unfold turn
  refine congrArg₂ (fun a b : EReal => a + b)
    (congrArg₂ (fun a b : EReal => a * b) (rms_of (congrArg x hy) (fun j => rfl) rfl) (congrArg c hy))
    (congrArg₂ (fun a b : EReal => a * b) (congrArg₂ (fun a b : EReal => a + b)
      (rms_of (congrArg (fun j => x (ix2 (y 0) j)) (Fin.ext e1)) (fun j => rfl)
        (congrArg (fun j => g (ix2 0 j)) (Fin.ext e1)))
      (rms_of (congrArg (fun j => x (ix2 (y 0) j)) (Fin.ext e2)) (fun j => rfl)
        (congrArg (fun j => g (ix2 0 j)) (Fin.ext e2)))) (congrArg s hy))

/-- The kernel's normed latents of the keys and values. -/
theorem ckv_at (x : FVec Ideal S512x256 .f32) (g : FVec Ideal S1x256 .f32) (y : S512x256.Idx) :
    (show FVec Ideal S512x256 .f32 from k0_pay4 (F := Ideal) x g) y =
      rms 0x3B800000#32 (fun j => x (ix2 (y 0) j)) (fun j => g (ix2 0 j)) (y 1) := by
  pointwise [k0_pay4]
  refine rms_of (congrArg x ?_) (fun j => rfl) rfl
  blk_ext

/-- The kernel's normed latents of the queries. -/
theorem cq_at (x : FVec Ideal S512x512 .f32) (g : FVec Ideal S1x512 .f32) (y : S512x512.Idx) :
    (show FVec Ideal S512x512 .bf16 from k0_pay14 (F := Ideal) x g) y =
      rms 0x3B000000#32 (fun j => x (ix2 (y 0) j)) (fun j => g (ix2 0 j)) (y 1) := by
  pointwise [k0_pay14]
  refine rms_of (congrArg x ?_) (fun j => rfl) rfl
  blk_ext

/-- The kernel's keys before their norms. -/
theorem kf_at (x : FVec Ideal S512x256 .bf16) (w : FVec Ideal S256x1024 .bf16) (y : S512x1024.Idx) :
    (show FVec Ideal S512x1024 .f32 from k0_pay12 (F := Ideal) x w) y = ∑ k, x (ix2 (y 0) k) * w (ix2 k (y 1)) := by
  pointwise [k0_pay12]

/-- The kernel's values. -/
theorem v_at (x : FVec Ideal S512x256 .bf16) (w : FVec Ideal S256x1024 .bf16) (y : S512x1024.Idx) :
    (show FVec Ideal S512x1024 .bf16 from k0_pay13 (F := Ideal) x w) y = ∑ k, x (ix2 (y 0) k) * w (ix2 k (y 1)) := by
  pointwise [k0_pay13]

/-- The kernel's queries before their norms. -/
theorem qf_at (x : FVec Ideal S512x512 .bf16) (w : FVec Ideal S512x2048 .bf16) (y : S512x2048.Idx) :
    (show FVec Ideal S512x2048 .f32 from k0_pay15 (F := Ideal) x w) y = ∑ k, x (ix2 (y 0) k) * w (ix2 k (y 1)) := by
  pointwise [k0_pay15]

/-- The kernel's key part: the first 64 lanes of its block, the others 0. -/
theorem mask_at (x : FVec Ideal S512x128 .f32) (r : Fin 512) :
    (fun j : Fin 128 => (show FVec Ideal S512x128 .f32 from k0_pay6 (F := Ideal) x) (ix2 r j)) =
      pad64 fun j => x (ix2 r ⟨j.val, by omega⟩) := by
  funext j
  pointwise [k0_pay6]
  have hlt : (BitVec.ofNat 32 j.val).slt 64#32 = decide (j.val < 64) := by
    have h : (BitVec.ofNat 32 j.val).toInt = j.val := by
      rw [BitVec.toInt_eq_toNat_of_lt] <;> rw [BitVec.toNat_ofNat, Nat.mod_eq_of_lt (by omega)] <;> omega
    rw [BitVec.slt, h]
    exact decide_eq_decide.mpr Int.ofNat_lt
  unfold pad64
  by_cases h : j.val < 64
  · rw [dif_pos h]
    simp [Scalar.select, IntOp.cmpi, hlt, h]
  · rw [dif_neg h]
    simp [Scalar.select, IntOp.cmpi, hlt, h]

/-- A row of the kernel's queries, from the row of queries before their norms. -/
def qRow (c s : FVec Ideal S512x128 .f32) (v : FVec Ideal S512x2048 .f32) (g g' : FVec Ideal S1x128 .f32)
    (r : Fin 512) : Fin 2048 → EReal :=
  heads (fun h => rms 0x3C000000#32 (fun j => v (ix2 r ⟨256 * h.val + j.val, by omega⟩)) (fun j => g (ix2 0 j)))
    (fun h => turn (fun j => c (ix2 r j)) (fun j => s (ix2 r j))
      (rms 0x3C800000#32 (fun j => v (ix2 r ⟨256 * h.val + 128 + j.val, by omega⟩)) (fun j => g' (ix2 0 j))))

/-- A row of the kernel's keys, from the row of keys before their norms and the row of the key part. -/
def kRow (v : FVec Ideal S512x1024 .f32) (p : FVec Ideal S512x128 .bf16) (g : FVec Ideal S1x128 .f32)
    (r : Fin 512) : Fin 2048 → EReal :=
  heads (fun h => rms 0x3C000000#32 (fun j => v (ix2 r ⟨128 * h.val + j.val, by omega⟩)) (fun j => g (ix2 0 j)))
    (fun h j => p (ix2 r j))

/-- One normed head of the queries, stored at its columns. -/
theorem q_norm_piece (c s : FVec Ideal S512x128 .f32) (v : FVec Ideal S512x2048 .f32) (g g' : FVec Ideal S1x128 .f32)
    (h : Fin 8) (hs : S512x2048.Slices ![0, 256 * h.val] S512x128) (x : S512x128.Idx) (y : S512x2048.Idx)
    (h0 : (y 0).val = (x 0).val) (h1 : (y 1).val = 256 * h.val + (x 1).val) :
    (show FVec Ideal S512x128 .bf16 from k0_pay23 (F := Ideal) (extractStridedSlice S512x128 ![0, 256 * h.val] v hs) g) x =
      qRow c s v g g' (y 0) (y 1) := by
  obtain e : y 0 = x 0 := Fin.ext h0
  refine (norm_at _ _ x).trans (Eq.trans ?_ (heads_left _ _ _ h (x 1) h1).symm)
  rw [e]
  refine congrArg (fun a => rms _ a _ _) (funext fun j => ?_)
  pointwise

/-- One rotated head of the queries, stored at its columns. -/
theorem q_turn_piece (c s : FVec Ideal S512x128 .f32) (v : FVec Ideal S512x2048 .f32) (g g' : FVec Ideal S1x128 .f32)
    (h : Fin 8) (hs : S512x2048.Slices ![0, 256 * h.val + 128] S512x128) (x : S512x128.Idx) (y : S512x2048.Idx)
    (h0 : (y 0).val = (x 0).val) (h1 : (y 1).val = 256 * h.val + 128 + (x 1).val) :
    (show FVec Ideal S512x128 .bf16 from k0_pay20 (F := Ideal) c s
        (extractStridedSlice S512x128 ![0, 256 * h.val + 128] v hs) g') x = qRow c s v g g' (y 0) (y 1) := by
  obtain e : y 0 = x 0 := Fin.ext h0
  refine (turn_at _ _ _ _ x).trans (Eq.trans ?_ (heads_right _ _ _ h (x 1) h1).symm)
  rw [e]
  refine congrArg (fun a => turn _ _ (rms _ a _) _) (funext fun j => ?_)
  pointwise

/-- One normed head of the keys, stored at its columns. -/
theorem k_norm_piece (v : FVec Ideal S512x1024 .f32) (p : FVec Ideal S512x128 .bf16) (g : FVec Ideal S1x128 .f32)
    (h : Fin 8) (hs : S512x1024.Slices ![0, 128 * h.val] S512x128) (x : S512x128.Idx) (y : S512x2048.Idx)
    (h0 : (y 0).val = (x 0).val) (h1 : (y 1).val = 256 * h.val + (x 1).val) :
    (show FVec Ideal S512x128 .bf16 from k0_pay23 (F := Ideal) (extractStridedSlice S512x128 ![0, 128 * h.val] v hs) g) x =
      kRow v p g (y 0) (y 1) := by
  obtain e : y 0 = x 0 := Fin.ext h0
  refine (norm_at _ _ x).trans (Eq.trans ?_ (heads_left _ _ _ h (x 1) h1).symm)
  rw [e]
  refine congrArg (fun a => rms _ a _ _) (funext fun j => ?_)
  pointwise

/-- The rotated key part, stored at a head's columns. -/
theorem k_turn_piece (v : FVec Ideal S512x1024 .f32) (p : FVec Ideal S512x128 .bf16) (g : FVec Ideal S1x128 .f32)
    (h : Fin 8) (x : S512x128.Idx) (y : S512x2048.Idx)
    (h0 : (y 0).val = (x 0).val) (h1 : (y 1).val = 256 * h.val + 128 + (x 1).val) :
    p x = kRow v p g (y 0) (y 1) := by
  obtain e : y 0 = x 0 := Fin.ext h0
  refine Eq.trans ?_ (heads_right _ _ _ h (x 1) h1).symm
  rw [e]
  exact congrArg p (by blk_ext)

/-- An offset of zeros, on two axes. -/
theorem zero2 : (![0, 0] : Fin 2 → ℕ) = fun _ => 0 := by
  funext a
  match a with
    | ⟨0, _⟩ => rfl
    | ⟨1, _⟩ => rfl

/-- A load of a whole block reads the block. -/
theorem ld_all {e : EltTy} {S : Shape} {off : Fin S.rank → ℕ} (h : off = fun _ => 0)
    (inb : ∀ a, off a + S.size a ≤ S.size a) (v : Vec Ideal S e) :
    View.ld v (Rect.unit (s := S) off S.size inb) = v := View.ld_unit_zero h inb v

variable (x0 : FVec Ideal S512x512 .f32) (x1 : FVec Ideal S512x256 .f32) (x2 x3 x4 : FVec Ideal S512x128 .f32)
  (x5 : FVec Ideal S512x2048 .bf16) (x6 x7 : FVec Ideal S256x1024 .bf16) (x8 : FVec Ideal S1x512 .f32)
  (x9 : FVec Ideal S1x256 .f32) (x10 x11 x12 x13 : FVec Ideal S1x128 .f32)

/-- The cosines the kernel turns by are its block. -/
theorem cos_eq : k0_pay60 (F := Ideal) x0 x1 x2 x3 x4 x5 x6 x7 x8 x9 x10 x11 x12 x13 = x3 := by
  unfold k0_pay60 k0_pay2
  dsimp only
  rw [shapeCast_self]
  exact ld_all (e := .f32) (S := S512x128) zero2 _ x3

/-- The sines the kernel turns by are its block. -/
theorem sin_eq : k0_pay61 (F := Ideal) x0 x1 x2 x3 x4 x5 x6 x7 x8 x9 x10 x11 x12 x13 = x4 := by
  unfold k0_pay61 k0_pay3
  dsimp only
  rw [shapeCast_self]
  exact ld_all (e := .f32) (S := S512x128) zero2 _ x4

/-- The kernel's normed latents of the queries, of its blocks. -/
theorem cq_eq : k0_pay68 (F := Ideal) x0 x1 x2 x3 x4 x5 x6 x7 x8 x9 x10 x11 x12 x13 = k0_pay14 (F := Ideal) x0 x8 :=
  congrArg₂ (k0_pay14 (F := Ideal)) (ld_all (e := .f32) (S := S512x512) zero2 _ x0) (ld_all (e := .f32) (S := S1x512) zero2 _ x8)

/-- The kernel's queries before their norms, of its blocks. -/
theorem qf_eq : k0_pay69 (F := Ideal) x0 x1 x2 x3 x4 x5 x6 x7 x8 x9 x10 x11 x12 x13 = k0_pay15 (F := Ideal) (k0_pay14 x0 x8) x5 :=
  congrArg₂ (k0_pay15 (F := Ideal)) (cq_eq x0 x1 x2 x3 x4 x5 x6 x7 x8 x9 x10 x11 x12 x13) (ld_all (e := .bf16) (S := S512x2048) zero2 _ x5)

/-- The kernel's normed latents of the keys and values, of its blocks. -/
theorem ckv_eq : k0_pay62 (F := Ideal) x0 x1 x2 x3 x4 x5 x6 x7 x8 x9 x10 x11 x12 x13 = k0_pay4 (F := Ideal) x1 x9 :=
  congrArg₂ (k0_pay4 (F := Ideal)) (ld_all (e := .f32) (S := S512x256) zero2 _ x1) (ld_all (e := .f32) (S := S1x256) zero2 _ x9)

/-- The kernel's keys before their norms, of its blocks. -/
theorem kf_eq : k0_pay67 (F := Ideal) x0 x1 x2 x3 x4 x5 x6 x7 x8 x9 x10 x11 x12 x13 = k0_pay12 (F := Ideal) (k0_pay4 (F := Ideal) x1 x9) x6 :=
  congrArg₂ (k0_pay12 (F := Ideal)) (ckv_eq x0 x1 x2 x3 x4 x5 x6 x7 x8 x9 x10 x11 x12 x13) (ld_all (e := .bf16) (S := S256x1024) zero2 _ x6)

/-- The kernel's gains of the keys, of its block. -/
theorem gk_eq : k0_pay70 (F := Ideal) x0 x1 x2 x3 x4 x5 x6 x7 x8 x9 x10 x11 x12 x13 = k0_pay16 (F := Ideal) x13 :=
  congrArg (k0_pay16 (F := Ideal)) (ld_all (e := .f32) (S := S1x128) zero2 _ x13)

/-- The key part is rotated as a head of the queries is. -/
theorem kr_of (c s x : FVec Ideal S512x128 .f32) (g : FVec Ideal S1x128 .f32) :
    k0_pay11 (F := Ideal) c s (k0_pay6 (F := Ideal) x) (k0_pay7 (F := Ideal) g) (k0_pay8 (F := Ideal) x) =
      k0_pay20 (F := Ideal) c s (k0_pay6 (F := Ideal) x) g := rfl

/-- The kernel's rotated key part, of its blocks. -/
theorem kr_eq : k0_pay66 (F := Ideal) x0 x1 x2 x3 x4 x5 x6 x7 x8 x9 x10 x11 x12 x13 = k0_pay20 (F := Ideal) x3 x4 (k0_pay6 (F := Ideal) x2) x10 := by
  unfold k0_pay66 k0_pay63 k0_pay64 k0_pay65
  rw [cos_eq, sin_eq]
  refine (kr_of _ _ _ _).trans ?_
  rw [ld_all (e := .f32) (S := S512x128) zero2, ld_all (e := .f32) (S := S1x128) zero2]

/-- The kernel's block of queries. -/
theorem out16_at (y : S512x2048.Idx) :
    (show FVec Ideal S512x2048 .bf16 from out0_16 (F := Ideal) x0 x1 x2 x3 x4 x5 x6 x7 x8 x9 x10 x11 x12 x13) y =
      qRow x3 x4 (k0_pay15 (F := Ideal) (k0_pay14 x0 x8) x5) x11 x12 (y 0) (y 1) := by
  show out0_16 (F := Ideal) x0 x1 x2 x3 x4 x5 x6 x7 x8 x9 x10 x11 x12 x13 y = _
  frame_out
  rw [cos_eq, sin_eq, qf_eq, cq_eq]
  canon_tiles x e
  · exact q_turn_piece _ _ _ _ _ 7 (by decide) x y e0 e1
  · exact q_norm_piece _ _ _ _ _ 7 (by decide) x y e0 e1
  · exact q_turn_piece _ _ _ _ _ 6 (by decide) x y e0 e1
  · exact q_norm_piece _ _ _ _ _ 6 (by decide) x y e0 e1
  · exact q_turn_piece _ _ _ _ _ 5 (by decide) x y e0 e1
  · exact q_norm_piece _ _ _ _ _ 5 (by decide) x y e0 e1
  · exact q_turn_piece _ _ _ _ _ 4 (by decide) x y e0 e1
  · exact q_norm_piece _ _ _ _ _ 4 (by decide) x y e0 e1
  · exact q_turn_piece _ _ _ _ _ 3 (by decide) x y e0 e1
  · exact q_norm_piece _ _ _ _ _ 3 (by decide) x y e0 e1
  · exact q_turn_piece _ _ _ _ _ 2 (by decide) x y e0 e1
  · exact q_norm_piece _ _ _ _ _ 2 (by decide) x y e0 e1
  · exact q_turn_piece _ _ _ _ _ 1 (by decide) x y e0 e1
  · exact q_norm_piece _ _ _ _ _ 1 (by decide) x y e0 e1
  · exact q_turn_piece _ _ _ _ _ 0 (by decide) x y e0 e1
  · exact q_norm_piece _ _ _ _ _ 0 (by decide) x y e0 (e1.trans (Nat.zero_add _).symm)

/-- The kernel's block of keys. -/
theorem out17_at (y : S512x2048.Idx) :
    (show FVec Ideal S512x2048 .bf16 from out0_17 (F := Ideal) x0 x1 x2 x3 x4 x5 x6 x7 x8 x9 x10 x11 x12 x13) y =
      kRow (k0_pay12 (F := Ideal) (k0_pay4 (F := Ideal) x1 x9) x6) (k0_pay20 (F := Ideal) x3 x4 (k0_pay6 (F := Ideal) x2) x10) x13
        (y 0) (y 1) := by
  show out0_17 (F := Ideal) x0 x1 x2 x3 x4 x5 x6 x7 x8 x9 x10 x11 x12 x13 y = _
  frame_out
  rw [kr_eq, kf_eq, gk_eq]
  canon_tiles x e
  · exact k_turn_piece _ _ _ 7 x y e0 e1
  · exact k_norm_piece _ _ _ 7 (by decide) x y e0 e1
  · exact k_turn_piece _ _ _ 6 x y e0 e1
  · exact k_norm_piece _ _ _ 6 (by decide) x y e0 e1
  · exact k_turn_piece _ _ _ 5 x y e0 e1
  · exact k_norm_piece _ _ _ 5 (by decide) x y e0 e1
  · exact k_turn_piece _ _ _ 4 x y e0 e1
  · exact k_norm_piece _ _ _ 4 (by decide) x y e0 e1
  · exact k_turn_piece _ _ _ 3 x y e0 e1
  · exact k_norm_piece _ _ _ 3 (by decide) x y e0 e1
  · exact k_turn_piece _ _ _ 2 x y e0 e1
  · exact k_norm_piece _ _ _ 2 (by decide) x y e0 e1
  · exact k_turn_piece _ _ _ 1 x y e0 e1
  · exact k_norm_piece _ _ _ 1 (by decide) x y e0 e1
  · exact k_turn_piece _ _ _ 0 x y e0 e1
  · exact k_norm_piece _ _ _ 0 (by decide) x y e0 (e1.trans (Nat.zero_add _).symm)

/-- The kernel's block of normed latents. -/
theorem out14_at (y : S512x256.Idx) :
    (show FVec Ideal S512x256 .f32 from out0_14 (F := Ideal) x0 x1 x2 x3 x4 x5 x6 x7 x8 x9 x10 x11 x12 x13) y =
      rms 0x3B800000#32 (fun j => x1 (ix2 (y 0) j)) (fun j => x9 (ix2 0 j)) (y 1) := by
  show out0_14 (F := Ideal) x0 x1 x2 x3 x4 x5 x6 x7 x8 x9 x10 x11 x12 x13 y = _
  frame_out
  exact ckv_at x1 x9 y

/-- The kernel's block of the rotated key part. -/
theorem out15_at (y : S512x64.Idx) :
    (show FVec Ideal S512x64 .f32 from out0_15 (F := Ideal) x0 x1 x2 x3 x4 x5 x6 x7 x8 x9 x10 x11 x12 x13) y =
      (show FVec Ideal S512x128 .bf16 from k0_pay20 (F := Ideal) x3 x4 (k0_pay6 (F := Ideal) x2) x10)
        (ix2 (y 0) ⟨(y 1).val, Nat.lt_trans (show (y 1).val < 64 from (y 1).isLt) (by norm_num)⟩) := by
  show out0_15 (F := Ideal) x0 x1 x2 x3 x4 x5 x6 x7 x8 x9 x10 x11 x12 x13 y = k0_pay20 (F := Ideal) x3 x4 (k0_pay6 (F := Ideal) x2) x10 _
  rw [← kr_eq x0 x1 x2 x3 x4 x5 x6 x7 x8 x9 x10 x11 x12 x13]
  have h : out0_15 (F := Ideal) x0 x1 x2 x3 x4 x5 x6 x7 x8 x9 x10 x11 x12 x13 = extractStridedSlice S512x64 ![0, 0] (k0_pay66 (F := Ideal) x0 x1 x2 x3 x4 x5 x6 x7 x8 x9 x10 x11 x12 x13) (by decide) := by
    frame_out
    rfl
  rw [h]
  pointwise

/-- The kernel's block of values. -/
theorem out18_at (y : S512x1024.Idx) :
    (show FVec Ideal S512x1024 .bf16 from out0_18 (F := Ideal) x0 x1 x2 x3 x4 x5 x6 x7 x8 x9 x10 x11 x12 x13) y =
      ∑ k, k0_pay4 (F := Ideal) x1 x9 (ix2 (y 0) k) * x7 (ix2 k (y 1)) := by
  show out0_18 (F := Ideal) x0 x1 x2 x3 x4 x5 x6 x7 x8 x9 x10 x11 x12 x13 y = _
  frame_out
  rw [ckv_eq]
  exact v_at _ x7 y

end Cert.PrepIdeal.Prep

end
-- ==== Proof.Prep.Ref.lean ====
/- The attention's preparation: what the reference's five results hold, row by row. -/
module

public import proofs.«01_k».proof.Proof.Gen.PrepRefIdeal.Read
public import Idealize.ShloMosaic.Lib.Pipeline.ValueKit
public import proofs.«01_k».proof.Proof.Prep.Math

@[expose] public section

set_option maxRecDepth 16384

noncomputable section

open Idealize.ShloMosaic Idealize.ShloMosaic.TcCoe Idealize.SL.Sem

namespace Cert.PrepRefIdeal.Prep

open Cert.PrepRefIdeal Cert.PrepRefIdeal.Gen Cert.Layers Cert.Prep

/-- A row's normed query latents. -/
def cq (x0 : FVec Ideal S16384x4096 .f32) (x6 : FVec Ideal S512 .f32) (r : Fin 16384) : Fin 512 → EReal :=
  rms 0x3B000000#32 (fun j => x0 (ix2 r ⟨3072 + j.val, by omega⟩)) (fun j => x6 (ix1 j))

/-- A row's normed key and value latents. -/
def ckv (x0 : FVec Ideal S16384x4096 .f32) (x7 : FVec Ideal S256 .f32) (r : Fin 16384) : Fin 256 → EReal :=
  rms 0x3B800000#32 (fun j => x0 (ix2 r ⟨3584 + j.val, by omega⟩)) (fun j => x7 (ix1 j))

/-- A row's rotary embedding: the angles are the position's, the row modulo 2048. -/
def ropeRow (x1 x2 : FVec Ideal S2048x32 .f32) (r : Fin 16384) : (Fin 64 → EReal) → Fin 64 → EReal :=
  rope (fun j => x1 (ix2 ⟨r.val % 2048, by omega⟩ j)) (fun j => x2 (ix2 ⟨r.val % 2048, by omega⟩ j))

/-- A row's rotated key part. -/
def kpe (x0 : FVec Ideal S16384x4096 .f32) (x1 x2 : FVec Ideal S2048x32 .f32) (x8 : FVec Ideal S64 .f32)
    (r : Fin 16384) : Fin 64 → EReal :=
  ropeRow x1 x2 r (rms 0x3C800000#32 (fun j => x0 (ix2 r ⟨3840 + j.val, by omega⟩)) (fun j => x8 (ix1 j)))

/-- A row's queries before their norms. -/
def qf (x0 : FVec Ideal S16384x4096 .f32) (x3 : FVec Ideal S512x1536 .f32) (x6 : FVec Ideal S512 .f32)
    (r : Fin 16384) (n : Fin 1536) : EReal := ∑ k, cq x0 x6 r k * x3 (ix2 k n)

/-- A row's latents through a weight matrix: the keys before their norms, or the values. -/
def kf (x0 : FVec Ideal S16384x4096 .f32) (w : FVec Ideal S256x1024 .f32) (x7 : FVec Ideal S256 .f32)
    (r : Fin 16384) (n : Fin 1024) : EReal := ∑ k, ckv x0 x7 r k * w (ix2 k n)

/-- A head's normed queries. -/
def qnope (x0 : FVec Ideal S16384x4096 .f32) (x3 : FVec Ideal S512x1536 .f32) (x6 : FVec Ideal S512 .f32)
    (x9 : FVec Ideal S128 .f32) (r : Fin 16384) (h : Fin 8) : Fin 128 → EReal :=
  rms 0x3C000000#32 (fun j => qf x0 x3 x6 r ⟨192 * h.val + j.val, by omega⟩) (fun j => x9 (ix1 j))

/-- A head's rotated query part. -/
def qpe (x0 : FVec Ideal S16384x4096 .f32) (x1 x2 : FVec Ideal S2048x32 .f32) (x3 : FVec Ideal S512x1536 .f32)
    (x6 : FVec Ideal S512 .f32) (x10 : FVec Ideal S64 .f32) (r : Fin 16384) (h : Fin 8) : Fin 64 → EReal :=
  ropeRow x1 x2 r
    (rms 0x3C800000#32 (fun j => qf x0 x3 x6 r ⟨192 * h.val + 128 + j.val, by omega⟩) (fun j => x10 (ix1 j)))

/-- A head's normed keys. -/
def knope (x0 : FVec Ideal S16384x4096 .f32) (x4 : FVec Ideal S256x1024 .f32) (x7 : FVec Ideal S256 .f32)
    (x11 : FVec Ideal S128 .f32) (r : Fin 16384) (h : Fin 8) : Fin 128 → EReal :=
  rms 0x3C000000#32 (fun j => kf x0 x4 x7 r ⟨128 * h.val + j.val, by omega⟩) (fun j => x11 (ix1 j))

/-- The reference's query latents. -/
theorem cq_at (x0 : FVec Ideal S16384x4096 .f32) (x6 : FVec Ideal S512 .f32) (i : S16384x512.Idx) :
    (show FVec Ideal S16384x512 .f32 from Read.val_main_v19 (F := Ideal) x0 x6) i = cq x0 x6 (i 0) (i 1) := by
  show Read.val_main_v19 (F := Ideal) x0 x6 i = _
  rw [Read.val_main_v19_apply, Read.val_main_v16_apply, Read.val_main_v15_apply, Read.val_main_v14_apply,
    Read.val_main_v13_apply, Read.val_main_v11_apply, Read.val_main_v9_apply, Read.val_main_v8_apply,
    Read.val_main_v10_apply, Read.val_main_v12_apply, Read.val_main_v18_apply, Read.val_main_v17_apply]
  simp only [Read.val_main_v7_apply, Read.val_main_v6_apply, Read.val_main_cst_apply, Read.val_main_cst_0_apply,
    Read.val_main_cst_1_apply]
  simp only [Ideal.ofBits_def, Ideal.mulf_def, Ideal.addf_def, Ideal.hostDivf_def, Ideal.hostUnary_rsqrt_def, ofBits_zero,
    zero_add, div_512]
  refine rms_of (congrArg x0 ?_) (fun j => congrArg x0 ?_) (congrArg x6 ?_) <;> blk_ext

/-- The reference's first result, the key and value latents. -/
theorem ckv_at (x0 : FVec Ideal S16384x4096 .f32) (x7 : FVec Ideal S256 .f32) (i : S16384x256.Idx) :
    (show FVec Ideal S16384x256 .f32 from Read.val_main_v33 (F := Ideal) x0 x7) i = ckv x0 x7 (i 0) (i 1) := by
  show Read.val_main_v33 (F := Ideal) x0 x7 i = _
  rw [Read.val_main_v33_apply, Read.val_main_v30_apply, Read.val_main_v29_apply, Read.val_main_v28_apply,
    Read.val_main_v27_apply, Read.val_main_v25_apply, Read.val_main_v23_apply, Read.val_main_v22_apply,
    Read.val_main_v24_apply, Read.val_main_v26_apply, Read.val_main_v32_apply, Read.val_main_v31_apply]
  simp only [Read.val_main_v21_apply, Read.val_main_v20_apply, Read.val_main_cst_2_apply, Read.val_main_cst_3_apply,
    Read.val_main_cst_4_apply]
  simp only [Ideal.ofBits_def, Ideal.mulf_def, Ideal.addf_def, Ideal.hostDivf_def, Ideal.hostUnary_rsqrt_def, ofBits_zero,
    zero_add, div_256]
  refine rms_of (congrArg x0 ?_) (fun j => congrArg x0 ?_) (congrArg x7 ?_) <;> blk_ext

/-- The reference's normed key part. -/
theorem kp_at (x0 : FVec Ideal S16384x4096 .f32) (x8 : FVec Ideal S64 .f32) (i : S16384x64.Idx) :
    (show FVec Ideal S16384x64 .f32 from Read.val_main_v47 (F := Ideal) x0 x8) i =
      rms 0x3C800000#32 (fun j => x0 (ix2 (i 0) ⟨3840 + j.val, by omega⟩)) (fun j => x8 (ix1 j)) (i 1) := by
  show Read.val_main_v47 (F := Ideal) x0 x8 i = _
  rw [Read.val_main_v47_apply, Read.val_main_v44_apply, Read.val_main_v43_apply, Read.val_main_v42_apply,
    Read.val_main_v41_apply, Read.val_main_v39_apply, Read.val_main_v37_apply, Read.val_main_v36_apply,
    Read.val_main_v38_apply, Read.val_main_v40_apply, Read.val_main_v46_apply, Read.val_main_v45_apply]
  simp only [Read.val_main_v35_apply, Read.val_main_v34_apply, Read.val_main_cst_5_apply, Read.val_main_cst_6_apply,
    Read.val_main_cst_7_apply]
  simp only [Ideal.ofBits_def, Ideal.mulf_def, Ideal.addf_def, Ideal.hostDivf_def, Ideal.hostUnary_rsqrt_def, ofBits_zero,
    zero_add, div_64]
  refine rms_of (congrArg x0 ?_) (fun j => congrArg x0 ?_) (congrArg x8 ?_) <;> blk_ext

/-- The reference's tiled cosines: the position's. -/
theorem cos_at (x1 : FVec Ideal S2048x32 .f32) (i : S16384x32.Idx) :
    (show FVec Ideal S16384x32 .f32 from Read.val_main_v2 (F := Ideal) x1) i =
      x1 (ix2 ⟨(i 0).val % 2048, by omega⟩ (i 1)) := by
  show Read.val_main_v2 (F := Ideal) x1 i = _
  rw [Read.val_main_v2_apply, Read.val_main_v1_apply, Read.val_main_v0_apply]
  refine congrArg x1 ?_
  have h1 : (i 1).val < 32 := (i 1).isLt
  blk_ext

/-- The reference's tiled sines: the position's. -/
theorem sin_at (x2 : FVec Ideal S2048x32 .f32) (i : S16384x32.Idx) :
    (show FVec Ideal S16384x32 .f32 from Read.val_main_v5 (F := Ideal) x2) i =
      x2 (ix2 ⟨(i 0).val % 2048, by omega⟩ (i 1)) := by
  show Read.val_main_v5 (F := Ideal) x2 i = _
  rw [Read.val_main_v5_apply, Read.val_main_v4_apply, Read.val_main_v3_apply]
  refine congrArg x2 ?_
  have h1 : (i 1).val < 32 := (i 1).isLt
  blk_ext

/-- The reference's queries before their norms. -/
theorem qf_at (x0 : FVec Ideal S16384x4096 .f32) (x3 : FVec Ideal S512x1536 .f32) (x6 : FVec Ideal S512 .f32)
    (i : S16384x1536.Idx) :
    (show FVec Ideal S16384x1536 .f32 from Read.val_main_v57 (F := Ideal) x0 x3 x6) i = qf x0 x3 x6 (i 0) (i 1) := by
  refine (Read.val_main_v57_apply x0 x3 x6 i).trans (Finset.sum_congr rfl fun k _ => ?_)
  refine congrArg₂ (fun a b : EReal => a * b) (cq_at x0 x6 _) (congrArg x3 ?_)
  blk_ext

/-- The reference's keys before their norms. -/
theorem kf_at (x0 : FVec Ideal S16384x4096 .f32) (x4 : FVec Ideal S256x1024 .f32) (x7 : FVec Ideal S256 .f32)
    (i : S16384x1024.Idx) :
    (show FVec Ideal S16384x1024 .f32 from Read.val_main_v102 (F := Ideal) x0 x4 x7) i = kf x0 x4 x7 (i 0) (i 1) := by
  refine (Read.val_main_v102_apply x0 x4 x7 i).trans (Finset.sum_congr rfl fun k _ => ?_)
  refine congrArg₂ (fun a b : EReal => a * b) (ckv_at x0 x7 _) (congrArg x4 ?_)
  blk_ext

/-- The reference's fifth result, the values. -/
theorem v_at (x0 : FVec Ideal S16384x4096 .f32) (x5 : FVec Ideal S256x1024 .f32) (x7 : FVec Ideal S256 .f32)
    (i : S16384x1024.Idx) :
    (show FVec Ideal S16384x1024 .bf16 from Read.val_main_v127 (F := Ideal) x0 x5 x7) i = kf x0 x5 x7 (i 0) (i 1) := by
  refine (Read.val_main_v126_apply x0 x5 x7 i).trans (Finset.sum_congr rfl fun k _ => ?_)
  refine congrArg₂ (fun a b : EReal => a * b) (ckv_at x0 x7 _) (congrArg x5 ?_)
  blk_ext

/-- Two halves of 32 put together are the rotary embedding of the row they come from. -/
theorem rope_of {c s : Fin 32 → EReal} {x : Fin 64 → EReal} {j : Fin 64} {u : EReal}
    (hl : ∀ h : j.val < 32, u = x ⟨j.val, by omega⟩ * c ⟨j.val, h⟩ - x ⟨j.val + 32, by omega⟩ * s ⟨j.val, h⟩)
    (hr : ¬j.val < 32 → u = x ⟨j.val - 32 + 32, by omega⟩ * c ⟨j.val - 32, by omega⟩ +
      x ⟨j.val - 32, by omega⟩ * s ⟨j.val - 32, by omega⟩) : u = rope c s x j := by
  unfold rope
  split
  · exact hl ‹_›
  · have e : (⟨j.val - 32 + 32, by omega⟩ : Fin 64) = j := Fin.ext (by dsimp only; omega)
    refine (hr ‹_›).trans ?_
    rw [e]

/-- The reference's rotated key part, an element of the first half. -/
theorem kpe_left (x0 : FVec Ideal S16384x4096 .f32) (x1 x2 : FVec Ideal S2048x32 .f32) (x8 : FVec Ideal S64 .f32)
    (i : S16384x32.Idx) (r : Fin 16384) (j : Fin 32) (hr : (i 0).val = r.val) (hj : (i 1).val = j.val)
    {x : Fin 64 → EReal}
    (hx : x = rms 0x3C800000#32 (fun j => x0 (ix2 r ⟨3840 + j.val, by omega⟩)) (fun j => x8 (ix1 j))) :
    (show FVec Ideal S16384x32 .f32 from Read.val_main_v52 (F := Ideal) x0 x1 x2 x8) i =
      x ⟨j.val, by omega⟩ * x1 (ix2 ⟨r.val % 2048, by omega⟩ j) -
        x ⟨j.val + 32, by omega⟩ * x2 (ix2 ⟨r.val % 2048, by omega⟩ j) := by
  obtain rfl : i 0 = r := Fin.ext hr
  obtain rfl : i 1 = j := Fin.ext hj
  subst hx
  show Read.val_main_v52 (F := Ideal) x0 x1 x2 x8 i = _
  rw [Read.val_main_v52_apply, Read.val_main_v50_apply, Read.val_main_v51_apply, Read.val_main_v48_apply,
    Read.val_main_v49_apply]
  refine congrArg₂ (fun a b : EReal => a - b) (congrArg₂ (fun a b : EReal => a * b) ((kp_at x0 x8 _).trans ?_)
    (cos_at x1 _)) (congrArg₂ (fun a b : EReal => a * b) ((kp_at x0 x8 _).trans ?_) (sin_at x2 _))
  · rfl
  · refine congrArg (rms _ _ _) (Fin.ext ?_)
    show 32 + (i 1).val = (i 1).val + 32
    omega

/-- The reference's rotated key part, an element of the second half. -/
theorem kpe_right (x0 : FVec Ideal S16384x4096 .f32) (x1 x2 : FVec Ideal S2048x32 .f32) (x8 : FVec Ideal S64 .f32)
    (i : S16384x32.Idx) (r : Fin 16384) (j : Fin 32) (hr : (i 0).val = r.val) (hj : (i 1).val = j.val)
    {x : Fin 64 → EReal}
    (hx : x = rms 0x3C800000#32 (fun j => x0 (ix2 r ⟨3840 + j.val, by omega⟩)) (fun j => x8 (ix1 j))) :
    (show FVec Ideal S16384x32 .f32 from Read.val_main_v55 (F := Ideal) x0 x1 x2 x8) i =
      x ⟨j.val + 32, by omega⟩ * x1 (ix2 ⟨r.val % 2048, by omega⟩ j) +
        x ⟨j.val, by omega⟩ * x2 (ix2 ⟨r.val % 2048, by omega⟩ j) := by
  obtain rfl : i 0 = r := Fin.ext hr
  obtain rfl : i 1 = j := Fin.ext hj
  subst hx
  show Read.val_main_v55 (F := Ideal) x0 x1 x2 x8 i = _
  rw [Read.val_main_v55_apply, Read.val_main_v53_apply, Read.val_main_v54_apply, Read.val_main_v48_apply,
    Read.val_main_v49_apply]
  refine congrArg₂ (fun a b : EReal => a + b) (congrArg₂ (fun a b : EReal => a * b) ((kp_at x0 x8 _).trans ?_)
    (cos_at x1 _)) (congrArg₂ (fun a b : EReal => a * b) ((kp_at x0 x8 _).trans ?_) (sin_at x2 _))
  · refine congrArg (rms _ _ _) (Fin.ext ?_)
    show 32 + (i 1).val = (i 1).val + 32
    omega
  · rfl

/-- The reference's second result, the rotated key part. -/
theorem kpe_at (x0 : FVec Ideal S16384x4096 .f32) (x1 x2 : FVec Ideal S2048x32 .f32) (x8 : FVec Ideal S64 .f32)
    (i : S16384x64.Idx) :
    (show FVec Ideal S16384x64 .f32 from Read.val_main_v56 (F := Ideal) x0 x1 x2 x8) i = kpe x0 x1 x2 x8 (i 0) (i 1) := by
  have hA := kpe_left x0 x1 x2 x8
  have hB := kpe_right x0 x1 x2 x8
  show Read.val_main_v56 (F := Ideal) x0 x1 x2 x8 i = _
  unfold Read.val_main_v56 kpe ropeRow
  generalize Read.val_main_v52 (F := Ideal) x0 x1 x2 x8 = A at hA ⊢
  generalize Read.val_main_v55 (F := Ideal) x0 x1 x2 x8 = B at hB ⊢
  pointwise
  refine rope_of (fun h => ?_) (fun h => ?_)
  · refine Eq.trans (dif_pos h) ?_
    exact hA _ (i 0) ⟨(i 1).val, h⟩ rfl rfl rfl
  · refine Eq.trans (dif_neg h) ?_
    exact hB _ (i 0) ⟨(i 1).val - 32, by omega⟩ rfl rfl rfl

/-- The reference's normed query heads. -/
theorem qnope_at (x0 : FVec Ideal S16384x4096 .f32) (x3 : FVec Ideal S512x1536 .f32) (x6 : FVec Ideal S512 .f32)
    (x9 : FVec Ideal S128 .f32) (i : S16384x8x128.Idx) :
    (show FVec Ideal S16384x8x128 .f32 from Read.val_main_v72 (F := Ideal) x0 x3 x6 x9) i =
      qnope x0 x3 x6 x9 (i 0) (i 1) (i 2) := by
  show Read.val_main_v72 (F := Ideal) x0 x3 x6 x9 i = _
  rw [Read.val_main_v72_apply, Read.val_main_v69_apply, Read.val_main_v68_apply, Read.val_main_v67_apply,
    Read.val_main_v66_apply, Read.val_main_v64_apply, Read.val_main_v62_apply, Read.val_main_v61_apply,
    Read.val_main_v63_apply, Read.val_main_v65_apply, Read.val_main_v71_apply, Read.val_main_v70_apply]
  simp only [Read.val_main_v60_apply, Read.val_main_v59_apply, Read.val_main_v58_apply, Read.val_main_cst_8_apply,
    Read.val_main_cst_9_apply, Read.val_main_cst_10_apply]
  simp only [Ideal.ofBits_def, Ideal.mulf_def, Ideal.addf_def, Ideal.hostDivf_def, Ideal.hostUnary_rsqrt_def, ofBits_zero,
    zero_add, div_128]
  have h1 : (i 1).val < 8 := (i 1).isLt
  have h2 : (i 2).val < 128 := (i 2).isLt
  refine rms_of ((qf_at x0 x3 x6 _).trans (congrArg₂ (qf x0 x3 x6) (Fin.ext ?_) (Fin.ext ?_)))
    (fun j => (qf_at x0 x3 x6 _).trans (congrArg₂ (qf x0 x3 x6) (Fin.ext ?_) (Fin.ext ?_))) (congrArg x9 ?_)
  · show (((i 0).val * 8 + (i 1).val) * 192 + (i 2).val) / 1536 = (i 0).val
    omega
  · show (((i 0).val * 8 + (i 1).val) * 192 + (i 2).val) % 1536 = 192 * (i 1).val + (i 2).val
    omega
  · show (((i 0).val * 8 + (i 1).val) * 192 + j.val) / 1536 = (i 0).val
    omega
  · show (((i 0).val * 8 + (i 1).val) * 192 + j.val) % 1536 = 192 * (i 1).val + j.val
    omega
  · blk_ext

/-- The reference's normed query parts, before the rotation. -/
theorem qp_at (x0 : FVec Ideal S16384x4096 .f32) (x3 : FVec Ideal S512x1536 .f32) (x6 : FVec Ideal S512 .f32)
    (x10 : FVec Ideal S64 .f32) (i : S16384x8x64.Idx) :
    (show FVec Ideal S16384x8x64 .f32 from Read.val_main_v86 (F := Ideal) x0 x3 x6 x10) i =
      rms 0x3C800000#32 (fun j => qf x0 x3 x6 (i 0) ⟨192 * (i 1).val + 128 + j.val, by
        have h1 : (i 1).val < 8 := (i 1).isLt
        omega⟩) (fun j => x10 (ix1 j)) (i 2) := by
  show Read.val_main_v86 (F := Ideal) x0 x3 x6 x10 i = _
  rw [Read.val_main_v86_apply, Read.val_main_v83_apply, Read.val_main_v82_apply, Read.val_main_v81_apply,
    Read.val_main_v80_apply, Read.val_main_v78_apply, Read.val_main_v76_apply, Read.val_main_v75_apply,
    Read.val_main_v77_apply, Read.val_main_v79_apply, Read.val_main_v85_apply, Read.val_main_v84_apply]
  simp only [Read.val_main_v74_apply, Read.val_main_v73_apply, Read.val_main_v58_apply, Read.val_main_cst_11_apply,
    Read.val_main_cst_12_apply, Read.val_main_cst_13_apply]
  simp only [Ideal.ofBits_def, Ideal.mulf_def, Ideal.addf_def, Ideal.hostDivf_def, Ideal.hostUnary_rsqrt_def, ofBits_zero,
    zero_add, div_64]
  have h1 : (i 1).val < 8 := (i 1).isLt
  have h2 : (i 2).val < 64 := (i 2).isLt
  refine rms_of ((qf_at x0 x3 x6 _).trans (congrArg₂ (qf x0 x3 x6) (Fin.ext ?_) (Fin.ext ?_)))
    (fun j => (qf_at x0 x3 x6 _).trans (congrArg₂ (qf x0 x3 x6) (Fin.ext ?_) (Fin.ext ?_))) (congrArg x10 ?_)
  · show (((i 0).val * 8 + (i 1).val) * 192 + (128 + (i 2).val)) / 1536 = (i 0).val
    omega
  · show (((i 0).val * 8 + (i 1).val) * 192 + (128 + (i 2).val)) % 1536 = 192 * (i 1).val + 128 + (i 2).val
    omega
  · show (((i 0).val * 8 + (i 1).val) * 192 + (128 + j.val)) / 1536 = (i 0).val
    omega
  · show (((i 0).val * 8 + (i 1).val) * 192 + (128 + j.val)) % 1536 = 192 * (i 1).val + 128 + j.val
    omega
  · blk_ext

/-- The reference's normed key heads. -/
theorem knope_at (x0 : FVec Ideal S16384x4096 .f32) (x4 : FVec Ideal S256x1024 .f32) (x7 : FVec Ideal S256 .f32)
    (x11 : FVec Ideal S128 .f32) (i : S16384x8x128.Idx) :
    (show FVec Ideal S16384x8x128 .f32 from Read.val_main_v116 (F := Ideal) x0 x4 x7 x11) i =
      knope x0 x4 x7 x11 (i 0) (i 1) (i 2) := by
  show Read.val_main_v116 (F := Ideal) x0 x4 x7 x11 i = _
  rw [Read.val_main_v116_apply, Read.val_main_v113_apply, Read.val_main_v112_apply, Read.val_main_v111_apply,
    Read.val_main_v110_apply, Read.val_main_v108_apply, Read.val_main_v106_apply, Read.val_main_v105_apply,
    Read.val_main_v107_apply, Read.val_main_v109_apply, Read.val_main_v115_apply, Read.val_main_v114_apply]
  simp only [Read.val_main_v104_apply, Read.val_main_v103_apply, Read.val_main_cst_14_apply,
    Read.val_main_cst_15_apply, Read.val_main_cst_16_apply]
  simp only [Ideal.ofBits_def, Ideal.mulf_def, Ideal.addf_def, Ideal.hostDivf_def, Ideal.hostUnary_rsqrt_def, ofBits_zero,
    zero_add, div_128]
  have h1 : (i 1).val < 8 := (i 1).isLt
  have h2 : (i 2).val < 128 := (i 2).isLt
  refine rms_of ((kf_at x0 x4 x7 _).trans (congrArg₂ (kf x0 x4 x7) (Fin.ext ?_) (Fin.ext ?_)))
    (fun j => (kf_at x0 x4 x7 _).trans (congrArg₂ (kf x0 x4 x7) (Fin.ext ?_) (Fin.ext ?_))) (congrArg x11 ?_)
  · show (((i 0).val * 8 + (i 1).val) * 128 + (i 2).val) / 1024 = (i 0).val
    omega
  · show (((i 0).val * 8 + (i 1).val) * 128 + (i 2).val) % 1024 = 128 * (i 1).val + (i 2).val
    omega
  · show (((i 0).val * 8 + (i 1).val) * 128 + j.val) / 1024 = (i 0).val
    omega
  · show (((i 0).val * 8 + (i 1).val) * 128 + j.val) % 1024 = 128 * (i 1).val + j.val
    omega
  · blk_ext

/-- The reference's rotated query parts, an element of the first half. -/
theorem qpe_left (x0 : FVec Ideal S16384x4096 .f32) (x1 x2 : FVec Ideal S2048x32 .f32) (x3 : FVec Ideal S512x1536 .f32)
    (x6 : FVec Ideal S512 .f32) (x10 : FVec Ideal S64 .f32)
    (i : S16384x8x32.Idx) (r : Fin 16384) (h : Fin 8) (j : Fin 32) (hr : (i 0).val = r.val) (hh : (i 1).val = h.val)
    (hj : (i 2).val = j.val) {x : Fin 64 → EReal}
    (hx : x = rms 0x3C800000#32 (fun j => qf x0 x3 x6 r ⟨192 * h.val + 128 + j.val, by omega⟩) (fun j => x10 (ix1 j))) :
    (show FVec Ideal S16384x8x32 .f32 from Read.val_main_v95 (F := Ideal) x0 x1 x2 x3 x6 x10) i =
      x ⟨j.val, by omega⟩ * x1 (ix2 ⟨r.val % 2048, by omega⟩ j) -
        x ⟨j.val + 32, by omega⟩ * x2 (ix2 ⟨r.val % 2048, by omega⟩ j) := by
  obtain rfl : i 0 = r := Fin.ext hr
  obtain rfl : i 1 = h := Fin.ext hh
  obtain rfl : i 2 = j := Fin.ext hj
  subst hx
  show Read.val_main_v95 (F := Ideal) x0 x1 x2 x3 x6 x10 i = _
  rw [Read.val_main_v95_apply, Read.val_main_v92_apply, Read.val_main_v94_apply, Read.val_main_v89_apply,
    Read.val_main_v90_apply, Read.val_main_v91_apply, Read.val_main_v93_apply, Read.val_main_v87_apply,
    Read.val_main_v88_apply]
  refine congrArg₂ (fun a b : EReal => a - b) (congrArg₂ (fun a b : EReal => a * b) ((qp_at x0 x3 x6 x10 _).trans ?_)
    (cos_at x1 _)) (congrArg₂ (fun a b : EReal => a * b) ((qp_at x0 x3 x6 x10 _).trans ?_) (sin_at x2 _))
  · rfl
  · refine congrArg (rms _ _ _) (Fin.ext ?_)
    show 32 + (i 2).val = (i 2).val + 32
    omega

/-- The reference's rotated query parts, an element of the second half. -/
theorem qpe_right (x0 : FVec Ideal S16384x4096 .f32) (x1 x2 : FVec Ideal S2048x32 .f32) (x3 : FVec Ideal S512x1536 .f32)
    (x6 : FVec Ideal S512 .f32) (x10 : FVec Ideal S64 .f32)
    (i : S16384x8x32.Idx) (r : Fin 16384) (h : Fin 8) (j : Fin 32) (hr : (i 0).val = r.val) (hh : (i 1).val = h.val)
    (hj : (i 2).val = j.val) {x : Fin 64 → EReal}
    (hx : x = rms 0x3C800000#32 (fun j => qf x0 x3 x6 r ⟨192 * h.val + 128 + j.val, by omega⟩) (fun j => x10 (ix1 j))) :
    (show FVec Ideal S16384x8x32 .f32 from Read.val_main_v100 (F := Ideal) x0 x1 x2 x3 x6 x10) i =
      x ⟨j.val + 32, by omega⟩ * x1 (ix2 ⟨r.val % 2048, by omega⟩ j) +
        x ⟨j.val, by omega⟩ * x2 (ix2 ⟨r.val % 2048, by omega⟩ j) := by
  obtain rfl : i 0 = r := Fin.ext hr
  obtain rfl : i 1 = h := Fin.ext hh
  obtain rfl : i 2 = j := Fin.ext hj
  subst hx
  show Read.val_main_v100 (F := Ideal) x0 x1 x2 x3 x6 x10 i = _
  rw [Read.val_main_v100_apply, Read.val_main_v97_apply, Read.val_main_v99_apply, Read.val_main_v89_apply,
    Read.val_main_v90_apply, Read.val_main_v96_apply, Read.val_main_v98_apply, Read.val_main_v87_apply,
    Read.val_main_v88_apply]
  refine congrArg₂ (fun a b : EReal => a + b) (congrArg₂ (fun a b : EReal => a * b) ((qp_at x0 x3 x6 x10 _).trans ?_)
    (cos_at x1 _)) (congrArg₂ (fun a b : EReal => a * b) ((qp_at x0 x3 x6 x10 _).trans ?_) (sin_at x2 _))
  · refine congrArg (rms _ _ _) (Fin.ext ?_)
    show 32 + (i 2).val = (i 2).val + 32
    omega
  · rfl

/-- The reference's rotated query parts. -/
theorem qpe_at (x0 : FVec Ideal S16384x4096 .f32) (x1 x2 : FVec Ideal S2048x32 .f32) (x3 : FVec Ideal S512x1536 .f32)
    (x6 : FVec Ideal S512 .f32) (x10 : FVec Ideal S64 .f32) (i : S16384x8x64.Idx) :
    (show FVec Ideal S16384x8x64 .f32 from Read.val_main_v101 (F := Ideal) x0 x1 x2 x3 x6 x10) i =
      qpe x0 x1 x2 x3 x6 x10 (i 0) (i 1) (i 2) := by
  have hA := qpe_left x0 x1 x2 x3 x6 x10
  have hB := qpe_right x0 x1 x2 x3 x6 x10
  show Read.val_main_v101 (F := Ideal) x0 x1 x2 x3 x6 x10 i = _
  unfold Read.val_main_v101 qpe ropeRow
  generalize Read.val_main_v95 (F := Ideal) x0 x1 x2 x3 x6 x10 = A at hA ⊢
  generalize Read.val_main_v100 (F := Ideal) x0 x1 x2 x3 x6 x10 = B at hB ⊢
  pointwise
  refine rope_of (fun h => ?_) (fun h => ?_)
  · refine Eq.trans (dif_pos h) ?_
    exact hA _ (i 0) (i 1) ⟨(i 2).val, h⟩ rfl rfl rfl rfl
  · refine Eq.trans (dif_neg h) ?_
    exact hB _ (i 0) (i 1) ⟨(i 2).val - 32, by omega⟩ rfl rfl rfl rfl

/-- The reference's query heads: 128 normed lanes, 64 rotated and 64 zeros. -/
theorem q3_at (x0 : FVec Ideal S16384x4096 .f32) (x1 x2 : FVec Ideal S2048x32 .f32) (x3 : FVec Ideal S512x1536 .f32)
    (x6 : FVec Ideal S512 .f32) (x9 : FVec Ideal S128 .f32) (x10 : FVec Ideal S64 .f32) (i : S16384x2048.Idx) :
    (show FVec Ideal S16384x2048 .bf16 from Read.val_main_v124 (F := Ideal) x0 x1 x2 x3 x6 x9 x10) i =
      heads (qnope x0 x3 x6 x9 (i 0)) (fun h => pad64 (qpe x0 x1 x2 x3 x6 x10 (i 0) h)) (i 1) := by
  have hA := qnope_at x0 x3 x6 x9
  have hB := qpe_at x0 x1 x2 x3 x6 x10
  show Read.val_main_v121 (F := Ideal) x0 x1 x2 x3 x6 x9 x10 i = _
  rw [Read.val_main_v121_apply]
  unfold Read.val_main_v120
  generalize Read.val_main_v72 (F := Ideal) x0 x3 x6 x9 = A at hA ⊢
  generalize Read.val_main_v101 (F := Ideal) x0 x1 x2 x3 x6 x10 = B at hB ⊢
  pointwise
  have h0 : (i 0).val < 16384 := (i 0).isLt
  have h1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  have e3 : ((i 0).val * 2048 + (i 1).val) % 256 - 128 = (i 1).val % 256 - 128 := by omega
  refine heads_of (n := i 1) (fun h => ?_) (fun h h' => ?_) (fun h h' => ?_)
  · refine Eq.trans (dif_pos (by omega)) ((hA _).trans (congr3 _ (Fin.ext e0) (Fin.ext e1) (Fin.ext e2)))
  · refine Eq.trans (dif_neg (by omega)) (Eq.trans (dif_pos (by omega))
      ((hB _).trans (congr3 (qpe x0 x1 x2 x3 x6 x10) (Fin.ext e0) (Fin.ext e1) (Fin.ext e3))))
  · refine Eq.trans (dif_neg (by omega)) (Eq.trans (dif_neg (by omega)) ?_)
    rw [Read.val_main_v117_apply, Read.val_main_cst_17_apply]
    exact ofBits_zero

/-- The reference's key heads: 128 normed lanes, then the 64 rotated ones, the same in every head, and 64 zeros. -/
theorem k3_at (x0 : FVec Ideal S16384x4096 .f32) (x1 x2 : FVec Ideal S2048x32 .f32) (x4 : FVec Ideal S256x1024 .f32)
    (x7 : FVec Ideal S256 .f32) (x8 : FVec Ideal S64 .f32) (x11 : FVec Ideal S128 .f32) (i : S16384x2048.Idx) :
    (show FVec Ideal S16384x2048 .bf16 from Read.val_main_v125 (F := Ideal) x0 x1 x2 x4 x7 x8 x11) i =
      heads (knope x0 x4 x7 x11 (i 0)) (fun _ => pad64 (kpe x0 x1 x2 x8 (i 0))) (i 1) := by
  have hA := knope_at x0 x4 x7 x11
  have hB : ∀ i : S16384x8x64.Idx, (show FVec Ideal S16384x8x64 .f32 from
      Read.val_main_v119 (F := Ideal) x0 x1 x2 x8) i = kpe x0 x1 x2 x8 (i 0) (i 2) := fun i => by
    show Read.val_main_v119 (F := Ideal) x0 x1 x2 x8 i = _
    rw [Read.val_main_v119_apply, Read.val_main_v118_apply]
    exact kpe_at x0 x1 x2 x8 _
  show Read.val_main_v123 (F := Ideal) x0 x1 x2 x4 x7 x8 x11 i = _
  rw [Read.val_main_v123_apply]
  unfold Read.val_main_v122
  generalize Read.val_main_v116 (F := Ideal) x0 x4 x7 x11 = A at hA ⊢
  generalize Read.val_main_v119 (F := Ideal) x0 x1 x2 x8 = B at hB ⊢
  pointwise
  have h0 : (i 0).val < 16384 := (i 0).isLt
  have h1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  have e3 : ((i 0).val * 2048 + (i 1).val) % 256 - 128 = (i 1).val % 256 - 128 := by omega
  refine heads_of (n := i 1) (fun h => ?_) (fun h h' => ?_) (fun h h' => ?_)
  · refine Eq.trans (dif_pos (by omega)) ((hA _).trans (congr3 _ (Fin.ext e0) (Fin.ext e1) (Fin.ext e2)))
  · refine Eq.trans (dif_neg (by omega)) (Eq.trans (dif_pos (by omega))
      ((hB _).trans (congrArg₂ (kpe x0 x1 x2 x8) (Fin.ext e0) (Fin.ext e3))))
  · refine Eq.trans (dif_neg (by omega)) (Eq.trans (dif_neg (by omega)) ?_)
    rw [Read.val_main_v117_apply, Read.val_main_cst_17_apply]
    exact ofBits_zero

end Cert.PrepRefIdeal.Prep

end
-- ==== Proof.Prep.Value.lean ====
/- The attention's preparation: the kernel's five result arrays are the reference's. -/
module

public import proofs.«01_k».proof.Proof.Prep.Host
public import proofs.«01_k».proof.Proof.Prep.Pay
public import proofs.«01_k».proof.Proof.Prep.Ref

@[expose] public section

set_option maxRecDepth 16384

noncomputable section

open Idealize.ShloMosaic Idealize.ShloMosaic.TcCoe Idealize.SL.Sem

namespace Cert.PrepIdeal.Prep

open Cert.PrepIdeal Cert.PrepIdeal.Gen Cert.Layers Cert.Prep

variable (m : (ℓ : Loc nD τ sig) → Buf (Elt Ideal) ℓ)

/-- The block indices of the windows that move, at every grid point. -/
theorem idx : ∀ t : Fin cfg0.N, win0_0.index t = ![t.val, 6] ∧ win0_1.index t = ![t.val, 14] ∧
    win0_2.index t = ![t.val, 30] ∧ win0_3.index t = ![t.val % 4, 0] ∧ win0_4.index t = ![t.val % 4, 0] ∧
    win0_14.index t = ![t.val, 0] ∧ win0_15.index t = ![t.val, 0] ∧ win0_16.index t = ![t.val, 0] ∧
    win0_17.index t = ![t.val, 0] ∧ win0_18.index t = ![t.val, 0] ∧ t.val < 32 :=
  (by decide +kernel : ∀ t : Fin grid0.N, _)

/-- The block indices of the windows that stay, at every grid point. -/
theorem stay : ∀ t : Fin cfg0.N, win0_5.index t = ![0, 0] ∧ win0_6.index t = ![0, 0] ∧
    win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] :=
  (by decide +kernel : ∀ t : Fin grid0.N, _)

/-- The row of the arrays a grid point's block row is. -/
def at_row (t : Fin cfg0.N) (y : Fin 512) : Fin 16384 := ⟨t.val * 512 + y.val, by
  have := (idx t).2.2.2.2.2.2.2.2.2.2
  omega⟩

/-- The columns of the query latents. -/
theorem rd0 (c : Dev nD) (t : Fin cfg0.N) (y : Fin 512) (j : Fin 512) :
    (show FVec Ideal S512x512 .f32 from iblk m c 0 t) (ix2 y j) =
      (show FVec Ideal S16384x4096 .f32 from m ((c : Thread nD τ).loc main_arg0))
        (ix2 (at_row t y) ⟨3072 + j.val, by omega⟩) := by
  obtain ⟨e0, -⟩ := idx t
  show V m c main_arg0 _ = _
  rw [V_main_arg0]
  blk_ext [e0, at_row]

/-- The columns of the key and value latents. -/
theorem rd1 (c : Dev nD) (t : Fin cfg0.N) (y : Fin 512) (j : Fin 256) :
    (show FVec Ideal S512x256 .f32 from iblk m c 1 t) (ix2 y j) =
      (show FVec Ideal S16384x4096 .f32 from m ((c : Thread nD τ).loc main_arg0))
        (ix2 (at_row t y) ⟨3584 + j.val, by omega⟩) := by
  obtain ⟨-, e0, -⟩ := idx t
  show V m c main_arg0 _ = _
  rw [V_main_arg0]
  blk_ext [e0, at_row]

/-- The columns of the rotated key part. -/
theorem rd2 (c : Dev nD) (t : Fin cfg0.N) (y : Fin 512) (j : Fin 128) :
    (show FVec Ideal S512x128 .f32 from iblk m c 2 t) (ix2 y j) =
      (show FVec Ideal S16384x4096 .f32 from m ((c : Thread nD τ).loc main_arg0))
        (ix2 (at_row t y) ⟨3840 + j.val, by omega⟩) := by
  obtain ⟨-, -, e0, -⟩ := idx t
  show V m c main_arg0 _ = _
  rw [V_main_arg0]
  blk_ext [e0, at_row]

/-- The block's cosines are those of the rows' positions. -/
theorem rd3 (c : Dev nD) (t : Fin cfg0.N) (y : Fin 512) :
    (fun j : Fin 128 => (show FVec Ideal S512x128 .f32 from iblk m c 3 t) (ix2 y j)) =
      cosT fun j => (show FVec Ideal S2048x32 .f32 from m ((c : Thread nD τ).loc main_arg1))
        (ix2 ⟨(at_row t y).val % 2048, by omega⟩ j) := by
  obtain ⟨-, -, -, e0, -⟩ := idx t
  funext j
  show V m c main_v1 (((cfg0.win 3).blk t).view.emb (ix2 y j)) = _
  have i0 : (((cfg0.win 3).blk t).view.emb (ix2 y j) 0).val = t.val % 4 * 512 + y.val := by blk_simp [e0]
  have i1 : (((cfg0.win 3).blk t).view.emb (ix2 y j) 1) = j := Fin.ext (by blk_simp [e0])
  refine (host_cos m c _).trans (congrArg₂ cosT (funext fun k => congrArg _ ?_) i1)
  refine congrArg (fun a => ix2 a k) (Fin.ext (i0.trans ?_))
  unfold at_row
  dsimp only
  omega

/-- The block's sines are those of the rows' positions. -/
theorem rd4 (c : Dev nD) (t : Fin cfg0.N) (y : Fin 512) :
    (fun j : Fin 128 => (show FVec Ideal S512x128 .f32 from iblk m c 4 t) (ix2 y j)) =
      sinT fun j => (show FVec Ideal S2048x32 .f32 from m ((c : Thread nD τ).loc main_arg2))
        (ix2 ⟨(at_row t y).val % 2048, by omega⟩ j) := by
  obtain ⟨-, -, -, -, e0, -⟩ := idx t
  funext j
  show V m c main_v3 (((cfg0.win 4).blk t).view.emb (ix2 y j)) = _
  have i0 : (((cfg0.win 4).blk t).view.emb (ix2 y j) 0).val = t.val % 4 * 512 + y.val := by blk_simp [e0]
  have i1 : (((cfg0.win 4).blk t).view.emb (ix2 y j) 1) = j := Fin.ext (by blk_simp [e0])
  refine (host_sin m c _).trans (congrArg₂ sinT (funext fun k => congrArg _ ?_) i1)
  refine congrArg (fun a => ix2 a k) (Fin.ext (i0.trans ?_))
  unfold at_row
  dsimp only
  omega

/-- The padded query weight. -/
theorem rd5 (c : Dev nD) (t : Fin cfg0.N) (k : Fin 512) (n : Fin 2048) :
    (show FVec Ideal S512x2048 .bf16 from iblk m c 5 t) (ix2 k n) =
      if h : n.val % 256 < 192 then (show FVec Ideal S512x1536 .f32 from m ((c : Thread nD τ).loc main_arg3))
        (ix2 k ⟨192 * (n.val / 256) + n.val % 256, by omega⟩) else (0 : EReal) := by
  obtain ⟨e0, -⟩ := stay t
  have i0 : ((cfg0.win 5).blk t).view.emb (ix2 k n) = ix2 k n := by
    funext a
    match a with
      | ⟨0, _⟩ => exact Fin.ext (by blk_simp [e0])
      | ⟨1, _⟩ => exact Fin.ext (by blk_simp [e0])
  show V m c main_v8 (((cfg0.win 5).blk t).view.emb (ix2 k n)) = _
  rw [i0]
  exact host_wuq m c (ix2 k n)

/-- The key weight. -/
theorem rd6 (c : Dev nD) (t : Fin cfg0.N) (k : Fin 256) (n : Fin 1024) :
    (show FVec Ideal S256x1024 .bf16 from iblk m c 6 t) (ix2 k n) =
      (show FVec Ideal S256x1024 .f32 from m ((c : Thread nD τ).loc main_arg4)) (ix2 k n) := by
  obtain ⟨-, e0, -⟩ := stay t
  refine (host_wuk m c (((cfg0.win 6).blk t).view.emb (ix2 k n))).trans ?_
  blk_ext [e0]

/-- The value weight. -/
theorem rd7 (c : Dev nD) (t : Fin cfg0.N) (k : Fin 256) (n : Fin 1024) :
    (show FVec Ideal S256x1024 .bf16 from iblk m c 7 t) (ix2 k n) =
      (show FVec Ideal S256x1024 .f32 from m ((c : Thread nD τ).loc main_arg5)) (ix2 k n) := by
  obtain ⟨-, -, e0, -⟩ := stay t
  refine (host_wuv m c (((cfg0.win 7).blk t).view.emb (ix2 k n))).trans ?_
  blk_ext [e0]

/-- The gains of the compressed queries. -/
theorem rd8 (c : Dev nD) (t : Fin cfg0.N) (j : Fin 512) :
    (show FVec Ideal S1x512 .f32 from iblk m c 8 t) (ix2 0 j) =
      (show FVec Ideal S512 .f32 from m ((c : Thread nD τ).loc main_arg6)) (ix1 j) := by
  obtain ⟨-, -, -, e0, -⟩ := stay t
  refine (host_gcq m c (((cfg0.win 8).blk t).view.emb (ix2 0 j))).trans ?_
  blk_ext [e0]

/-- The gains of the compressed keys. -/
theorem rd9 (c : Dev nD) (t : Fin cfg0.N) (j : Fin 256) :
    (show FVec Ideal S1x256 .f32 from iblk m c 9 t) (ix2 0 j) =
      (show FVec Ideal S256 .f32 from m ((c : Thread nD τ).loc main_arg7)) (ix1 j) := by
  obtain ⟨-, -, -, -, e0, -⟩ := stay t
  refine (host_gckv m c (((cfg0.win 9).blk t).view.emb (ix2 0 j))).trans ?_
  blk_ext [e0]

/-- The padded gains of the rotated key part. -/
theorem rd10 (c : Dev nD) (t : Fin cfg0.N) :
    (fun j : Fin 128 => (show FVec Ideal S1x128 .f32 from iblk m c 10 t) (ix2 0 j)) =
      pad64 fun j => (show FVec Ideal S64 .f32 from m ((c : Thread nD τ).loc main_arg8)) (ix1 j) := by
  obtain ⟨-, -, -, -, -, e0, -⟩ := stay t
  funext j
  refine (host_gkr m c (((cfg0.win 10).blk t).view.emb (ix2 0 j))).trans (congrArg _ (Fin.ext ?_))
  blk_simp [e0]

/-- The gains of the plain queries. -/
theorem rd11 (c : Dev nD) (t : Fin cfg0.N) (j : Fin 128) :
    (show FVec Ideal S1x128 .f32 from iblk m c 11 t) (ix2 0 j) =
      (show FVec Ideal S128 .f32 from m ((c : Thread nD τ).loc main_arg9)) (ix1 j) := by
  obtain ⟨-, -, -, -, -, -, e0, -⟩ := stay t
  refine (host_gqn m c (((cfg0.win 11).blk t).view.emb (ix2 0 j))).trans ?_
  blk_ext [e0]

/-- The padded gains of the rotated query part. -/
theorem rd12 (c : Dev nD) (t : Fin cfg0.N) :
    (fun j : Fin 128 => (show FVec Ideal S1x128 .f32 from iblk m c 12 t) (ix2 0 j)) =
      pad64 fun j => (show FVec Ideal S64 .f32 from m ((c : Thread nD τ).loc main_arg10)) (ix1 j) := by
  obtain ⟨-, -, -, -, -, -, -, e0, -⟩ := stay t
  funext j
  refine (host_gqr m c (((cfg0.win 12).blk t).view.emb (ix2 0 j))).trans (congrArg _ (Fin.ext ?_))
  blk_simp [e0]

/-- The gains of the plain keys. -/
theorem rd13 (c : Dev nD) (t : Fin cfg0.N) (j : Fin 128) :
    (show FVec Ideal S1x128 .f32 from iblk m c 13 t) (ix2 0 j) =
      (show FVec Ideal S128 .f32 from m ((c : Thread nD τ).loc main_arg11)) (ix1 j) := by
  obtain ⟨-, -, -, -, -, -, -, -, e0⟩ := stay t
  refine (host_gkn m c (((cfg0.win 13).blk t).view.emb (ix2 0 j))).trans ?_
  blk_ext [e0]

open Cert.PrepRefIdeal.Prep (cq ckv ropeRow kpe qf kf qnope qpe knope)

/-- A block row's normed key and value latents are the reference's. -/
theorem ckv_row (c : Dev nD) (t : Fin cfg0.N) (y : Fin 512) (j : Fin 256) :
    (show FVec Ideal S512x256 .f32 from k0_pay4 (F := Ideal) (iblk m c 1 t) (iblk m c 9 t)) (ix2 y j) =
      ckv (m ((c : Thread nD τ).loc main_arg0)) (m ((c : Thread nD τ).loc main_arg7)) (at_row t y) j := by
  refine (ckv_at _ _ (ix2 y j)).trans (congrArg₂ (fun a b => rms 0x3B800000#32 a b j) ?_ ?_)
  · exact funext fun k => rd1 m c t y k
  · exact funext fun k => rd9 m c t k

/-- A block row's normed query latents are the reference's. -/
theorem cq_row (c : Dev nD) (t : Fin cfg0.N) (y : Fin 512) (j : Fin 512) :
    (show FVec Ideal S512x512 .bf16 from k0_pay14 (F := Ideal) (iblk m c 0 t) (iblk m c 8 t)) (ix2 y j) =
      cq (m ((c : Thread nD τ).loc main_arg0)) (m ((c : Thread nD τ).loc main_arg6)) (at_row t y) j := by
  refine (cq_at _ _ (ix2 y j)).trans (congrArg₂ (fun a b => rms 0x3B000000#32 a b j) ?_ ?_)
  · exact funext fun k => rd0 m c t y k
  · exact funext fun k => rd8 m c t k

/-- A block row's rotated key part is the reference's, padded. -/
theorem kpe_row (c : Dev nD) (t : Fin cfg0.N) (y : Fin 512) (j : Fin 128) :
    (show FVec Ideal S512x128 .bf16 from k0_pay20 (F := Ideal) (iblk m c 3 t) (iblk m c 4 t)
      (k0_pay6 (F := Ideal) (iblk m c 2 t)) (iblk m c 10 t)) (ix2 y j) =
      pad64 (kpe (m ((c : Thread nD τ).loc main_arg0)) (m ((c : Thread nD τ).loc main_arg1))
        (m ((c : Thread nD τ).loc main_arg2)) (m ((c : Thread nD τ).loc main_arg8)) (at_row t y)) j := by
  refine (turn_at _ _ _ _ (ix2 y j)).trans ?_
  unfold kpe ropeRow
  refine Eq.trans ?_ (congrFun (turn_pad64 _ _ _) j)
  refine congrFun (congr (congrArg₂ turn (rd3 m c t y) (rd4 m c t y)) ?_) j
  refine Eq.trans ?_ (rms_pad64 _ _ _)
  refine congrArg₂ (rms 0x3C800000#32) ((mask_at _ y).trans (congrArg pad64 (funext fun k => ?_))) (rd10 m c t)
  exact rd2 m c t y _

/-- A block row's queries before their norms: the reference's, each head's padded. -/
theorem qf_row (c : Dev nD) (t : Fin cfg0.N) (y : Fin 512) (n : Fin 2048) :
    (show FVec Ideal S512x2048 .f32 from k0_pay15 (F := Ideal) (k0_pay14 (F := Ideal) (iblk m c 0 t) (iblk m c 8 t))
      (iblk m c 5 t)) (ix2 y n) =
      if h : n.val % 256 < 192 then qf (m ((c : Thread nD τ).loc main_arg0))
        (m ((c : Thread nD τ).loc main_arg3))
        (m ((c : Thread nD τ).loc main_arg6)) (at_row t y) ⟨192 * (n.val / 256) + n.val % 256, by omega⟩ else 0 := by
  refine (qf_at _ _ (ix2 y n)).trans ?_
  have e : ∀ k : Fin 512, _ := fun k => congrArg₂ (fun a b : EReal => a * b) (cq_row m c t y k) (rd5 m c t k n)
  refine (Finset.sum_congr rfl fun k _ => e k).trans ?_
  by_cases h : n.val % 256 < 192
  · simp only [dif_pos h]
    rfl
  · simp only [dif_neg h, mul_zero, Finset.sum_const_zero]

/-- A head's plain query columns. -/
theorem qn_row (c : Dev nD) (t : Fin cfg0.N) (y : Fin 512) (h : Fin 8) (j : Fin 128) :
    (show FVec Ideal S512x2048 .f32 from k0_pay15 (F := Ideal) (k0_pay14 (F := Ideal) (iblk m c 0 t) (iblk m c 8 t))
      (iblk m c 5 t)) (ix2 y ⟨256 * h.val + j.val, by omega⟩) =
      qf (m ((c : Thread nD τ).loc main_arg0)) (m ((c : Thread nD τ).loc main_arg3))
        (m ((c : Thread nD τ).loc main_arg6)) (at_row t y) ⟨192 * h.val + j.val, by omega⟩ := by
  have e : 192 * ((256 * h.val + j.val) / 256) + (256 * h.val + j.val) % 256 = 192 * h.val + j.val := by omega
  refine (qf_row m c t y _).trans ((dif_pos (by dsimp only; omega)).trans (congrArg _ (Fin.ext e)))

/-- A head's rotated query columns. -/
theorem qp_row (c : Dev nD) (t : Fin cfg0.N) (y : Fin 512) (h : Fin 8) :
    (fun j : Fin 128 => (show FVec Ideal S512x2048 .f32 from k0_pay15 (F := Ideal)
      (k0_pay14 (F := Ideal) (iblk m c 0 t) (iblk m c 8 t)) (iblk m c 5 t)) (ix2 y ⟨256 * h.val + 128 + j.val, by omega⟩)) =
      pad64 fun j => qf (m ((c : Thread nD τ).loc main_arg0)) (m ((c : Thread nD τ).loc main_arg3))
        (m ((c : Thread nD τ).loc main_arg6)) (at_row t y) ⟨192 * h.val + 128 + j.val, by omega⟩ := by
  funext j
  refine (qf_row m c t y _).trans ?_
  unfold pad64
  by_cases hj : j.val < 64
  · have e : 192 * ((256 * h.val + 128 + j.val) / 256) + (256 * h.val + 128 + j.val) % 256 = 192 * h.val + 128 + j.val := by
      omega
    exact (dif_pos (by dsimp only; omega)).trans ((congrArg _ (Fin.ext e)).trans (Eq.symm (dif_pos hj)))
  · exact (dif_neg (by dsimp only; omega)).trans (Eq.symm (dif_neg hj))

/-- A block row of the query result is the reference's. -/
theorem q_row (c : Dev nD) (t : Fin cfg0.N) (y : Fin 512) (n : Fin 2048) :
    qRow (iblk m c 3 t) (iblk m c 4 t) (k0_pay15 (F := Ideal) (k0_pay14 (F := Ideal) (iblk m c 0 t) (iblk m c 8 t))
      (iblk m c 5 t)) (iblk m c 11 t) (iblk m c 12 t) y n =
      heads (qnope (m ((c : Thread nD τ).loc main_arg0)) (m ((c : Thread nD τ).loc main_arg3))
        (m ((c : Thread nD τ).loc main_arg6))
        (m ((c : Thread nD τ).loc main_arg9)) (at_row t y)) (fun h => pad64 (qpe
        (m ((c : Thread nD τ).loc main_arg0)) (m ((c : Thread nD τ).loc main_arg1))
        (m ((c : Thread nD τ).loc main_arg2)) (m ((c : Thread nD τ).loc main_arg3))
        (m ((c : Thread nD τ).loc main_arg6)) (m ((c : Thread nD τ).loc main_arg10)) (at_row t y) h)) n := by
  refine congrFun (congrArg₂ heads (funext fun h => ?_) (funext fun h => ?_)) n
  · exact congrArg₂ (rms 0x3C000000#32) (funext fun j => qn_row m c t y h j) (funext fun j => rd11 m c t j)
  · unfold qpe ropeRow
    refine Eq.trans ?_ (turn_pad64 _ _ _)
    refine congr (congrArg₂ turn (rd3 m c t y) (rd4 m c t y)) ?_
    refine Eq.trans ?_ (rms_pad64 _ _ _)
    exact congrArg₂ (rms 0x3C800000#32) (qp_row m c t y h) (rd12 m c t)

/-- A block row's keys before their norms are the reference's. -/
theorem kf_row (c : Dev nD) (t : Fin cfg0.N) (y : Fin 512) (n : Fin 1024) :
    (show FVec Ideal S512x1024 .f32 from k0_pay12 (F := Ideal) (k0_pay4 (F := Ideal) (iblk m c 1 t) (iblk m c 9 t))
      (iblk m c 6 t)) (ix2 y n) = kf (m ((c : Thread nD τ).loc main_arg0)) (m ((c : Thread nD τ).loc main_arg4))
        (m ((c : Thread nD τ).loc main_arg7)) (at_row t y) n :=
  (kf_at _ _ (ix2 y n)).trans (Finset.sum_congr rfl fun k _ =>
    congrArg₂ (fun a b : EReal => a * b) (ckv_row m c t y k) (rd6 m c t k n))

/-- A block row of the key result is the reference's. -/
theorem k_row (c : Dev nD) (t : Fin cfg0.N) (y : Fin 512) (n : Fin 2048) :
    kRow (k0_pay12 (F := Ideal) (k0_pay4 (F := Ideal) (iblk m c 1 t) (iblk m c 9 t)) (iblk m c 6 t))
      (k0_pay20 (F := Ideal) (iblk m c 3 t) (iblk m c 4 t) (k0_pay6 (F := Ideal) (iblk m c 2 t)) (iblk m c 10 t))
      (iblk m c 13 t) y n =
      heads (knope (m ((c : Thread nD τ).loc main_arg0)) (m ((c : Thread nD τ).loc main_arg4))
        (m ((c : Thread nD τ).loc main_arg7))
        (m ((c : Thread nD τ).loc main_arg11)) (at_row t y)) (fun _ => pad64 (kpe
        (m ((c : Thread nD τ).loc main_arg0)) (m ((c : Thread nD τ).loc main_arg1))
        (m ((c : Thread nD τ).loc main_arg2)) (m ((c : Thread nD τ).loc main_arg8)) (at_row t y))) n := by
  refine congrFun (congrArg₂ heads (funext fun h => ?_) (funext fun h => funext fun j => kpe_row m c t y j)) n
  exact congrArg₂ (rms 0x3C000000#32) (funext fun j => kf_row m c t y _) (funext fun j => rd13 m c t j)

/-- The result of the key and value latents. -/
theorem final14 (c : Dev nD) :
    (dats m 0 c).arrAt 14 cfg0.N = Cert.PrepRefIdeal.Read.val_main_v33 (F := Ideal)
        (m ((c : Thread nD τ).loc main_arg0)) (m ((c : Thread nD τ).loc main_arg7)) := by
  refine (dats m 0 c).arrAt_eq_of_covers 14 _ (by decide +kernel) fun t hf y => ?_
  have hi : ((cfg0.win 14).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_14]
  refine ((out14_at _ _ _ _ _ _ _ _ _ _ _ _ _ _ y).trans ((ckv_at _ _ (ix2 (y 0) (y 1))).symm.trans (ckv_row m c t (y 0) (y 1)))).trans ?_
  refine ((congrArg _ hi).trans (Cert.PrepRefIdeal.Prep.ckv_at _ _ _)).symm

/-- The result of the rotated key part. -/
theorem final15 (c : Dev nD) :
    (dats m 0 c).arrAt 15 cfg0.N = Cert.PrepRefIdeal.Read.val_main_v56 (F := Ideal)
        (m ((c : Thread nD τ).loc main_arg0)) (m ((c : Thread nD τ).loc main_arg1))
        (m ((c : Thread nD τ).loc main_arg2)) (m ((c : Thread nD τ).loc main_arg8)) := by
  refine (dats m 0 c).arrAt_eq_of_covers 15 _ (by decide +kernel) fun t hf y => ?_
  have hi : ((cfg0.win 15).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_15]
  refine ((out15_at _ _ _ _ _ _ _ _ _ _ _ _ _ _ y).trans ((kpe_row m c t (y 0) _).trans (dif_pos (show (y 1).val < 64 from (y 1).isLt)))).trans ?_
  refine ((congrArg _ hi).trans (Cert.PrepRefIdeal.Prep.kpe_at _ _ _ _ _)).symm

/-- The result of the queries. -/
theorem final16 (c : Dev nD) :
    (dats m 0 c).arrAt 16 cfg0.N = Cert.PrepRefIdeal.Read.val_main_v124 (F := Ideal)
        (m ((c : Thread nD τ).loc main_arg0)) (m ((c : Thread nD τ).loc main_arg1))
        (m ((c : Thread nD τ).loc main_arg2)) (m ((c : Thread nD τ).loc main_arg3))
        (m ((c : Thread nD τ).loc main_arg6)) (m ((c : Thread nD τ).loc main_arg9))
        (m ((c : Thread nD τ).loc main_arg10)) := by
  refine (dats m 0 c).arrAt_eq_of_covers 16 _ (by decide +kernel) fun t hf y => ?_
  have hi : ((cfg0.win 16).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_16]
  refine ((out16_at _ _ _ _ _ _ _ _ _ _ _ _ _ _ y).trans (q_row m c t (y 0) (y 1))).trans ?_
  refine ((congrArg _ hi).trans (Cert.PrepRefIdeal.Prep.q3_at _ _ _ _ _ _ _ _)).symm

/-- The result of the keys. -/
theorem final17 (c : Dev nD) :
    (dats m 0 c).arrAt 17 cfg0.N = Cert.PrepRefIdeal.Read.val_main_v125 (F := Ideal)
        (m ((c : Thread nD τ).loc main_arg0)) (m ((c : Thread nD τ).loc main_arg1))
        (m ((c : Thread nD τ).loc main_arg2)) (m ((c : Thread nD τ).loc main_arg4))
        (m ((c : Thread nD τ).loc main_arg7)) (m ((c : Thread nD τ).loc main_arg8))
        (m ((c : Thread nD τ).loc main_arg11)) := by
  refine (dats m 0 c).arrAt_eq_of_covers 17 _ (by decide +kernel) fun t hf y => ?_
  have hi : ((cfg0.win 17).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_17]
  refine ((out17_at _ _ _ _ _ _ _ _ _ _ _ _ _ _ y).trans (k_row m c t (y 0) (y 1))).trans ?_
  refine ((congrArg _ hi).trans (Cert.PrepRefIdeal.Prep.k3_at _ _ _ _ _ _ _ _)).symm

/-- The result of the values. -/
theorem final18 (c : Dev nD) :
    (dats m 0 c).arrAt 18 cfg0.N = Cert.PrepRefIdeal.Read.val_main_v127 (F := Ideal)
        (m ((c : Thread nD τ).loc main_arg0)) (m ((c : Thread nD τ).loc main_arg5))
        (m ((c : Thread nD τ).loc main_arg7)) := by
  refine (dats m 0 c).arrAt_eq_of_covers 18 _ (by decide +kernel) fun t hf y => ?_
  have hi : ((cfg0.win 18).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_18]
  refine ((out18_at _ _ _ _ _ _ _ _ _ _ _ _ _ _ y).trans (Finset.sum_congr rfl fun k _ => congrArg₂ (fun a b : EReal => a * b) (ckv_row m c t (y 0) k) (rd7 m c t k (y 1)))).trans ?_
  refine ((congrArg _ hi).trans (Cert.PrepRefIdeal.Prep.v_at _ _ _ _)).symm

end Cert.PrepIdeal.Prep

end
-- ==== Proof.Prep.Claims.lean ====
/- The claims about the call that prepares the attention. -/
module

public import proofs.«01_k».proof.Defs
public import proofs.«01_k».proof.Proof.Gen.Prep.Frame
public import proofs.«01_k».proof.Proof.Gen.PrepRefIdeal.Run
public import proofs.«01_k».proof.Proof.Prep.Value
public import Idealize.ShloMosaic.Lib.Quiescent

@[expose] public section

noncomputable section

namespace Cert.Proof.Prep

open Idealize.ShloMosaic Idealize.ShloMosaic.TcCoe Idealize.SL.Sem

/-- The preparation's kernel runs and leaves its arguments. -/
theorem frame_p : Cert.quiescent_Prep := fun m ρ _ => Cert.Prep.Gen.frame m ρ

/-- The idealized kernel of the preparation runs and leaves its arguments. -/
theorem frame_pi : Cert.quiescent_PrepIdeal := fun m ρ _ => Cert.PrepIdeal.Gen.frame m ρ

/-- The preparation's reference runs and leaves its arguments. -/
theorem frame_ri : Cert.quiescent_PrepRefIdeal := fun m ρ _ =>
  (θ_run Cert.PrepRefIdeal.defs _ _).mono (fun r h => ⟨fun c => (h c).2.2.2.2.2,
      Idealize.ShloMosaic.sem_eq_zero_of_no_sems (by decide) r.2⟩)
    (Cert.PrepRefIdeal.Value.run (F := Ideal) m ρ)

/-- The preparation's five results are the reference's, element by element, of any arguments. -/
theorem algebraic : Cert.algebraic_PrepIdeal_PrepRefIdeal := by
  intro m ρ m' ρ' hpre hagree
  refine ⟨_, _, _, _, _, Cert.PrepIdeal.Value.run_blocks (F := Ideal) m ρ, ?_⟩
  refine (θ_run Cert.PrepRefIdeal.defs _ _).mono (fun _ h c => ?_) (Cert.PrepRefIdeal.Value.run (F := Ideal) m' ρ')
  obtain ⟨h0, h1, h2, h3, h4, hargs⟩ := h c
  obtain ⟨a0, a1, a2, a3, a4, a5, a6, a7, a8, a9, a10, a11⟩ := hagree c
  refine ⟨h0.trans ?_, h1.trans ?_, h2.trans ?_, h3.trans ?_, h4.trans ?_, hargs⟩
  · refine (Cert.PrepRefIdeal.Read.val_main_v33_eq (F := Ideal) _ _).trans ?_
    rw [a0, a7]
    exact (Cert.PrepIdeal.Prep.final14 m c).symm
  · refine (Cert.PrepRefIdeal.Read.val_main_v56_eq (F := Ideal) m' c).trans ?_
    rw [a0, a1, a2, a8]
    exact (Cert.PrepIdeal.Prep.final15 m c).symm
  · refine (Cert.PrepRefIdeal.Read.val_main_v124_eq (F := Ideal) m' c).trans ?_
    rw [a0, a1, a2, a3, a6, a9, a10]
    exact (Cert.PrepIdeal.Prep.final16 m c).symm
  · refine (Cert.PrepRefIdeal.Read.val_main_v125_eq (F := Ideal) m' c).trans ?_
    rw [a0, a1, a2, a4, a7, a8, a11]
    exact (Cert.PrepIdeal.Prep.final17 m c).symm
  · refine (Cert.PrepRefIdeal.Read.val_main_v127_eq (F := Ideal) _ _ _).trans ?_
    rw [a0, a5, a7]
    exact (Cert.PrepIdeal.Prep.final18 m c).symm

end Cert.Proof.Prep

end
-- ==== Proof.Sample.InProj.lean ====
/- The input projection: the kernel's result array is the reference's, element by element, for the sample batch. -/
module

public import proofs.«01_k».proof.Proof.Gen.InProjSIdeal.Value
public import proofs.«01_k».proof.Proof.Gen.InProjSRefIdeal.Read
public import Idealize.ShloMosaic.Lib.Pipeline.ValueKit
public import proofs.«01_k».proof.Proof.Layers.Math

@[expose] public section

set_option maxRecDepth 128

noncomputable section

open Idealize.ShloMosaic Idealize.ShloMosaic.TcCoe Idealize.SL.Sem
open Idealize.ShloMosaic.Pipeline (Dat)

namespace Cert.InProjSRefIdeal.Sample

open Cert.InProjSRefIdeal Cert.InProjSRefIdeal.Gen Cert.Layers

/-- The reference's normed rows. -/
theorem normed_at (x0 : FVec Ideal S128x2048 .f32) (x1 : FVec Ideal S1x2048 .f32) (i : S128x2048.Idx) :
    (show FVec Ideal S128x2048 .f32 from Read.val_main_v11 (F := Ideal) x0 x1) i =
      normed (fun k => x0 (ix2 (i 0) k)) (fun k => x1 (ix2 0 k)) (i 1) := by
  show Read.val_main_v11 (F := Ideal) x0 x1 i = _
  rw [Read.val_main_v11_apply, Read.val_main_v9_apply, Read.val_main_v8_apply, Read.val_main_v7_apply,
    Read.val_main_v6_apply, Read.val_main_v4_apply, Read.val_main_v2_apply, Read.val_main_v1_apply,
    Read.val_main_v3_apply, Read.val_main_v5_apply, Read.val_main_v10_apply]
  simp only [Read.val_main_v0_apply, Read.val_main_cst_apply, Read.val_main_cst_0_apply, Read.val_main_cst_1_apply]
  simp only [Ideal.ofBits_def, Ideal.mulf_def, Ideal.addf_def, Ideal.hostDivf_def, Ideal.hostUnary_rsqrt_def, ofBits_zero, zero_add, div_2048]
  refine normed_of (congrArg x0 ?_) (fun j => congrArg x0 ?_) (congrArg x1 ?_) <;>
  · funext a; match a with
      | ⟨0, _⟩ => rfl
      | ⟨1, _⟩ => rfl

/-- The reference at an index: the normed row times the weight's column. -/
theorem product_at (x0 : FVec Ideal S128x2048 .f32) (x1 : FVec Ideal S1x2048 .f32) (x2 : FVec Ideal S2048x4096 .bf16)
    (i : S128x4096.Idx) :
    (show FVec Ideal S128x4096 .f32 from Read.val_main_v13 (F := Ideal) x0 x1 x2) i =
      ∑ k, normed (fun k => x0 (ix2 (i 0) k)) (fun k => x1 (ix2 0 k)) k * x2 (ix2 k (i 1)) := by
  refine (Read.val_main_v13_apply x0 x1 x2 i).trans (Finset.sum_congr rfl fun k _ => ?_)
  refine congrArg₂ (fun a b : EReal => a * b) (normed_at x0 x1 _) (congrArg x2 ?_)
  funext a; match a with
    | ⟨0, _⟩ => rfl
    | ⟨1, _⟩ => rfl

end Cert.InProjSRefIdeal.Sample

namespace Cert.InProjSIdeal.Sample

open Cert.InProjSIdeal Cert.InProjSIdeal.Gen Cert.Layers

variable (m : (ℓ : Loc nD τ sig) → Buf (Elt Ideal) ℓ)

/-- The kernel's normed block. -/
theorem pay1_at (x : FVec Ideal S128x2048 .f32) (g : FVec Ideal S1x2048 .f32) (y : S128x2048.Idx) :
    (show FVec Ideal S128x2048 .bf16 from k0_pay1 (F := Ideal) x g) y =
      normed (fun k => x (ix2 (y 0) k)) (fun k => g (ix2 0 k)) (y 1) := by
  pointwise [k0_pay1]
  refine normed_of (congrArg x ?_) (fun j => rfl) rfl
  funext a; match a with
    | ⟨0, _⟩ => rfl
    | ⟨1, _⟩ => rfl

/-- The kernel's product block. -/
theorem pay2_at (x : FVec Ideal S128x2048 .bf16) (w : FVec Ideal S2048x1024 .bf16) (y : S128x1024.Idx) :
    (show FVec Ideal S128x1024 .f32 from k0_pay2 (F := Ideal) x w) y =
      ∑ k, x (ix2 (y 0) k) * w (ix2 k (y 1)) := by
  pointwise [k0_pay2]

/-- A first column block norms the rows and multiplies them. -/
theorem stepA (c : Dev nD) (t : Fin cfg0.N) (h0 : t.val % 4 = 0) :
    outsAt0 m c t.val t.isLt = (k0_pay2 (F := Ideal) (k0_pay1 (iblk m c 0 t) (iblk m c 1 t)) (iblk m c 2 t),
      k0_pay1 (iblk m c 0 t) (iblk m c 1 t)) := by
  rw [outsAt0_A m c t h0]
  frame_out

/-- A later column block multiplies the rows normed before it, and keeps them. -/
theorem stepB (c : Dev nD) (t : Fin cfg0.N) (h0 : ¬t.val % 4 = 0) :
    outsAt0 m c t.val t.isLt =
      (k0_pay2 (F := Ideal) (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  refine Prod.ext ?_ rfl
  dsimp only
  frame_out
  exact congrArg (fun z => k0_pay2 (F := Ideal) z (iblk m c 2 t)) (Memref.IsWhole.read_unread _ _)

/-- The windows' block indices at every grid point. -/
theorem idx : ∀ t : Fin cfg0.N, win0_0.index t = ![0, 0] ∧ win0_1.index t = ![0, 0] ∧
    win0_2.index t = ![0, t.val] ∧ win0_3.index t = ![0, t.val] ∧ t.val < 4 :=
  (by decide +kernel : ∀ t : Fin grid0.N, _)

/-- The kernel's normed block of a point's rows. -/
theorem normed_block (c : Dev nD) (t : Fin cfg0.N) (y : S128x2048.Idx) (r : Fin 128)
    (hr : r.val = (y 0).val) :
    (show FVec Ideal S128x2048 .bf16 from k0_pay1 (F := Ideal) (iblk m c 0 t) (iblk m c 1 t)) y =
      normed (fun k => (show FVec Ideal S128x2048 .f32 from m ((c : Thread nD τ).loc main_arg0)) (ix2 r k))
        (fun k => (show FVec Ideal S1x2048 .f32 from m ((c : Thread nD τ).loc main_arg1)) (ix2 0 k)) (y 1) := by
  obtain ⟨e0, e1, -⟩ := idx t
  refine (pay1_at _ _ y).trans ?_
  refine congrArg₂ (fun a b => normed a b (y 1)) (funext fun k => ?_) (funext fun k => ?_)
  · blk_ext [iblk, V, e0, hr]
  · blk_ext [iblk, V, e1]

/-- What the carried buffer holds at every point: the normed rows of the point's row block. -/
theorem scratch (c : Dev nD) (n : ℕ) : ∀ (hn : n < cfg0.N) (y : S128x2048.Idx) (r : Fin 128),
    r.val = (y 0).val →
    (show FVec Ideal S128x2048 .bf16 from (outsAt0 m c n hn).2) y =
      normed (fun k => (show FVec Ideal S128x2048 .f32 from m ((c : Thread nD τ).loc main_arg0)) (ix2 r k))
        (fun k => (show FVec Ideal S1x2048 .f32 from m ((c : Thread nD τ).loc main_arg1)) (ix2 0 k)) (y 1) := by
  induction n with
  | zero =>
    intro hn y r hr
    rw [stepA m c ⟨0, hn⟩ rfl]
    exact normed_block m c ⟨0, hn⟩ y r hr
  | succ n ih =>
    intro hn y r hr
    by_cases h : (n + 1) % 4 = 0
    · rw [stepA m c ⟨n + 1, hn⟩ h]
      exact normed_block m c ⟨n + 1, hn⟩ y r hr
    · rw [stepB m c ⟨n + 1, hn⟩ h]
      dsimp only
      exact ih _ y r hr

/-- At every point the output block is the product of the carried rows with the point's columns. -/
theorem out_eq (c : Dev nD) (t : Fin cfg0.N) :
    (outsAt0 m c t.val t.isLt).1 = k0_pay2 (F := Ideal) (outsAt0 m c t.val t.isLt).2 (iblk m c 2 t) := by
  by_cases h : t.val % 4 = 0
  · rw [stepA m c t h]
  · rw [stepB m c t h]

/-- The kernel's result array is the reference's, of any argument arrays. -/
theorem final (c : Dev nD) :
    (dats m 0 c).arrAt 3 cfg0.N = Cert.InProjSRefIdeal.Read.val_main_v13 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3, out_eq]
  obtain ⟨e0, e1, e2, e3, ht⟩ := idx t
  have i0 : (((cfg0.win 3).blk t).view.emb y 0).val = (y 0).val := by blk_simp [e3]
  have i1 : (((cfg0.win 3).blk t).view.emb y 1).val = t.val * 1024 + (y 1).val := by blk_simp [e3]
  refine (pay2_at _ _ y).trans (Eq.trans ?_ (Cert.InProjSRefIdeal.Sample.product_at _ _ _ _).symm)
  refine Finset.sum_congr rfl fun k _ => congrArg₂ (fun a b : EReal => a * b) ?_ ?_
  · exact scratch m c t.val t.isLt _ _ i0
  · blk_ext [iblk, V, e2, i1]

end Cert.InProjSIdeal.Sample

end
-- ==== Proof.Sample.Ffn.lean ====
/- The dense feed-forward network: the kernel's result array is the reference's, element by element, for the sample batch. -/
module

public import proofs.«01_k».proof.Proof.Gen.FfnSIdeal.Value
public import proofs.«01_k».proof.Proof.Gen.FfnSRefIdeal.Read
public import Idealize.ShloMosaic.Lib.Pipeline.ValueKit
public import proofs.«01_k».proof.Proof.Sample.InProj

@[expose] public section

set_option maxRecDepth 128

noncomputable section

open Idealize.ShloMosaic Idealize.ShloMosaic.TcCoe Idealize.SL.Sem
open Idealize.ShloMosaic.Pipeline (Dat)

namespace Cert.FfnSRefIdeal.Sample

open Cert.FfnSRefIdeal Cert.FfnSRefIdeal.Gen Cert.Layers

/-- The reference's normed rows. -/
theorem normed_at (x0 : FVec Ideal S128x2048 .f32) (x1 : FVec Ideal S1x2048 .f32) (i : S128x2048.Idx) :
    (show FVec Ideal S128x2048 .f32 from Read.val_main_v14 (F := Ideal) x0 x1) i =
      normed (fun k => x0 (ix2 (i 0) k)) (fun k => x1 (ix2 0 k)) (i 1) := by
  exact Cert.InProjSRefIdeal.Sample.normed_at x0 x1 i

/-- A hidden element: the gated unit of the gate's product times the up product. -/
def hidden (x0 : FVec Ideal S128x2048 .f32) (x1 : FVec Ideal S1x2048 .f32) (x2 x3 : FVec Ideal S2048x5632 .bf16)
    (r : Fin 128) (f : Fin 5632) : EReal :=
  silu (∑ k, normed (fun k => x0 (ix2 r k)) (fun k => x1 (ix2 0 k)) k * x2 (ix2 k f)) *
    ∑ k, normed (fun k => x0 (ix2 r k)) (fun k => x1 (ix2 0 k)) k * x3 (ix2 k f)

/-- The reference's gate product. -/
theorem gate_at (x0 : FVec Ideal S128x2048 .f32) (x1 : FVec Ideal S1x2048 .f32) (x2 : FVec Ideal S2048x5632 .bf16)
    (i : S128x5632.Idx) :
    (show FVec Ideal S128x5632 .f32 from Read.val_main_v15 (F := Ideal) x0 x1 x2) i =
      ∑ k, normed (fun k => x0 (ix2 (i 0) k)) (fun k => x1 (ix2 0 k)) k * x2 (ix2 k (i 1)) := by
  refine (Read.val_main_v15_apply x0 x1 x2 i).trans (Finset.sum_congr rfl fun k _ => ?_)
  refine congrArg₂ (fun a b : EReal => a * b) (normed_at x0 x1 _) (congrArg x2 ?_)
  funext a; match a with
    | ⟨0, _⟩ => rfl
    | ⟨1, _⟩ => rfl

/-- The reference's up product. -/
theorem up_at (x0 : FVec Ideal S128x2048 .f32) (x1 : FVec Ideal S1x2048 .f32) (x3 : FVec Ideal S2048x5632 .bf16)
    (i : S128x5632.Idx) :
    (show FVec Ideal S128x5632 .f32 from Read.val_main_v17 (F := Ideal) x0 x1 x3) i =
      ∑ k, normed (fun k => x0 (ix2 (i 0) k)) (fun k => x1 (ix2 0 k)) k * x3 (ix2 k (i 1)) := by
  refine (Read.val_main_v17_apply x0 x1 x3 i).trans (Finset.sum_congr rfl fun k _ => ?_)
  refine congrArg₂ (fun a b : EReal => a * b) (normed_at x0 x1 _) (congrArg x3 ?_)
  funext a; match a with
    | ⟨0, _⟩ => rfl
    | ⟨1, _⟩ => rfl

/-- The reference's hidden elements. -/
theorem hidden_at (x0 : FVec Ideal S128x2048 .f32) (x1 : FVec Ideal S1x2048 .f32) (x2 x3 : FVec Ideal S2048x5632 .bf16)
    (i : S128x5632.Idx) :
    (show FVec Ideal S128x5632 .f32 from Read.val_main_v18 (F := Ideal) x0 x1 x2 x3) i =
      hidden x0 x1 x2 x3 (i 0) (i 1) := by
  show Read.val_main_v18 (F := Ideal) x0 x1 x2 x3 i = _
  rw [Read.val_main_v18_apply, Read.val_main_v16_apply, Read.val_main_call0_v5_apply, Read.val_main_call0_v4_apply,
    Read.val_main_call0_v3_apply, Read.val_main_call0_v2_apply, Read.val_main_call0_v1_apply,
    Read.val_main_call0_v0_apply, Read.val_main_call0_cst_apply, Read.val_main_call0_cst_0_apply]
  simp only [Ideal.ofBits_def, Ideal.mulf_def, Ideal.addf_def, Ideal.hostDivf_def, Ideal.hostUnary_exp_def,
    Ideal.hostNegf_def, Ideal.negf_def, logistic_of]
  exact congrArg₂ (fun a b : EReal => silu a * b) (gate_at x0 x1 x2 i) (up_at x0 x1 x3 i)

/-- The reference at an index: the stream plus the hidden row times the down column. -/
theorem ffn_at (x0 : FVec Ideal S128x2048 .f32) (x1 : FVec Ideal S1x2048 .f32) (x2 x3 : FVec Ideal S2048x5632 .bf16)
    (x4 : FVec Ideal S5632x2048 .bf16) (i : S128x2048.Idx) :
    (show FVec Ideal S128x2048 .f32 from Read.val_main_v20 (F := Ideal) x0 x1 x2 x3 x4) i =
      x0 i + ∑ f : Fin 5632, hidden x0 x1 x2 x3 (i 0) f * x4 (ix2 f (i 1)) := by
  refine (Read.val_main_v20_apply (F := Ideal) x0 x1 x2 x3 x4 i).trans ?_
  refine congrArg (fun z : EReal => x0 i + z)
    ((Read.val_main_v19_apply x0 x1 x2 x3 x4 i).trans (Finset.sum_congr rfl fun k _ => ?_))
  refine congrArg₂ (fun a b : EReal => a * b) (hidden_at x0 x1 x2 x3 _) (congrArg x4 ?_)
  funext a; match a with
    | ⟨0, _⟩ => rfl
    | ⟨1, _⟩ => rfl

end Cert.FfnSRefIdeal.Sample

namespace Cert.FfnSIdeal.Sample

open Cert.FfnSIdeal Cert.FfnSIdeal.Gen Cert.Layers
open Cert.FfnSRefIdeal.Sample (hidden)

variable (m : (ℓ : Loc nD τ sig) → Buf (Elt Ideal) ℓ)

/-- The kernel's normed block. -/
theorem pay1_at (x : FVec Ideal S128x2048 .f32) (g : FVec Ideal S1x2048 .f32) (y : S128x2048.Idx) :
    (show FVec Ideal S128x2048 .bf16 from k0_pay1 (F := Ideal) x g) y =
      normed (fun k => x (ix2 (y 0) k)) (fun k => g (ix2 0 k)) (y 1) := by
  exact Cert.InProjSIdeal.Sample.pay1_at x g y

/-- The kernel's accumulated block: what it held plus a block of hidden columns times the down rows. -/
theorem pay2_at (xn : FVec Ideal S128x2048 .bf16) (wg wu : FVec Ideal S2048x512 .bf16) (acc : FVec Ideal S128x2048 .f32)
    (wd : FVec Ideal S512x2048 .bf16) (y : S128x2048.Idx) :
    (show FVec Ideal S128x2048 .f32 from k0_pay2 (F := Ideal) xn wg wu acc wd) y =
      acc y + ∑ f, silu (∑ k, xn (ix2 (y 0) k) * wg (ix2 k f)) * (∑ k, xn (ix2 (y 0) k) * wu (ix2 k f)) *
        wd (ix2 f (y 1)) := by
  pointwise [k0_pay2]
  rfl

/-- The windows' block indices at every grid point. -/
theorem idx : ∀ t : Fin cfg0.N, win0_0.index t = ![0, 0] ∧ win0_1.index t = ![0, 0] ∧
    win0_2.index t = ![0, t.val % 11] ∧ win0_3.index t = ![0, t.val % 11] ∧ win0_4.index t = ![t.val % 11, 0] ∧
    win0_5.index t = ![0, 0] ∧ t.val < 11 :=
  (by decide +kernel : ∀ t : Fin grid0.N, _)

/-- A first hidden block norms the rows and starts from the stream. -/
theorem stepA (c : Dev nD) (t : Fin cfg0.N) (h0 : t.val % 11 = 0) :
    outsAt0 m c t.val t.isLt = (k0_pay2 (F := Ideal) (k0_pay1 (iblk m c 0 t) (iblk m c 1 t)) (iblk m c 2 t)
        (iblk m c 3 t) (iblk m c 0 t) (iblk m c 4 t), k0_pay1 (iblk m c 0 t) (iblk m c 1 t)) := by
  rw [outsAt0_A m c t h0]
  frame_out

/-- A later hidden block adds to what the point before left, and keeps the normed rows. -/
theorem stepB (c : Dev nD) (t : Fin cfg0.N) (h0 : ¬t.val % 11 = 0) :
    outsAt0 m c t.val t.isLt =
      (k0_pay2 (F := Ideal) (outsAt0 m c (t.val - 1) (Nat.lt_of_le_of_lt (Nat.sub_le _ _) t.isLt)).2 (iblk m c 2 t)
          (iblk m c 3 t) (outsAt0 m c (t.val - 1) (Nat.lt_of_le_of_lt (Nat.sub_le _ _) t.isLt)).1 (iblk m c 4 t),
        (outsAt0 m c (t.val - 1) (Nat.lt_of_le_of_lt (Nat.sub_le _ _) t.isLt)).2) := by
  rw [outsAt0_B m c t h0]
  refine Prod.ext ?_ rfl
  dsimp only
  frame_out
  exact congrArg (fun z => k0_pay2 (F := Ideal) z (iblk m c 2 t) (iblk m c 3 t) _ (iblk m c 4 t))
    (Memref.IsWhole.read_unread _ _)

/-- The kernel's normed block of a point's rows. -/
theorem normed_block (c : Dev nD) (t : Fin cfg0.N) (y : S128x2048.Idx) (r : Fin 128)
    (hr : r.val = (y 0).val) :
    (show FVec Ideal S128x2048 .bf16 from k0_pay1 (F := Ideal) (iblk m c 0 t) (iblk m c 1 t)) y =
      normed (fun k => (show FVec Ideal S128x2048 .f32 from m ((c : Thread nD τ).loc main_arg0)) (ix2 r k))
        (fun k => (show FVec Ideal S1x2048 .f32 from m ((c : Thread nD τ).loc main_arg1)) (ix2 0 k)) (y 1) := by
  obtain ⟨e0, e1, -⟩ := idx t
  refine (pay1_at _ _ y).trans ?_
  refine congrArg₂ (fun a b => normed a b (y 1)) (funext fun k => ?_) (funext fun k => ?_)
  · blk_simp [iblk, V]
    refine congrArg _ (funext fun a => Fin.ext ?_)
    fin_cases a <;> blk_simp [e0] <;> first | rfl | exact hr.symm
  · blk_simp [iblk, V]
    refine congrArg _ (funext fun a => Fin.ext ?_)
    fin_cases a <;> blk_simp [e1] <;> rfl

/-- What the carried buffer holds at every point: the normed rows of the point's row block. -/
theorem scratch (c : Dev nD) (n : ℕ) : ∀ (hn : n < cfg0.N) (y : S128x2048.Idx) (r : Fin 128),
    r.val = (y 0).val →
    (show FVec Ideal S128x2048 .bf16 from (outsAt0 m c n hn).2) y =
      normed (fun k => (show FVec Ideal S128x2048 .f32 from m ((c : Thread nD τ).loc main_arg0)) (ix2 r k))
        (fun k => (show FVec Ideal S1x2048 .f32 from m ((c : Thread nD τ).loc main_arg1)) (ix2 0 k)) (y 1) := by
  induction n with
  | zero =>
    intro hn y r hr
    rw [stepA m c ⟨0, hn⟩ rfl]
    exact normed_block m c ⟨0, hn⟩ y r hr
  | succ n ih =>
    intro hn y r hr
    by_cases h : (n + 1) % 11 = 0
    · rw [stepA m c ⟨n + 1, hn⟩ h]
      exact normed_block m c ⟨n + 1, hn⟩ y r hr
    · rw [stepB m c ⟨n + 1, hn⟩ h]
      dsimp only
      exact ih _ y r hr

/-- Hidden block `s`'s part of a result element. -/
def part (x0 : FVec Ideal S128x2048 .f32) (x1 : FVec Ideal S1x2048 .f32) (x2 x3 : FVec Ideal S2048x5632 .bf16)
    (x4 : FVec Ideal S5632x2048 .bf16) (r : Fin 128) (d : Fin 2048) (s : ℕ) : EReal :=
  if h : s < 11 then ∑ f : Fin 512, hidden x0 x1 x2 x3 r ⟨s * 512 + f.val, by omega⟩ *
    x4 (ix2 ⟨s * 512 + f.val, by omega⟩ d) else 0

/-- A point adds its hidden block's part to what it accumulates on, whatever normed rows it holds. -/
theorem add_part (c : Dev nD) (t : Fin cfg0.N) (xn : FVec Ideal S128x2048 .bf16) (acc : FVec Ideal S128x2048 .f32)
    (y : S128x2048.Idx) (r : Fin 128)
    (hx : ∀ k : Fin 2048, xn (ix2 (y 0) k) =
      normed (fun k => (show FVec Ideal S128x2048 .f32 from m ((c : Thread nD τ).loc main_arg0)) (ix2 r k))
        (fun k => (show FVec Ideal S1x2048 .f32 from m ((c : Thread nD τ).loc main_arg1)) (ix2 0 k)) k) :
    (show FVec Ideal S128x2048 .f32 from
        k0_pay2 (F := Ideal) xn (iblk m c 2 t) (iblk m c 3 t) acc (iblk m c 4 t)) y =
      acc y + part (m ((c : Thread nD τ).loc main_arg0)) (m ((c : Thread nD τ).loc main_arg1))
        (m ((c : Thread nD τ).loc main_arg2)) (m ((c : Thread nD τ).loc main_arg3)) (m ((c : Thread nD τ).loc main_arg4))
        r (y 1) (t.val % 11) := by
  obtain ⟨e0, e1, e2, e3, e4, e5, ht⟩ := idx t
  refine (pay2_at _ _ _ _ _ y).trans (congrArg (fun z : EReal => acc y + z) ?_)
  refine Eq.trans ?_ (dif_pos (Nat.mod_lt _ (by norm_num))).symm
  refine Finset.sum_congr rfl fun f _ => congrArg₂ (fun a b : EReal => a * b)
    (congrArg₂ (fun a b : EReal => silu a * b)
      (Finset.sum_congr rfl fun k _ => congrArg₂ (fun a b : EReal => a * b) (hx k) ?_)
      (Finset.sum_congr rfl fun k _ => congrArg₂ (fun a b : EReal => a * b) (hx k) ?_)) ?_
  all_goals
    blk_simp [iblk, V]
    refine congrArg _ (funext fun a => Fin.ext ?_)
    fin_cases a <;> blk_simp [e2, e3, e4] <;> rfl

/-- What the output block holds at every point: the stream's block plus the parts of the hidden blocks so far. -/
theorem acc_eq (c : Dev nD) (n : ℕ) : ∀ (hn : n < cfg0.N) (y : S128x2048.Idx) (r : Fin 128),
    r.val = (y 0).val →
    (show FVec Ideal S128x2048 .f32 from (outsAt0 m c n hn).1) y =
      (show FVec Ideal S128x2048 .f32 from m ((c : Thread nD τ).loc main_arg0)) (ix2 r (y 1)) +
      ∑ s ∈ Finset.range (n % 11 + 1), part (m ((c : Thread nD τ).loc main_arg0)) (m ((c : Thread nD τ).loc main_arg1))
        (m ((c : Thread nD τ).loc main_arg2)) (m ((c : Thread nD τ).loc main_arg3)) (m ((c : Thread nD τ).loc main_arg4))
        r (y 1) s := by
  have first : ∀ (t : Fin cfg0.N) (h : t.val % 11 = 0) (y : S128x2048.Idx) (r : Fin 128),
      r.val = (y 0).val →
      (show FVec Ideal S128x2048 .f32 from (outsAt0 m c t.val t.isLt).1) y =
        (show FVec Ideal S128x2048 .f32 from m ((c : Thread nD τ).loc main_arg0)) (ix2 r (y 1)) +
        ∑ s ∈ Finset.range (t.val % 11 + 1), part (m ((c : Thread nD τ).loc main_arg0)) (m ((c : Thread nD τ).loc main_arg1))
          (m ((c : Thread nD τ).loc main_arg2)) (m ((c : Thread nD τ).loc main_arg3)) (m ((c : Thread nD τ).loc main_arg4))
          r (y 1) s := by
    intro t h y r hr
    rw [stepA m c t h]
    obtain ⟨e0, -⟩ := idx t
    refine (add_part m c t _ _ y r fun k => normed_block m c t (ix2 (y 0) k) r hr).trans ?_
    rw [h, Finset.sum_range_one]
    refine congrArg₂ (fun a b : EReal => a + b) ?_ rfl
    blk_simp [iblk, V]
    refine congrArg _ (funext fun a => Fin.ext ?_)
    fin_cases a <;> blk_simp [e0] <;> first | rfl | exact hr.symm
  induction n with
  | zero => exact fun hn => first ⟨0, hn⟩ rfl
  | succ n ih =>
    intro hn y r hr
    by_cases h : (n + 1) % 11 = 0
    · exact first ⟨n + 1, hn⟩ h y r hr
    · rw [stepB m c ⟨n + 1, hn⟩ h]
      refine (add_part m c ⟨n + 1, hn⟩ _ _ y r fun k => scratch m c n _ (ix2 (y 0) k) r hr).trans ?_
      refine (congrArg (fun z : EReal => z + _) (ih _ y r hr)).trans ?_
      have e : (n + 1) % 11 = n % 11 + 1 := by omega
      rw [e, Finset.sum_range_succ _ (n % 11 + 1), add_assoc]

/-- The kernel's result array is the reference's, of any argument arrays. -/
theorem final (c : Dev nD) :
    (dats m 0 c).arrAt 5 cfg0.N = Cert.FfnSRefIdeal.Read.val_main_v20 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5]
  obtain ⟨e0, e1, e2, e3, e4, e5, ht⟩ := idx t
  have hl : t.val % 11 = 10 := (flush0_5 t).mp hf
  have i0 : (((cfg0.win 5).blk t).view.emb y 0).val = (y 0).val := by blk_simp [e5]
  have i1 : ((cfg0.win 5).blk t).view.emb y 1 = y 1 := Fin.ext (by blk_simp [e5])
  refine (acc_eq m c t.val t.isLt y _ i0).trans (Eq.trans ?_ (Cert.FfnSRefIdeal.Sample.ffn_at _ _ _ _ _ _).symm)
  refine congrArg₂ (fun a b : EReal => a + b) (congrArg _ ?_) ?_
  · funext a; match a with
      | ⟨0, _⟩ => rfl
      | ⟨1, _⟩ => exact i1.symm
  · rw [hl, Finset.sum_range, i1]
    refine (Finset.sum_congr rfl fun s _ => dif_pos s.isLt).trans ?_
    exact Fin.sum_mul_add_congr fun s k hl => rfl

end Cert.FfnSIdeal.Sample

end
-- ==== Proof.Sample.OutProj.lean ====
/- The output projection: the kernel's result array is the reference's, element by element, for the sample batch. -/
module

public import proofs.«01_k».proof.Proof.Gen.OutProjSIdeal.Value
public import proofs.«01_k».proof.Proof.Gen.OutProjSRefIdeal.Read
public import Idealize.ShloMosaic.Lib.Pipeline.ValueKit
public import proofs.«01_k».proof.Proof.Layers.Math

@[expose] public section

set_option maxRecDepth 128

noncomputable section

open Idealize.ShloMosaic Idealize.ShloMosaic.TcCoe Idealize.SL.Sem
open Idealize.ShloMosaic.Pipeline (Dat)

namespace Cert.OutProjSRefIdeal.Sample

open Cert.OutProjSRefIdeal Cert.OutProjSRefIdeal.Gen

/-- A joined column below 1024 is the first half's. -/
theorem joined_left (x0 x1 : FVec Ideal S128x1024 .bf16) (i : S128x2048.Idx) (k : Fin 1024) (h : (i 1).val = k.val) :
    Read.val_main_v2 (F := Ideal) x0 x1 i = x0 (ix2 (i 0) k) := by
  unfold Read.val_main_v2
  exact concatenate_pair_apply_left (s₁ := S128x1024) 1 (Read.val_main_v0 (F := Ideal) x0) (Read.val_main_v1 (F := Ideal) x1) _ i rfl
    (show S128x1024.Idx from ix2 (i 0) k) fun b => match b with
      | ⟨0, _⟩ => rfl
      | ⟨1, _⟩ => h.symm

/-- A joined column from 1024 on is the second half's. -/
theorem joined_right (x0 x1 : FVec Ideal S128x1024 .bf16) (i : S128x2048.Idx) (k : Fin 1024)
    (h : (i 1).val = 1024 + k.val) : Read.val_main_v2 (F := Ideal) x0 x1 i = x1 (ix2 (i 0) k) := by
  unfold Read.val_main_v2
  exact concatenate_pair_apply_right (s₂ := S128x1024) 1 (Read.val_main_v0 (F := Ideal) x0) (Read.val_main_v1 (F := Ideal) x1) _ i rfl rfl
    (show S128x1024.Idx from ix2 (i 0) k) (fun b hb => match b, hb with
      | ⟨0, _⟩, _ => rfl
      | ⟨1, _⟩, hb => absurd rfl hb) ((Nat.add_comm _ _).trans h.symm)

/-- The reference at an index: the residual plus the product of the two joined halves with the weight, the sum over the
    joined columns split where the halves meet. -/
theorem out_at (x0 x1 : FVec Ideal S128x1024 .bf16) (x2 : FVec Ideal S2048x2048 .bf16) (x3 : FVec Ideal S128x2048 .f32)
    (i : S128x2048.Idx) :
    (show FVec Ideal S128x2048 .f32 from Read.val_main_v5 (F := Ideal) x0 x1 x2 x3) i =
      x3 i + (∑ k : Fin 1024, x0 (ix2 (i 0) k) * x2 (ix2 ⟨k.val, by omega⟩ (i 1)) +
        ∑ k : Fin 1024, x1 (ix2 (i 0) k) * x2 (ix2 ⟨1024 + k.val, by omega⟩ (i 1))) := by
  refine (Read.val_main_v5_apply (F := Ideal) x0 x1 x2 x3 i).trans ?_
  refine congrArg (fun z : EReal => x3 i + z) ((Read.val_main_v4_apply x0 x1 x2 i).trans ?_)
  refine (Fin.sum_univ_add (a := 1024) (b := 1024) (M := EReal) _).trans ?_
  refine congrArg₂ (fun a b : EReal => a + b) (Finset.sum_congr rfl fun k _ => ?_) (Finset.sum_congr rfl fun k _ => ?_)
  · refine congrArg₂ (fun a b : EReal => a * b) (joined_left x0 x1 _ k rfl) (congrArg x2 ?_)
    funext a; match a with
      | ⟨0, _⟩ => rfl
      | ⟨1, _⟩ => rfl
  · refine congrArg₂ (fun a b : EReal => a * b) (joined_right x0 x1 _ k rfl) (congrArg x2 ?_)
    funext a; match a with
      | ⟨0, _⟩ => rfl
      | ⟨1, _⟩ => rfl

end Cert.OutProjSRefIdeal.Sample

namespace Cert.OutProjSIdeal.Sample

open Cert.OutProjSIdeal Cert.OutProjSIdeal.Gen

variable (m : (ℓ : Loc nD τ sig) → Buf (Elt Ideal) ℓ)

/-- The windows' block indices at every grid point. -/
theorem idx : ∀ t : Fin cfg0.N, win0_0.index t = ![0, 0] ∧ win0_1.index t = ![0, 0] ∧
    win0_2.index t = ![0, t.val] ∧ win0_3.index t = ![0, t.val] ∧ win0_4.index t = ![0, t.val] ∧ t.val < 2 :=
  (by decide +kernel : ∀ t : Fin grid0.N, _)

/-- What a grid point writes: its block of the residual plus the two halves' products with the weight's halves. -/
theorem point (x0 x1 : FVec Ideal S128x1024 .bf16) (x2 : FVec Ideal S2048x1024 .bf16) (x3 : FVec Ideal S128x1024 .f32)
    (y : S128x1024.Idx) :
    (show FVec Ideal S128x1024 .f32 from out0_4 (F := Ideal) x0 x1 x2 x3) y =
      x3 y + (∑ k : Fin 1024, x0 (ix2 (y 0) k) * x2 (ix2 ⟨k.val, by omega⟩ (y 1)) +
        ∑ k : Fin 1024, x1 (ix2 (y 0) k) * x2 (ix2 ⟨1024 + k.val, by omega⟩ (y 1))) := by
  frame_out
  pointwise [k0_pay1]

/-- The kernel's result array is the reference's, of any argument arrays. -/
theorem final (c : Dev nD) :
    (dats m 0 c).arrAt 4 cfg0.N = Cert.OutProjSRefIdeal.Read.val_main_v5 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨e0, e1, e2, e3, e4, ht⟩ := idx t
  have i0 : (((cfg0.win 4).blk t).view.emb y 0).val = (y 0).val := by blk_simp [e4]
  have i1 : (((cfg0.win 4).blk t).view.emb y 1).val = t.val * 1024 + (y 1).val := by blk_simp [e4]
  refine (point _ _ _ _ y).trans (Eq.trans ?_ (Cert.OutProjSRefIdeal.Sample.out_at _ _ _ _ _).symm)
  generalize ((cfg0.win 4).blk t).view.emb y = i at i0 i1 ⊢
  refine congrArg₂ (fun a b : EReal => a + b) ?_ (congrArg₂ (fun a b : EReal => a + b)
    (Finset.sum_congr rfl fun k _ => congrArg₂ (fun a b : EReal => a * b) ?_ ?_)
    (Finset.sum_congr rfl fun k _ => congrArg₂ (fun a b : EReal => a * b) ?_ ?_))
  all_goals
    blk_simp [iblk, V]
    refine congrArg _ (funext fun a => Fin.ext ?_)
    fin_cases a
  all_goals blk_simp [e0, e1, e2, e3]
  all_goals first | rfl | exact i0.symm | exact i1.symm

end Cert.OutProjSIdeal.Sample

end
-- ==== Proof.Sample.Ple.lean ====
/- The per-layer input: the kernel's result array is the reference's, element by element, for the sample batch. -/
module

public import proofs.«01_k».proof.Proof.Gen.PleSIdeal.Value
public import proofs.«01_k».proof.Proof.Gen.PleSRefIdeal.Read
public import Idealize.ShloMosaic.Lib.Pipeline.ValueKit
public import proofs.«01_k».proof.Proof.Sample.InProj

@[expose] public section

set_option maxRecDepth 128

noncomputable section

open Idealize.ShloMosaic Idealize.ShloMosaic.TcCoe Idealize.SL.Sem
open Idealize.ShloMosaic.Pipeline (Dat)

namespace Cert.PleSRefIdeal.Sample

open Cert.PleSRefIdeal Cert.PleSRefIdeal.Gen Cert.Layers

/-- The reference's normed rows. -/
theorem normed_at (x0 : FVec Ideal S128x2048 .f32) (x1 : FVec Ideal S1x2048 .f32) (i : S128x2048.Idx) :
    (show FVec Ideal S128x2048 .f32 from Read.val_main_v11 (F := Ideal) x0 x1) i =
      normed (fun k => x0 (ix2 (i 0) k)) (fun k => x1 (ix2 0 k)) (i 1) := by
  exact Cert.InProjSRefIdeal.Sample.normed_at x0 x1 i

/-- The reference's gate: the logistic of the normed row times the gate's column. -/
theorem gate_at (x0 : FVec Ideal S128x2048 .f32) (x1 : FVec Ideal S1x2048 .f32) (x3 : FVec Ideal S2048x2048 .bf16)
    (i : S128x2048.Idx) :
    (show FVec Ideal S128x2048 .f32 from Read.val_main_v19 (F := Ideal) x0 x1 x3) i =
      Ideal.logistic (∑ k, normed (fun k => x0 (ix2 (i 0) k)) (fun k => x1 (ix2 0 k)) k * x3 (ix2 k (i 1))) := by
  show Read.val_main_v19 (F := Ideal) x0 x1 x3 i = _
  rw [Read.val_main_v19_apply, Read.val_main_v18_apply, Read.val_main_v17_apply, Read.val_main_v16_apply,
    Read.val_main_v15_apply, Read.val_main_v14_apply, Read.val_main_cst_2_apply, Read.val_main_cst_3_apply]
  simp only [Ideal.ofBits_def, Ideal.addf_def, Ideal.hostDivf_def, Ideal.hostUnary_exp_def, Ideal.hostNegf_def, Ideal.negf_def, logistic_of]
  refine congrArg Ideal.logistic ((Read.val_main_v13_apply x0 x1 x3 i).trans (Finset.sum_congr rfl fun k _ => ?_))
  refine congrArg₂ (fun a b : EReal => a * b) (normed_at x0 x1 _) (congrArg x3 ?_)
  funext a; match a with
    | ⟨0, _⟩ => rfl
    | ⟨1, _⟩ => rfl

/-- The reference at an index: the stream plus the gate times the projected input. -/
theorem ple_at (x0 : FVec Ideal S128x2048 .f32) (x1 : FVec Ideal S1x2048 .f32) (x2 : FVec Ideal S128x256 .f32)
    (x3 : FVec Ideal S2048x2048 .bf16) (x4 : FVec Ideal S256x2048 .bf16) (i : S128x2048.Idx) :
    (show FVec Ideal S128x2048 .f32 from Read.val_main_v23 (F := Ideal) x0 x1 x2 x3 x4) i =
      x0 i + Ideal.logistic (∑ k, normed (fun k => x0 (ix2 (i 0) k)) (fun k => x1 (ix2 0 k)) k * x3 (ix2 k (i 1))) *
        ∑ k : Fin 256, x2 (ix2 (i 0) k) * x4 (ix2 k (i 1)) := by
  refine (Read.val_main_v23_apply (F := Ideal) x0 x1 x2 x3 x4 i).trans ?_
  refine congrArg (fun z : EReal => x0 i + z) ((Read.val_main_v22_apply (F := Ideal) x0 x1 x2 x3 x4 i).trans ?_)
  refine congrArg₂ (fun a b : EReal => a * b) (gate_at x0 x1 x3 i)
    ((Read.val_main_v21_apply x2 x4 i).trans (Finset.sum_congr rfl fun k _ => ?_))
  refine congrArg₂ (fun a b : EReal => a * b) (congrArg x2 ?_) (congrArg x4 ?_) <;>
  · funext a; match a with
      | ⟨0, _⟩ => rfl
      | ⟨1, _⟩ => rfl

end Cert.PleSRefIdeal.Sample

namespace Cert.PleSIdeal.Sample

open Cert.PleSIdeal Cert.PleSIdeal.Gen Cert.Layers

variable (m : (ℓ : Loc nD τ sig) → Buf (Elt Ideal) ℓ)

/-- The kernel's normed block. -/
theorem pay1_at (x : FVec Ideal S128x2048 .f32) (g : FVec Ideal S1x2048 .f32) (y : S128x2048.Idx) :
    (show FVec Ideal S128x2048 .bf16 from k0_pay1 (F := Ideal) x g) y =
      normed (fun k => x (ix2 (y 0) k)) (fun k => g (ix2 0 k)) (y 1) := by
  exact Cert.InProjSIdeal.Sample.pay1_at x g y

/-- The kernel's result block. -/
theorem pay2_at (xn : FVec Ideal S128x2048 .bf16) (wg : FVec Ideal S2048x1024 .bf16) (p : FVec Ideal S128x256 .f32)
    (wp : FVec Ideal S256x1024 .bf16) (x : FVec Ideal S128x1024 .f32) (y : S128x1024.Idx) :
    (show FVec Ideal S128x1024 .f32 from k0_pay2 (F := Ideal) xn wg p wp x) y =
      x y + Ideal.logistic (∑ k, xn (ix2 (y 0) k) * wg (ix2 k (y 1))) * ∑ k, p (ix2 (y 0) k) * wp (ix2 k (y 1)) := by
  pointwise [k0_pay2]

/-- The windows' block indices at every grid point, and the column offset the residual is read at. -/
theorem idx : ∀ t : Fin cfg0.N, win0_0.index t = ![0, 0] ∧ win0_1.index t = ![0, 0] ∧
    win0_2.index t = ![0, 0] ∧ win0_3.index t = ![0, t.val] ∧ win0_4.index t = ![0, t.val] ∧
    win0_5.index t = ![0, t.val] ∧ k0_off1 (grid0.coords t) = ![0, t.val * 1024] ∧ t.val < 2 :=
  (by decide +kernel : ∀ t : Fin grid0.N, _)

/-- The columns of a point's block, of a row block: what the kernel reads of the stream for its result. -/
def cols (c : Dev nD) (t : Fin cfg0.N) : FVec Ideal S128x1024 .f32 := fun y =>
  (show FVec Ideal S128x2048 .f32 from iblk m c 0 t) (ix2 (y 0) ⟨t.val * 1024 + (y 1).val, by
    have h := (idx t).2.2.2.2.2.2.2
    have h' : (y 1).val < 1024 := (y 1).isLt
    omega⟩)

/-- The kernel's read of the stream at the point's columns. -/
theorem cols_eq (c : Dev nD) (t : Fin cfg0.N) (h : ∀ a, k0_off1 (grid0.coords t) a + ![128, 1024] a ≤ S128x2048.size a) :
    View.ld (iblk m c 0 t) (Rect.unit (k0_off1 (grid0.coords t)) ![128, 1024] h) = cols m c t := by
  obtain ⟨-, -, -, -, -, -, e, -⟩ := idx t
  funext y
  refine congrArg (iblk m c 0 t) (funext fun a => Fin.ext ?_)
  fin_cases a
  · refine (congrFun e 0 ▸ ?_ : k0_off1 (grid0.coords t) 0 + 1 * (y 0).val = (y 0).val)
    exact (Nat.zero_add _).trans (Nat.one_mul _)
  · refine (congrFun e 1 ▸ ?_ : k0_off1 (grid0.coords t) 1 + 1 * (y 1).val = t.val * 1024 + (y 1).val)
    exact congrArg (fun z => t.val * 1024 + z) (Nat.one_mul _)

/-- A first column block norms the rows and multiplies them. -/
theorem stepA (c : Dev nD) (t : Fin cfg0.N) (h0 : t.val % 2 = 0) :
    outsAt0 m c t.val t.isLt = (k0_pay2 (F := Ideal) (k0_pay1 (iblk m c 0 t) (iblk m c 1 t)) (iblk m c 3 t)
        (iblk m c 2 t) (iblk m c 4 t) (cols m c t), k0_pay1 (iblk m c 0 t) (iblk m c 1 t)) := by
  rw [outsAt0_A m c t h0]
  frame_out
  exact Prod.ext (congrArg (k0_pay2 (F := Ideal) _ _ _ _) (cols_eq m c t _)) rfl

/-- A later column block multiplies the rows normed before it, and keeps them. -/
theorem stepB (c : Dev nD) (t : Fin cfg0.N) (h0 : ¬t.val % 2 = 0) :
    outsAt0 m c t.val t.isLt =
      (k0_pay2 (F := Ideal) (outsAt0 m c (t.val - 1) (Nat.lt_of_le_of_lt (Nat.sub_le _ _) t.isLt)).2 (iblk m c 3 t)
        (iblk m c 2 t) (iblk m c 4 t) (cols m c t),
        (outsAt0 m c (t.val - 1) (Nat.lt_of_le_of_lt (Nat.sub_le _ _) t.isLt)).2) := by
  rw [outsAt0_B m c t h0]
  refine Prod.ext ?_ rfl
  dsimp only
  frame_out
  exact congrArg₂ (fun z w => k0_pay2 (F := Ideal) z (iblk m c 3 t) (iblk m c 2 t) (iblk m c 4 t) w)
    (Memref.IsWhole.read_unread _ _) (cols_eq m c t _)

/-- What the carried buffer holds at every point: the normed rows. -/
theorem scratch (c : Dev nD) (n : ℕ) : ∀ (hn : n < cfg0.N) (y : S128x2048.Idx),
    (show FVec Ideal S128x2048 .bf16 from (outsAt0 m c n hn).2) y =
      normed (fun k => (show FVec Ideal S128x2048 .f32 from m ((c : Thread nD τ).loc main_arg0)) (ix2 (y 0) k))
        (fun k => (show FVec Ideal S1x2048 .f32 from m ((c : Thread nD τ).loc main_arg1)) (ix2 0 k)) (y 1) := by
  have first : ∀ (t : Fin cfg0.N) (h : t.val % 2 = 0) (y : S128x2048.Idx),
      (show FVec Ideal S128x2048 .bf16 from (outsAt0 m c t.val t.isLt).2) y =
        normed (fun k => (show FVec Ideal S128x2048 .f32 from m ((c : Thread nD τ).loc main_arg0)) (ix2 (y 0) k))
          (fun k => (show FVec Ideal S1x2048 .f32 from m ((c : Thread nD τ).loc main_arg1)) (ix2 0 k)) (y 1) := by
    intro t h y
    rw [stepA m c t h]
    obtain ⟨e0, e1, -⟩ := idx t
    refine (pay1_at _ _ y).trans (congrArg₂ (fun a b => normed a b (y 1)) (funext fun k => ?_) (funext fun k => ?_))
    all_goals
      blk_simp [iblk, V]
      refine congrArg _ (funext fun a => Fin.ext ?_)
      fin_cases a <;> blk_simp [e0, e1] <;> rfl
  induction n with
  | zero => exact fun hn => first ⟨0, hn⟩ rfl
  | succ n ih =>
    intro hn y
    by_cases h : (n + 1) % 2 = 0
    · exact first ⟨n + 1, hn⟩ h y
    · rw [stepB m c ⟨n + 1, hn⟩ h]
      dsimp only
      exact ih _ y

/-- At every point the output block is made of the carried rows and the point's columns. -/
theorem out_eq (c : Dev nD) (t : Fin cfg0.N) :
    (outsAt0 m c t.val t.isLt).1 = k0_pay2 (F := Ideal) (outsAt0 m c t.val t.isLt).2 (iblk m c 3 t)
      (iblk m c 2 t) (iblk m c 4 t) (cols m c t) := by
  by_cases h : t.val % 2 = 0
  · rw [stepA m c t h]
  · rw [stepB m c t h]

/-- The kernel's result array is the reference's, of any argument arrays. -/
theorem final (c : Dev nD) :
    (dats m 0 c).arrAt 5 cfg0.N = Cert.PleSRefIdeal.Read.val_main_v23 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5, out_eq]
  obtain ⟨e0, e1, e2, e3, e4, e5, -, ht⟩ := idx t
  have i0 : (((cfg0.win 5).blk t).view.emb y 0).val = (y 0).val := by blk_simp [e5]
  have i1 : (((cfg0.win 5).blk t).view.emb y 1).val = t.val * 1024 + (y 1).val := by blk_simp [e5]
  have j0 : ((cfg0.win 5).blk t).view.emb y 0 = y 0 := Fin.ext i0
  refine (pay2_at _ _ _ _ _ y).trans (Eq.trans ?_ (Cert.PleSRefIdeal.Sample.ple_at _ _ _ _ _ _).symm)
  generalize ((cfg0.win 5).blk t).view.emb y = i at i0 i1 j0 ⊢
  refine congrArg₂ (fun a b : EReal => a + b) ?_ (congrArg₂ (fun a b : EReal => a * b)
    (congrArg Ideal.logistic (Finset.sum_congr rfl fun k _ => congrArg₂ (fun a b : EReal => a * b)
      ((scratch m c t.val t.isLt _).trans (congrArg (fun r => normed (fun k => (show FVec Ideal S128x2048 .f32 from
        m ((c : Thread nD τ).loc main_arg0)) (ix2 r k)) _ k) j0.symm)) ?_))
    (Finset.sum_congr rfl fun k _ => congrArg₂ (fun a b : EReal => a * b) ?_ ?_))
  · unfold cols
    blk_simp [iblk, V]
    refine congrArg _ (funext fun a => Fin.ext ?_)
    fin_cases a <;> blk_simp [e0] <;> first | exact i0.symm | exact i1.symm
  all_goals
    blk_simp [iblk, V]
    refine congrArg _ (funext fun a => Fin.ext ?_)
    fin_cases a <;> blk_simp [e2, e3, e4] <;> first | rfl | exact i0.symm | exact i1.symm

end Cert.PleSIdeal.Sample

end
-- ==== Proof.Sample.Claims.lean ====
/- The claims about the layer's dense calls of the sample batch. -/
module

public import proofs.«01_k».proof.Defs
public import proofs.«01_k».proof.Proof.Gen.FfnS.Frame
public import proofs.«01_k».proof.Proof.Gen.FfnSRefIdeal.Run
public import proofs.«01_k».proof.Proof.Sample.Ffn
public import proofs.«01_k».proof.Proof.Gen.InProjS.Frame
public import proofs.«01_k».proof.Proof.Gen.InProjSRefIdeal.Run
public import proofs.«01_k».proof.Proof.Sample.InProj
public import proofs.«01_k».proof.Proof.Gen.OutProjS.Frame
public import proofs.«01_k».proof.Proof.Gen.OutProjSRefIdeal.Run
public import proofs.«01_k».proof.Proof.Sample.OutProj
public import proofs.«01_k».proof.Proof.Gen.PleS.Frame
public import proofs.«01_k».proof.Proof.Gen.PleSRefIdeal.Run
public import proofs.«01_k».proof.Proof.Sample.Ple
public import Idealize.ShloMosaic.Lib.Quiescent

@[expose] public section

noncomputable section

open Idealize.ShloMosaic Idealize.ShloMosaic.TcCoe Idealize.SL.Sem

namespace Cert.Proof.Sample

/-- The sample batch's dense feed-forward network's kernel runs and leaves its arguments. -/
theorem ffn_frame_p : Cert.quiescent_FfnS := fun m ρ _ => Cert.FfnS.Gen.frame m ρ

/-- The idealized kernel of the sample batch's dense feed-forward network runs and leaves its arguments. -/
theorem ffn_frame_pi : Cert.quiescent_FfnSIdeal := fun m ρ _ => Cert.FfnSIdeal.Gen.frame m ρ

/-- The sample batch's dense feed-forward network's reference runs and leaves its arguments. -/
theorem ffn_frame_ri : Cert.quiescent_FfnSRefIdeal := fun m ρ _ =>
  (θ_run Cert.FfnSRefIdeal.defs _ _).mono (fun r h => ⟨fun c => (h c).2,
      Idealize.ShloMosaic.sem_eq_zero_of_no_sems (by decide) r.2⟩)
    (Cert.FfnSRefIdeal.Value.run (F := Ideal) m ρ)

/-- The sample batch's dense feed-forward network's kernel is the reference, element by element, of any arguments. -/
theorem ffn_algebraic : Cert.algebraic_FfnSIdeal_FfnSRefIdeal := by
  intro m ρ m' ρ' hpre hagree
  refine ⟨_, Cert.FfnSIdeal.Value.run (F := Ideal) m ρ, ?_⟩
  refine (θ_run Cert.FfnSRefIdeal.defs _ _).mono (fun _ h c => ⟨(h c).1.trans ?_, (h c).2⟩)
    (Cert.FfnSRefIdeal.Value.run (F := Ideal) m' ρ')
  refine (Cert.FfnSRefIdeal.Read.val_main_v20_eq (F := Ideal) _ _ _ _ _).trans ?_
  rw [(hagree c).1, (hagree c).2.1, (hagree c).2.2.1, (hagree c).2.2.2.1, (hagree c).2.2.2.2]
  exact ((Cert.FfnSIdeal.Value.final5 m c).symm.trans (Cert.FfnSIdeal.Sample.final m c)).symm

/-- The sample batch's input projection's kernel runs and leaves its arguments. -/
theorem inProj_frame_p : Cert.quiescent_InProjS := fun m ρ _ => Cert.InProjS.Gen.frame m ρ

/-- The idealized kernel of the sample batch's input projection runs and leaves its arguments. -/
theorem inProj_frame_pi : Cert.quiescent_InProjSIdeal := fun m ρ _ => Cert.InProjSIdeal.Gen.frame m ρ

/-- The sample batch's input projection's reference runs and leaves its arguments. -/
theorem inProj_frame_ri : Cert.quiescent_InProjSRefIdeal := fun m ρ _ =>
  (θ_run Cert.InProjSRefIdeal.defs _ _).mono (fun r h => ⟨fun c => (h c).2,
      Idealize.ShloMosaic.sem_eq_zero_of_no_sems (by decide) r.2⟩)
    (Cert.InProjSRefIdeal.Value.run (F := Ideal) m ρ)

/-- The sample batch's input projection's kernel is the reference, element by element, of any arguments. -/
theorem inProj_algebraic : Cert.algebraic_InProjSIdeal_InProjSRefIdeal := by
  intro m ρ m' ρ' hpre hagree
  refine ⟨_, Cert.InProjSIdeal.Value.run (F := Ideal) m ρ, ?_⟩
  refine (θ_run Cert.InProjSRefIdeal.defs _ _).mono (fun _ h c => ⟨(h c).1.trans ?_, (h c).2⟩)
    (Cert.InProjSRefIdeal.Value.run (F := Ideal) m' ρ')
  refine (Cert.InProjSRefIdeal.Read.val_main_v13_eq (F := Ideal) _ _ _).trans ?_
  rw [(hagree c).1, (hagree c).2.1, (hagree c).2.2]
  exact ((Cert.InProjSIdeal.Value.final3 m c).symm.trans (Cert.InProjSIdeal.Sample.final m c)).symm

/-- The sample batch's output projection's kernel runs and leaves its arguments. -/
theorem outProj_frame_p : Cert.quiescent_OutProjS := fun m ρ _ => Cert.OutProjS.Gen.frame m ρ

/-- The idealized kernel of the sample batch's output projection runs and leaves its arguments. -/
theorem outProj_frame_pi : Cert.quiescent_OutProjSIdeal := fun m ρ _ => Cert.OutProjSIdeal.Gen.frame m ρ

/-- The sample batch's output projection's reference runs and leaves its arguments. -/
theorem outProj_frame_ri : Cert.quiescent_OutProjSRefIdeal := fun m ρ _ =>
  (θ_run Cert.OutProjSRefIdeal.defs _ _).mono (fun r h => ⟨fun c => (h c).2,
      Idealize.ShloMosaic.sem_eq_zero_of_no_sems (by decide) r.2⟩)
    (Cert.OutProjSRefIdeal.Value.run (F := Ideal) m ρ)

/-- The sample batch's output projection's kernel is the reference, element by element, of any arguments. -/
theorem outProj_algebraic : Cert.algebraic_OutProjSIdeal_OutProjSRefIdeal := by
  intro m ρ m' ρ' hpre hagree
  refine ⟨_, Cert.OutProjSIdeal.Value.run_blocks (F := Ideal) m ρ, ?_⟩
  refine (θ_run Cert.OutProjSRefIdeal.defs _ _).mono (fun _ h c => ⟨(h c).1.trans ?_, (h c).2⟩)
    (Cert.OutProjSRefIdeal.Value.run (F := Ideal) m' ρ')
  refine (Cert.OutProjSRefIdeal.Read.val_main_v5_eq (F := Ideal) _ _ _ _).trans ?_
  rw [(hagree c).1, (hagree c).2.1, (hagree c).2.2.1, (hagree c).2.2.2]
  exact (Cert.OutProjSIdeal.Sample.final m c).symm

/-- The sample batch's per-layer input's kernel runs and leaves its arguments. -/
theorem ple_frame_p : Cert.quiescent_PleS := fun m ρ _ => Cert.PleS.Gen.frame m ρ

/-- The idealized kernel of the sample batch's per-layer input runs and leaves its arguments. -/
theorem ple_frame_pi : Cert.quiescent_PleSIdeal := fun m ρ _ => Cert.PleSIdeal.Gen.frame m ρ

/-- The sample batch's per-layer input's reference runs and leaves its arguments. -/
theorem ple_frame_ri : Cert.quiescent_PleSRefIdeal := fun m ρ _ =>
  (θ_run Cert.PleSRefIdeal.defs _ _).mono (fun r h => ⟨fun c => (h c).2,
      Idealize.ShloMosaic.sem_eq_zero_of_no_sems (by decide) r.2⟩)
    (Cert.PleSRefIdeal.Value.run (F := Ideal) m ρ)

/-- The sample batch's per-layer input's kernel is the reference, element by element, of any arguments. -/
theorem ple_algebraic : Cert.algebraic_PleSIdeal_PleSRefIdeal := by
  intro m ρ m' ρ' hpre hagree
  refine ⟨_, Cert.PleSIdeal.Value.run_blocks (F := Ideal) m ρ, ?_⟩
  refine (θ_run Cert.PleSRefIdeal.defs _ _).mono (fun _ h c => ⟨(h c).1.trans ?_, (h c).2⟩)
    (Cert.PleSRefIdeal.Value.run (F := Ideal) m' ρ')
  refine (Cert.PleSRefIdeal.Read.val_main_v23_eq (F := Ideal) _ _ _ _ _).trans ?_
  rw [(hagree c).1, (hagree c).2.1, (hagree c).2.2.1, (hagree c).2.2.2.1, (hagree c).2.2.2.2]
  exact (Cert.PleSIdeal.Sample.final m c).symm

end Cert.Proof.Sample

end
-- ==== Proof.Sample.Prep.Host.lean ====
/- The attention's preparation of the sample batch: what the host hands the kernel — the padded tables, weights and gains. -/
module

public import proofs.«01_k».proof.Proof.Gen.PrepSIdeal.Value
public import Idealize.ShloMosaic.Lib.Pipeline.ValueKit
public import Idealize.ShloMosaic.Lib.StableHlo.RunRead
public import Idealize.ShloMosaic.Lib.KernelVsHost
public import proofs.«01_k».proof.Proof.Prep.Host

@[expose] public section

set_option maxRecDepth 16384

noncomputable section

open Idealize.ShloMosaic Idealize.ShloMosaic.TcCoe Idealize.SL.Sem

namespace Cert.PrepSIdeal.Sample

open Cert.PrepSIdeal Cert.PrepSIdeal.Gen Cert.Layers Cert.Prep

variable (m : (ℓ : Loc nD τ sig) → Buf (Elt Ideal) ℓ)

/-- What the host leaves in the two tables is what its first stretch leaves there. -/
theorem V_first (c : Dev nD) {r : Ref sig .tc} (hr : r ∉ [main_call0_v0, main_v5, main_v6, main_v7, main_v8, main_v9,
    main_v10, main_v11, main_v12, main_c_0, main_call1_v0, main_v13, main_v14, main_v15, main_c_1, main_call2_v0,
    main_v16, main_v17]) :
    V m c r = StableHlo.after hostOps0 (fun b => m (c, b)) r := by
  show StableHlo.after (hostOps0 ++ (hostOps0_1 ++ (hostOps0_2 ++ (hostOps0_3 ++ (hostOps0_4 ++
    (hostOps0_5 ++ hostOps0_6)))))) _ _ = _
  rw [StableHlo.after_append]
  exact StableHlo.after_of_writes_sub _ _ (StableHlo.forall_writes_sub_of_map rfl) hr

/-- A row of a table laid from two halves and zeros, at a position. -/
theorem table_at (a b : FVec Ideal S128x32 .f32) (z : FVec Ideal S128x64 .f32) (i : S128x128.Idx)
    (hz : ∀ j, z j = (0 : EReal)) {w : Fin 128 → EReal}
    (h0 : ∀ h : (i 1).val < 32, w (i 1) = a (ix2 (i 0) ⟨(i 1).val, h⟩))
    (h1 : ∀ h : ¬ (i 1).val < 32, ∀ h' : (i 1).val < 64, w (i 1) = b (ix2 (i 0) ⟨(i 1).val - 32, by omega⟩))
    (h2 : ¬ (i 1).val < 64 → w (i 1) = 0) :
    (show FVec Ideal S128x128 .f32 from concatenate S128x128 1 [⟨S128x32, a⟩, ⟨S128x32, b⟩, ⟨S128x64, z⟩]
      concatenates_S128x32_S128x32_S128x64_S128x128_d1) i = w (i 1) := by
  show concatenate S128x128 1 [⟨S128x32, a⟩, ⟨S128x32, b⟩, ⟨S128x64, z⟩]
      concatenates_S128x32_S128x32_S128x64_S128x128_d1 i = w (i 1)
  pointwise
  by_cases e0 : (i 1).val < 32
  · exact Eq.trans (dif_pos e0) (h0 e0).symm
  · refine Eq.trans (dif_neg e0) ?_
    by_cases e1 : (i 1).val < 64
    · exact Eq.trans (dif_pos (by omega)) (h1 e0 e1).symm
    · exact Eq.trans (dif_neg (by omega)) ((hz _).trans (h2 e1).symm)

/-- What the first stretch has left in the zeros, the cosines and the sines before it lays the first table. -/
theorem upto_two (c : Dev nD) :
    StableHlo.upto hostOps0 (fun b => m (c, b)) 2 (Proc.devRef .tc main_v0) =
      (broadcastInDim S128x64 ![] bcast_S_S128x64 (constant (F := Ideal) S_ .f32 0x00000000#32)) ∧
    StableHlo.upto hostOps0 (fun b => m (c, b)) 2 (Proc.devRef .tc main_arg1) = m ((c : Thread nD τ).loc main_arg1) := by
  constructor
  · refine (StableHlo.upto_last_write (i := 1) [] rfl rfl (by decide) _).trans ?_
    refine (StableHlo.unary_result' _ _ _ _).trans (congrArg _ ?_)
    refine (StableHlo.upto_last_write (i := 0) [] rfl rfl (by decide) _).trans ?_
    exact StableHlo.nullary_result' _ _ _
  · exact StableHlo.upto_unwritten [main_cst, main_v0] rfl (by decide) _

/-- What the first stretch has left in the zeros, the sines and their negatives before it lays the second table. -/
theorem upto_four (c : Dev nD) :
    StableHlo.upto hostOps0 (fun b => m (c, b)) 4 (Proc.devRef .tc main_v0) =
      (broadcastInDim S128x64 ![] bcast_S_S128x64 (constant (F := Ideal) S_ .f32 0x00000000#32)) ∧
    StableHlo.upto hostOps0 (fun b => m (c, b)) 4 (Proc.devRef .tc main_arg2) = m ((c : Thread nD τ).loc main_arg2) ∧
    StableHlo.upto hostOps0 (fun b => m (c, b)) 4 (Proc.devRef .tc main_v2) =
      (Host.negf (m ((c : Thread nD τ).loc main_arg2) : FVec Ideal S128x32 .f32) : FVec Ideal S128x32 .f32) := by
  refine ⟨?_, ?_, ?_⟩
  · refine (StableHlo.upto_last_write (i := 1) [main_v1, main_v2] rfl rfl (by decide) _).trans ?_
    refine (StableHlo.unary_result' _ _ _ _).trans (congrArg _ ?_)
    refine (StableHlo.upto_last_write (i := 0) [] rfl rfl (by decide) _).trans ?_
    exact StableHlo.nullary_result' _ _ _
  · exact StableHlo.upto_unwritten [main_cst, main_v0, main_v1, main_v2] rfl (by decide) _
  · refine (StableHlo.upto_last_write (i := 3) [] rfl rfl (by decide) _).trans ?_
    refine (StableHlo.unary_result' _ _ _ _).trans (congrArg _ ?_)
    exact StableHlo.upto_unwritten [main_cst, main_v0, main_v1] rfl (by decide) _

/-- The cosines the host hands over: the table twice and zeros. -/
theorem V_cos (c : Dev nD) :
    V m c main_v1 = concatenate S128x128 1 [⟨S128x32, m ((c : Thread nD τ).loc main_arg1)⟩,
      ⟨S128x32, m ((c : Thread nD τ).loc main_arg1)⟩,
      ⟨S128x64, broadcastInDim S128x64 ![] bcast_S_S128x64 (constant (F := Ideal) S_ .f32 0x00000000#32)⟩]
      concatenates_S128x32_S128x32_S128x64_S128x128_d1 := by
  rw [V_first m c (by decide)]
  refine (StableHlo.after_last_write (i := 2) [main_v2, main_v3, main_v4, main_c] rfl rfl (by decide) _).trans ?_
  refine (StableHlo.nary_result' _ _ _ _ _).trans ?_
  show concatenate S128x128 1 [⟨S128x32, StableHlo.upto hostOps0 (fun b => m (c, b)) 2 (Proc.devRef .tc main_arg1)⟩,
    ⟨S128x32, StableHlo.upto hostOps0 (fun b => m (c, b)) 2 (Proc.devRef .tc main_arg1)⟩,
    ⟨S128x64, StableHlo.upto hostOps0 (fun b => m (c, b)) 2 (Proc.devRef .tc main_v0)⟩] _ = _
  rw [(upto_two m c).1, (upto_two m c).2]

/-- The sines the host hands over: their negatives, the table and zeros. -/
theorem V_sin (c : Dev nD) :
    V m c main_v3 = concatenate S128x128 1 [⟨S128x32, (Host.negf (m ((c : Thread nD τ).loc main_arg2) :
        FVec Ideal S128x32 .f32) : FVec Ideal S128x32 .f32)⟩,
      ⟨S128x32, m ((c : Thread nD τ).loc main_arg2)⟩,
      ⟨S128x64, broadcastInDim S128x64 ![] bcast_S_S128x64 (constant (F := Ideal) S_ .f32 0x00000000#32)⟩]
      concatenates_S128x32_S128x32_S128x64_S128x128_d1 := by
  rw [V_first m c (by decide)]
  refine (StableHlo.after_last_write (i := 4) [main_v4, main_c] rfl rfl (by decide) _).trans ?_
  refine (StableHlo.nary_result' _ _ _ _ _).trans ?_
  show concatenate S128x128 1 [⟨S128x32, StableHlo.upto hostOps0 (fun b => m (c, b)) 4 (Proc.devRef .tc main_v2)⟩,
    ⟨S128x32, StableHlo.upto hostOps0 (fun b => m (c, b)) 4 (Proc.devRef .tc main_arg2)⟩,
    ⟨S128x64, StableHlo.upto hostOps0 (fun b => m (c, b)) 4 (Proc.devRef .tc main_v0)⟩] _ = _
  rw [(upto_four m c).1, (upto_four m c).2.1, (upto_four m c).2.2]

/-- The zeros the tables are filled up with. -/
theorem zeros_at (j : S128x64.Idx) : (broadcastInDim S128x64 ![] bcast_S_S128x64
    (constant (F := Ideal) S_ .f32 0x00000000#32) : FVec Ideal S128x64 .f32) j = (0 : EReal) := by
  pointwise

/-- The cosines the host hands over, at a position. -/
theorem host_cos (c : Dev nD) (i : S128x128.Idx) :
    (show FVec Ideal S128x128 .f32 from V m c main_v1) i =
      cosT (fun j => (show FVec Ideal S128x32 .f32 from m ((c : Thread nD τ).loc main_arg1)) (ix2 (i 0) j)) (i 1) := by
  show V m c main_v1 i = _
  rw [V_cos]
  refine table_at _ _ _ i zeros_at (w := cosT fun j => (show FVec Ideal S128x32 .f32 from
    m ((c : Thread nD τ).loc main_arg1)) (ix2 (i 0) j)) (fun h => ?_) (fun h h' => ?_) (fun h => ?_) <;> unfold cosT
  · exact dif_pos h
  · exact (dif_neg h).trans (dif_pos h')
  · exact (dif_neg fun h' => h (by omega)).trans (dif_neg h)

/-- The sines the host hands over, at a position. -/
theorem host_sin (c : Dev nD) (i : S128x128.Idx) :
    (show FVec Ideal S128x128 .f32 from V m c main_v3) i =
      sinT (fun j => (show FVec Ideal S128x32 .f32 from m ((c : Thread nD τ).loc main_arg2)) (ix2 (i 0) j)) (i 1) := by
  show V m c main_v3 i = _
  rw [V_sin]
  refine table_at _ _ _ i zeros_at (w := sinT fun j => (show FVec Ideal S128x32 .f32 from
    m ((c : Thread nD τ).loc main_arg2)) (ix2 (i 0) j)) (fun h => ?_) (fun h h' => ?_) (fun h => ?_) <;> unfold sinT
  · exact dif_pos h
  · exact (dif_neg h).trans (dif_pos h')
  · exact (dif_neg fun h' => h (by omega)).trans (dif_neg h)

/-- The query weight the host hands over, each head's columns padded, at a position. -/
theorem host_wuq (c : Dev nD) (i : S512x2048.Idx) :
    V m c main_v8 i =
      if h : (i 1).val % 256 < 192 then (show FVec Ideal S512x1536 .f32 from m ((c : Thread nD τ).loc main_arg3))
        (ix2 (i 0) ⟨192 * ((i 1).val / 256) + (i 1).val % 256, by
          have : (i 1).val < 2048 := (i 1).isLt
          omega⟩) else (0 : EReal) := by
  simp only [V, hostOps0, hostOps0_1, hostOps0_2, hostOps0_3, hostOps0_4, hostOps0_5, hostOps0_6, List.flatten_cons,
    List.flatten_nil, List.append_nil, List.cons_append, List.nil_append]
  entry_read
  exact Cert.PrepIdeal.Prep.wuq_at _ i

/-- The padded gains of the rotated queries the host hands over, at a position. -/
theorem host_gqr (c : Dev nD) (i : S1x128.Idx) :
    V m c main_v14 i = pad64 (fun j => (show FVec Ideal S64 .f32 from m ((c : Thread nD τ).loc main_arg10)) (ix1 j)) (i 1) := by
  simp only [V, hostOps0, hostOps0_1, hostOps0_2, hostOps0_3, hostOps0_4, hostOps0_5, hostOps0_6, List.flatten_cons,
    List.flatten_nil, List.append_nil, List.cons_append, List.nil_append]
  entry_read
  exact Cert.PrepIdeal.Prep.gain_at _ i

/-- The padded gains of the rotated keys the host hands over, at a position. -/
theorem host_gkr (c : Dev nD) (i : S1x128.Idx) :
    V m c main_v17 i = pad64 (fun j => (show FVec Ideal S64 .f32 from m ((c : Thread nD τ).loc main_arg8)) (ix1 j)) (i 1) := by
  simp only [V, hostOps0, hostOps0_1, hostOps0_2, hostOps0_3, hostOps0_4, hostOps0_5, hostOps0_6, List.flatten_cons,
    List.flatten_nil, List.append_nil, List.cons_append, List.nil_append]
  entry_read
  exact Cert.PrepIdeal.Prep.gain_at _ i

/-- The gains of the compressed queries the host hands over, at a position. -/
theorem host_gcq (c : Dev nD) (i : S1x512.Idx) :
    V m c main_v7 i = (show FVec Ideal S512 .f32 from m ((c : Thread nD τ).loc main_arg6)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The gains of the compressed keys the host hands over, at a position. -/
theorem host_gckv (c : Dev nD) (i : S1x256.Idx) :
    V m c main_v9 i = (show FVec Ideal S256 .f32 from m ((c : Thread nD τ).loc main_arg7)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The gains of the plain queries the host hands over, at a position. -/
theorem host_gqn (c : Dev nD) (i : S1x128.Idx) :
    V m c main_v12 i = (show FVec Ideal S128 .f32 from m ((c : Thread nD τ).loc main_arg9)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The gains of the plain keys the host hands over, at a position. -/
theorem host_gkn (c : Dev nD) (i : S1x128.Idx) :
    V m c main_v15 i = (show FVec Ideal S128 .f32 from m ((c : Thread nD τ).loc main_arg11)) (ix1 (i 1)) := by
  simp only [V, hostOps0, hostOps0_1, hostOps0_2, hostOps0_3, hostOps0_4, hostOps0_5, hostOps0_6, List.flatten_cons,
    List.flatten_nil, List.append_nil, List.cons_append, List.nil_append]
  entry_read
  pointwise

/-- The key weight the host hands over. -/
theorem host_wuk (c : Dev nD) (i : S256x1024.Idx) :
    V m c main_v10 i = (show FVec Ideal S256x1024 .f32 from m ((c : Thread nD τ).loc main_arg4)) i := by
  simp only [V, hostOps0, hostOps0_1, hostOps0_2, hostOps0_3, hostOps0_4, hostOps0_5, hostOps0_6, List.flatten_cons,
    List.flatten_nil, List.append_nil, List.cons_append, List.nil_append]
  entry_read
  pointwise

/-- The value weight the host hands over. -/
theorem host_wuv (c : Dev nD) (i : S256x1024.Idx) :
    V m c main_v11 i = (show FVec Ideal S256x1024 .f32 from m ((c : Thread nD τ).loc main_arg5)) i := by
  simp only [V, hostOps0, hostOps0_1, hostOps0_2, hostOps0_3, hostOps0_4, hostOps0_5, hostOps0_6, List.flatten_cons,
    List.flatten_nil, List.append_nil, List.cons_append, List.nil_append]
  entry_read
  pointwise

end Cert.PrepSIdeal.Sample

end
-- ==== Proof.Sample.Prep.Pay.lean ====
/- The attention's preparation of the sample batch: what the kernel's six result blocks hold, from the blocks it reads. -/
module

public import proofs.«01_k».proof.Proof.Gen.PrepSIdeal.Value
public import Idealize.ShloMosaic.Lib.Pipeline.ValueKit
public import proofs.«01_k».proof.Proof.Prep.Math

@[expose] public section

set_option maxRecDepth 16384

noncomputable section

open Idealize.ShloMosaic Idealize.ShloMosaic.TcCoe Idealize.SL.Sem

namespace Cert.PrepSIdeal.Sample

open Cert.PrepSIdeal Cert.PrepSIdeal.Gen Cert.Layers Cert.Prep

/-- The kernel's normed head, of any 128 columns. -/
theorem normf_at (x : FVec Ideal S128x128 .f32) (g : FVec Ideal S1x128 .f32) (y : S128x128.Idx) :
    (show FVec Ideal S128x128 .f32 from k0_pay55 (F := Ideal) x g) y =
      rms 0x3C000000#32 (fun j => x (ix2 (y 0) j)) (fun j => g (ix2 0 j)) (y 1) := by
  pointwise [k0_pay55]
  refine rms_of (congrArg x ?_) (fun j => rfl) rfl
  blk_ext

/-- The kernel's normed head as it is stored. -/
theorem norm_at (x : FVec Ideal S128x128 .f32) (g : FVec Ideal S1x128 .f32) (y : S128x128.Idx) :
    (show FVec Ideal S128x128 .bf16 from k0_pay56 (F := Ideal) x g) y =
      rms 0x3C000000#32 (fun j => x (ix2 (y 0) j)) (fun j => g (ix2 0 j)) (y 1) := normf_at x g y

/-- The kernel's head taken to the latents, of any 128 columns. -/
theorem taken_at (g : FVec Ideal S1x128 .f32) (x : FVec Ideal S128x128 .f32) (w : FVec Ideal S256x128 .bf16)
    (y : S128x256.Idx) :
    (show FVec Ideal S128x256 .f32 from k0_pay22 (F := Ideal) g x w) y =
      ∑ n, x (ix2 (y 0) n) * g (ix2 0 n) * w (ix2 (y 1) n) := by
  pointwise [k0_pay22]

/-- The kernel's rotated head, of any 128 columns. -/
theorem turn_at (c s x : FVec Ideal S128x128 .f32) (g : FVec Ideal S1x128 .f32) (y : S128x128.Idx) :
    (show FVec Ideal S128x128 .bf16 from k0_pay64 (F := Ideal) c s x g) y =
      turn (fun j => c (ix2 (y 0) j)) (fun j => s (ix2 (y 0) j))
        (rms 0x3C800000#32 (fun j => x (ix2 (y 0) j)) (fun j => g (ix2 0 j))) (y 1) := by
  pointwise [k0_pay64]
  have h1 : (y 1).val < 128 := (y 1).isLt
  have hy : y = ix2 (y 0) (y 1) := by blk_ext
  have e1 : ((y 1).val + 128 - 32) % 128 = ((y 1).val + 96) % 128 := by omega
  have e2 : ((y 1).val + 128 - 96) % 128 = ((y 1).val + 32) % 128 := by omega
  unfold turn
  refine congrArg₂ (fun a b : EReal => a + b)
    (congrArg₂ (fun a b : EReal => a * b) (rms_of (congrArg x hy) (fun j => rfl) rfl) (congrArg c hy))
    (congrArg₂ (fun a b : EReal => a * b) (congrArg₂ (fun a b : EReal => a + b)
      (rms_of (congrArg (fun j => x (ix2 (y 0) j)) (Fin.ext e1)) (fun j => rfl)
        (congrArg (fun j => g (ix2 0 j)) (Fin.ext e1)))
      (rms_of (congrArg (fun j => x (ix2 (y 0) j)) (Fin.ext e2)) (fun j => rfl)
        (congrArg (fun j => g (ix2 0 j)) (Fin.ext e2)))) (congrArg s hy))

/-- The kernel's normed latents of the keys and values. -/
theorem ckv_at (x : FVec Ideal S128x256 .f32) (g : FVec Ideal S1x256 .f32) (y : S128x256.Idx) :
    (show FVec Ideal S128x256 .f32 from k0_pay4 (F := Ideal) x g) y =
      rms 0x3B800000#32 (fun j => x (ix2 (y 0) j)) (fun j => g (ix2 0 j)) (y 1) := by
  pointwise [k0_pay4]
  refine rms_of (congrArg x ?_) (fun j => rfl) rfl
  blk_ext

/-- The kernel's normed latents of the queries. -/
theorem cq_at (x : FVec Ideal S128x512 .f32) (g : FVec Ideal S1x512 .f32) (y : S128x512.Idx) :
    (show FVec Ideal S128x512 .bf16 from k0_pay14 (F := Ideal) x g) y =
      rms 0x3B000000#32 (fun j => x (ix2 (y 0) j)) (fun j => g (ix2 0 j)) (y 1) := by
  pointwise [k0_pay14]
  refine rms_of (congrArg x ?_) (fun j => rfl) rfl
  blk_ext

/-- The kernel's keys before their norms. -/
theorem kf_at (x : FVec Ideal S128x256 .bf16) (w : FVec Ideal S256x1024 .bf16) (y : S128x1024.Idx) :
    (show FVec Ideal S128x1024 .f32 from k0_pay12 (F := Ideal) x w) y = ∑ k, x (ix2 (y 0) k) * w (ix2 k (y 1)) := by
  pointwise [k0_pay12]

/-- The kernel's values. -/
theorem v_at (x : FVec Ideal S128x256 .bf16) (w : FVec Ideal S256x1024 .bf16) (y : S128x1024.Idx) :
    (show FVec Ideal S128x1024 .bf16 from k0_pay13 (F := Ideal) x w) y = ∑ k, x (ix2 (y 0) k) * w (ix2 k (y 1)) := by
  pointwise [k0_pay13]

/-- The kernel's queries before their norms. -/
theorem qf_at (x : FVec Ideal S128x512 .bf16) (w : FVec Ideal S512x2048 .bf16) (y : S128x2048.Idx) :
    (show FVec Ideal S128x2048 .f32 from k0_pay15 (F := Ideal) x w) y = ∑ k, x (ix2 (y 0) k) * w (ix2 k (y 1)) := by
  pointwise [k0_pay15]

/-- The kernel's key part: the first 64 lanes of its block, the others 0. -/
theorem mask_at (x : FVec Ideal S128x128 .f32) (r : Fin 128) :
    (fun j : Fin 128 => (show FVec Ideal S128x128 .f32 from k0_pay6 (F := Ideal) x) (ix2 r j)) =
      pad64 fun j => x (ix2 r ⟨j.val, by omega⟩) := by
  funext j
  pointwise [k0_pay6]
  have hlt : (BitVec.ofNat 32 j.val).slt 64#32 = decide (j.val < 64) := by
    have h : (BitVec.ofNat 32 j.val).toInt = j.val := by
      rw [BitVec.toInt_eq_toNat_of_lt] <;> rw [BitVec.toNat_ofNat, Nat.mod_eq_of_lt (by omega)] <;> omega
    rw [BitVec.slt, h]
    exact decide_eq_decide.mpr Int.ofNat_lt
  unfold pad64
  by_cases h : j.val < 64
  · rw [dif_pos h]
    simp [Scalar.select, IntOp.cmpi, hlt, h]
  · rw [dif_neg h]
    simp [Scalar.select, IntOp.cmpi, hlt, h]

/-- A row of the kernel's queries, from the row of queries before their norms. -/
def qRow (c s : FVec Ideal S128x128 .f32) (v : FVec Ideal S128x2048 .f32) (g g' : FVec Ideal S1x128 .f32)
    (r : Fin 128) : Fin 2048 → EReal :=
  heads (fun h => rms 0x3C000000#32 (fun j => v (ix2 r ⟨256 * h.val + j.val, by omega⟩)) (fun j => g (ix2 0 j)))
    (fun h => turn (fun j => c (ix2 r j)) (fun j => s (ix2 r j))
      (rms 0x3C800000#32 (fun j => v (ix2 r ⟨256 * h.val + 128 + j.val, by omega⟩)) (fun j => g' (ix2 0 j))))

/-- A row of the kernel's keys, from the row of keys before their norms and the row of the key part. -/
def kRow (v : FVec Ideal S128x1024 .f32) (p : FVec Ideal S128x128 .bf16) (g : FVec Ideal S1x128 .f32)
    (r : Fin 128) : Fin 2048 → EReal :=
  heads (fun h => rms 0x3C000000#32 (fun j => v (ix2 r ⟨128 * h.val + j.val, by omega⟩)) (fun j => g (ix2 0 j)))
    (fun h j => p (ix2 r j))

/-- A row of the kernel's queries taken to the latents, from the row of queries before their norms. -/
def aRow (v : FVec Ideal S128x2048 .f32) (g g' : FVec Ideal S1x128 .f32) (w : FVec Ideal S256x1024 .bf16)
    (r : Fin 128) (h : Fin 8) (l : Fin 256) : EReal :=
  ∑ n : Fin 128, rms 0x3C000000#32 (fun j => v (ix2 r ⟨256 * h.val + j.val, by omega⟩)) (fun j => g (ix2 0 j)) n *
    g' (ix2 0 n) * w (ix2 l ⟨128 * h.val + n.val, by omega⟩)

/-- One head of the queries taken to the latents, stored at its columns. -/
theorem a_piece (v : FVec Ideal S128x2048 .f32) (g g' : FVec Ideal S1x128 .f32) (w : FVec Ideal S256x1024 .bf16)
    (h : Fin 8) (hs : S128x2048.Slices ![0, 256 * h.val] S128x128) (u : FVec Ideal S256x128 .bf16)
    (hu : ∀ l n, u (ix2 l n) = w (ix2 l ⟨128 * h.val + n.val, by omega⟩)) (x : S128x256.Idx) (y : S128x2048.Idx)
    (h0 : (y 0).val = (x 0).val) (h1 : (y 1).val = 256 * h.val + (x 1).val) :
    (show FVec Ideal S128x256 .f32 from k0_pay22 (F := Ideal) g'
      (k0_pay55 (F := Ideal) (extractStridedSlice S128x128 ![0, 256 * h.val] v hs) g) u) x =
      aRow v g g' w (y 0) ⟨(y 1).val / 256, by
        have h1 : (y 1).val < 2048 := (y 1).isLt
        omega⟩ ⟨(y 1).val % 256, by omega⟩ := by
  obtain e : y 0 = x 0 := Fin.ext h0
  have hx : (x 1).val < 256 := (x 1).isLt
  have e1 : (⟨(y 1).val / 256, by
        have h1 : (y 1).val < 2048 := (y 1).isLt
        omega⟩ : Fin 8) = h := Fin.ext (by dsimp only; omega)
  have e2 : (⟨(y 1).val % 256, by omega⟩ : Fin 256) = x 1 := Fin.ext (by dsimp only; omega)
  rw [e, e1, e2]
  refine (taken_at _ _ _ x).trans (Finset.sum_congr rfl fun n _ => ?_)
  refine congrArg₂ (fun a b : EReal => a * b) (congrArg (fun a : EReal => a * g' (ix2 0 n)) ?_) (hu _ _)
  refine (normf_at _ _ _).trans (congrArg (fun a => rms _ a _ _) (funext fun j => ?_))
  pointwise

/-- One normed head of the queries, stored at its columns. -/
theorem q_norm_piece (c s : FVec Ideal S128x128 .f32) (v : FVec Ideal S128x2048 .f32) (g g' : FVec Ideal S1x128 .f32)
    (h : Fin 8) (hs : S128x2048.Slices ![0, 256 * h.val] S128x128) (x : S128x128.Idx) (y : S128x2048.Idx)
    (h0 : (y 0).val = (x 0).val) (h1 : (y 1).val = 256 * h.val + (x 1).val) :
    (show FVec Ideal S128x128 .bf16 from k0_pay56 (F := Ideal) (extractStridedSlice S128x128 ![0, 256 * h.val] v hs) g) x =
      qRow c s v g g' (y 0) (y 1) := by
  obtain e : y 0 = x 0 := Fin.ext h0
  refine (norm_at _ _ x).trans (Eq.trans ?_ (heads_left _ _ _ h (x 1) h1).symm)
  rw [e]
  refine congrArg (fun a => rms _ a _ _) (funext fun j => ?_)
  pointwise

/-- One rotated head of the queries, stored at its columns. -/
theorem q_turn_piece (c s : FVec Ideal S128x128 .f32) (v : FVec Ideal S128x2048 .f32) (g g' : FVec Ideal S1x128 .f32)
    (h : Fin 8) (hs : S128x2048.Slices ![0, 256 * h.val + 128] S128x128) (x : S128x128.Idx) (y : S128x2048.Idx)
    (h0 : (y 0).val = (x 0).val) (h1 : (y 1).val = 256 * h.val + 128 + (x 1).val) :
    (show FVec Ideal S128x128 .bf16 from k0_pay64 (F := Ideal) c s
        (extractStridedSlice S128x128 ![0, 256 * h.val + 128] v hs) g') x = qRow c s v g g' (y 0) (y 1) := by
  obtain e : y 0 = x 0 := Fin.ext h0
  refine (turn_at _ _ _ _ x).trans (Eq.trans ?_ (heads_right _ _ _ h (x 1) h1).symm)
  rw [e]
  refine congrArg (fun a => turn _ _ (rms _ a _) _) (funext fun j => ?_)
  pointwise

/-- One normed head of the keys, stored at its columns. -/
theorem k_norm_piece (v : FVec Ideal S128x1024 .f32) (p : FVec Ideal S128x128 .bf16) (g : FVec Ideal S1x128 .f32)
    (h : Fin 8) (hs : S128x1024.Slices ![0, 128 * h.val] S128x128) (x : S128x128.Idx) (y : S128x2048.Idx)
    (h0 : (y 0).val = (x 0).val) (h1 : (y 1).val = 256 * h.val + (x 1).val) :
    (show FVec Ideal S128x128 .bf16 from k0_pay56 (F := Ideal) (extractStridedSlice S128x128 ![0, 128 * h.val] v hs) g) x =
      kRow v p g (y 0) (y 1) := by
  obtain e : y 0 = x 0 := Fin.ext h0
  refine (norm_at _ _ x).trans (Eq.trans ?_ (heads_left _ _ _ h (x 1) h1).symm)
  rw [e]
  refine congrArg (fun a => rms _ a _ _) (funext fun j => ?_)
  pointwise

/-- The rotated key part, stored at a head's columns. -/
theorem k_turn_piece (v : FVec Ideal S128x1024 .f32) (p : FVec Ideal S128x128 .bf16) (g : FVec Ideal S1x128 .f32)
    (h : Fin 8) (x : S128x128.Idx) (y : S128x2048.Idx)
    (h0 : (y 0).val = (x 0).val) (h1 : (y 1).val = 256 * h.val + 128 + (x 1).val) :
    p x = kRow v p g (y 0) (y 1) := by
  obtain e : y 0 = x 0 := Fin.ext h0
  refine Eq.trans ?_ (heads_right _ _ _ h (x 1) h1).symm
  rw [e]
  exact congrArg p (by blk_ext)

/-- An offset of zeros, on two axes. -/
theorem zero2 : (![0, 0] : Fin 2 → ℕ) = fun _ => 0 := by
  funext a
  match a with
    | ⟨0, _⟩ => rfl
    | ⟨1, _⟩ => rfl

/-- A load of a whole block reads the block. -/
theorem ld_all {e : EltTy} {S : Shape} {off : Fin S.rank → ℕ} (h : off = fun _ => 0)
    (inb : ∀ a, off a + S.size a ≤ S.size a) (v : Vec Ideal S e) :
    View.ld v (Rect.unit (s := S) off S.size inb) = v := View.ld_unit_zero h inb v

/-- A load of one head's columns of the key weight reads them. -/
theorem ld_head (w : Vec Ideal S256x1024 .bf16) (h : Fin 8)
    (inb : ∀ a, (![0, 128 * h.val] : Fin 2 → ℕ) a + S256x128.size a ≤ S256x1024.size a) (l : Fin 256) (n : Fin 128) :
    (show FVec Ideal S256x128 .bf16 from View.ld w (Rect.unit (s := S256x1024) ![0, 128 * h.val] S256x128.size inb))
      (ix2 l n) = (show FVec Ideal S256x1024 .bf16 from w) (ix2 l ⟨128 * h.val + n.val, by omega⟩) := by
  refine congrArg w (funext fun a => Fin.ext ?_)
  match a with
    | ⟨0, _⟩ =>
      show 0 + 1 * l.val = l.val
      omega
    | ⟨1, _⟩ =>
      show 128 * h.val + 1 * n.val = 128 * h.val + n.val
      omega

variable (x0 : FVec Ideal S128x512 .f32) (x1 : FVec Ideal S128x256 .f32) (x2 x3 x4 : FVec Ideal S128x128 .f32)
  (x5 : FVec Ideal S512x2048 .bf16) (x6 x7 : FVec Ideal S256x1024 .bf16) (x8 : FVec Ideal S1x512 .f32)
  (x9 : FVec Ideal S1x256 .f32) (x10 x11 x12 x13 : FVec Ideal S1x128 .f32)

/-- The cosines the kernel turns by are its block. -/
theorem cos_eq : k0_pay86 (F := Ideal) x0 x1 x2 x3 x4 x5 x6 x7 x8 x9 x10 x11 x12 x13 = x3 := by
  unfold k0_pay86 k0_pay2
  dsimp only
  rw [shapeCast_self]
  exact ld_all (e := .f32) (S := S128x128) zero2 _ x3

/-- The sines the kernel turns by are its block. -/
theorem sin_eq : k0_pay87 (F := Ideal) x0 x1 x2 x3 x4 x5 x6 x7 x8 x9 x10 x11 x12 x13 = x4 := by
  unfold k0_pay87 k0_pay3
  dsimp only
  rw [shapeCast_self]
  exact ld_all (e := .f32) (S := S128x128) zero2 _ x4

/-- The kernel's normed latents of the queries, of its blocks. -/
theorem cq_eq : k0_pay94 (F := Ideal) x0 x1 x2 x3 x4 x5 x6 x7 x8 x9 x10 x11 x12 x13 = k0_pay14 (F := Ideal) x0 x8 :=
  congrArg₂ (k0_pay14 (F := Ideal)) (ld_all (e := .f32) (S := S128x512) zero2 _ x0) (ld_all (e := .f32) (S := S1x512) zero2 _ x8)

/-- The kernel's queries before their norms, of its blocks. -/
theorem qf_eq : k0_pay95 (F := Ideal) x0 x1 x2 x3 x4 x5 x6 x7 x8 x9 x10 x11 x12 x13 = k0_pay15 (F := Ideal) (k0_pay14 x0 x8) x5 :=
  congrArg₂ (k0_pay15 (F := Ideal)) (cq_eq x0 x1 x2 x3 x4 x5 x6 x7 x8 x9 x10 x11 x12 x13) (ld_all (e := .bf16) (S := S512x2048) zero2 _ x5)

/-- The kernel's normed latents of the keys and values, of its blocks. -/
theorem ckv_eq : k0_pay88 (F := Ideal) x0 x1 x2 x3 x4 x5 x6 x7 x8 x9 x10 x11 x12 x13 = k0_pay4 (F := Ideal) x1 x9 :=
  congrArg₂ (k0_pay4 (F := Ideal)) (ld_all (e := .f32) (S := S128x256) zero2 _ x1) (ld_all (e := .f32) (S := S1x256) zero2 _ x9)

/-- The kernel's keys before their norms, of its blocks. -/
theorem kf_eq : k0_pay93 (F := Ideal) x0 x1 x2 x3 x4 x5 x6 x7 x8 x9 x10 x11 x12 x13 = k0_pay12 (F := Ideal) (k0_pay4 (F := Ideal) x1 x9) x6 :=
  congrArg₂ (k0_pay12 (F := Ideal)) (ckv_eq x0 x1 x2 x3 x4 x5 x6 x7 x8 x9 x10 x11 x12 x13) (ld_all (e := .bf16) (S := S256x1024) zero2 _ x6)

/-- The kernel's gains of the keys, of its block. -/
theorem gk_eq : k0_pay96 (F := Ideal) x0 x1 x2 x3 x4 x5 x6 x7 x8 x9 x10 x11 x12 x13 = k0_pay16 (F := Ideal) x13 :=
  congrArg (k0_pay16 (F := Ideal)) (ld_all (e := .f32) (S := S1x128) zero2 _ x13)

/-- The kernel's gains of the keys are its block. -/
theorem gk_all : k0_pay96 (F := Ideal) x0 x1 x2 x3 x4 x5 x6 x7 x8 x9 x10 x11 x12 x13 = x13 := by
  unfold k0_pay96 k0_pay16
  dsimp only
  rw [shapeCast_self]
  exact ld_all (e := .f32) (S := S1x128) zero2 _ x13

/-- The third head's columns of the queries. -/
theorem cut97_eq : k0_pay97 (F := Ideal) x0 x1 x2 x3 x4 x5 x6 x7 x8 x9 x10 x11 x12 x13 = k0_pay35 (F := Ideal) (k0_pay15 (F := Ideal) (k0_pay14 x0 x8) x5) :=
  congrArg (k0_pay35 (F := Ideal)) (qf_eq x0 x1 x2 x3 x4 x5 x6 x7 x8 x9 x10 x11 x12 x13)

/-- The gains of the third head. -/
theorem cut98_eq : k0_pay98 (F := Ideal) x0 x1 x2 x3 x4 x5 x6 x7 x8 x9 x10 x11 x12 x13 = k0_pay36 (F := Ideal) x11 :=
  congrArg (k0_pay36 (F := Ideal)) (ld_all (e := .f32) (S := S1x128) zero2 _ x11)

/-- The third head's sums of squares. -/
theorem cut99_eq : k0_pay99 (F := Ideal) x0 x1 x2 x3 x4 x5 x6 x7 x8 x9 x10 x11 x12 x13 = k0_pay37 (F := Ideal) (k0_pay15 (F := Ideal) (k0_pay14 x0 x8) x5) :=
  congrArg (k0_pay37 (F := Ideal)) (qf_eq x0 x1 x2 x3 x4 x5 x6 x7 x8 x9 x10 x11 x12 x13)

/-- The fifth head's columns of the queries. -/
theorem cut101_eq : k0_pay101 (F := Ideal) x0 x1 x2 x3 x4 x5 x6 x7 x8 x9 x10 x11 x12 x13 = k0_pay54 (F := Ideal) (k0_pay15 (F := Ideal) (k0_pay14 x0 x8) x5) :=
  congrArg (k0_pay54 (F := Ideal)) (qf_eq x0 x1 x2 x3 x4 x5 x6 x7 x8 x9 x10 x11 x12 x13)

/-- The eighth head's columns of the queries. -/
theorem cut102_eq : k0_pay102 (F := Ideal) x0 x1 x2 x3 x4 x5 x6 x7 x8 x9 x10 x11 x12 x13 = k0_pay78 (F := Ideal) (k0_pay15 (F := Ideal) (k0_pay14 x0 x8) x5) :=
  congrArg (k0_pay78 (F := Ideal)) (qf_eq x0 x1 x2 x3 x4 x5 x6 x7 x8 x9 x10 x11 x12 x13)

/-- The gains of the eighth head. -/
theorem cut103_eq : k0_pay103 (F := Ideal) x0 x1 x2 x3 x4 x5 x6 x7 x8 x9 x10 x11 x12 x13 = k0_pay79 (F := Ideal) x11 :=
  congrArg (k0_pay79 (F := Ideal)) (ld_all (e := .f32) (S := S1x128) zero2 _ x11)

/-- The eighth head's sums of squares. -/
theorem cut104_eq : k0_pay104 (F := Ideal) x0 x1 x2 x3 x4 x5 x6 x7 x8 x9 x10 x11 x12 x13 = k0_pay80 (F := Ideal) (k0_pay15 (F := Ideal) (k0_pay14 x0 x8) x5) :=
  congrArg (k0_pay80 (F := Ideal)) (qf_eq x0 x1 x2 x3 x4 x5 x6 x7 x8 x9 x10 x11 x12 x13)

/-- The key part is rotated as a head of the queries is. -/
theorem kr_of (c s x : FVec Ideal S128x128 .f32) (g : FVec Ideal S1x128 .f32) :
    k0_pay11 (F := Ideal) c s (k0_pay6 (F := Ideal) x) (k0_pay7 (F := Ideal) g) (k0_pay8 (F := Ideal) x) =
      k0_pay64 (F := Ideal) c s (k0_pay6 (F := Ideal) x) g := rfl

/-- The kernel's rotated key part, of its blocks. -/
theorem kr_eq : k0_pay92 (F := Ideal) x0 x1 x2 x3 x4 x5 x6 x7 x8 x9 x10 x11 x12 x13 = k0_pay64 (F := Ideal) x3 x4 (k0_pay6 (F := Ideal) x2) x10 := by
  unfold k0_pay92 k0_pay89 k0_pay90 k0_pay91
  rw [cos_eq, sin_eq]
  refine (kr_of _ _ _ _).trans ?_
  rw [ld_all (e := .f32) (S := S128x128) zero2, ld_all (e := .f32) (S := S1x128) zero2]

/-- The kernel's block of queries. -/
theorem out16_at (y : S128x2048.Idx) :
    (show FVec Ideal S128x2048 .bf16 from out0_16 (F := Ideal) x0 x1 x2 x3 x4 x5 x6 x7 x8 x9 x10 x11 x12 x13) y =
      qRow x3 x4 (k0_pay15 (F := Ideal) (k0_pay14 x0 x8) x5) x11 x12 (y 0) (y 1) := by
  show out0_16 (F := Ideal) x0 x1 x2 x3 x4 x5 x6 x7 x8 x9 x10 x11 x12 x13 y = _
  frame_out
  rw [cut97_eq, cut98_eq, cut99_eq, cut101_eq, cut102_eq, cut103_eq, cut104_eq, cos_eq, sin_eq, qf_eq, cq_eq]
  canon_tiles x e
  · exact q_turn_piece _ _ _ _ _ 7 (by decide) x y e0 e1
  · exact q_norm_piece _ _ _ _ _ 7 (by decide) x y e0 e1
  · exact q_turn_piece _ _ _ _ _ 6 (by decide) x y e0 e1
  · exact q_norm_piece _ _ _ _ _ 6 (by decide) x y e0 e1
  · exact q_turn_piece _ _ _ _ _ 5 (by decide) x y e0 e1
  · exact q_norm_piece _ _ _ _ _ 5 (by decide) x y e0 e1
  · exact q_turn_piece _ _ _ _ _ 4 (by decide) x y e0 e1
  · exact q_norm_piece _ _ _ _ _ 4 (by decide) x y e0 e1
  · exact q_turn_piece _ _ _ _ _ 3 (by decide) x y e0 e1
  · exact q_norm_piece _ _ _ _ _ 3 (by decide) x y e0 e1
  · exact q_turn_piece _ _ _ _ _ 2 (by decide) x y e0 e1
  · exact q_norm_piece _ _ _ _ _ 2 (by decide) x y e0 e1
  · exact q_turn_piece _ _ _ _ _ 1 (by decide) x y e0 e1
  · exact q_norm_piece _ _ _ _ _ 1 (by decide) x y e0 e1
  · exact q_turn_piece _ _ _ _ _ 0 (by decide) x y e0 e1
  · exact q_norm_piece _ _ _ _ _ 0 (by decide) x y e0 (e1.trans (Nat.zero_add _).symm)

/-- The kernel's block of keys. -/
theorem out17_at (y : S128x2048.Idx) :
    (show FVec Ideal S128x2048 .bf16 from out0_17 (F := Ideal) x0 x1 x2 x3 x4 x5 x6 x7 x8 x9 x10 x11 x12 x13) y =
      kRow (k0_pay12 (F := Ideal) (k0_pay4 (F := Ideal) x1 x9) x6) (k0_pay64 (F := Ideal) x3 x4 (k0_pay6 (F := Ideal) x2) x10) x13
        (y 0) (y 1) := by
  show out0_17 (F := Ideal) x0 x1 x2 x3 x4 x5 x6 x7 x8 x9 x10 x11 x12 x13 y = _
  frame_out
  rw [kr_eq, kf_eq, gk_eq]
  canon_tiles x e
  · exact k_turn_piece _ _ _ 7 x y e0 e1
  · exact k_norm_piece _ _ _ 7 (by decide) x y e0 e1
  · exact k_turn_piece _ _ _ 6 x y e0 e1
  · exact k_norm_piece _ _ _ 6 (by decide) x y e0 e1
  · exact k_turn_piece _ _ _ 5 x y e0 e1
  · exact k_norm_piece _ _ _ 5 (by decide) x y e0 e1
  · exact k_turn_piece _ _ _ 4 x y e0 e1
  · exact k_norm_piece _ _ _ 4 (by decide) x y e0 e1
  · exact k_turn_piece _ _ _ 3 x y e0 e1
  · exact k_norm_piece _ _ _ 3 (by decide) x y e0 e1
  · exact k_turn_piece _ _ _ 2 x y e0 e1
  · exact k_norm_piece _ _ _ 2 (by decide) x y e0 e1
  · exact k_turn_piece _ _ _ 1 x y e0 e1
  · exact k_norm_piece _ _ _ 1 (by decide) x y e0 e1
  · exact k_turn_piece _ _ _ 0 x y e0 e1
  · exact k_norm_piece _ _ _ 0 (by decide) x y e0 (e1.trans (Nat.zero_add _).symm)

/-- The kernel's block of normed latents. -/
theorem out14_at (y : S128x256.Idx) :
    (show FVec Ideal S128x256 .f32 from out0_14 (F := Ideal) x0 x1 x2 x3 x4 x5 x6 x7 x8 x9 x10 x11 x12 x13) y =
      rms 0x3B800000#32 (fun j => x1 (ix2 (y 0) j)) (fun j => x9 (ix2 0 j)) (y 1) := by
  show out0_14 (F := Ideal) x0 x1 x2 x3 x4 x5 x6 x7 x8 x9 x10 x11 x12 x13 y = _
  frame_out
  exact ckv_at x1 x9 y

/-- The kernel's block of the rotated key part. -/
theorem out15_at (y : S128x64.Idx) :
    (show FVec Ideal S128x64 .f32 from out0_15 (F := Ideal) x0 x1 x2 x3 x4 x5 x6 x7 x8 x9 x10 x11 x12 x13) y =
      (show FVec Ideal S128x128 .bf16 from k0_pay64 (F := Ideal) x3 x4 (k0_pay6 (F := Ideal) x2) x10)
        (ix2 (y 0) ⟨(y 1).val, Nat.lt_trans (show (y 1).val < 64 from (y 1).isLt) (by norm_num)⟩) := by
  show out0_15 (F := Ideal) x0 x1 x2 x3 x4 x5 x6 x7 x8 x9 x10 x11 x12 x13 y = k0_pay64 (F := Ideal) x3 x4 (k0_pay6 (F := Ideal) x2) x10 _
  rw [← kr_eq x0 x1 x2 x3 x4 x5 x6 x7 x8 x9 x10 x11 x12 x13]
  have h : out0_15 (F := Ideal) x0 x1 x2 x3 x4 x5 x6 x7 x8 x9 x10 x11 x12 x13 = extractStridedSlice S128x64 ![0, 0] (k0_pay92 (F := Ideal) x0 x1 x2 x3 x4 x5 x6 x7 x8 x9 x10 x11 x12 x13) (by decide) := by
    frame_out
    rfl
  rw [h]
  pointwise

/-- The kernel's block of values. -/
theorem out18_at (y : S128x1024.Idx) :
    (show FVec Ideal S128x1024 .bf16 from out0_18 (F := Ideal) x0 x1 x2 x3 x4 x5 x6 x7 x8 x9 x10 x11 x12 x13) y =
      ∑ k, k0_pay4 (F := Ideal) x1 x9 (ix2 (y 0) k) * x7 (ix2 k (y 1)) := by
  show out0_18 (F := Ideal) x0 x1 x2 x3 x4 x5 x6 x7 x8 x9 x10 x11 x12 x13 y = _
  frame_out
  rw [ckv_eq]
  exact v_at _ x7 y

set_option maxHeartbeats 1000000 in
/-- The kernel's block of queries taken to the latents. -/
theorem out19_at (y : S128x2048.Idx) :
    (show FVec Ideal S128x2048 .f32 from out0_19 (F := Ideal) x0 x1 x2 x3 x4 x5 x6 x7 x8 x9 x10 x11 x12 x13) y =
      aRow (k0_pay15 (F := Ideal) (k0_pay14 x0 x8) x5) x11 x13 x6 (y 0) ⟨(y 1).val / 256, by
        have h1 : (y 1).val < 2048 := (y 1).isLt
        omega⟩ ⟨(y 1).val % 256, by omega⟩ := by
  show out0_19 (F := Ideal) x0 x1 x2 x3 x4 x5 x6 x7 x8 x9 x10 x11 x12 x13 y = _
  frame_out
  rw [cut97_eq, cut98_eq, cut99_eq, cut101_eq, cut102_eq, cut103_eq, cut104_eq, qf_eq, cq_eq, gk_all]
  canon_tiles x e
  · exact a_piece _ _ _ _ 7 (by decide) _ (ld_head x6 7 _) x y e0 e1
  · exact a_piece _ _ _ _ 6 (by decide) _ (ld_head x6 6 _) x y e0 e1
  · exact a_piece _ _ _ _ 5 (by decide) _ (ld_head x6 5 _) x y e0 e1
  · exact a_piece _ _ _ _ 4 (by decide) _ (ld_head x6 4 _) x y e0 e1
  · exact a_piece _ _ _ _ 3 (by decide) _ (ld_head x6 3 _) x y e0 e1
  · exact a_piece _ _ _ _ 2 (by decide) _ (ld_head x6 2 _) x y e0 e1
  · exact a_piece _ _ _ _ 1 (by decide) _ (ld_head x6 1 _) x y e0 e1
  · exact a_piece _ _ _ _ 0 (by decide) _ (ld_head x6 0 _) x y e0 (e1.trans (Nat.zero_add _).symm)

end Cert.PrepSIdeal.Sample

end
-- ==== Proof.Sample.Prep.Ref.lean ====
/- The attention's preparation of the sample batch: what the reference's six results hold, row by row. -/
module

public import proofs.«01_k».proof.Proof.Gen.PrepSRefIdeal.Read
public import Idealize.ShloMosaic.Lib.Pipeline.ValueKit
public import proofs.«01_k».proof.Proof.Prep.Ref

@[expose] public section

set_option maxRecDepth 16384

noncomputable section

open Idealize.ShloMosaic Idealize.ShloMosaic.TcCoe Idealize.SL.Sem

namespace Cert.PrepSRefIdeal.Sample

open Cert.PrepRefIdeal.Prep (rope_of)
open Cert.PrepSRefIdeal Cert.PrepSRefIdeal.Gen Cert.Layers Cert.Prep

/-- A row's normed query latents. -/
def cq (x0 : FVec Ideal S128x4096 .f32) (x6 : FVec Ideal S512 .f32) (r : Fin 128) : Fin 512 → EReal :=
  rms 0x3B000000#32 (fun j => x0 (ix2 r ⟨3072 + j.val, by omega⟩)) (fun j => x6 (ix1 j))

/-- A row's normed key and value latents. -/
def ckv (x0 : FVec Ideal S128x4096 .f32) (x7 : FVec Ideal S256 .f32) (r : Fin 128) : Fin 256 → EReal :=
  rms 0x3B800000#32 (fun j => x0 (ix2 r ⟨3584 + j.val, by omega⟩)) (fun j => x7 (ix1 j))

/-- A row's rotary embedding: the angles are the row's. -/
def ropeRow (x1 x2 : FVec Ideal S128x32 .f32) (r : Fin 128) : (Fin 64 → EReal) → Fin 64 → EReal :=
  rope (fun j => x1 (ix2 r j)) (fun j => x2 (ix2 r j))

/-- A row's rotated key part. -/
def kpe (x0 : FVec Ideal S128x4096 .f32) (x1 x2 : FVec Ideal S128x32 .f32) (x8 : FVec Ideal S64 .f32)
    (r : Fin 128) : Fin 64 → EReal :=
  ropeRow x1 x2 r (rms 0x3C800000#32 (fun j => x0 (ix2 r ⟨3840 + j.val, by omega⟩)) (fun j => x8 (ix1 j)))

/-- A row's queries before their norms. -/
def qf (x0 : FVec Ideal S128x4096 .f32) (x3 : FVec Ideal S512x1536 .f32) (x6 : FVec Ideal S512 .f32)
    (r : Fin 128) (n : Fin 1536) : EReal := ∑ k, cq x0 x6 r k * x3 (ix2 k n)

/-- A row's latents through a weight matrix: the keys before their norms, or the values. -/
def kf (x0 : FVec Ideal S128x4096 .f32) (w : FVec Ideal S256x1024 .f32) (x7 : FVec Ideal S256 .f32)
    (r : Fin 128) (n : Fin 1024) : EReal := ∑ k, ckv x0 x7 r k * w (ix2 k n)

/-- A head's normed queries. -/
def qnope (x0 : FVec Ideal S128x4096 .f32) (x3 : FVec Ideal S512x1536 .f32) (x6 : FVec Ideal S512 .f32)
    (x9 : FVec Ideal S128 .f32) (r : Fin 128) (h : Fin 8) : Fin 128 → EReal :=
  rms 0x3C000000#32 (fun j => qf x0 x3 x6 r ⟨192 * h.val + j.val, by omega⟩) (fun j => x9 (ix1 j))

/-- A head's rotated query part. -/
def qpe (x0 : FVec Ideal S128x4096 .f32) (x1 x2 : FVec Ideal S128x32 .f32) (x3 : FVec Ideal S512x1536 .f32)
    (x6 : FVec Ideal S512 .f32) (x10 : FVec Ideal S64 .f32) (r : Fin 128) (h : Fin 8) : Fin 64 → EReal :=
  ropeRow x1 x2 r
    (rms 0x3C800000#32 (fun j => qf x0 x3 x6 r ⟨192 * h.val + 128 + j.val, by omega⟩) (fun j => x10 (ix1 j)))

/-- A head's normed keys. -/
def knope (x0 : FVec Ideal S128x4096 .f32) (x4 : FVec Ideal S256x1024 .f32) (x7 : FVec Ideal S256 .f32)
    (x11 : FVec Ideal S128 .f32) (r : Fin 128) (h : Fin 8) : Fin 128 → EReal :=
  rms 0x3C000000#32 (fun j => kf x0 x4 x7 r ⟨128 * h.val + j.val, by omega⟩) (fun j => x11 (ix1 j))

/-- A head's normed queries, weighted by the gains of the keys and taken to the latents by the head's key weight. -/
def absorbed (x0 : FVec Ideal S128x4096 .f32) (x3 : FVec Ideal S512x1536 .f32) (x4 : FVec Ideal S256x1024 .f32)
    (x6 : FVec Ideal S512 .f32) (x9 x11 : FVec Ideal S128 .f32) (r : Fin 128) (h : Fin 8) (l : Fin 256) : EReal :=
  ∑ n : Fin 128, qnope x0 x3 x6 x9 r h n * x11 (ix1 n) * x4 (ix2 l ⟨128 * h.val + n.val, by omega⟩)

/-- The reference's query latents. -/
theorem cq_at (x0 : FVec Ideal S128x4096 .f32) (x6 : FVec Ideal S512 .f32) (i : S128x512.Idx) :
    (show FVec Ideal S128x512 .f32 from Read.val_main_v13 (F := Ideal) x0 x6) i = cq x0 x6 (i 0) (i 1) := by
  show Read.val_main_v13 (F := Ideal) x0 x6 i = _
  rw [Read.val_main_v13_apply, Read.val_main_v10_apply, Read.val_main_v9_apply, Read.val_main_v8_apply,
    Read.val_main_v7_apply, Read.val_main_v5_apply, Read.val_main_v3_apply, Read.val_main_v2_apply,
    Read.val_main_v4_apply, Read.val_main_v6_apply, Read.val_main_v12_apply, Read.val_main_v11_apply]
  simp only [Read.val_main_v1_apply, Read.val_main_v0_apply, Read.val_main_cst_apply, Read.val_main_cst_0_apply,
    Read.val_main_cst_1_apply]
  simp only [Ideal.ofBits_def, Ideal.mulf_def, Ideal.addf_def, Ideal.hostDivf_def, Ideal.hostUnary_rsqrt_def, ofBits_zero,
    zero_add, div_512]
  refine rms_of (congrArg x0 ?_) (fun j => congrArg x0 ?_) (congrArg x6 ?_) <;> blk_ext

/-- The reference's first result, the key and value latents. -/
theorem ckv_at (x0 : FVec Ideal S128x4096 .f32) (x7 : FVec Ideal S256 .f32) (i : S128x256.Idx) :
    (show FVec Ideal S128x256 .f32 from Read.val_main_v27 (F := Ideal) x0 x7) i = ckv x0 x7 (i 0) (i 1) := by
  show Read.val_main_v27 (F := Ideal) x0 x7 i = _
  rw [Read.val_main_v27_apply, Read.val_main_v24_apply, Read.val_main_v23_apply, Read.val_main_v22_apply,
    Read.val_main_v21_apply, Read.val_main_v19_apply, Read.val_main_v17_apply, Read.val_main_v16_apply,
    Read.val_main_v18_apply, Read.val_main_v20_apply, Read.val_main_v26_apply, Read.val_main_v25_apply]
  simp only [Read.val_main_v15_apply, Read.val_main_v14_apply, Read.val_main_cst_2_apply, Read.val_main_cst_3_apply,
    Read.val_main_cst_4_apply]
  simp only [Ideal.ofBits_def, Ideal.mulf_def, Ideal.addf_def, Ideal.hostDivf_def, Ideal.hostUnary_rsqrt_def, ofBits_zero,
    zero_add, div_256]
  refine rms_of (congrArg x0 ?_) (fun j => congrArg x0 ?_) (congrArg x7 ?_) <;> blk_ext

/-- The reference's normed key part. -/
theorem kp_at (x0 : FVec Ideal S128x4096 .f32) (x8 : FVec Ideal S64 .f32) (i : S128x64.Idx) :
    (show FVec Ideal S128x64 .f32 from Read.val_main_v41 (F := Ideal) x0 x8) i =
      rms 0x3C800000#32 (fun j => x0 (ix2 (i 0) ⟨3840 + j.val, by omega⟩)) (fun j => x8 (ix1 j)) (i 1) := by
  show Read.val_main_v41 (F := Ideal) x0 x8 i = _
  rw [Read.val_main_v41_apply, Read.val_main_v38_apply, Read.val_main_v37_apply, Read.val_main_v36_apply,
    Read.val_main_v35_apply, Read.val_main_v33_apply, Read.val_main_v31_apply, Read.val_main_v30_apply,
    Read.val_main_v32_apply, Read.val_main_v34_apply, Read.val_main_v40_apply, Read.val_main_v39_apply]
  simp only [Read.val_main_v29_apply, Read.val_main_v28_apply, Read.val_main_cst_5_apply, Read.val_main_cst_6_apply,
    Read.val_main_cst_7_apply]
  simp only [Ideal.ofBits_def, Ideal.mulf_def, Ideal.addf_def, Ideal.hostDivf_def, Ideal.hostUnary_rsqrt_def, ofBits_zero,
    zero_add, div_64]
  refine rms_of (congrArg x0 ?_) (fun j => congrArg x0 ?_) (congrArg x8 ?_) <;> blk_ext

/-- The reference's queries before their norms. -/
theorem qf_at (x0 : FVec Ideal S128x4096 .f32) (x3 : FVec Ideal S512x1536 .f32) (x6 : FVec Ideal S512 .f32)
    (i : S128x1536.Idx) :
    (show FVec Ideal S128x1536 .f32 from Read.val_main_v51 (F := Ideal) x0 x3 x6) i = qf x0 x3 x6 (i 0) (i 1) := by
  refine (Read.val_main_v51_apply x0 x3 x6 i).trans (Finset.sum_congr rfl fun k _ => ?_)
  refine congrArg₂ (fun a b : EReal => a * b) (cq_at x0 x6 _) (congrArg x3 ?_)
  blk_ext

/-- The reference's keys before their norms. -/
theorem kf_at (x0 : FVec Ideal S128x4096 .f32) (x4 : FVec Ideal S256x1024 .f32) (x7 : FVec Ideal S256 .f32)
    (i : S128x1024.Idx) :
    (show FVec Ideal S128x1024 .f32 from Read.val_main_v96 (F := Ideal) x0 x4 x7) i = kf x0 x4 x7 (i 0) (i 1) := by
  refine (Read.val_main_v96_apply x0 x4 x7 i).trans (Finset.sum_congr rfl fun k _ => ?_)
  refine congrArg₂ (fun a b : EReal => a * b) (ckv_at x0 x7 _) (congrArg x4 ?_)
  blk_ext

/-- The reference's fifth result, the values. -/
theorem v_at (x0 : FVec Ideal S128x4096 .f32) (x5 : FVec Ideal S256x1024 .f32) (x7 : FVec Ideal S256 .f32)
    (i : S128x1024.Idx) :
    (show FVec Ideal S128x1024 .bf16 from Read.val_main_v121 (F := Ideal) x0 x5 x7) i = kf x0 x5 x7 (i 0) (i 1) := by
  refine (Read.val_main_v120_apply x0 x5 x7 i).trans (Finset.sum_congr rfl fun k _ => ?_)
  refine congrArg₂ (fun a b : EReal => a * b) (ckv_at x0 x7 _) (congrArg x5 ?_)
  blk_ext

/-- The reference's rotated key part, an element of the first half. -/
theorem kpe_left (x0 : FVec Ideal S128x4096 .f32) (x1 x2 : FVec Ideal S128x32 .f32) (x8 : FVec Ideal S64 .f32)
    (i : S128x32.Idx) (r : Fin 128) (j : Fin 32) (hr : (i 0).val = r.val) (hj : (i 1).val = j.val)
    {x : Fin 64 → EReal}
    (hx : x = rms 0x3C800000#32 (fun j => x0 (ix2 r ⟨3840 + j.val, by omega⟩)) (fun j => x8 (ix1 j))) :
    (show FVec Ideal S128x32 .f32 from Read.val_main_v46 (F := Ideal) x0 x1 x2 x8) i =
      x ⟨j.val, by omega⟩ * x1 (ix2 r j) -
        x ⟨j.val + 32, by omega⟩ * x2 (ix2 r j) := by
  obtain rfl : i 0 = r := Fin.ext hr
  obtain rfl : i 1 = j := Fin.ext hj
  subst hx
  show Read.val_main_v46 (F := Ideal) x0 x1 x2 x8 i = _
  rw [Read.val_main_v46_apply, Read.val_main_v44_apply, Read.val_main_v45_apply, Read.val_main_v42_apply,
    Read.val_main_v43_apply]
  refine congrArg₂ (fun a b : EReal => a - b) (congrArg₂ (fun a b : EReal => a * b) ((kp_at x0 x8 _).trans ?_)
    (congrArg x1 ?_)) (congrArg₂ (fun a b : EReal => a * b) ((kp_at x0 x8 _).trans ?_) (congrArg x2 ?_))
  · rfl
  · blk_ext
  · refine congrArg (rms _ _ _) (Fin.ext ?_)
    show 32 + (i 1).val = (i 1).val + 32
    omega
  · blk_ext

/-- The reference's rotated key part, an element of the second half. -/
theorem kpe_right (x0 : FVec Ideal S128x4096 .f32) (x1 x2 : FVec Ideal S128x32 .f32) (x8 : FVec Ideal S64 .f32)
    (i : S128x32.Idx) (r : Fin 128) (j : Fin 32) (hr : (i 0).val = r.val) (hj : (i 1).val = j.val)
    {x : Fin 64 → EReal}
    (hx : x = rms 0x3C800000#32 (fun j => x0 (ix2 r ⟨3840 + j.val, by omega⟩)) (fun j => x8 (ix1 j))) :
    (show FVec Ideal S128x32 .f32 from Read.val_main_v49 (F := Ideal) x0 x1 x2 x8) i =
      x ⟨j.val + 32, by omega⟩ * x1 (ix2 r j) +
        x ⟨j.val, by omega⟩ * x2 (ix2 r j) := by
  obtain rfl : i 0 = r := Fin.ext hr
  obtain rfl : i 1 = j := Fin.ext hj
  subst hx
  show Read.val_main_v49 (F := Ideal) x0 x1 x2 x8 i = _
  rw [Read.val_main_v49_apply, Read.val_main_v47_apply, Read.val_main_v48_apply, Read.val_main_v42_apply,
    Read.val_main_v43_apply]
  refine congrArg₂ (fun a b : EReal => a + b) (congrArg₂ (fun a b : EReal => a * b) ((kp_at x0 x8 _).trans ?_)
    (congrArg x1 ?_)) (congrArg₂ (fun a b : EReal => a * b) ((kp_at x0 x8 _).trans ?_) (congrArg x2 ?_))
  · refine congrArg (rms _ _ _) (Fin.ext ?_)
    show 32 + (i 1).val = (i 1).val + 32
    omega
  · blk_ext
  · rfl
  · blk_ext

/-- The reference's second result, the rotated key part. -/
theorem kpe_at (x0 : FVec Ideal S128x4096 .f32) (x1 x2 : FVec Ideal S128x32 .f32) (x8 : FVec Ideal S64 .f32)
    (i : S128x64.Idx) :
    (show FVec Ideal S128x64 .f32 from Read.val_main_v50 (F := Ideal) x0 x1 x2 x8) i = kpe x0 x1 x2 x8 (i 0) (i 1) := by
  have hA := kpe_left x0 x1 x2 x8
  have hB := kpe_right x0 x1 x2 x8
  show Read.val_main_v50 (F := Ideal) x0 x1 x2 x8 i = _
  unfold Read.val_main_v50 kpe ropeRow
  generalize Read.val_main_v46 (F := Ideal) x0 x1 x2 x8 = A at hA ⊢
  generalize Read.val_main_v49 (F := Ideal) x0 x1 x2 x8 = B at hB ⊢
  pointwise
  refine rope_of (fun h => ?_) (fun h => ?_)
  · refine Eq.trans (dif_pos h) ?_
    exact hA _ (i 0) ⟨(i 1).val, h⟩ rfl rfl rfl
  · refine Eq.trans (dif_neg h) ?_
    exact hB _ (i 0) ⟨(i 1).val - 32, by omega⟩ rfl rfl rfl

/-- The reference's normed query heads. -/
theorem qnope_at (x0 : FVec Ideal S128x4096 .f32) (x3 : FVec Ideal S512x1536 .f32) (x6 : FVec Ideal S512 .f32)
    (x9 : FVec Ideal S128 .f32) (i : S128x8x128.Idx) :
    (show FVec Ideal S128x8x128 .f32 from Read.val_main_v66 (F := Ideal) x0 x3 x6 x9) i =
      qnope x0 x3 x6 x9 (i 0) (i 1) (i 2) := by
  show Read.val_main_v66 (F := Ideal) x0 x3 x6 x9 i = _
  rw [Read.val_main_v66_apply, Read.val_main_v63_apply, Read.val_main_v62_apply, Read.val_main_v61_apply,
    Read.val_main_v60_apply, Read.val_main_v58_apply, Read.val_main_v56_apply, Read.val_main_v55_apply,
    Read.val_main_v57_apply, Read.val_main_v59_apply, Read.val_main_v65_apply, Read.val_main_v64_apply]
  simp only [Read.val_main_v54_apply, Read.val_main_v53_apply, Read.val_main_v52_apply, Read.val_main_cst_8_apply,
    Read.val_main_cst_9_apply, Read.val_main_cst_10_apply]
  simp only [Ideal.ofBits_def, Ideal.mulf_def, Ideal.addf_def, Ideal.hostDivf_def, Ideal.hostUnary_rsqrt_def, ofBits_zero,
    zero_add, div_128]
  have h1 : (i 1).val < 8 := (i 1).isLt
  have h2 : (i 2).val < 128 := (i 2).isLt
  refine rms_of ((qf_at x0 x3 x6 _).trans (congrArg₂ (qf x0 x3 x6) (Fin.ext ?_) (Fin.ext ?_)))
    (fun j => (qf_at x0 x3 x6 _).trans (congrArg₂ (qf x0 x3 x6) (Fin.ext ?_) (Fin.ext ?_))) (congrArg x9 ?_)
  · show (((i 0).val * 8 + (i 1).val) * 192 + (i 2).val) / 1536 = (i 0).val
    omega
  · show (((i 0).val * 8 + (i 1).val) * 192 + (i 2).val) % 1536 = 192 * (i 1).val + (i 2).val
    omega
  · show (((i 0).val * 8 + (i 1).val) * 192 + j.val) / 1536 = (i 0).val
    omega
  · show (((i 0).val * 8 + (i 1).val) * 192 + j.val) % 1536 = 192 * (i 1).val + j.val
    omega
  · blk_ext

/-- The reference's normed query parts, before the rotation. -/
theorem qp_at (x0 : FVec Ideal S128x4096 .f32) (x3 : FVec Ideal S512x1536 .f32) (x6 : FVec Ideal S512 .f32)
    (x10 : FVec Ideal S64 .f32) (i : S128x8x64.Idx) :
    (show FVec Ideal S128x8x64 .f32 from Read.val_main_v80 (F := Ideal) x0 x3 x6 x10) i =
      rms 0x3C800000#32 (fun j => qf x0 x3 x6 (i 0) ⟨192 * (i 1).val + 128 + j.val, by
        have h1 : (i 1).val < 8 := (i 1).isLt
        omega⟩) (fun j => x10 (ix1 j)) (i 2) := by
  show Read.val_main_v80 (F := Ideal) x0 x3 x6 x10 i = _
  rw [Read.val_main_v80_apply, Read.val_main_v77_apply, Read.val_main_v76_apply, Read.val_main_v75_apply,
    Read.val_main_v74_apply, Read.val_main_v72_apply, Read.val_main_v70_apply, Read.val_main_v69_apply,
    Read.val_main_v71_apply, Read.val_main_v73_apply, Read.val_main_v79_apply, Read.val_main_v78_apply]
  simp only [Read.val_main_v68_apply, Read.val_main_v67_apply, Read.val_main_v52_apply, Read.val_main_cst_11_apply,
    Read.val_main_cst_12_apply, Read.val_main_cst_13_apply]
  simp only [Ideal.ofBits_def, Ideal.mulf_def, Ideal.addf_def, Ideal.hostDivf_def, Ideal.hostUnary_rsqrt_def, ofBits_zero,
    zero_add, div_64]
  have h1 : (i 1).val < 8 := (i 1).isLt
  have h2 : (i 2).val < 64 := (i 2).isLt
  refine rms_of ((qf_at x0 x3 x6 _).trans (congrArg₂ (qf x0 x3 x6) (Fin.ext ?_) (Fin.ext ?_)))
    (fun j => (qf_at x0 x3 x6 _).trans (congrArg₂ (qf x0 x3 x6) (Fin.ext ?_) (Fin.ext ?_))) (congrArg x10 ?_)
  · show (((i 0).val * 8 + (i 1).val) * 192 + (128 + (i 2).val)) / 1536 = (i 0).val
    omega
  · show (((i 0).val * 8 + (i 1).val) * 192 + (128 + (i 2).val)) % 1536 = 192 * (i 1).val + 128 + (i 2).val
    omega
  · show (((i 0).val * 8 + (i 1).val) * 192 + (128 + j.val)) / 1536 = (i 0).val
    omega
  · show (((i 0).val * 8 + (i 1).val) * 192 + (128 + j.val)) % 1536 = 192 * (i 1).val + 128 + j.val
    omega
  · blk_ext

/-- The reference's normed key heads. -/
theorem knope_at (x0 : FVec Ideal S128x4096 .f32) (x4 : FVec Ideal S256x1024 .f32) (x7 : FVec Ideal S256 .f32)
    (x11 : FVec Ideal S128 .f32) (i : S128x8x128.Idx) :
    (show FVec Ideal S128x8x128 .f32 from Read.val_main_v110 (F := Ideal) x0 x4 x7 x11) i =
      knope x0 x4 x7 x11 (i 0) (i 1) (i 2) := by
  show Read.val_main_v110 (F := Ideal) x0 x4 x7 x11 i = _
  rw [Read.val_main_v110_apply, Read.val_main_v107_apply, Read.val_main_v106_apply, Read.val_main_v105_apply,
    Read.val_main_v104_apply, Read.val_main_v102_apply, Read.val_main_v100_apply, Read.val_main_v99_apply,
    Read.val_main_v101_apply, Read.val_main_v103_apply, Read.val_main_v109_apply, Read.val_main_v108_apply]
  simp only [Read.val_main_v98_apply, Read.val_main_v97_apply, Read.val_main_cst_14_apply,
    Read.val_main_cst_15_apply, Read.val_main_cst_16_apply]
  simp only [Ideal.ofBits_def, Ideal.mulf_def, Ideal.addf_def, Ideal.hostDivf_def, Ideal.hostUnary_rsqrt_def, ofBits_zero,
    zero_add, div_128]
  have h1 : (i 1).val < 8 := (i 1).isLt
  have h2 : (i 2).val < 128 := (i 2).isLt
  refine rms_of ((kf_at x0 x4 x7 _).trans (congrArg₂ (kf x0 x4 x7) (Fin.ext ?_) (Fin.ext ?_)))
    (fun j => (kf_at x0 x4 x7 _).trans (congrArg₂ (kf x0 x4 x7) (Fin.ext ?_) (Fin.ext ?_))) (congrArg x11 ?_)
  · show (((i 0).val * 8 + (i 1).val) * 128 + (i 2).val) / 1024 = (i 0).val
    omega
  · show (((i 0).val * 8 + (i 1).val) * 128 + (i 2).val) % 1024 = 128 * (i 1).val + (i 2).val
    omega
  · show (((i 0).val * 8 + (i 1).val) * 128 + j.val) / 1024 = (i 0).val
    omega
  · show (((i 0).val * 8 + (i 1).val) * 128 + j.val) % 1024 = 128 * (i 1).val + j.val
    omega
  · blk_ext

/-- The reference's rotated query parts, an element of the first half. -/
theorem qpe_left (x0 : FVec Ideal S128x4096 .f32) (x1 x2 : FVec Ideal S128x32 .f32) (x3 : FVec Ideal S512x1536 .f32)
    (x6 : FVec Ideal S512 .f32) (x10 : FVec Ideal S64 .f32)
    (i : S128x8x32.Idx) (r : Fin 128) (h : Fin 8) (j : Fin 32) (hr : (i 0).val = r.val) (hh : (i 1).val = h.val)
    (hj : (i 2).val = j.val) {x : Fin 64 → EReal}
    (hx : x = rms 0x3C800000#32 (fun j => qf x0 x3 x6 r ⟨192 * h.val + 128 + j.val, by omega⟩) (fun j => x10 (ix1 j))) :
    (show FVec Ideal S128x8x32 .f32 from Read.val_main_v89 (F := Ideal) x0 x1 x2 x3 x6 x10) i =
      x ⟨j.val, by omega⟩ * x1 (ix2 r j) -
        x ⟨j.val + 32, by omega⟩ * x2 (ix2 r j) := by
  obtain rfl : i 0 = r := Fin.ext hr
  obtain rfl : i 1 = h := Fin.ext hh
  obtain rfl : i 2 = j := Fin.ext hj
  subst hx
  show Read.val_main_v89 (F := Ideal) x0 x1 x2 x3 x6 x10 i = _
  rw [Read.val_main_v89_apply, Read.val_main_v86_apply, Read.val_main_v88_apply, Read.val_main_v83_apply,
    Read.val_main_v84_apply, Read.val_main_v85_apply, Read.val_main_v87_apply, Read.val_main_v81_apply,
    Read.val_main_v82_apply]
  refine congrArg₂ (fun a b : EReal => a - b) (congrArg₂ (fun a b : EReal => a * b) ((qp_at x0 x3 x6 x10 _).trans ?_)
    (congrArg x1 ?_)) (congrArg₂ (fun a b : EReal => a * b) ((qp_at x0 x3 x6 x10 _).trans ?_) (congrArg x2 ?_))
  · rfl
  · blk_ext
  · refine congrArg (rms _ _ _) (Fin.ext ?_)
    show 32 + (i 2).val = (i 2).val + 32
    omega
  · blk_ext

/-- The reference's rotated query parts, an element of the second half. -/
theorem qpe_right (x0 : FVec Ideal S128x4096 .f32) (x1 x2 : FVec Ideal S128x32 .f32) (x3 : FVec Ideal S512x1536 .f32)
    (x6 : FVec Ideal S512 .f32) (x10 : FVec Ideal S64 .f32)
    (i : S128x8x32.Idx) (r : Fin 128) (h : Fin 8) (j : Fin 32) (hr : (i 0).val = r.val) (hh : (i 1).val = h.val)
    (hj : (i 2).val = j.val) {x : Fin 64 → EReal}
    (hx : x = rms 0x3C800000#32 (fun j => qf x0 x3 x6 r ⟨192 * h.val + 128 + j.val, by omega⟩) (fun j => x10 (ix1 j))) :
    (show FVec Ideal S128x8x32 .f32 from Read.val_main_v94 (F := Ideal) x0 x1 x2 x3 x6 x10) i =
      x ⟨j.val + 32, by omega⟩ * x1 (ix2 r j) +
        x ⟨j.val, by omega⟩ * x2 (ix2 r j) := by
  obtain rfl : i 0 = r := Fin.ext hr
  obtain rfl : i 1 = h := Fin.ext hh
  obtain rfl : i 2 = j := Fin.ext hj
  subst hx
  show Read.val_main_v94 (F := Ideal) x0 x1 x2 x3 x6 x10 i = _
  rw [Read.val_main_v94_apply, Read.val_main_v91_apply, Read.val_main_v93_apply, Read.val_main_v83_apply,
    Read.val_main_v84_apply, Read.val_main_v90_apply, Read.val_main_v92_apply, Read.val_main_v81_apply,
    Read.val_main_v82_apply]
  refine congrArg₂ (fun a b : EReal => a + b) (congrArg₂ (fun a b : EReal => a * b) ((qp_at x0 x3 x6 x10 _).trans ?_)
    (congrArg x1 ?_)) (congrArg₂ (fun a b : EReal => a * b) ((qp_at x0 x3 x6 x10 _).trans ?_) (congrArg x2 ?_))
  · refine congrArg (rms _ _ _) (Fin.ext ?_)
    show 32 + (i 2).val = (i 2).val + 32
    omega
  · blk_ext
  · rfl
  · blk_ext

/-- The reference's rotated query parts. -/
theorem qpe_at (x0 : FVec Ideal S128x4096 .f32) (x1 x2 : FVec Ideal S128x32 .f32) (x3 : FVec Ideal S512x1536 .f32)
    (x6 : FVec Ideal S512 .f32) (x10 : FVec Ideal S64 .f32) (i : S128x8x64.Idx) :
    (show FVec Ideal S128x8x64 .f32 from Read.val_main_v95 (F := Ideal) x0 x1 x2 x3 x6 x10) i =
      qpe x0 x1 x2 x3 x6 x10 (i 0) (i 1) (i 2) := by
  have hA := qpe_left x0 x1 x2 x3 x6 x10
  have hB := qpe_right x0 x1 x2 x3 x6 x10
  show Read.val_main_v95 (F := Ideal) x0 x1 x2 x3 x6 x10 i = _
  unfold Read.val_main_v95 qpe ropeRow
  generalize Read.val_main_v89 (F := Ideal) x0 x1 x2 x3 x6 x10 = A at hA ⊢
  generalize Read.val_main_v94 (F := Ideal) x0 x1 x2 x3 x6 x10 = B at hB ⊢
  pointwise
  refine rope_of (fun h => ?_) (fun h => ?_)
  · refine Eq.trans (dif_pos h) ?_
    exact hA _ (i 0) (i 1) ⟨(i 2).val, h⟩ rfl rfl rfl rfl
  · refine Eq.trans (dif_neg h) ?_
    exact hB _ (i 0) (i 1) ⟨(i 2).val - 32, by omega⟩ rfl rfl rfl rfl

/-- The reference's query heads: 128 normed lanes, 64 rotated and 64 zeros. -/
theorem q3_at (x0 : FVec Ideal S128x4096 .f32) (x1 x2 : FVec Ideal S128x32 .f32) (x3 : FVec Ideal S512x1536 .f32)
    (x6 : FVec Ideal S512 .f32) (x9 : FVec Ideal S128 .f32) (x10 : FVec Ideal S64 .f32) (i : S128x2048.Idx) :
    (show FVec Ideal S128x2048 .bf16 from Read.val_main_v118 (F := Ideal) x0 x1 x2 x3 x6 x9 x10) i =
      heads (qnope x0 x3 x6 x9 (i 0)) (fun h => pad64 (qpe x0 x1 x2 x3 x6 x10 (i 0) h)) (i 1) := by
  have hA := qnope_at x0 x3 x6 x9
  have hB := qpe_at x0 x1 x2 x3 x6 x10
  show Read.val_main_v115 (F := Ideal) x0 x1 x2 x3 x6 x9 x10 i = _
  rw [Read.val_main_v115_apply]
  unfold Read.val_main_v114
  generalize Read.val_main_v66 (F := Ideal) x0 x3 x6 x9 = A at hA ⊢
  generalize Read.val_main_v95 (F := Ideal) x0 x1 x2 x3 x6 x10 = B at hB ⊢
  pointwise
  have h0 : (i 0).val < 128 := (i 0).isLt
  have h1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  have e3 : ((i 0).val * 2048 + (i 1).val) % 256 - 128 = (i 1).val % 256 - 128 := by omega
  refine heads_of (n := i 1) (fun h => ?_) (fun h h' => ?_) (fun h h' => ?_)
  · refine Eq.trans (dif_pos (by omega)) ((hA _).trans (congr3 _ (Fin.ext e0) (Fin.ext e1) (Fin.ext e2)))
  · refine Eq.trans (dif_neg (by omega)) (Eq.trans (dif_pos (by omega))
      ((hB _).trans (congr3 (qpe x0 x1 x2 x3 x6 x10) (Fin.ext e0) (Fin.ext e1) (Fin.ext e3))))
  · refine Eq.trans (dif_neg (by omega)) (Eq.trans (dif_neg (by omega)) ?_)
    rw [Read.val_main_v111_apply, Read.val_main_cst_17_apply]
    exact ofBits_zero

/-- The reference's key heads: 128 normed lanes, then the 64 rotated ones, the same in every head, and 64 zeros. -/
theorem k3_at (x0 : FVec Ideal S128x4096 .f32) (x1 x2 : FVec Ideal S128x32 .f32) (x4 : FVec Ideal S256x1024 .f32)
    (x7 : FVec Ideal S256 .f32) (x8 : FVec Ideal S64 .f32) (x11 : FVec Ideal S128 .f32) (i : S128x2048.Idx) :
    (show FVec Ideal S128x2048 .bf16 from Read.val_main_v119 (F := Ideal) x0 x1 x2 x4 x7 x8 x11) i =
      heads (knope x0 x4 x7 x11 (i 0)) (fun _ => pad64 (kpe x0 x1 x2 x8 (i 0))) (i 1) := by
  have hA := knope_at x0 x4 x7 x11
  have hB : ∀ i : S128x8x64.Idx, (show FVec Ideal S128x8x64 .f32 from
      Read.val_main_v113 (F := Ideal) x0 x1 x2 x8) i = kpe x0 x1 x2 x8 (i 0) (i 2) := fun i => by
    show Read.val_main_v113 (F := Ideal) x0 x1 x2 x8 i = _
    rw [Read.val_main_v113_apply, Read.val_main_v112_apply]
    exact kpe_at x0 x1 x2 x8 _
  show Read.val_main_v117 (F := Ideal) x0 x1 x2 x4 x7 x8 x11 i = _
  rw [Read.val_main_v117_apply]
  unfold Read.val_main_v116
  generalize Read.val_main_v110 (F := Ideal) x0 x4 x7 x11 = A at hA ⊢
  generalize Read.val_main_v113 (F := Ideal) x0 x1 x2 x8 = B at hB ⊢
  pointwise
  have h0 : (i 0).val < 128 := (i 0).isLt
  have h1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  have e3 : ((i 0).val * 2048 + (i 1).val) % 256 - 128 = (i 1).val % 256 - 128 := by omega
  refine heads_of (n := i 1) (fun h => ?_) (fun h h' => ?_) (fun h h' => ?_)
  · refine Eq.trans (dif_pos (by omega)) ((hA _).trans (congr3 _ (Fin.ext e0) (Fin.ext e1) (Fin.ext e2)))
  · refine Eq.trans (dif_neg (by omega)) (Eq.trans (dif_pos (by omega))
      ((hB _).trans (congrArg₂ (kpe x0 x1 x2 x8) (Fin.ext e0) (Fin.ext e3))))
  · refine Eq.trans (dif_neg (by omega)) (Eq.trans (dif_neg (by omega)) ?_)
    rw [Read.val_main_v111_apply, Read.val_main_cst_17_apply]
    exact ofBits_zero

/-- The reference's sixth result, the queries taken to the latents. -/
theorem a_at (x0 : FVec Ideal S128x4096 .f32) (x3 : FVec Ideal S512x1536 .f32) (x4 : FVec Ideal S256x1024 .f32)
    (x6 : FVec Ideal S512 .f32) (x9 x11 : FVec Ideal S128 .f32) (i : S128x2048.Idx) :
    (show FVec Ideal S128x2048 .f32 from Read.val_main_v128 (F := Ideal) x0 x3 x4 x6 x9 x11) i =
      absorbed x0 x3 x4 x6 x9 x11 (i 0) ⟨(i 1).val / 256, by
        have h1 : (i 1).val < 2048 := (i 1).isLt
        omega⟩ ⟨(i 1).val % 256, by omega⟩ := by
  show Read.val_main_v128 (F := Ideal) x0 x3 x4 x6 x9 x11 i = _
  have h0 : (i 0).val < 128 := (i 0).isLt
  have h1 : (i 1).val < 2048 := (i 1).isLt
  have e1 : ((i 0).val * 2048 + (i 1).val) / 256 % 8 = (i 1).val / 256 := by omega
  have e2 : ((i 0).val * 2048 + (i 1).val) % 256 = (i 1).val % 256 := by omega
  have e3 : (i 1).val / 256 < 8 := by omega
  rw [Read.val_main_v128_apply, Read.val_main_v127_apply]
  refine (Read.val_main_v126_apply x0 x3 x4 x6 x9 x11 _).trans (Finset.sum_congr rfl fun k _ => ?_)
  rw [Read.val_main_v122_apply, Read.val_main_v125_apply, Read.val_main_v124_apply, Read.val_main_v123_apply]
  refine (mul_comm (G := EReal) _ _).trans ?_
  refine congrArg₂ (fun a b : EReal => a * b) (congrArg₂ (fun a b : EReal => a * b) ((qnope_at x0 x3 x6 x9 _).trans
    (congr3 (fun a b c => qnope x0 x3 x6 x9 a b c) (Fin.ext ?_) (Fin.ext ?_) rfl)) (congrArg x11 ?_)) (congrArg x4 ?_)
  · show ((i 0).val * 2048 + (i 1).val) / 2048 = (i 0).val
    omega
  · show ((i 0).val * 2048 + (i 1).val) / 256 % 8 = (i 1).val / 256
    omega
  · blk_ext
  · funext a
    match a with
      | ⟨0, _⟩ =>
        refine Fin.ext ?_
        show ((((i 0).val * 2048 + (i 1).val) % 256 * 8 + ((i 0).val * 2048 + (i 1).val) / 256 % 8) * 128 + k.val) / 1024 =
          (i 1).val % 256
        rw [e1, e2]
        omega
      | ⟨1, _⟩ =>
        refine Fin.ext ?_
        show ((((i 0).val * 2048 + (i 1).val) % 256 * 8 + ((i 0).val * 2048 + (i 1).val) / 256 % 8) * 128 + k.val) % 1024 =
          128 * ((i 1).val / 256) + k.val
        rw [e1, e2]
        omega

end Cert.PrepSRefIdeal.Sample

end
-- ==== Proof.Sample.Prep.Value.lean ====
/- The attention's preparation of the sample batch: the kernel's six result arrays are the reference's. -/
module

public import proofs.«01_k».proof.Proof.Sample.Prep.Host
public import proofs.«01_k».proof.Proof.Sample.Prep.Pay
public import proofs.«01_k».proof.Proof.Sample.Prep.Ref

@[expose] public section

set_option maxRecDepth 16384

noncomputable section

open Idealize.ShloMosaic Idealize.ShloMosaic.TcCoe Idealize.SL.Sem

namespace Cert.PrepSIdeal.Sample

open Cert.PrepSIdeal Cert.PrepSIdeal.Gen Cert.Layers Cert.Prep

variable (m : (ℓ : Loc nD τ sig) → Buf (Elt Ideal) ℓ)

/-- The block indices of the windows that move, at every grid point. -/
theorem idx : ∀ t : Fin cfg0.N, win0_0.index t = ![t.val, 6] ∧ win0_1.index t = ![t.val, 14] ∧
    win0_2.index t = ![t.val, 30] ∧ win0_3.index t = ![0, 0] ∧ win0_4.index t = ![0, 0] ∧
    win0_14.index t = ![t.val, 0] ∧ win0_15.index t = ![t.val, 0] ∧ win0_16.index t = ![t.val, 0] ∧
    win0_17.index t = ![t.val, 0] ∧ win0_18.index t = ![t.val, 0] ∧ win0_19.index t = ![t.val, 0] ∧ t.val < 1 :=
  (by decide +kernel : ∀ t : Fin grid0.N, _)

/-- The block indices of the windows that stay, at every grid point. -/
theorem stay : ∀ t : Fin cfg0.N, win0_5.index t = ![0, 0] ∧ win0_6.index t = ![0, 0] ∧
    win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] :=
  (by decide +kernel : ∀ t : Fin grid0.N, _)

/-- The row of the arrays a grid point's block row is. -/
def at_row (t : Fin cfg0.N) (y : Fin 128) : Fin 128 := ⟨t.val * 128 + y.val, by
  have := (idx t).2.2.2.2.2.2.2.2.2.2.2
  omega⟩

/-- The columns of the query latents. -/
theorem rd0 (c : Dev nD) (t : Fin cfg0.N) (y : Fin 128) (j : Fin 512) :
    (show FVec Ideal S128x512 .f32 from iblk m c 0 t) (ix2 y j) =
      (show FVec Ideal S128x4096 .f32 from m ((c : Thread nD τ).loc main_arg0))
        (ix2 (at_row t y) ⟨3072 + j.val, by omega⟩) := by
  obtain ⟨e0, -⟩ := idx t
  show V m c main_arg0 _ = _
  rw [V_main_arg0]
  blk_ext [e0, at_row]

/-- The columns of the key and value latents. -/
theorem rd1 (c : Dev nD) (t : Fin cfg0.N) (y : Fin 128) (j : Fin 256) :
    (show FVec Ideal S128x256 .f32 from iblk m c 1 t) (ix2 y j) =
      (show FVec Ideal S128x4096 .f32 from m ((c : Thread nD τ).loc main_arg0))
        (ix2 (at_row t y) ⟨3584 + j.val, by omega⟩) := by
  obtain ⟨-, e0, -⟩ := idx t
  show V m c main_arg0 _ = _
  rw [V_main_arg0]
  blk_ext [e0, at_row]

/-- The columns of the rotated key part. -/
theorem rd2 (c : Dev nD) (t : Fin cfg0.N) (y : Fin 128) (j : Fin 128) :
    (show FVec Ideal S128x128 .f32 from iblk m c 2 t) (ix2 y j) =
      (show FVec Ideal S128x4096 .f32 from m ((c : Thread nD τ).loc main_arg0))
        (ix2 (at_row t y) ⟨3840 + j.val, by omega⟩) := by
  obtain ⟨-, -, e0, -⟩ := idx t
  show V m c main_arg0 _ = _
  rw [V_main_arg0]
  blk_ext [e0, at_row]

/-- The block's cosines are those of the rows' positions. -/
theorem rd3 (c : Dev nD) (t : Fin cfg0.N) (y : Fin 128) :
    (fun j : Fin 128 => (show FVec Ideal S128x128 .f32 from iblk m c 3 t) (ix2 y j)) =
      cosT fun j => (show FVec Ideal S128x32 .f32 from m ((c : Thread nD τ).loc main_arg1))
        (ix2 (at_row t y) j) := by
  obtain ⟨-, -, -, e0, -⟩ := idx t
  funext j
  show V m c main_v1 (((cfg0.win 3).blk t).view.emb (ix2 y j)) = _
  have i0 : (((cfg0.win 3).blk t).view.emb (ix2 y j) 0).val = y.val := by blk_simp [e0]
  have i1 : (((cfg0.win 3).blk t).view.emb (ix2 y j) 1) = j := Fin.ext (by blk_simp [e0])
  refine (host_cos m c _).trans (congrArg₂ cosT (funext fun k => congrArg _ ?_) i1)
  refine congrArg (fun a => ix2 a k) (Fin.ext (i0.trans ?_))
  have h := (idx t).2.2.2.2.2.2.2.2.2.2.2
  unfold at_row
  dsimp only
  omega

/-- The block's sines are those of the rows' positions. -/
theorem rd4 (c : Dev nD) (t : Fin cfg0.N) (y : Fin 128) :
    (fun j : Fin 128 => (show FVec Ideal S128x128 .f32 from iblk m c 4 t) (ix2 y j)) =
      sinT fun j => (show FVec Ideal S128x32 .f32 from m ((c : Thread nD τ).loc main_arg2))
        (ix2 (at_row t y) j) := by
  obtain ⟨-, -, -, -, e0, -⟩ := idx t
  funext j
  show V m c main_v3 (((cfg0.win 4).blk t).view.emb (ix2 y j)) = _
  have i0 : (((cfg0.win 4).blk t).view.emb (ix2 y j) 0).val = y.val := by blk_simp [e0]
  have i1 : (((cfg0.win 4).blk t).view.emb (ix2 y j) 1) = j := Fin.ext (by blk_simp [e0])
  refine (host_sin m c _).trans (congrArg₂ sinT (funext fun k => congrArg _ ?_) i1)
  refine congrArg (fun a => ix2 a k) (Fin.ext (i0.trans ?_))
  have h := (idx t).2.2.2.2.2.2.2.2.2.2.2
  unfold at_row
  dsimp only
  omega

/-- The padded query weight. -/
theorem rd5 (c : Dev nD) (t : Fin cfg0.N) (k : Fin 512) (n : Fin 2048) :
    (show FVec Ideal S512x2048 .bf16 from iblk m c 5 t) (ix2 k n) =
      if h : n.val % 256 < 192 then (show FVec Ideal S512x1536 .f32 from m ((c : Thread nD τ).loc main_arg3))
        (ix2 k ⟨192 * (n.val / 256) + n.val % 256, by omega⟩) else (0 : EReal) := by
  obtain ⟨e0, -⟩ := stay t
  have i0 : ((cfg0.win 5).blk t).view.emb (ix2 k n) = ix2 k n := by
    funext a
    match a with
      | ⟨0, _⟩ => exact Fin.ext (by blk_simp [e0])
      | ⟨1, _⟩ => exact Fin.ext (by blk_simp [e0])
  show V m c main_v8 (((cfg0.win 5).blk t).view.emb (ix2 k n)) = _
  rw [i0]
  exact host_wuq m c (ix2 k n)

/-- The key weight. -/
theorem rd6 (c : Dev nD) (t : Fin cfg0.N) (k : Fin 256) (n : Fin 1024) :
    (show FVec Ideal S256x1024 .bf16 from iblk m c 6 t) (ix2 k n) =
      (show FVec Ideal S256x1024 .f32 from m ((c : Thread nD τ).loc main_arg4)) (ix2 k n) := by
  obtain ⟨-, e0, -⟩ := stay t
  refine (host_wuk m c (((cfg0.win 6).blk t).view.emb (ix2 k n))).trans ?_
  blk_ext [e0]

/-- The value weight. -/
theorem rd7 (c : Dev nD) (t : Fin cfg0.N) (k : Fin 256) (n : Fin 1024) :
    (show FVec Ideal S256x1024 .bf16 from iblk m c 7 t) (ix2 k n) =
      (show FVec Ideal S256x1024 .f32 from m ((c : Thread nD τ).loc main_arg5)) (ix2 k n) := by
  obtain ⟨-, -, e0, -⟩ := stay t
  refine (host_wuv m c (((cfg0.win 7).blk t).view.emb (ix2 k n))).trans ?_
  blk_ext [e0]

/-- The gains of the compressed queries. -/
theorem rd8 (c : Dev nD) (t : Fin cfg0.N) (j : Fin 512) :
    (show FVec Ideal S1x512 .f32 from iblk m c 8 t) (ix2 0 j) =
      (show FVec Ideal S512 .f32 from m ((c : Thread nD τ).loc main_arg6)) (ix1 j) := by
  obtain ⟨-, -, -, e0, -⟩ := stay t
  refine (host_gcq m c (((cfg0.win 8).blk t).view.emb (ix2 0 j))).trans ?_
  blk_ext [e0]

/-- The gains of the compressed keys. -/
theorem rd9 (c : Dev nD) (t : Fin cfg0.N) (j : Fin 256) :
    (show FVec Ideal S1x256 .f32 from iblk m c 9 t) (ix2 0 j) =
      (show FVec Ideal S256 .f32 from m ((c : Thread nD τ).loc main_arg7)) (ix1 j) := by
  obtain ⟨-, -, -, -, e0, -⟩ := stay t
  refine (host_gckv m c (((cfg0.win 9).blk t).view.emb (ix2 0 j))).trans ?_
  blk_ext [e0]

/-- The padded gains of the rotated key part. -/
theorem rd10 (c : Dev nD) (t : Fin cfg0.N) :
    (fun j : Fin 128 => (show FVec Ideal S1x128 .f32 from iblk m c 10 t) (ix2 0 j)) =
      pad64 fun j => (show FVec Ideal S64 .f32 from m ((c : Thread nD τ).loc main_arg8)) (ix1 j) := by
  obtain ⟨-, -, -, -, -, e0, -⟩ := stay t
  funext j
  refine (host_gkr m c (((cfg0.win 10).blk t).view.emb (ix2 0 j))).trans (congrArg _ (Fin.ext ?_))
  blk_simp [e0]

/-- The gains of the plain queries. -/
theorem rd11 (c : Dev nD) (t : Fin cfg0.N) (j : Fin 128) :
    (show FVec Ideal S1x128 .f32 from iblk m c 11 t) (ix2 0 j) =
      (show FVec Ideal S128 .f32 from m ((c : Thread nD τ).loc main_arg9)) (ix1 j) := by
  obtain ⟨-, -, -, -, -, -, e0, -⟩ := stay t
  refine (host_gqn m c (((cfg0.win 11).blk t).view.emb (ix2 0 j))).trans ?_
  blk_ext [e0]

/-- The padded gains of the rotated query part. -/
theorem rd12 (c : Dev nD) (t : Fin cfg0.N) :
    (fun j : Fin 128 => (show FVec Ideal S1x128 .f32 from iblk m c 12 t) (ix2 0 j)) =
      pad64 fun j => (show FVec Ideal S64 .f32 from m ((c : Thread nD τ).loc main_arg10)) (ix1 j) := by
  obtain ⟨-, -, -, -, -, -, -, e0, -⟩ := stay t
  funext j
  refine (host_gqr m c (((cfg0.win 12).blk t).view.emb (ix2 0 j))).trans (congrArg _ (Fin.ext ?_))
  blk_simp [e0]

/-- The gains of the plain keys. -/
theorem rd13 (c : Dev nD) (t : Fin cfg0.N) (j : Fin 128) :
    (show FVec Ideal S1x128 .f32 from iblk m c 13 t) (ix2 0 j) =
      (show FVec Ideal S128 .f32 from m ((c : Thread nD τ).loc main_arg11)) (ix1 j) := by
  obtain ⟨-, -, -, -, -, -, -, -, e0⟩ := stay t
  refine (host_gkn m c (((cfg0.win 13).blk t).view.emb (ix2 0 j))).trans ?_
  blk_ext [e0]

open Cert.PrepSRefIdeal.Sample (cq ckv ropeRow kpe qf kf qnope qpe knope absorbed)

/-- A block row's normed key and value latents are the reference's. -/
theorem ckv_row (c : Dev nD) (t : Fin cfg0.N) (y : Fin 128) (j : Fin 256) :
    (show FVec Ideal S128x256 .f32 from k0_pay4 (F := Ideal) (iblk m c 1 t) (iblk m c 9 t)) (ix2 y j) =
      ckv (m ((c : Thread nD τ).loc main_arg0)) (m ((c : Thread nD τ).loc main_arg7)) (at_row t y) j := by
  refine (ckv_at _ _ (ix2 y j)).trans (congrArg₂ (fun a b => rms 0x3B800000#32 a b j) ?_ ?_)
  · exact funext fun k => rd1 m c t y k
  · exact funext fun k => rd9 m c t k

/-- A block row's normed query latents are the reference's. -/
theorem cq_row (c : Dev nD) (t : Fin cfg0.N) (y : Fin 128) (j : Fin 512) :
    (show FVec Ideal S128x512 .bf16 from k0_pay14 (F := Ideal) (iblk m c 0 t) (iblk m c 8 t)) (ix2 y j) =
      cq (m ((c : Thread nD τ).loc main_arg0)) (m ((c : Thread nD τ).loc main_arg6)) (at_row t y) j := by
  refine (cq_at _ _ (ix2 y j)).trans (congrArg₂ (fun a b => rms 0x3B000000#32 a b j) ?_ ?_)
  · exact funext fun k => rd0 m c t y k
  · exact funext fun k => rd8 m c t k

/-- A block row's rotated key part is the reference's, padded. -/
theorem kpe_row (c : Dev nD) (t : Fin cfg0.N) (y : Fin 128) (j : Fin 128) :
    (show FVec Ideal S128x128 .bf16 from k0_pay64 (F := Ideal) (iblk m c 3 t) (iblk m c 4 t)
      (k0_pay6 (F := Ideal) (iblk m c 2 t)) (iblk m c 10 t)) (ix2 y j) =
      pad64 (kpe (m ((c : Thread nD τ).loc main_arg0)) (m ((c : Thread nD τ).loc main_arg1))
        (m ((c : Thread nD τ).loc main_arg2)) (m ((c : Thread nD τ).loc main_arg8)) (at_row t y)) j := by
  refine (turn_at _ _ _ _ (ix2 y j)).trans ?_
  unfold kpe ropeRow
  refine Eq.trans ?_ (congrFun (turn_pad64 _ _ _) j)
  refine congrFun (congr (congrArg₂ turn (rd3 m c t y) (rd4 m c t y)) ?_) j
  refine Eq.trans ?_ (rms_pad64 _ _ _)
  refine congrArg₂ (rms 0x3C800000#32) ((mask_at _ y).trans (congrArg pad64 (funext fun k => ?_))) (rd10 m c t)
  exact rd2 m c t y _

/-- A block row's queries before their norms: the reference's, each head's padded. -/
theorem qf_row (c : Dev nD) (t : Fin cfg0.N) (y : Fin 128) (n : Fin 2048) :
    (show FVec Ideal S128x2048 .f32 from k0_pay15 (F := Ideal) (k0_pay14 (F := Ideal) (iblk m c 0 t) (iblk m c 8 t))
      (iblk m c 5 t)) (ix2 y n) =
      if h : n.val % 256 < 192 then qf (m ((c : Thread nD τ).loc main_arg0))
        (m ((c : Thread nD τ).loc main_arg3))
        (m ((c : Thread nD τ).loc main_arg6)) (at_row t y) ⟨192 * (n.val / 256) + n.val % 256, by omega⟩ else 0 := by
  refine (qf_at _ _ (ix2 y n)).trans ?_
  have e : ∀ k : Fin 512, _ := fun k => congrArg₂ (fun a b : EReal => a * b) (cq_row m c t y k) (rd5 m c t k n)
  refine (Finset.sum_congr rfl fun k _ => e k).trans ?_
  by_cases h : n.val % 256 < 192
  · simp only [dif_pos h]
    rfl
  · simp only [dif_neg h, mul_zero, Finset.sum_const_zero]

/-- A head's plain query columns. -/
theorem qn_row (c : Dev nD) (t : Fin cfg0.N) (y : Fin 128) (h : Fin 8) (j : Fin 128) :
    (show FVec Ideal S128x2048 .f32 from k0_pay15 (F := Ideal) (k0_pay14 (F := Ideal) (iblk m c 0 t) (iblk m c 8 t))
      (iblk m c 5 t)) (ix2 y ⟨256 * h.val + j.val, by omega⟩) =
      qf (m ((c : Thread nD τ).loc main_arg0)) (m ((c : Thread nD τ).loc main_arg3))
        (m ((c : Thread nD τ).loc main_arg6)) (at_row t y) ⟨192 * h.val + j.val, by omega⟩ := by
  have e : 192 * ((256 * h.val + j.val) / 256) + (256 * h.val + j.val) % 256 = 192 * h.val + j.val := by omega
  refine (qf_row m c t y _).trans ((dif_pos (by dsimp only; omega)).trans (congrArg _ (Fin.ext e)))

/-- A head's rotated query columns. -/
theorem qp_row (c : Dev nD) (t : Fin cfg0.N) (y : Fin 128) (h : Fin 8) :
    (fun j : Fin 128 => (show FVec Ideal S128x2048 .f32 from k0_pay15 (F := Ideal)
      (k0_pay14 (F := Ideal) (iblk m c 0 t) (iblk m c 8 t)) (iblk m c 5 t)) (ix2 y ⟨256 * h.val + 128 + j.val, by omega⟩)) =
      pad64 fun j => qf (m ((c : Thread nD τ).loc main_arg0)) (m ((c : Thread nD τ).loc main_arg3))
        (m ((c : Thread nD τ).loc main_arg6)) (at_row t y) ⟨192 * h.val + 128 + j.val, by omega⟩ := by
  funext j
  refine (qf_row m c t y _).trans ?_
  unfold pad64
  by_cases hj : j.val < 64
  · have e : 192 * ((256 * h.val + 128 + j.val) / 256) + (256 * h.val + 128 + j.val) % 256 = 192 * h.val + 128 + j.val := by
      omega
    exact (dif_pos (by dsimp only; omega)).trans ((congrArg _ (Fin.ext e)).trans (Eq.symm (dif_pos hj)))
  · exact (dif_neg (by dsimp only; omega)).trans (Eq.symm (dif_neg hj))

/-- A block row of the query result is the reference's. -/
theorem q_row (c : Dev nD) (t : Fin cfg0.N) (y : Fin 128) (n : Fin 2048) :
    qRow (iblk m c 3 t) (iblk m c 4 t) (k0_pay15 (F := Ideal) (k0_pay14 (F := Ideal) (iblk m c 0 t) (iblk m c 8 t))
      (iblk m c 5 t)) (iblk m c 11 t) (iblk m c 12 t) y n =
      heads (qnope (m ((c : Thread nD τ).loc main_arg0)) (m ((c : Thread nD τ).loc main_arg3))
        (m ((c : Thread nD τ).loc main_arg6))
        (m ((c : Thread nD τ).loc main_arg9)) (at_row t y)) (fun h => pad64 (qpe
        (m ((c : Thread nD τ).loc main_arg0)) (m ((c : Thread nD τ).loc main_arg1))
        (m ((c : Thread nD τ).loc main_arg2)) (m ((c : Thread nD τ).loc main_arg3))
        (m ((c : Thread nD τ).loc main_arg6)) (m ((c : Thread nD τ).loc main_arg10)) (at_row t y) h)) n := by
  refine congrFun (congrArg₂ heads (funext fun h => ?_) (funext fun h => ?_)) n
  · exact congrArg₂ (rms 0x3C000000#32) (funext fun j => qn_row m c t y h j) (funext fun j => rd11 m c t j)
  · unfold qpe ropeRow
    refine Eq.trans ?_ (turn_pad64 _ _ _)
    refine congr (congrArg₂ turn (rd3 m c t y) (rd4 m c t y)) ?_
    refine Eq.trans ?_ (rms_pad64 _ _ _)
    exact congrArg₂ (rms 0x3C800000#32) (qp_row m c t y h) (rd12 m c t)

/-- A block row's keys before their norms are the reference's. -/
theorem kf_row (c : Dev nD) (t : Fin cfg0.N) (y : Fin 128) (n : Fin 1024) :
    (show FVec Ideal S128x1024 .f32 from k0_pay12 (F := Ideal) (k0_pay4 (F := Ideal) (iblk m c 1 t) (iblk m c 9 t))
      (iblk m c 6 t)) (ix2 y n) = kf (m ((c : Thread nD τ).loc main_arg0)) (m ((c : Thread nD τ).loc main_arg4))
        (m ((c : Thread nD τ).loc main_arg7)) (at_row t y) n :=
  (kf_at _ _ (ix2 y n)).trans (Finset.sum_congr rfl fun k _ =>
    congrArg₂ (fun a b : EReal => a * b) (ckv_row m c t y k) (rd6 m c t k n))

/-- A block row of the key result is the reference's. -/
theorem k_row (c : Dev nD) (t : Fin cfg0.N) (y : Fin 128) (n : Fin 2048) :
    kRow (k0_pay12 (F := Ideal) (k0_pay4 (F := Ideal) (iblk m c 1 t) (iblk m c 9 t)) (iblk m c 6 t))
      (k0_pay64 (F := Ideal) (iblk m c 3 t) (iblk m c 4 t) (k0_pay6 (F := Ideal) (iblk m c 2 t)) (iblk m c 10 t))
      (iblk m c 13 t) y n =
      heads (knope (m ((c : Thread nD τ).loc main_arg0)) (m ((c : Thread nD τ).loc main_arg4))
        (m ((c : Thread nD τ).loc main_arg7))
        (m ((c : Thread nD τ).loc main_arg11)) (at_row t y)) (fun _ => pad64 (kpe
        (m ((c : Thread nD τ).loc main_arg0)) (m ((c : Thread nD τ).loc main_arg1))
        (m ((c : Thread nD τ).loc main_arg2)) (m ((c : Thread nD τ).loc main_arg8)) (at_row t y))) n := by
  refine congrFun (congrArg₂ heads (funext fun h => ?_) (funext fun h => funext fun j => kpe_row m c t y j)) n
  exact congrArg₂ (rms 0x3C000000#32) (funext fun j => kf_row m c t y _) (funext fun j => rd13 m c t j)

/-- A block row's queries taken to the latents are the reference's. -/
theorem a_row (c : Dev nD) (t : Fin cfg0.N) (y : Fin 128) (h : Fin 8) (l : Fin 256) :
    aRow (k0_pay15 (F := Ideal) (k0_pay14 (F := Ideal) (iblk m c 0 t) (iblk m c 8 t)) (iblk m c 5 t))
      (iblk m c 11 t) (iblk m c 13 t) (iblk m c 6 t) y h l =
      absorbed (m ((c : Thread nD τ).loc main_arg0)) (m ((c : Thread nD τ).loc main_arg3)) (m ((c : Thread nD τ).loc main_arg4)) (m ((c : Thread nD τ).loc main_arg6))
        (m ((c : Thread nD τ).loc main_arg9)) (m ((c : Thread nD τ).loc main_arg11)) (at_row t y) h l := by
  refine Finset.sum_congr rfl fun n _ => congrArg₂ (fun a b : EReal => a * b)
    (congrArg₂ (fun a b : EReal => a * b) ?_ (rd13 m c t n)) (rd6 m c t l _)
  exact congrArg₂ (fun a b => rms 0x3C000000#32 a b n) (funext fun j => qn_row m c t y h j)
    (funext fun j => rd11 m c t j)

/-- The result of the key and value latents. -/
theorem final14 (c : Dev nD) :
    (dats m 0 c).arrAt 14 cfg0.N = Cert.PrepSRefIdeal.Read.val_main_v27 (F := Ideal)
        (m ((c : Thread nD τ).loc main_arg0)) (m ((c : Thread nD τ).loc main_arg7)) := by
  refine (dats m 0 c).arrAt_eq_of_covers 14 _ (by decide +kernel) fun t hf y => ?_
  have hi : ((cfg0.win 14).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_14]
  refine ((out14_at _ _ _ _ _ _ _ _ _ _ _ _ _ _ y).trans ((ckv_at _ _ (ix2 (y 0) (y 1))).symm.trans (ckv_row m c t (y 0) (y 1)))).trans ?_
  refine ((congrArg _ hi).trans (Cert.PrepSRefIdeal.Sample.ckv_at _ _ _)).symm

/-- The result of the rotated key part. -/
theorem final15 (c : Dev nD) :
    (dats m 0 c).arrAt 15 cfg0.N = Cert.PrepSRefIdeal.Read.val_main_v50 (F := Ideal)
        (m ((c : Thread nD τ).loc main_arg0)) (m ((c : Thread nD τ).loc main_arg1))
        (m ((c : Thread nD τ).loc main_arg2)) (m ((c : Thread nD τ).loc main_arg8)) := by
  refine (dats m 0 c).arrAt_eq_of_covers 15 _ (by decide +kernel) fun t hf y => ?_
  have hi : ((cfg0.win 15).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_15]
  refine ((out15_at _ _ _ _ _ _ _ _ _ _ _ _ _ _ y).trans ((kpe_row m c t (y 0) _).trans (dif_pos (show (y 1).val < 64 from (y 1).isLt)))).trans ?_
  refine ((congrArg _ hi).trans (Cert.PrepSRefIdeal.Sample.kpe_at _ _ _ _ _)).symm

/-- The result of the queries. -/
theorem final16 (c : Dev nD) :
    (dats m 0 c).arrAt 16 cfg0.N = Cert.PrepSRefIdeal.Read.val_main_v118 (F := Ideal)
        (m ((c : Thread nD τ).loc main_arg0)) (m ((c : Thread nD τ).loc main_arg1))
        (m ((c : Thread nD τ).loc main_arg2)) (m ((c : Thread nD τ).loc main_arg3))
        (m ((c : Thread nD τ).loc main_arg6)) (m ((c : Thread nD τ).loc main_arg9))
        (m ((c : Thread nD τ).loc main_arg10)) := by
  refine (dats m 0 c).arrAt_eq_of_covers 16 _ (by decide +kernel) fun t hf y => ?_
  have hi : ((cfg0.win 16).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_16]
  refine ((out16_at _ _ _ _ _ _ _ _ _ _ _ _ _ _ y).trans (q_row m c t (y 0) (y 1))).trans ?_
  refine ((congrArg _ hi).trans (Cert.PrepSRefIdeal.Sample.q3_at _ _ _ _ _ _ _ _)).symm

/-- The result of the keys. -/
theorem final17 (c : Dev nD) :
    (dats m 0 c).arrAt 17 cfg0.N = Cert.PrepSRefIdeal.Read.val_main_v119 (F := Ideal)
        (m ((c : Thread nD τ).loc main_arg0)) (m ((c : Thread nD τ).loc main_arg1))
        (m ((c : Thread nD τ).loc main_arg2)) (m ((c : Thread nD τ).loc main_arg4))
        (m ((c : Thread nD τ).loc main_arg7)) (m ((c : Thread nD τ).loc main_arg8))
        (m ((c : Thread nD τ).loc main_arg11)) := by
  refine (dats m 0 c).arrAt_eq_of_covers 17 _ (by decide +kernel) fun t hf y => ?_
  have hi : ((cfg0.win 17).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_17]
  refine ((out17_at _ _ _ _ _ _ _ _ _ _ _ _ _ _ y).trans (k_row m c t (y 0) (y 1))).trans ?_
  refine ((congrArg _ hi).trans (Cert.PrepSRefIdeal.Sample.k3_at _ _ _ _ _ _ _ _)).symm

/-- The result of the values. -/
theorem final18 (c : Dev nD) :
    (dats m 0 c).arrAt 18 cfg0.N = Cert.PrepSRefIdeal.Read.val_main_v121 (F := Ideal)
        (m ((c : Thread nD τ).loc main_arg0)) (m ((c : Thread nD τ).loc main_arg5))
        (m ((c : Thread nD τ).loc main_arg7)) := by
  refine (dats m 0 c).arrAt_eq_of_covers 18 _ (by decide +kernel) fun t hf y => ?_
  have hi : ((cfg0.win 18).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_18]
  refine ((out18_at _ _ _ _ _ _ _ _ _ _ _ _ _ _ y).trans (Finset.sum_congr rfl fun k _ => congrArg₂ (fun a b : EReal => a * b) (ckv_row m c t (y 0) k) (rd7 m c t k (y 1)))).trans ?_
  refine ((congrArg _ hi).trans (Cert.PrepSRefIdeal.Sample.v_at _ _ _ _)).symm

/-- The result of the queries taken to the latents. -/
theorem final19 (c : Dev nD) :
    (dats m 0 c).arrAt 19 cfg0.N = Cert.PrepSRefIdeal.Read.val_main_v128 (F := Ideal)
        (m ((c : Thread nD τ).loc main_arg0)) (m ((c : Thread nD τ).loc main_arg3)) (m ((c : Thread nD τ).loc main_arg4)) (m ((c : Thread nD τ).loc main_arg6))
        (m ((c : Thread nD τ).loc main_arg9)) (m ((c : Thread nD τ).loc main_arg11)) := by
  refine (dats m 0 c).arrAt_eq_of_covers 19 _ (by decide +kernel) fun t hf y => ?_
  have hi : ((cfg0.win 19).blk t).view.emb y = ix2 (at_row t (y 0)) (y 1) := by
    have e := idx t
    funext a
    match a with
      | ⟨0, _⟩ => exact Fin.ext (by blk_simp [e, at_row]; rfl)
      | ⟨1, _⟩ => exact Fin.ext (by blk_simp [e]; rfl)
  blk_simp
  rw [after0_19]
  refine ((out19_at _ _ _ _ _ _ _ _ _ _ _ _ _ _ y).trans (a_row m c t (y 0) _ _)).trans ?_
  refine ((congrArg _ hi).trans (Cert.PrepSRefIdeal.Sample.a_at _ _ _ _ _ _ _)).symm

end Cert.PrepSIdeal.Sample

end
-- ==== Proof.Sample.Prep.Claims.lean ====
/- The claims about the call that prepares the attention of the sample batch. -/
module

public import proofs.«01_k».proof.Defs
public import proofs.«01_k».proof.Proof.Gen.PrepS.Frame
public import proofs.«01_k».proof.Proof.Gen.PrepSRefIdeal.Run
public import proofs.«01_k».proof.Proof.Sample.Prep.Value
public import Idealize.ShloMosaic.Lib.Quiescent

@[expose] public section

noncomputable section

namespace Cert.Proof.SamplePrep

open Idealize.ShloMosaic Idealize.ShloMosaic.TcCoe Idealize.SL.Sem

/-- The sample batch's preparation's kernel runs and leaves its arguments. -/
theorem frame_p : Cert.quiescent_PrepS := fun m ρ _ => Cert.PrepS.Gen.frame m ρ

/-- The idealized kernel of the sample batch's preparation runs and leaves its arguments. -/
theorem frame_pi : Cert.quiescent_PrepSIdeal := fun m ρ _ => Cert.PrepSIdeal.Gen.frame m ρ

/-- The sample batch's preparation's reference runs and leaves its arguments. -/
theorem frame_ri : Cert.quiescent_PrepSRefIdeal := fun m ρ _ =>
  (θ_run Cert.PrepSRefIdeal.defs _ _).mono (fun r h => ⟨fun c => (h c).2.2.2.2.2.2,
      Idealize.ShloMosaic.sem_eq_zero_of_no_sems (by decide) r.2⟩)
    (Cert.PrepSRefIdeal.Value.run (F := Ideal) m ρ)

/-- The sample batch's preparation's six results are the reference's, element by element, of any arguments. -/
theorem algebraic : Cert.algebraic_PrepSIdeal_PrepSRefIdeal := by
  intro m ρ m' ρ' hpre hagree
  refine ⟨_, _, _, _, _, _, Cert.PrepSIdeal.Value.run_blocks (F := Ideal) m ρ, ?_⟩
  refine (θ_run Cert.PrepSRefIdeal.defs _ _).mono (fun _ h c => ?_) (Cert.PrepSRefIdeal.Value.run (F := Ideal) m' ρ')
  obtain ⟨h0, h1, h2, h3, h4, h5, hargs⟩ := h c
  obtain ⟨a0, a1, a2, a3, a4, a5, a6, a7, a8, a9, a10, a11⟩ := hagree c
  refine ⟨h0.trans ?_, h1.trans ?_, h2.trans ?_, h3.trans ?_, h4.trans ?_, h5.trans ?_, hargs⟩
  · refine (Cert.PrepSRefIdeal.Read.val_main_v27_eq (F := Ideal) _ _).trans ?_
    rw [a0, a7]
    exact (Cert.PrepSIdeal.Sample.final14 m c).symm
  · refine (Cert.PrepSRefIdeal.Read.val_main_v50_eq (F := Ideal) m' c).trans ?_
    rw [a0, a1, a2, a8]
    exact (Cert.PrepSIdeal.Sample.final15 m c).symm
  · refine (Cert.PrepSRefIdeal.Read.val_main_v118_eq (F := Ideal) m' c).trans ?_
    rw [a0, a1, a2, a3, a6, a9, a10]
    exact (Cert.PrepSIdeal.Sample.final16 m c).symm
  · refine (Cert.PrepSRefIdeal.Read.val_main_v119_eq (F := Ideal) m' c).trans ?_
    rw [a0, a1, a2, a4, a7, a8, a11]
    exact (Cert.PrepSIdeal.Sample.final17 m c).symm
  · refine (Cert.PrepSRefIdeal.Read.val_main_v121_eq (F := Ideal) _ _ _).trans ?_
    rw [a0, a5, a7]
    exact (Cert.PrepSIdeal.Sample.final18 m c).symm
  · refine (Cert.PrepSRefIdeal.Read.val_main_v128_eq (F := Ideal) m' c).trans ?_
    rw [a0, a3, a4, a6, a9, a11]
    exact (Cert.PrepSIdeal.Sample.final19 m c).symm

end Cert.Proof.SamplePrep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.Gen.Moe
public import proofs.«01_k».proof.Proof.Gen.Moe.Skeleton
public import proofs.«01_k».proof.Proof.Gen.Moe.Launch
public import proofs.«01_k».proof.Proof.Gen.MoeIdeal.Launch
public import proofs.«01_k».proof.Proof.Gen.MoeRefIdeal.Run
public import proofs.«01_k».proof.Proof.Gen.MoeRefIdeal.Read
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.FfnS.Frame
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.InProjS.Frame
public import proofs.«01_k».proof.Proof.Gen.InProjSIdeal.Value
public import proofs.«01_k».proof.Proof.Gen.InProjSRefIdeal.Run
public import proofs.«01_k».proof.Proof.Gen.InProjSRefIdeal.Read
public import proofs.«01_k».proof.Proof.Gen.OutProjS.Frame
public import proofs.«01_k».proof.Proof.Gen.OutProjSIdeal.Value
public import proofs.«01_k».proof.Proof.Gen.OutProjSRefIdeal.Run
public import proofs.«01_k».proof.Proof.Gen.OutProjSRefIdeal.Read
public import proofs.«01_k».proof.Proof.Gen.PleS.Frame
public import proofs.«01_k».proof.Proof.Gen.PleSIdeal.Value
public import proofs.«01_k».proof.Proof.Gen.PleSRefIdeal.Run
public import proofs.«01_k».proof.Proof.Gen.PleSRefIdeal.Read
public import proofs.«01_k».proof.Proof.Gen.PrepS.Frame
public import proofs.«01_k».proof.Proof.Gen.PrepSIdeal.Value
public import proofs.«01_k».proof.Proof.Gen.PrepSRefIdeal.Run
public import proofs.«01_k».proof.Proof.Gen.PrepSRefIdeal.Read
public import proofs.«01_k».proof.Proof.Attn.Claims
public import proofs.«01_k».proof.Proof.Layers.Claims
public import proofs.«01_k».proof.Proof.Moe.Claims
public import proofs.«01_k».proof.Proof.Prep.Claims
public import proofs.«01_k».proof.Proof.Sample.Claims
public import proofs.«01_k».proof.Proof.Sample.Prep.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Ple.Gen.facts, Cert.PleIdeal.Gen.facts, Cert.PleRefIdeal.Gen.facts,
    Cert.Moe.Gen.facts, Cert.MoeIdeal.Gen.facts, Cert.MoeRefIdeal.Gen.facts,
    Cert.Prep.Gen.facts, Cert.PrepIdeal.Gen.facts, Cert.PrepRefIdeal.Gen.facts,
    Cert.FfnS.Gen.facts, Cert.FfnSIdeal.Gen.facts, Cert.FfnSRefIdeal.Gen.facts,
    Cert.InProjS.Gen.facts, Cert.InProjSIdeal.Gen.facts, Cert.InProjSRefIdeal.Gen.facts,
    Cert.OutProjS.Gen.facts, Cert.OutProjSIdeal.Gen.facts, Cert.OutProjSRefIdeal.Gen.facts,
    Cert.PleS.Gen.facts, Cert.PleSIdeal.Gen.facts, Cert.PleSRefIdeal.Gen.facts,
    Cert.PrepS.Gen.facts, Cert.PrepSIdeal.Gen.facts, Cert.PrepSRefIdeal.Gen.facts,
    Attn.pre_facts, Cert.Pre_experts_in_range.Gen.facts, Attn.frame_p, Attn.frame_pi,
    Attn.frame_pi_pre, Attn.frame_ri, Attn.frame_ri_pre,
    Layers.ffn_frame_p, Layers.ffn_frame_pi, Layers.ffn_frame_ri,
    Layers.inProj_frame_p, Layers.inProj_frame_pi, Layers.inProj_frame_ri,
    Layers.outProj_frame_p, Layers.outProj_frame_pi, Layers.outProj_frame_ri,
    Layers.ple_frame_p, Layers.ple_frame_pi, Layers.ple_frame_ri,
    Moe.frame_p, Moe.frame_pi, Moe.frame_ri, Moe.frame_ri_pre,
    Prep.frame_p, Prep.frame_pi, Prep.frame_ri,
    Sample.ffn_frame_p, Sample.ffn_frame_pi, Sample.ffn_frame_ri,
    Sample.inProj_frame_p, Sample.inProj_frame_pi, Sample.inProj_frame_ri,
    Sample.outProj_frame_p, Sample.outProj_frame_pi, Sample.outProj_frame_ri,
    Sample.ple_frame_p, Sample.ple_frame_pi, Sample.ple_frame_ri,
    SamplePrep.frame_p, SamplePrep.frame_pi, SamplePrep.frame_ri,
    Attn.preserves, Attn.algebraic, trivial,
    Layers.ffn_algebraic, trivial, Layers.inProj_algebraic,
    trivial, Layers.outProj_algebraic, trivial,
    Layers.ple_algebraic, trivial, Moe.algebraic, trivial, Prep.algebraic,
    trivial, Sample.ffn_algebraic,
    trivial, Sample.inProj_algebraic,
    trivial, Sample.outProj_algebraic,
    trivial, Sample.ple_algebraic,
    trivial, SamplePrep.algebraic⟩

end Cert.Proof

end
